-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_tables [hPre_band_tables : Cert.Pre_band_tables.Facts] (m : (ℓ : Loc Cert.BandIdeal.nD Cert.BandIdeal.τ Cert.BandIdeal.sig) → Buf (Elt Ideal) ℓ) : Prop :=
  ∀ c : Dev Cert.BandIdeal.nD,
    (Cert.Pre_band_tables.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3)) (m ((c.tc : Thread Cert.BandIdeal.nD Cert.BandIdeal.τ).loc Cert.BandIdeal.main_arg4))) = (fun _ => 1#1)

def Pre_BandReferenceIdeal (m : (ℓ : Loc Cert.BandReferenceIdeal.nD Cert.BandReferenceIdeal.τ Cert.BandReferenceIdeal.sig) → Buf (Elt Ideal) ℓ) : Prop :=
  True

def Pre_BandReferenceIdeal_band_tables [hPre_band_tables : Cert.Pre_band_tables.Facts] (m : (ℓ : Loc Cert.BandReferenceIdeal.nD Cert.BandReferenceIdeal.τ Cert.BandReferenceIdeal.sig) → Buf (Elt Ideal) ℓ) : Prop :=
  ∀ c : Dev Cert.BandReferenceIdeal.nD,
    (Cert.Pre_band_tables.fn (F := Ideal) (m ((c.tc : Thread Cert.BandReferenceIdeal.nD Cert.BandReferenceIdeal.τ).loc Cert.BandReferenceIdeal.main_arg0)) (m ((c.tc : Thread Cert.BandReferenceIdeal.nD Cert.BandReferenceIdeal.τ).loc Cert.BandReferenceIdeal.main_arg1)) (m ((c.tc : Thread Cert.BandReferenceIdeal.nD Cert.BandReferenceIdeal.τ).loc Cert.BandReferenceIdeal.main_arg2)) (m ((c.tc : Thread Cert.BandReferenceIdeal.nD Cert.BandReferenceIdeal.τ).loc Cert.BandReferenceIdeal.main_arg3)) (m ((c.tc : Thread Cert.BandReferenceIdeal.nD Cert.BandReferenceIdeal.τ).loc Cert.BandReferenceIdeal.main_arg4))) = (fun _ => 1#1)

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3)
      ∧ r.2.mem ((c.tc : Thread Cert.Band.nD Cert.Band.τ).loc Cert.Band.main_arg4) = m ((c.tc : Thread Cert.Band.nD Cert.Band.τ).loc Cert.Band.main_arg4))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ r.2.sem = fun _ => 0)

def quiescent_BandIdeal_pre_band_tables [hBandIdeal : Cert.BandIdeal.Facts] [hPre_band_tables : Cert.Pre_band_tables.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_tables m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
      ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2)
      ∧ r.2.mem ((c.tc : Thread Cert.BandReferenceIdeal.nD Cert.BandReferenceIdeal.τ).loc Cert.BandReferenceIdeal.main_arg3) = m ((c.tc : Thread Cert.BandReferenceIdeal.nD Cert.BandReferenceIdeal.τ).loc Cert.BandReferenceIdeal.main_arg3)
      ∧ r.2.mem ((c.tc : Thread Cert.BandReferenceIdeal.nD Cert.BandReferenceIdeal.τ).loc Cert.BandReferenceIdeal.main_arg4) = m ((c.tc : Thread Cert.BandReferenceIdeal.nD Cert.BandReferenceIdeal.τ).loc Cert.BandReferenceIdeal.main_arg4))
      ∧ r.2.sem = fun _ => 0)

def quiescent_BandReferenceIdeal_pre_band_tables [hBandReferenceIdeal : Cert.BandReferenceIdeal.Facts] [hPre_band_tables : Cert.Pre_band_tables.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal_band_tables m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2)
      ∧ r.2.mem ((c.tc : Thread Cert.BandReferenceIdeal.nD Cert.BandReferenceIdeal.τ).loc Cert.BandReferenceIdeal.main_arg3) = m ((c.tc : Thread Cert.BandReferenceIdeal.nD Cert.BandReferenceIdeal.τ).loc Cert.BandReferenceIdeal.main_arg3)
      ∧ r.2.mem ((c.tc : Thread Cert.BandReferenceIdeal.nD Cert.BandReferenceIdeal.τ).loc Cert.BandReferenceIdeal.main_arg4) = m ((c.tc : Thread Cert.BandReferenceIdeal.nD Cert.BandReferenceIdeal.τ).loc Cert.BandReferenceIdeal.main_arg4))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v9) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v49_0)) (v1 : (c : Dev Cert.ProjIdeal.nD) → Buf (Elt Ideal) ((c.tc : Thread Cert.ProjIdeal.nD Cert.ProjIdeal.τ).loc Cert.ProjIdeal.main_v49_1)) (v2 : (c : Dev Cert.ProjIdeal.nD) → Buf (Elt Ideal) ((c.tc : Thread Cert.ProjIdeal.nD Cert.ProjIdeal.τ).loc Cert.ProjIdeal.main_v49_2)) (v3 : (c : Dev Cert.ProjIdeal.nD) → Buf (Elt Ideal) ((c.tc : Thread Cert.ProjIdeal.nD Cert.ProjIdeal.τ).loc Cert.ProjIdeal.main_v49_3)) (v4 : (c : Dev Cert.ProjIdeal.nD) → Buf (Elt Ideal) ((c.tc : Thread Cert.ProjIdeal.nD Cert.ProjIdeal.τ).loc Cert.ProjIdeal.main_v49_4)) (v5 : (c : Dev Cert.ProjIdeal.nD) → Buf (Elt Ideal) ((c.tc : Thread Cert.ProjIdeal.nD Cert.ProjIdeal.τ).loc Cert.ProjIdeal.main_v49_5)) (v6 : (c : Dev Cert.ProjIdeal.nD) → Buf (Elt Ideal) ((c.tc : Thread Cert.ProjIdeal.nD Cert.ProjIdeal.τ).loc Cert.ProjIdeal.main_v49_6)) (v7 : (c : Dev Cert.ProjIdeal.nD) → Buf (Elt Ideal) ((c.tc : Thread Cert.ProjIdeal.nD Cert.ProjIdeal.τ).loc Cert.ProjIdeal.main_v49_7)) (v8 : (c : Dev Cert.ProjIdeal.nD) → Buf (Elt Ideal) ((c.tc : Thread Cert.ProjIdeal.nD Cert.ProjIdeal.τ).loc Cert.ProjIdeal.main_v49_8)) (v9 : (c : Dev Cert.ProjIdeal.nD) → Buf (Elt Ideal) ((c.tc : Thread Cert.ProjIdeal.nD Cert.ProjIdeal.τ).loc Cert.ProjIdeal.main_v49_9)) (v10 : (c : Dev Cert.ProjIdeal.nD) → Buf (Elt Ideal) ((c.tc : Thread Cert.ProjIdeal.nD Cert.ProjIdeal.τ).loc Cert.ProjIdeal.main_v49_10)) (v11 : (c : Dev Cert.ProjIdeal.nD) → Buf (Elt Ideal) ((c.tc : Thread Cert.ProjIdeal.nD Cert.ProjIdeal.τ).loc Cert.ProjIdeal.main_v49_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v49_0) = v0 c
          ∧ r.2.mem ((c.tc : Thread Cert.ProjIdeal.nD Cert.ProjIdeal.τ).loc Cert.ProjIdeal.main_v49_1) = v1 c
          ∧ r.2.mem ((c.tc : Thread Cert.ProjIdeal.nD Cert.ProjIdeal.τ).loc Cert.ProjIdeal.main_v49_2) = v2 c
          ∧ r.2.mem ((c.tc : Thread Cert.ProjIdeal.nD Cert.ProjIdeal.τ).loc Cert.ProjIdeal.main_v49_3) = v3 c
          ∧ r.2.mem ((c.tc : Thread Cert.ProjIdeal.nD Cert.ProjIdeal.τ).loc Cert.ProjIdeal.main_v49_4) = v4 c
          ∧ r.2.mem ((c.tc : Thread Cert.ProjIdeal.nD Cert.ProjIdeal.τ).loc Cert.ProjIdeal.main_v49_5) = v5 c
          ∧ r.2.mem ((c.tc : Thread Cert.ProjIdeal.nD Cert.ProjIdeal.τ).loc Cert.ProjIdeal.main_v49_6) = v6 c
          ∧ r.2.mem ((c.tc : Thread Cert.ProjIdeal.nD Cert.ProjIdeal.τ).loc Cert.ProjIdeal.main_v49_7) = v7 c
          ∧ r.2.mem ((c.tc : Thread Cert.ProjIdeal.nD Cert.ProjIdeal.τ).loc Cert.ProjIdeal.main_v49_8) = v8 c
          ∧ r.2.mem ((c.tc : Thread Cert.ProjIdeal.nD Cert.ProjIdeal.τ).loc Cert.ProjIdeal.main_v49_9) = v9 c
          ∧ r.2.mem ((c.tc : Thread Cert.ProjIdeal.nD Cert.ProjIdeal.τ).loc Cert.ProjIdeal.main_v49_10) = v10 c
          ∧ r.2.mem ((c.tc : Thread Cert.ProjIdeal.nD Cert.ProjIdeal.τ).loc Cert.ProjIdeal.main_v49_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v47) = v0 c
          ∧ r.2.mem ((c.tc : Thread Cert.ProjReferenceIdeal.nD Cert.ProjReferenceIdeal.τ).loc Cert.ProjReferenceIdeal.main_v65) = v1 c
          ∧ r.2.mem ((c.tc : Thread Cert.ProjReferenceIdeal.nD Cert.ProjReferenceIdeal.τ).loc Cert.ProjReferenceIdeal.main_v72) = v2 c
          ∧ r.2.mem ((c.tc : Thread Cert.ProjReferenceIdeal.nD Cert.ProjReferenceIdeal.τ).loc Cert.ProjReferenceIdeal.main_v93) = v3 c
          ∧ r.2.mem ((c.tc : Thread Cert.ProjReferenceIdeal.nD Cert.ProjReferenceIdeal.τ).loc Cert.ProjReferenceIdeal.main_v111) = v4 c
          ∧ r.2.mem ((c.tc : Thread Cert.ProjReferenceIdeal.nD Cert.ProjReferenceIdeal.τ).loc Cert.ProjReferenceIdeal.main_v118) = v5 c
          ∧ r.2.mem ((c.tc : Thread Cert.ProjReferenceIdeal.nD Cert.ProjReferenceIdeal.τ).loc Cert.ProjReferenceIdeal.main_v139) = v6 c
          ∧ r.2.mem ((c.tc : Thread Cert.ProjReferenceIdeal.nD Cert.ProjReferenceIdeal.τ).loc Cert.ProjReferenceIdeal.main_v155) = v7 c
          ∧ r.2.mem ((c.tc : Thread Cert.ProjReferenceIdeal.nD Cert.ProjReferenceIdeal.τ).loc Cert.ProjReferenceIdeal.main_v162) = v8 c
          ∧ r.2.mem ((c.tc : Thread Cert.ProjReferenceIdeal.nD Cert.ProjReferenceIdeal.τ).loc Cert.ProjReferenceIdeal.main_v164) = v9 c
          ∧ r.2.mem ((c.tc : Thread Cert.ProjReferenceIdeal.nD Cert.ProjReferenceIdeal.τ).loc Cert.ProjReferenceIdeal.main_v165) = v10 c
          ∧ r.2.mem ((c.tc : Thread Cert.ProjReferenceIdeal.nD Cert.ProjReferenceIdeal.τ).loc Cert.ProjReferenceIdeal.main_v168) = v11 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Band_BandIdeal : Prop :=
  True

def algebraic_BandIdeal_BandReferenceIdeal_pre_band_tables [hBandIdeal : Cert.BandIdeal.Facts] [hBandReferenceIdeal : Cert.BandReferenceIdeal.Facts] [hPre_band_tables : Cert.Pre_band_tables.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandIdeal_band_tables m →
    (∀ c : Dev Cert.BandIdeal.nD,
      m' ((c.tc : Thread Cert.BandReferenceIdeal.nD Cert.BandReferenceIdeal.τ).loc Cert.BandReferenceIdeal.main_arg0) = m ((c.tc : Thread Cert.BandIdeal.nD Cert.BandIdeal.τ).loc Cert.BandIdeal.main_arg0)
      ∧ m' ((c.tc : Thread Cert.BandReferenceIdeal.nD Cert.BandReferenceIdeal.τ).loc Cert.BandReferenceIdeal.main_arg1) = m ((c.tc : Thread Cert.BandIdeal.nD Cert.BandIdeal.τ).loc Cert.BandIdeal.main_arg1)
      ∧ m' ((c.tc : Thread Cert.BandReferenceIdeal.nD Cert.BandReferenceIdeal.τ).loc Cert.BandReferenceIdeal.main_arg2) = m ((c.tc : Thread Cert.BandIdeal.nD Cert.BandIdeal.τ).loc Cert.BandIdeal.main_arg2)
      ∧ m' ((c.tc : Thread Cert.BandReferenceIdeal.nD Cert.BandReferenceIdeal.τ).loc Cert.BandReferenceIdeal.main_arg3) = m ((c.tc : Thread Cert.BandIdeal.nD Cert.BandIdeal.τ).loc Cert.BandIdeal.main_arg3)
      ∧ m' ((c.tc : Thread Cert.BandReferenceIdeal.nD Cert.BandReferenceIdeal.τ).loc Cert.BandReferenceIdeal.main_arg4) = m ((c.tc : Thread Cert.BandIdeal.nD Cert.BandIdeal.τ).loc Cert.BandIdeal.main_arg4)) →
    ∃ (v0 : (c : Dev Cert.BandIdeal.nD) → Buf (Elt Ideal) ((c.tc : Thread Cert.BandIdeal.nD Cert.BandIdeal.τ).loc Cert.BandIdeal.main_v0)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3)
          ∧ r.2.mem ((c.tc : Thread Cert.BandIdeal.nD Cert.BandIdeal.τ).loc Cert.BandIdeal.main_arg4) = m ((c.tc : Thread Cert.BandIdeal.nD Cert.BandIdeal.τ).loc Cert.BandIdeal.main_arg4))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v84) = v0 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1)
          ∧ r.2.mem ((c.tc : Thread Cert.BandReferenceIdeal.nD Cert.BandReferenceIdeal.τ).loc Cert.BandReferenceIdeal.main_arg2) = m' ((c.tc : Thread Cert.BandReferenceIdeal.nD Cert.BandReferenceIdeal.τ).loc Cert.BandReferenceIdeal.main_arg2)
          ∧ r.2.mem ((c.tc : Thread Cert.BandReferenceIdeal.nD Cert.BandReferenceIdeal.τ).loc Cert.BandReferenceIdeal.main_arg3) = m' ((c.tc : Thread Cert.BandReferenceIdeal.nD Cert.BandReferenceIdeal.τ).loc Cert.BandReferenceIdeal.main_arg3)
          ∧ r.2.mem ((c.tc : Thread Cert.BandReferenceIdeal.nD Cert.BandReferenceIdeal.τ).loc Cert.BandReferenceIdeal.main_arg4) = m' ((c.tc : Thread Cert.BandReferenceIdeal.nD Cert.BandReferenceIdeal.τ).loc Cert.BandReferenceIdeal.main_arg4))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v3) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0))

def preserves_Bias_BiasIdeal : Prop :=
  True

def algebraic_BiasIdeal_BiasReferenceIdeal [hBiasIdeal : Cert.BiasIdeal.Facts] [hBiasReferenceIdeal : Cert.BiasReferenceIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v1)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v1) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v45) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hBand : Cert.Band.Facts) (hBandIdeal : Cert.BandIdeal.Facts) (hBandReferenceIdeal : Cert.BandReferenceIdeal.Facts) (hWeight : Cert.Weight.Facts) (hWeightIdeal : Cert.WeightIdeal.Facts) (hWeightReferenceIdeal : Cert.WeightReferenceIdeal.Facts) (hBias : Cert.Bias.Facts) (hBiasIdeal : Cert.BiasIdeal.Facts) (hBiasReferenceIdeal : Cert.BiasReferenceIdeal.Facts) (hPre_router_finite : Cert.Pre_router_finite.Facts) (hPre_band_tables : Cert.Pre_band_tables.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Moe (hMoe := hMoe)
    ∧ quiescent_MoeIdeal (hMoeIdeal := hMoeIdeal)
    ∧ quiescent_MoeReferenceIdeal (hMoeReferenceIdeal := hMoeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Band (hBand := hBand)
    ∧ quiescent_BandIdeal (hBandIdeal := hBandIdeal)
    ∧ quiescent_BandIdeal_pre_band_tables (hBandIdeal := hBandIdeal) (hPre_band_tables := hPre_band_tables)
    ∧ quiescent_BandReferenceIdeal (hBandReferenceIdeal := hBandReferenceIdeal)
    ∧ quiescent_BandReferenceIdeal_pre_band_tables (hBandReferenceIdeal := hBandReferenceIdeal) (hPre_band_tables := hPre_band_tables)
    ∧ quiescent_Weight (hWeight := hWeight)
    ∧ quiescent_WeightIdeal (hWeightIdeal := hWeightIdeal)
    ∧ quiescent_WeightReferenceIdeal (hWeightReferenceIdeal := hWeightReferenceIdeal)
    ∧ quiescent_Bias (hBias := hBias)
    ∧ quiescent_BiasIdeal (hBiasIdeal := hBiasIdeal)
    ∧ quiescent_BiasReferenceIdeal (hBiasReferenceIdeal := hBiasReferenceIdeal)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Moe_MoeIdeal
    ∧ algebraic_MoeIdeal_MoeReferenceIdeal (hMoeIdeal := hMoeIdeal) (hMoeReferenceIdeal := hMoeReferenceIdeal)
    ∧ preserves_Proj_ProjIdeal
    ∧ algebraic_ProjIdeal_ProjReferenceIdeal (hProjIdeal := hProjIdeal) (hProjReferenceIdeal := hProjReferenceIdeal)
    ∧ preserves_Band_BandIdeal
    ∧ algebraic_BandIdeal_BandReferenceIdeal_pre_band_tables (hBandIdeal := hBandIdeal) (hBandReferenceIdeal := hBandReferenceIdeal) (hPre_band_tables := hPre_band_tables)
    ∧ preserves_Weight_WeightIdeal
    ∧ algebraic_WeightIdeal_WeightReferenceIdeal (hWeightIdeal := hWeightIdeal) (hWeightReferenceIdeal := hWeightReferenceIdeal)
    ∧ preserves_Bias_BiasIdeal
    ∧ algebraic_BiasIdeal_BiasReferenceIdeal (hBiasIdeal := hBiasIdeal) (hBiasReferenceIdeal := hBiasReferenceIdeal)
-- ==== Pre_band_tables.lean ====
abbrev S8x512x4096 : Shape := ⟨3, ![8, 512, 4096]⟩
abbrev S8x4096x128 : Shape := ⟨3, ![8, 4096, 128]⟩
abbrev S8x16x160x256 : Shape := ⟨4, ![8, 16, 160, 256]⟩
abbrev S8x3x256x256 : Shape := ⟨4, ![8, 3, 256, 256]⟩
abbrev S8 : Shape := ⟨1, ![8]⟩
abbrev S8x16x2x256 : Shape := ⟨4, ![8, 16, 2, 256]⟩
abbrev S8x1x256x256 : Shape := ⟨4, ![8, 1, 256, 256]⟩
abbrev S8x256x256 : Shape := ⟨3, ![8, 256, 256]⟩
abbrev S8x512x256 : Shape := ⟨3, ![8, 512, 256]⟩
abbrev S_ : Shape := ⟨0, ![]⟩
abbrev S8x128x64 : Shape := ⟨3, ![8, 128, 64]⟩
abbrev S8x192x64 : Shape := ⟨3, ![8, 192, 64]⟩
abbrev S8x256x64 : Shape := ⟨3, ![8, 256, 64]⟩
abbrev S8x320x64 : Shape := ⟨3, ![8, 320, 64]⟩
abbrev S8x64x64 : Shape := ⟨3, ![8, 64, 64]⟩

class Facts : Prop where
  bitsLt_bf16_f32 : FTy.bits .bf16 < FTy.bits .f32
  slicesBy_S8x16x160x256_S8x16x2x256_0s1_0s1_64s80_0s1 : S8x16x160x256.SlicesBy (![0, 0, 64, 0] : Fin 4 → Nat) ![1, 1, 80, 1] S8x16x2x256
  slices_S8x3x256x256_S8x1x256x256_0_1_0_0 : S8x3x256x256.Slices ![0, 1, 0, 0] S8x1x256x256
  shapeCasts_S8x1x256x256_S8x256x256 : S8x1x256x256.ShapeCasts S8x256x256
  slices_S8x3x256x256_S8x1x256x256_0_0_0_0 : S8x3x256x256.Slices ![0, 0, 0, 0] S8x1x256x256
  concatenates_S8x256x256_S8x256x256_S8x512x256_d1 : Shape.Concatenates [S8x256x256, S8x256x256] S8x512x256 1
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_
  bcast_S_S8 : S_.BroadcastsInDim S8 (![] : Fin 0 → Fin S8.rank)
  reducesTo_S8_S_d0 : S8.ReducesTo [0] S_
  bcast_S_S8x3x256x256 : S_.BroadcastsInDim S8x3x256x256 (![] : Fin 0 → Fin S8x3x256x256.rank)
  reducesTo_S8x3x256x256_S_d0_1_2_3 : S8x3x256x256.ReducesTo [0, 1, 2, 3] S_
  bcast_S_S8x16x2x256 : S_.BroadcastsInDim S8x16x2x256 (![] : Fin 0 → Fin S8x16x2x256.rank)
  reducesTo_S8x16x2x256_S_d0_1_2_3 : S8x16x2x256.ReducesTo [0, 1, 2, 3] S_
  slices_S8x3x256x256_S8x1x256x256_0_2_0_0 : S8x3x256x256.Slices ![0, 2, 0, 0] S8x1x256x256
  bcast_S_S8x256x256 : S_.BroadcastsInDim S8x256x256 (![] : Fin 0 → Fin S8x256x256.rank)
  reducesTo_S8x256x256_S_d0_1_2 : S8x256x256.ReducesTo [0, 1, 2] S_
  slices_S8x512x256_S8x128x64_0_0_0 : S8x512x256.Slices ![0, 0, 0] S8x128x64
  bcast_S_S8x128x64 : S_.BroadcastsInDim S8x128x64 (![] : Fin 0 → Fin S8x128x64.rank)
  reducesTo_S8x128x64_S_d0_1_2 : S8x128x64.ReducesTo [0, 1, 2] S_
  slices_S8x512x256_S8x192x64_0_0_64 : S8x512x256.Slices ![0, 0, 64] S8x192x64
  bcast_S_S8x192x64 : S_.BroadcastsInDim S8x192x64 (![] : Fin 0 → Fin S8x192x64.rank)
  reducesTo_S8x192x64_S_d0_1_2 : S8x192x64.ReducesTo [0, 1, 2] S_
  slices_S8x512x256_S8x256x64_0_0_128 : S8x512x256.Slices ![0, 0, 128] S8x256x64
  bcast_S_S8x256x64 : S_.BroadcastsInDim S8x256x64 (![] : Fin 0 → Fin S8x256x64.rank)
  reducesTo_S8x256x64_S_d0_1_2 : S8x256x64.ReducesTo [0, 1, 2] S_
  slices_S8x512x256_S8x320x64_0_0_192 : S8x512x256.Slices ![0, 0, 192] S8x320x64
  bcast_S_S8x320x64 : S_.BroadcastsInDim S8x320x64 (![] : Fin 0 → Fin S8x320x64.rank)
  reducesTo_S8x320x64_S_d0_1_2 : S8x320x64.ReducesTo [0, 1, 2] S_
  slices_S8x512x256_S8x192x64_0_320_0 : S8x512x256.Slices ![0, 320, 0] S8x192x64
  slices_S8x512x256_S8x128x64_0_384_64 : S8x512x256.Slices ![0, 384, 64] S8x128x64
  slices_S8x512x256_S8x64x64_0_448_128 : S8x512x256.Slices ![0, 448, 128] S8x64x64
  bcast_S_S8x64x64 : S_.BroadcastsInDim S8x64x64 (![] : Fin 0 → Fin S8x64x64.rank)
  reducesTo_S8x64x64_S_d0_1_2 : S8x64x64.ReducesTo [0, 1, 2] S_

variable [Facts]

def fn_part4 {F : FTy → Type} [FloatOps F] (main_v8 : FVec F S8x512x256 .f32) (main_v67 : IVec S_ 1) (main_v71 : IVec S8x128x64 1) (main_c_21 : IVec S_ 1) : IVec S_ 1 :=
  let main_v72 : IVec S_ 1 := (fun x v => Host.reduce IntOp.andi x v reducesTo_S8x128x64_S_d0_1_2 h_S_) main_v71 main_c_21
  let main_v73 : IVec S_ 1 := andi main_v67 main_v72
  let main_v74 : FVec F S8x64x64 .f32 := (extractStridedSlice S8x64x64 ![0, 448, 128] · slices_S8x512x256_S8x64x64_0_448_128) main_v8
  let main_cst_22 : FVec F S_ .f32 := constant S_ .f32 0x7F800000#32
  let main_v75 : FVec F S_ .f32 := Host.negf main_cst_22
  let main_v76 : FVec F S8x64x64 .f32 := broadcastInDim S8x64x64 ![] bcast_S_S8x64x64 main_v75
  let main_v77 : IVec S8x64x64 1 := cmpf .oeq main_v74 main_v76
  let main_c_23 : IVec S_ 1 := constantI S_ 1 1#1
  let main_v78 : IVec S_ 1 := (fun x v => Host.reduce IntOp.andi x v reducesTo_S8x64x64_S_d0_1_2 h_S_) main_v77 main_c_23
  let main_v79 : IVec S_ 1 := andi main_v73 main_v78
  main_v79

def fn_part3 {F : FTy → Type} [FloatOps F] (main_v8 : FVec F S8x512x256 .f32) (main_v49 : IVec S_ 1) (main_v53 : IVec S8x256x64 1) (main_c_15 : IVec S_ 1) : IVec S_ 1 :=
  let main_v54 : IVec S_ 1 := (fun x v => Host.reduce IntOp.andi x v reducesTo_S8x256x64_S_d0_1_2 h_S_) main_v53 main_c_15
  let main_v55 : IVec S_ 1 := andi main_v49 main_v54
  let main_v56 : FVec F S8x320x64 .f32 := (extractStridedSlice S8x320x64 ![0, 0, 192] · slices_S8x512x256_S8x320x64_0_0_192) main_v8
  let main_cst_16 : FVec F S_ .f32 := constant S_ .f32 0x7F800000#32
  let main_v57 : FVec F S_ .f32 := Host.negf main_cst_16
  let main_v58 : FVec F S8x320x64 .f32 := broadcastInDim S8x320x64 ![] bcast_S_S8x320x64 main_v57
  let main_v59 : IVec S8x320x64 1 := cmpf .oeq main_v56 main_v58
  let main_c_17 : IVec S_ 1 := constantI S_ 1 1#1
  let main_v60 : IVec S_ 1 := (fun x v => Host.reduce IntOp.andi x v reducesTo_S8x320x64_S_d0_1_2 h_S_) main_v59 main_c_17
  let main_v61 : IVec S_ 1 := andi main_v55 main_v60
  let main_v62 : FVec F S8x192x64 .f32 := (extractStridedSlice S8x192x64 ![0, 320, 0] · slices_S8x512x256_S8x192x64_0_320_0) main_v8
  let main_cst_18 : FVec F S_ .f32 := constant S_ .f32 0x7F800000#32
  let main_v63 : FVec F S_ .f32 := Host.negf main_cst_18
  let main_v64 : FVec F S8x192x64 .f32 := broadcastInDim S8x192x64 ![] bcast_S_S8x192x64 main_v63
  let main_v65 : IVec S8x192x64 1 := cmpf .oeq main_v62 main_v64
  let main_c_19 : IVec S_ 1 := constantI S_ 1 1#1
  let main_v66 : IVec S_ 1 := (fun x v => Host.reduce IntOp.andi x v reducesTo_S8x192x64_S_d0_1_2 h_S_) main_v65 main_c_19
  let main_v67 : IVec S_ 1 := andi main_v61 main_v66
  let main_v68 : FVec F S8x128x64 .f32 := (extractStridedSlice S8x128x64 ![0, 384, 64] · slices_S8x512x256_S8x128x64_0_384_64) main_v8
  let main_cst_20 : FVec F S_ .f32 := constant S_ .f32 0x7F800000#32
  let main_v69 : FVec F S_ .f32 := Host.negf main_cst_20
  let main_v70 : FVec F S8x128x64 .f32 := broadcastInDim S8x128x64 ![] bcast_S_S8x128x64 main_v69
  let main_v71 : IVec S8x128x64 1 := cmpf .oeq main_v68 main_v70
  let main_c_21 : IVec S_ 1 := constantI S_ 1 1#1
  fn_part4 (F := F) main_v8 main_v67 main_v71 main_c_21

def fn_part2 {F : FTy → Type} [FloatOps F] (main_v8 : FVec F S8x512x256 .f32) (main_v30 : IVec S_ 1) (main_v35 : IVec S8x256x256 1) (main_c_9 : IVec S_ 1) : IVec S_ 1 :=
  let main_v36 : IVec S_ 1 := (fun x v => Host.reduce IntOp.andi x v reducesTo_S8x256x256_S_d0_1_2 h_S_) main_v35 main_c_9
  let main_v37 : IVec S_ 1 := andi main_v30 main_v36
  let main_v38 : FVec F S8x128x64 .f32 := (extractStridedSlice S8x128x64 ![0, 0, 0] · slices_S8x512x256_S8x128x64_0_0_0) main_v8
  let main_cst_10 : FVec F S_ .f32 := constant S_ .f32 0x7F800000#32
  let main_v39 : FVec F S_ .f32 := Host.negf main_cst_10
  let main_v40 : FVec F S8x128x64 .f32 := broadcastInDim S8x128x64 ![] bcast_S_S8x128x64 main_v39
  let main_v41 : IVec S8x128x64 1 := cmpf .oeq main_v38 main_v40
  let main_c_11 : IVec S_ 1 := constantI S_ 1 1#1
  let main_v42 : IVec S_ 1 := (fun x v => Host.reduce IntOp.andi x v reducesTo_S8x128x64_S_d0_1_2 h_S_) main_v41 main_c_11
  let main_v43 : IVec S_ 1 := andi main_v37 main_v42
  let main_v44 : FVec F S8x192x64 .f32 := (extractStridedSlice S8x192x64 ![0, 0, 64] · slices_S8x512x256_S8x192x64_0_0_64) main_v8
  let main_cst_12 : FVec F S_ .f32 := constant S_ .f32 0x7F800000#32
  let main_v45 : FVec F S_ .f32 := Host.negf main_cst_12
  let main_v46 : FVec F S8x192x64 .f32 := broadcastInDim S8x192x64 ![] bcast_S_S8x192x64 main_v45
  let main_v47 : IVec S8x192x64 1 := cmpf .oeq main_v44 main_v46
  let main_c_13 : IVec S_ 1 := constantI S_ 1 1#1
  let main_v48 : IVec S_ 1 := (fun x v => Host.reduce IntOp.andi x v reducesTo_S8x192x64_S_d0_1_2 h_S_) main_v47 main_c_13
  let main_v49 : IVec S_ 1 := andi main_v43 main_v48
  let main_v50 : FVec F S8x256x64 .f32 := (extractStridedSlice S8x256x64 ![0, 0, 128] · slices_S8x512x256_S8x256x64_0_0_128) main_v8
  let main_cst_14 : FVec F S_ .f32 := constant S_ .f32 0x7F800000#32
  let main_v51 : FVec F S_ .f32 := Host.negf main_cst_14
  let main_v52 : FVec F S8x256x64 .f32 := broadcastInDim S8x256x64 ![] bcast_S_S8x256x64 main_v51
  let main_v53 : IVec S8x256x64 1 := cmpf .oeq main_v50 main_v52
  let main_c_15 : IVec S_ 1 := constantI S_ 1 1#1
  fn_part3 (F := F) main_v8 main_v49 main_v53 main_c_15

def fn_part1 {F : FTy → Type} [FloatOps F] (main_arg3 : FVec F S8x3x256x256 .f32) (main_v3 : FVec F S8x16x2x256 .f32) (main_v8 : FVec F S8x512x256 .f32) (main_v17 : IVec S_ 1) (main_v18 : FVec F S8 .f32) (main_cst_2 : FVec F S_ .f32) : IVec S_ 1 :=
  let main_v19 : FVec F S8 .f32 := broadcastInDim S8 ![] bcast_S_S8 main_cst_2
  let main_v20 : IVec S8 1 := cmpf .olt main_v18 main_v19
  let main_c_3 : IVec S_ 1 := constantI S_ 1 1#1
  let main_v21 : IVec S_ 1 := (fun x v => Host.reduce IntOp.andi x v reducesTo_S8_S_d0 h_S_) main_v20 main_c_3
  let main_v22 : IVec S_ 1 := andi main_v17 main_v21
  let main_cst_4 : FVec F S_ .f32 := constant S_ .f32 0x7F800000#32
  let main_v23 : FVec F S8x3x256x256 .f32 := broadcastInDim S8x3x256x256 ![] bcast_S_S8x3x256x256 main_cst_4
  let main_v24 : IVec S8x3x256x256 1 := cmpf .olt main_arg3 main_v23
  let main_c_5 : IVec S_ 1 := constantI S_ 1 1#1
  let main_v25 : IVec S_ 1 := (fun x v => Host.reduce IntOp.andi x v reducesTo_S8x3x256x256_S_d0_1_2_3 h_S_) main_v24 main_c_5
  let main_v26 : IVec S_ 1 := andi main_v22 main_v25
  let main_cst_6 : FVec F S_ .f32 := constant S_ .f32 0x3F800000#32
  let main_v27 : FVec F S8x16x2x256 .f32 := broadcastInDim S8x16x2x256 ![] bcast_S_S8x16x2x256 main_cst_6
  let main_v28 : IVec S8x16x2x256 1 := cmpf .oeq main_v3 main_v27
  let main_c_7 : IVec S_ 1 := constantI S_ 1 1#1
  let main_v29 : IVec S_ 1 := (fun x v => Host.reduce IntOp.andi x v reducesTo_S8x16x2x256_S_d0_1_2_3 h_S_) main_v28 main_c_7
  let main_v30 : IVec S_ 1 := andi main_v26 main_v29
  let main_v31 : FVec F S8x1x256x256 .f32 := (extractStridedSlice S8x1x256x256 ![0, 2, 0, 0] · slices_S8x3x256x256_S8x1x256x256_0_2_0_0) main_arg3
  let main_v32 : FVec F S8x256x256 .f32 := shapeCast S8x256x256 main_v31 shapeCasts_S8x1x256x256_S8x256x256
  let main_cst_8 : FVec F S_ .f32 := constant S_ .f32 0x7F800000#32
  let main_v33 : FVec F S_ .f32 := Host.negf main_cst_8
  let main_v34 : FVec F S8x256x256 .f32 := broadcastInDim S8x256x256 ![] bcast_S_S8x256x256 main_v33
  let main_v35 : IVec S8x256x256 1 := cmpf .oeq main_v32 main_v34
  let main_c_9 : IVec S_ 1 := constantI S_ 1 1#1
  fn_part2 (F := F) main_v8 main_v30 main_v35 main_c_9

def fn {F : FTy → Type} [FloatOps F] (main_arg0 : FVec F S8x512x4096 .bf16) (main_arg1 : FVec F S8x4096x128 .bf16) (main_arg2 : FVec F S8x16x160x256 .bf16) (main_arg3 : FVec F S8x3x256x256 .f32) (main_arg4 : FVec F S8 .f32) : IVec S_ 1 :=
  let main_v0 : FVec F S8x512x4096 .f32 := (extf .f32 · bitsLt_bf16_f32) main_arg0
  let main_v1 : FVec F S8x4096x128 .f32 := (extf .f32 · bitsLt_bf16_f32) main_arg1
  let main_v2 : FVec F S8x16x2x256 .bf16 := (Host.slice S8x16x2x256 ![0, 0, 64, 0] ![1, 1, 80, 1] · slicesBy_S8x16x160x256_S8x16x2x256_0s1_0s1_64s80_0s1) main_arg2
  let main_v3 : FVec F S8x16x2x256 .f32 := (extf .f32 · bitsLt_bf16_f32) main_v2
  let main_v4 : FVec F S8x1x256x256 .f32 := (extractStridedSlice S8x1x256x256 ![0, 1, 0, 0] · slices_S8x3x256x256_S8x1x256x256_0_1_0_0) main_arg3
  let main_v5 : FVec F S8x256x256 .f32 := shapeCast S8x256x256 main_v4 shapeCasts_S8x1x256x256_S8x256x256
  let main_v6 : FVec F S8x1x256x256 .f32 := (extractStridedSlice S8x1x256x256 ![0, 0, 0, 0] · slices_S8x3x256x256_S8x1x256x256_0_0_0_0) main_arg3
  let main_v7 : FVec F S8x256x256 .f32 := shapeCast S8x256x256 main_v6 shapeCasts_S8x1x256x256_S8x256x256
  let main_v8 : FVec F S8x512x256 .f32 := (fun a b => concatenate S8x512x256 1 [⟨S8x256x256, a⟩, ⟨S8x256x256, b⟩] concatenates_S8x256x256_S8x256x256_S8x512x256_d1) main_v5 main_v7
  let main_v9 : FVec F S8x512x4096 .f32 := Host.absf main_v0
  let main_cst : FVec F S_ .f32 := constant S_ .f32 0x7F800000#32
  let main_v10 : FVec F S8x512x4096 .f32 := broadcastInDim S8x512x4096 ![] bcast_S_S8x512x4096 main_cst
  let main_v11 : IVec S8x512x4096 1 := cmpf .olt main_v9 main_v10
  let main_c : IVec S_ 1 := constantI S_ 1 1#1
  let main_v12 : IVec S_ 1 := (fun x v => Host.reduce IntOp.andi x v reducesTo_S8x512x4096_S_d0_1_2 h_S_) main_v11 main_c
  let main_v13 : FVec F S8x4096x128 .f32 := Host.absf main_v1
  let main_cst_0 : FVec F S_ .f32 := constant S_ .f32 0x7F800000#32
  let main_v14 : FVec F S8x4096x128 .f32 := broadcastInDim S8x4096x128 ![] bcast_S_S8x4096x128 main_cst_0
  let main_v15 : IVec S8x4096x128 1 := cmpf .olt main_v13 main_v14
  let main_c_1 : IVec S_ 1 := constantI S_ 1 1#1
  let main_v16 : IVec S_ 1 := (fun x v => Host.reduce IntOp.andi x v reducesTo_S8x4096x128_S_d0_1_2 h_S_) main_v15 main_c_1
  let main_v17 : IVec S_ 1 := andi main_v12 main_v16
  let main_v18 : FVec F S8 .f32 := Host.absf main_arg4
  let main_cst_2 : FVec F S_ .f32 := constant S_ .f32 0x7F800000#32
  fn_part1 (F := F) main_arg3 main_v3 main_v8 main_v17 main_v18 main_cst_2
-- ==== Pre_router_finite.lean ====
abbrev S8x4096x1024 : Shape := ⟨3, ![8, 4096, 1024]⟩
abbrev S8x4096x512 : Shape := ⟨3, ![8, 4096, 512]⟩
abbrev S1024 : Shape := ⟨1, ![1024]⟩
abbrev S3x512x1024 : Shape := ⟨3, ![3, 512, 1024]⟩
abbrev S1024x3072 : Shape := ⟨2, ![1024, 3072]⟩
abbrev S3072 : Shape := ⟨1, ![3072]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1x16 : Shape := ⟨2, ![1, 16]⟩
abbrev S1x4 : Shape := ⟨2, ![1, 4]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  reducesTo_S1024x16_S_d0_1 : S1024x16.ReducesTo [0, 1] S_
  h_S_ : 0 < S_.numel
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  reducesTo_S1024x4_S_d0_1 : S1024x4.ReducesTo [0, 1] S_
  reducesTo_S1024_S_d0 : S1024.ReducesTo [0] S_

variable [Facts]

def fn_part1 {F : FTy → Type} [FloatOps F] (main_v2 : IVec S1024 1) (main_v5 : IVec S1024x4 1) (main_v8 : IVec S4 1) (main_v17 : IVec S1024x16 1) (main_c : IVec S_ 1) : IVec S_ 1 :=
  let main_v18 : IVec S_ 1 := (fun x v => Host.reduce IntOp.andi x v reducesTo_S1024x16_S_d0_1 h_S_) main_v17 main_c
  let main_v19 : IVec S1x4 1 := broadcastInDim S1x4 ![1] bcast_S4_S1x4_1 main_v8
  let main_v20 : IVec S1024x4 1 := broadcastInDim S1024x4 ![0, 1] bcast_S1x4_S1024x4_0_1 main_v19
  let main_v21 : IVec S1024x4 1 := andi main_v5 main_v20
  let main_c_4 : IVec S_ 1 := constantI S_ 1 1#1
  let main_v22 : IVec S_ 1 := (fun x v => Host.reduce IntOp.andi x v reducesTo_S1024x4_S_d0_1 h_S_) main_v21 main_c_4
  let main_c_5 : IVec S_ 1 := constantI S_ 1 1#1
  let main_v23 : IVec S_ 1 := (fun x v => Host.reduce IntOp.andi x v reducesTo_S1024_S_d0 h_S_) main_v2 main_c_5
  let main_v24 : IVec S_ 1 := andi main_v22 main_v23
  let main_v25 : IVec S_ 1 := andi main_v18 main_v24
  main_v25

def fn {F : FTy → Type} [FloatOps F] (main_arg0 : FVec F S8x4096x1024 .f32) (main_arg1 : FVec F S8x4096x512 .bf16) (main_arg2 : FVec F S8x4096x512 .bf16) (main_arg3 : FVec F S8x4096x512 .bf16) (main_arg4 : FVec F S1024 .f32) (main_arg5 : FVec F S3x512x1024 .f32) (main_arg6 : FVec F S1024x3072 .f32) (main_arg7 : FVec F S3072 .f32) (main_arg8 : FVec F S1024x1024 .f32) (main_arg9 : FVec F S1024 .f32) (main_arg10 : FVec F S1024x4 .f32) (main_arg11 : FVec F S4 .f32) (main_arg12 : FVec F S1024x16 .f32) (main_arg13 : FVec F S16 .f32) : IVec S_ 1 :=
  let main_v0 : FVec F S1024 .f32 := Host.absf main_arg9
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4 .f32 := Host.absf main_arg10
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg11
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S1024x16 .f32 := Host.absf main_arg12
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_v12 : FVec F S16 .f32 := Host.absf main_arg13
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : IVec S1x16 1 := broadcastInDim S1x16 ![1] bcast_S16_S1x16_1 main_v14
  let main_v16 : IVec S1024x16 1 := broadcastInDim S1024x16 ![0, 1] bcast_S1x16_S1024x16_0_1 main_v15
  let main_v17 : IVec S1024x16 1 := andi main_v11 main_v16
  let main_c : IVec S_ 1 := constantI S_ 1 1#1
  fn_part1 (F := F) main_v2 main_v5 main_v8 main_v17 main_c
-- ==== Kernel.lean ====
abbrev S8x4096x1024 : Shape := ⟨3, ![8, 4096, 1024]⟩
abbrev S8x4096x512 : Shape := ⟨3, ![8, 4096, 512]⟩
abbrev S1024 : Shape := ⟨1, ![1024]⟩
abbrev S3x512x1024 : Shape := ⟨3, ![3, 512, 1024]⟩
abbrev S1024x3072 : Shape := ⟨2, ![1024, 3072]⟩
abbrev S3072 : Shape := ⟨1, ![3072]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1x3072 : Shape := ⟨2, ![1, 3072]⟩
abbrev S32768x16 : Shape := ⟨2, ![32768, 16]⟩
abbrev S512x1024 : Shape := ⟨2, ![512, 1024]⟩
abbrev S512x512 : Shape := ⟨2, ![512, 512]⟩
abbrev S512x16 : Shape := ⟨2, ![512, 16]⟩
abbrev S512 : Shape := ⟨1, ![512]⟩
abbrev S512x1 : Shape := ⟨2, ![512, 1]⟩
abbrev S1x512x1024 : Shape := ⟨3, ![1, 512, 1024]⟩
abbrev S512x128 : Shape := ⟨2, ![512, 128]⟩

abbrev nBuf : Space → Nat
  | .hbm => 38
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S1024, .f32⟩
  | .hbm, ⟨5, _⟩ => ⟨S3x512x1024, .f32⟩
  | .hbm, ⟨6, _⟩ => ⟨S1024x3072, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x16, .f32⟩
  | .hbm, ⟨13, _⟩ => ⟨S16, .f32⟩
  | .hbm, ⟨14, _⟩ => ⟨S_, .f32⟩
  | .hbm, ⟨15, _⟩ => ⟨S1024x108, .f32⟩
  | .hbm, ⟨16, _⟩ => ⟨S1024x128, .f32⟩
  | .hbm, ⟨17, _⟩ => ⟨S_, .f32⟩
  | .hbm, ⟨18, _⟩ => ⟨S108, .f32⟩
  | .hbm, ⟨19, _⟩ => ⟨S128, .f32⟩
  | .hbm, ⟨20, _⟩ => ⟨S1x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S32768x1024, .f32⟩
  | .hbm, ⟨26, _⟩ => ⟨S32768x512, .bf16⟩
  | .hbm, ⟨27, _⟩ => ⟨S32768x512, .bf16⟩
  | .hbm, ⟨28, _⟩ => ⟨S32768x512, .bf16⟩
  | .hbm, ⟨29, _⟩ => ⟨S1x1024, .f32⟩
  | .hbm, ⟨30, _⟩ => ⟨S1024x3072, .bf16⟩
  | .hbm, ⟨31, _⟩ => ⟨S1x3072, .f32⟩
  | .hbm, ⟨32, _⟩ => ⟨S3x512x1024, .bf16⟩
  | .hbm, ⟨33, _⟩ => ⟨S1024x1024, .bf16⟩
  | .hbm, ⟨34, _⟩ => ⟨S1x1024, .f32⟩
  | .hbm, ⟨35, _⟩ => ⟨S32768x1024, .f32⟩
  | .hbm, ⟨36, _⟩ => ⟨S32768x1024, .bf16⟩
  | .hbm, ⟨37, _⟩ => ⟨S32768x16, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x16, .f32⟩
  | .local _ .vmem, ⟨22, _⟩ => ⟨S512x16, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x4096x1024 : Shape := ⟨3, ![8, 4096, 1024]⟩
abbrev S8x4096x512 : Shape := ⟨3, ![8, 4096, 512]⟩
abbrev S1024 : Shape := ⟨1, ![1024]⟩
abbrev S3x512x1024 : Shape := ⟨3, ![3, 512, 1024]⟩
abbrev S1024x3072 : Shape := ⟨2, ![1024, 3072]⟩
abbrev S3072 : Shape := ⟨1, ![3072]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x512 : Shape := ⟨2, ![32768, 512]⟩
abbrev S32768x1x512 : Shape := ⟨3, ![32768, 1, 512]⟩
abbrev S32768x3x512 : Shape := ⟨3, ![32768, 3, 512]⟩
abbrev S3x1024x32768 : Shape := ⟨3, ![3, 1024, 32768]⟩
abbrev S32768x3x1024 : Shape := ⟨3, ![32768, 3, 1024]⟩
abbrev S32768x3072 : Shape := ⟨2, ![32768, 3072]⟩
abbrev S1x3072 : Shape := ⟨2, ![1, 3072]⟩
abbrev S32768x4 : Shape := ⟨2, ![32768, 4]⟩
abbrev S1x4 : Shape := ⟨2, ![1, 4]⟩
abbrev S32768x1x1 : Shape := ⟨3, ![32768, 1, 1]⟩
abbrev S1 : Shape := ⟨1, ![1]⟩
abbrev S1x1x1 : Shape := ⟨3, ![1, 1, 1]⟩
abbrev S32768x16 : Shape := ⟨2, ![32768, 16]⟩
abbrev S1x16 : Shape := ⟨2, ![1, 16]⟩
abbrev S32768x4x4 : Shape := ⟨3, ![32768, 4, 4]⟩
abbrev S32768x1x4 : Shape := ⟨3, ![32768, 1, 4]⟩
abbrev S32768x2 : Shape := ⟨2, ![32768, 2]⟩
abbrev S32768x2x1 : Shape := ⟨3, ![32768, 2, 1]⟩
abbrev S1x1x16 : Shape := ⟨3, ![1, 1, 16]⟩
abbrev S32768x2x16 : Shape := ⟨3, ![32768, 2, 16]⟩

abbrev nBuf : Space → Nat
  | .hbm => 183
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S8x4096x512, .bf16⟩
  | 4 => ⟨S1024, .f32⟩
  | 5 => ⟨S3x512x1024, .f32⟩
  | 6 => ⟨S1024x3072, .f32⟩
  | 7 => ⟨S3072, .f32⟩
  | 8 => ⟨S1024x1024, .f32⟩
  | 9 => ⟨S1024, .f32⟩
  | 10 => ⟨S1024x4, .f32⟩
  | 11 => ⟨S4, .f32⟩
  | 12 => ⟨S1024x16, .f32⟩
  | 13 => ⟨S16, .f32⟩
  | 14 => ⟨S32768x1024, .f32⟩
  | 15 => ⟨S32768x1024, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1024, .f32⟩
  | 27 => ⟨S32768x1024, .f32⟩
  | 28 => ⟨S1x1024, .f32⟩
  | 29 => ⟨S32768x1024, .f32⟩
  | 30 => ⟨S32768x1024, .f32⟩
  | 31 => ⟨S8x4096x512, .f32⟩
  | 32 => ⟨S32768x512, .f32⟩
  | 33 => ⟨S8x4096x512, .f32⟩
  | 34 => ⟨S32768x512, .f32⟩
  | 35 => ⟨S8x4096x512, .f32⟩
  | 36 => ⟨S32768x512, .f32⟩
  | 37 => ⟨S32768x1x512, .f32⟩
  | 38 => ⟨S32768x1x512, .f32⟩
  | 39 => ⟨S32768x1x512, .f32⟩
  | 40 => ⟨S32768x3x512, .f32⟩
  | 41 => ⟨S3x1024x32768, .f32⟩
  | 42 => ⟨S32768x3x1024, .f32⟩
  | 43 => ⟨S32768x3072, .f32⟩
  | 44 => ⟨S1x3072, .f32⟩
  | 45 => ⟨S32768x3072, .f32⟩
  | 46 => ⟨S32768x3072, .f32⟩
  | 47 => ⟨S32768x3072, .f32⟩
  | 48 => ⟨S32768x3072, .f32⟩
  | 49 => ⟨S_, .f32⟩
  | 50 => ⟨S32768x3072, .f32⟩
  | 51 => ⟨S32768x3072, .f32⟩
  | 52 => ⟨S_, .f32⟩
  | 53 => ⟨S32768x3072, .f32⟩
  | 54 => ⟨S32768x3072, .f32⟩
  | 55 => ⟨S32768x3x1024, .f32⟩
  | 56 => ⟨S32768x3x1024, .f32⟩
  | 57 => ⟨S_, .f32⟩
  | 58 => ⟨S32768x1024, .f32⟩
  | 59 => ⟨S32768x1024, .f32⟩
  | 60 => ⟨S32768x1024, .f32⟩
  | 61 => ⟨S32768x1024, .f32⟩
  | 62 => ⟨S_, .f32⟩
  | 63 => ⟨S32768, .f32⟩
  | 64 => ⟨S32768x1, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1024, .f32⟩
  | 73 => ⟨S32768x1024, .f32⟩
  | 74 => ⟨S1x1024, .f32⟩
  | 75 => ⟨S32768x1024, .f32⟩
  | 76 => ⟨S32768x1024, .f32⟩
  | 77 => ⟨S32768x1024, .bf16⟩
  | 78 => ⟨S32768x4, .f32⟩
  | 79 => ⟨S1x4, .f32⟩
  | 80 => ⟨S32768x4, .f32⟩
  | 81 => ⟨S32768x4, .f32⟩
  | 82 => ⟨S_, .f32⟩
  | 83 => ⟨S32768, .f32⟩
  | 84 => ⟨S_, .f32⟩
  | 85 => ⟨S32768, .f32⟩
  | 86 => ⟨S32768, .f32⟩
  | 87 => ⟨S32768x1, .f32⟩
  | 88 => ⟨S32768x4, .f32⟩
  | 89 => ⟨S32768x4, .f32⟩
  | 90 => ⟨S32768x4, .f32⟩
  | 91 => ⟨S_, .f32⟩
  | 92 => ⟨S32768, .f32⟩
  | 93 => ⟨S32768x1, .f32⟩
  | 94 => ⟨S32768x4, .f32⟩
  | 95 => ⟨S32768x4, .f32⟩
  | 96 => ⟨S32768x1, .f32⟩
  | 97 => ⟨S32768x1, .i32⟩
  | 98 => ⟨S_, .i32⟩
  | 99 => ⟨S32768x1, .i32⟩
  | 100 => ⟨S32768x1, .i1⟩
  | 101 => ⟨S_, .i32⟩
  | 102 => ⟨S32768x1, .i32⟩
  | 103 => ⟨S32768x1, .i32⟩
  | 104 => ⟨S32768x1, .i32⟩
  | 105 => ⟨S32768x1x1, .i32⟩
  | 106 => ⟨S1, .i32⟩
  | 107 => ⟨S_, .i32⟩
  | 108 => ⟨S32768x1x1, .i32⟩
  | 109 => ⟨S32768x1x1, .i1⟩
  | 110 => ⟨S1x1x1, .i32⟩
  | 111 => ⟨S32768x1x1, .i32⟩
  | 112 => ⟨S32768x1x1, .i1⟩
  | 113 => ⟨S32768x1x1, .i1⟩
  | 114 => ⟨S_, .i1⟩
  | 115 => ⟨S32768x1, .i1⟩
  | 116 => ⟨S32768x1, .f32⟩
  | 117 => ⟨S_, .f32⟩
  | 118 => ⟨S32768x1, .f32⟩
  | 119 => ⟨S32768x1, .f32⟩
  | 120 => ⟨S32768x16, .f32⟩
  | 121 => ⟨S1x16, .f32⟩
  | 122 => ⟨S32768x16, .f32⟩
  | 123 => ⟨S32768x16, .f32⟩
  | 124 => ⟨S32768x4x4, .f32⟩
  | 125 => ⟨S32768x1x1, .i32⟩
  | 126 => ⟨S_, .i32⟩
  | 127 => ⟨S32768x1x1, .i32⟩
  | _ => ⟨S8x4096x1024, .f32⟩

abbrev hbmTy0_1 (i : Nat) : BufTy := match i % 128 with
  | 0 => ⟨S32768x1x1, .i1⟩
  | 1 => ⟨S_, .i32⟩
  | 2 => ⟨S32768x1x1, .i32⟩
  | 3 => ⟨S32768x1x1, .i32⟩
  | 4 => ⟨S32768x1x1, .i32⟩
  | 5 => ⟨S1, .i32⟩
  | 6 => ⟨S_, .i32⟩
  | 7 => ⟨S32768x1x1, .i32⟩
  | 8 => ⟨S32768x1x1, .i1⟩
  | 9 => ⟨S1x1x1, .i32⟩
  | 10 => ⟨S32768x1x1, .i32⟩
  | 11 => ⟨S32768x1x1, .i1⟩
  | 12 => ⟨S32768x1x1, .i1⟩
  | 13 => ⟨S_, .i1⟩
  | 14 => ⟨S32768x1, .i1⟩
  | 15 => ⟨S32768x1x4, .f32⟩
  | 16 => ⟨S32768x1x4, .i1⟩
  | 17 => ⟨S_, .f32⟩
  | 18 => ⟨S32768x1x4, .f32⟩
  | 19 => ⟨S32768x1x4, .f32⟩
  | 20 => ⟨S32768x4, .f32⟩
  | 21 => ⟨S32768x2, .f32⟩
  | 22 => ⟨S32768x2, .i32⟩
  | 23 => ⟨S_, .f32⟩
  | 24 => ⟨S32768, .f32⟩
  | 25 => ⟨S_, .f32⟩
  | 26 => ⟨S32768, .f32⟩
  | 27 => ⟨S32768, .f32⟩
  | 28 => ⟨S32768x1, .f32⟩
  | 29 => ⟨S32768x2, .f32⟩
  | 30 => ⟨S32768x2, .f32⟩
  | 31 => ⟨S32768x2, .f32⟩
  | 32 => ⟨S_, .f32⟩
  | 33 => ⟨S32768, .f32⟩
  | 34 => ⟨S32768x1, .f32⟩
  | 35 => ⟨S32768x2, .f32⟩
  | 36 => ⟨S32768x2, .f32⟩
  | 37 => ⟨S32768x2, .f32⟩
  | 38 => ⟨S32768x2, .f32⟩
  | 39 => ⟨S_, .i32⟩
  | 40 => ⟨S32768x1, .i32⟩
  | 41 => ⟨S32768x1, .i32⟩
  | 42 => ⟨S32768x2, .i32⟩
  | 43 => ⟨S32768x2, .i32⟩
  | 44 => ⟨S32768x2x1, .i32⟩
  | 45 => ⟨S1x1x16, .i32⟩
  | 46 => ⟨S32768x2x16, .i32⟩
  | 47 => ⟨S32768x2x16, .i32⟩
  | 48 => ⟨S32768x2x16, .i1⟩
  | 49 => ⟨S32768x2x16, .f32⟩
  | 50 => ⟨S32768x2x1, .f32⟩
  | 51 => ⟨S32768x2x16, .f32⟩
  | 52 => ⟨S32768x2x16, .f32⟩
  | 53 => ⟨S_, .f32⟩
  | 54 => ⟨S32768x16, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_values : Ref sig .tc := ⟨.hbm, 96, rfl⟩
abbrev main_indices : Ref sig .tc := ⟨.hbm, 97, rfl⟩
abbrev main_call0_c : Ref sig .tc := ⟨.hbm, 98, rfl⟩
abbrev main_call0_v0 : Ref sig .tc := ⟨.hbm, 99, rfl⟩
abbrev main_call0_v1 : Ref sig .tc := ⟨.hbm, 100, rfl⟩
abbrev main_call0_c_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_c_1 : Ref sig .tc := ⟨.hbm, 106, rfl⟩
abbrev main_call0_c_2 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_call0_c_3 : Ref sig .tc := ⟨.hbm, 114, rfl⟩
abbrev main_call0_v12 : Ref sig .tc := ⟨.hbm, 115, rfl⟩
abbrev main_call0_v13 : Ref sig .tc := ⟨.hbm, 116, rfl⟩
abbrev main_call0_cst : Ref sig .tc := ⟨.hbm, 117, rfl⟩
abbrev main_call0_v14 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_call1_c : Ref sig .tc := ⟨.hbm, 126, rfl⟩
abbrev main_call1_v0 : Ref sig .tc := ⟨.hbm, 127, rfl⟩
abbrev main_call1_v1 : Ref sig .tc := ⟨.hbm, 128, rfl⟩
abbrev main_call1_c_0 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_c_1 : Ref sig .tc := ⟨.hbm, 133, rfl⟩
abbrev main_call1_c_2 : Ref sig .tc := ⟨.hbm, 134, rfl⟩
abbrev main_call1_v5 : Ref sig .tc := ⟨.hbm, 135, rfl⟩
abbrev main_call1_v6 : Ref sig .tc := ⟨.hbm, 136, rfl⟩
abbrev main_call1_v7 : Ref sig .tc := ⟨.hbm, 137, rfl⟩
abbrev main_call1_v8 : Ref sig .tc := ⟨.hbm, 138, rfl⟩
abbrev main_call1_v9 : Ref sig .tc := ⟨.hbm, 139, rfl⟩
abbrev main_call1_v10 : Ref sig .tc := ⟨.hbm, 140, rfl⟩
abbrev main_call1_c_3 : Ref sig .tc := ⟨.hbm, 141, rfl⟩
abbrev main_call1_v11 : Ref sig .tc := ⟨.hbm, 142, rfl⟩
abbrev main_call1_v12 : Ref sig .tc := ⟨.hbm, 143, rfl⟩
abbrev main_call1_v13 : Ref sig .tc := ⟨.hbm, 144, rfl⟩
abbrev main_call1_cst : Ref sig .tc := ⟨.hbm, 145, rfl⟩
abbrev main_call1_v14 : Ref sig .tc := ⟨.hbm, 146, rfl⟩
abbrev main_v77 : Ref sig .tc := ⟨.hbm, 147, rfl⟩
abbrev main_v78 : Ref sig .tc := ⟨.hbm, 148, rfl⟩
abbrev main_values_11 : Ref sig .tc := ⟨.hbm, 149, rfl⟩
abbrev main_indices_12 : Ref sig .tc := ⟨.hbm, 150, rfl⟩
abbrev main_cst_13 : Ref sig .tc := ⟨.hbm, 151, rfl⟩
abbrev main_v79 : Ref sig .tc := ⟨.hbm, 152, rfl⟩
abbrev main_cst_14 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_cst_15 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_c : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_call2_v0 : Ref sig .tc := ⟨.hbm, 172, rfl⟩
abbrev main_call2_v1 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_16 : Ref sig .tc := ⟨.hbm, 181, rfl⟩
abbrev main_v100 : Ref sig .tc := ⟨.hbm, 182, rfl⟩

abbrev nD : Nat := 1
abbrev τ : Topo := Topo.v7x

variable {F : FTy → Type} [FloatOps F]
-- ==== Moe.lean ====
abbrev S32768x1024 : Shape := ⟨2, ![32768, 1024]⟩
abbrev S32768x16 : Shape := ⟨2, ![32768, 16]⟩
abbrev S16x1024x256 : Shape := ⟨3, ![16, 1024, 256]⟩
abbrev S16x256x1024 : Shape := ⟨3, ![16, 256, 1024]⟩
abbrev S16x1024x512 : Shape := ⟨3, ![16, 1024, 512]⟩
abbrev S4096x1024 : Shape := ⟨2, ![4096, 1024]⟩
abbrev S1024x1024 : Shape := ⟨2, ![1024, 1024]⟩
abbrev S1024x16 : Shape := ⟨2, ![1024, 16]⟩
abbrev S4x1024x512 : Shape := ⟨3, ![4, 1024, 512]⟩
abbrev S1x1024x512 : Shape := ⟨3, ![1, 1024, 512]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x16, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S16x1024x512, .f32⟩
  | .hbm, ⟨7, _⟩ => ⟨S16x1024x512, .bf16⟩
  | .hbm, ⟨8, _⟩ => ⟨S16x256x1024, .bf16⟩
  | .hbm, ⟨9, _⟩ => ⟨S4096x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x16, .f32⟩
  | .local _ .vmem, ⟨5, _⟩ => ⟨S1024x16, .f32⟩
  | .local _ .vmem, ⟨6, _⟩ => ⟨S4x1024x512, .bf16⟩
  | .local _ .vmem, ⟨7, _⟩ => ⟨S4x1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32_41 : BitVec 32 := 0#32
  let v107 : BitVec 1 := Scalar.cmpi .eq arg1 c0_i32_41
  let v108 : BitVec 32 := Scalar.extui v107
  let c0_i32_42 : BitVec 32 := 0#32
  let v109 : BitVec 1 := Scalar.cmpi .ne v108 c0_i32_42
  v109

def k0_cond2 (i : grid0.Coords) : BitVec 1 :=
  let arg1 : BitVec 32 := BitVec.ofNat 32 (i 1).val
  let c0_i32_43 : BitVec 32 := 0#32
  let v110 : BitVec 1 := Scalar.cmpi .sgt arg1 c0_i32_43
  let v111 : BitVec 32 := Scalar.extui v110
  let c0_i32_44 : BitVec 32 := 0#32
  let v112 : BitVec 1 := Scalar.cmpi .ne v111 c0_i32_44
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeReferenceIdeal.lean ====
abbrev S32768x1024 : Shape := ⟨2, ![32768, 1024]⟩
abbrev S32768x16 : Shape := ⟨2, ![32768, 16]⟩
abbrev S16x1024x256 : Shape := ⟨3, ![16, 1024, 256]⟩
abbrev S16x256x1024 : Shape := ⟨3, ![16, 256, 1024]⟩
abbrev S32768x16x256 : Shape := ⟨3, ![32768, 16, 256]⟩
abbrev S_ : Shape := ⟨0, ![]⟩
abbrev S32768x16x1 : Shape := ⟨3, ![32768, 16, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x16, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S32768x1024, .f32⟩
  | .hbm, ⟨7, _⟩ => ⟨S32768x16x256, .f32⟩
  | .hbm, ⟨8, _⟩ => ⟨S32768x16x256, .f32⟩
  | .hbm, ⟨9, _⟩ => ⟨S32768x16x256, .f32⟩
  | .hbm, ⟨10, _⟩ => ⟨S_, .f32⟩
  | .hbm, ⟨11, _⟩ => ⟨S32768x16x256, .f32⟩
  | .hbm, ⟨12, _⟩ => ⟨S32768x16x256, .f32⟩
  | .hbm, ⟨13, _⟩ => ⟨S_, .f32⟩
  | .hbm, ⟨14, _⟩ => ⟨S32768x16x256, .f32⟩
  | .hbm, ⟨15, _⟩ => ⟨S32768x16x256, .f32⟩
  | .hbm, ⟨16, _⟩ => ⟨S32768x16x256, .f32⟩
  | .hbm, ⟨17, _⟩ => ⟨S32768x16x256, .f32⟩
  | .hbm, ⟨18, _⟩ => ⟨S32768x16x256, .f32⟩
  | .hbm, ⟨19, _⟩ => ⟨S32768x16x1, .f32⟩
  | .hbm, ⟨20, _⟩ => ⟨S32768x16x256, .f32⟩
  | .hbm, ⟨21, _⟩ => ⟨S32768x16x256, .f32⟩
  | .hbm, ⟨22, _⟩ => ⟨S32768x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x3200 : Shape := ⟨2, ![1024, 3200]⟩
abbrev S3x2x64 : Shape := ⟨3, ![3, 2, 64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1x64 : Shape := ⟨3, ![1, 1, 64]⟩
abbrev S64 : Shape := ⟨1, ![64]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S8x512x4096 : Shape := ⟨3, ![8, 512, 4096]⟩
abbrev S8x4096x512 : Shape := ⟨3, ![8, 4096, 512]⟩
abbrev S8x16x576x256 : Shape := ⟨4, ![8, 16, 576, 256]⟩
abbrev S8x4096x128 : Shape := ⟨3, ![8, 4096, 128]⟩
abbrev S8x16x160x256 : Shape := ⟨4, ![8, 16, 160, 256]⟩
abbrev S8x4096x64 : Shape := ⟨3, ![8, 4096, 64]⟩
abbrev S8x16x80x256 : Shape := ⟨4, ![8, 16, 80, 256]⟩
abbrev S8x128x4096 : Shape := ⟨3, ![8, 128, 4096]⟩
abbrev S8x4096x32 : Shape := ⟨3, ![8, 4096, 32]⟩
abbrev S8x4x4096 : Shape := ⟨3, ![8, 4, 4096]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x4x576x256 : Shape := ⟨4, ![1, 4, 576, 256]⟩
abbrev S1x1024x128 : Shape := ⟨3, ![1, 1024, 128]⟩
abbrev S1x4x160x256 : Shape := ⟨4, ![1, 4, 160, 256]⟩
abbrev S1x1024x64 : Shape := ⟨3, ![1, 1024, 64]⟩
abbrev S1x4x80x256 : Shape := ⟨4, ![1, 4, 80, 256]⟩
abbrev S1x128x1024 : Shape := ⟨3, ![1, 128, 1024]⟩
abbrev S1x1024x32 : Shape := ⟨3, ![1, 1024, 32]⟩
abbrev S1x4x1024 : Shape := ⟨3, ![1, 4, 1024]⟩
abbrev S1024x1024 : Shape := ⟨2, ![1024, 1024]⟩
abbrev S1024x1 : Shape := ⟨2, ![1024, 1]⟩
abbrev S16x1024 : Shape := ⟨2, ![16, 1024]⟩
abbrev S1024x512 : Shape := ⟨2, ![1024, 512]⟩
abbrev S512x1024 : Shape := ⟨2, ![512, 1024]⟩
abbrev S8x64x1024 : Shape := ⟨3, ![8, 64, 1024]⟩
abbrev S8x1024 : Shape := ⟨2, ![8, 1024]⟩
abbrev S8x1x1024 : Shape := ⟨3, ![8, 1, 1024]⟩
abbrev S128x1024 : Shape := ⟨2, ![128, 1024]⟩
abbrev S576x1024 : Shape := ⟨2, ![576, 1024]⟩
abbrev S576x256 : Shape := ⟨2, ![576, 256]⟩
abbrev S1x1x576x256 : Shape := ⟨4, ![1, 1, 576, 256]⟩
abbrev S1024x128 : Shape := ⟨2, ![1024, 128]⟩
abbrev S128x128 : Shape := ⟨2, ![128, 128]⟩
abbrev S64x1024 : Shape := ⟨2, ![64, 1024]⟩
abbrev S160x1024 : Shape := ⟨2, ![160, 1024]⟩
abbrev S160x256 : Shape := ⟨2, ![160, 256]⟩
abbrev S1x1x160x256 : Shape := ⟨4, ![1, 1, 160, 256]⟩
abbrev S1024x64 : Shape := ⟨2, ![1024, 64]⟩
abbrev S80x1024 : Shape := ⟨2, ![80, 1024]⟩
abbrev S80x256 : Shape := ⟨2, ![80, 256]⟩
abbrev S1x1x80x256 : Shape := ⟨4, ![1, 1, 80, 256]⟩
abbrev S1024x32 : Shape := ⟨2, ![1024, 32]⟩
abbrev S4x1024 : Shape := ⟨2, ![4, 1024]⟩

abbrev nBuf : Space → Nat
  | .hbm => 75
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3200, .bf16⟩
  | .hbm, ⟨3, _⟩ => ⟨S3x2x64, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S_, .f32⟩
  | .hbm, ⟨12, _⟩ => ⟨S64x64, .f32⟩
  | .hbm, ⟨13, _⟩ => ⟨S8x1x8x1, .f32⟩
  | .hbm, ⟨14, _⟩ => ⟨S1x64x1x64, .f32⟩
  | .hbm, ⟨15, _⟩ => ⟨S8x64x8x64, .f32⟩
  | .hbm, ⟨16, _⟩ => ⟨S8x64x8x64, .f32⟩
  | .hbm, ⟨17, _⟩ => ⟨S8x64x8x64, .f32⟩
  | .hbm, ⟨18, _⟩ => ⟨S512x512, .f32⟩
  | .hbm, ⟨19, _⟩ => ⟨S512x512, .bf16⟩
  | .hbm, ⟨20, _⟩ => ⟨S1x1x64, .f32⟩
  | .hbm, ⟨21, _⟩ => ⟨S64, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512x1, .f32⟩
  | .hbm, ⟨29, _⟩ => ⟨S1x1x64, .f32⟩
  | .hbm, ⟨30, _⟩ => ⟨S64, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S1x1x64, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512x1, .f32⟩
  | .hbm, ⟨44, _⟩ => ⟨S1x1x64, .f32⟩
  | .hbm, ⟨45, _⟩ => ⟨S64, .f32⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S1x128, .f32⟩
  | .hbm, ⟨50, _⟩ => ⟨S1x1x64, .f32⟩
  | .hbm, ⟨51, _⟩ => ⟨S64, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512x1, .f32⟩
  | .hbm, ⟨59, _⟩ => ⟨S1x1x64, .f32⟩
  | .hbm, ⟨60, _⟩ => ⟨S64, .f32⟩
  | .hbm, ⟨61, _⟩ => ⟨S1x64, .f32⟩
  | .hbm, ⟨62, _⟩ => ⟨S1x1024, .f32⟩
  | .hbm, ⟨63, _⟩ => ⟨S8x512x4096, .bf16⟩
  | .hbm, ⟨64, _⟩ => ⟨S8x4096x512, .bf16⟩
  | .hbm, ⟨65, _⟩ => ⟨S8x16x576x256, .bf16⟩
  | .hbm, ⟨66, _⟩ => ⟨S8x512x4096, .bf16⟩
  | .hbm, ⟨67, _⟩ => ⟨S8x4096x128, .bf16⟩
  | .hbm, ⟨68, _⟩ => ⟨S8x16x160x256, .bf16⟩
  | .hbm, ⟨69, _⟩ => ⟨S8x512x4096, .bf16⟩
  | .hbm, ⟨70, _⟩ => ⟨S8x4096x64, .bf16⟩
  | .hbm, ⟨71, _⟩ => ⟨S8x16x80x256, .bf16⟩
  | .hbm, ⟨72, _⟩ => ⟨S8x128x4096, .bf16⟩
  | .hbm, ⟨73, _⟩ => ⟨S8x4096x32, .bf16⟩
  | .hbm, ⟨74, _⟩ => ⟨S8x4x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3200, .bf16⟩
  | .local _ .vmem, ⟨4, _⟩ => ⟨S512x512, .bf16⟩
  | .local _ .vmem, ⟨5, _⟩ => ⟨S512x1, .f32⟩
  | .local _ .vmem, ⟨6, _⟩ => ⟨S1x512, .f32⟩
  | .local _ .vmem, ⟨7, _⟩ => ⟨S512x1, .f32⟩
  | .local _ .vmem, ⟨8, _⟩ => ⟨S1x128, .f32⟩
  | .local _ .vmem, ⟨9, _⟩ => ⟨S512x1, .f32⟩
  | .local _ .vmem, ⟨10, _⟩ => ⟨S1x64, .f32⟩
  | .local _ .vmem, ⟨11, _⟩ => ⟨S1x512x1024, .bf16⟩
  | .local _ .vmem, ⟨12, _⟩ => ⟨S1x512x1024, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x4x576x256, .bf16⟩
  | .local _ .vmem, ⟨16, _⟩ => ⟨S1x4x576x256, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x4x160x256, .bf16⟩
  | .local _ .vmem, ⟨22, _⟩ => ⟨S1x4x160x256, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x1024x64, .bf16⟩
  | .local _ .vmem, ⟨26, _⟩ => ⟨S1x1024x64, .bf16⟩
  | .local _ .vmem, ⟨27, _⟩ => ⟨S1x4x80x256, .bf16⟩
  | .local _ .vmem, ⟨28, _⟩ => ⟨S1x4x80x256, .bf16⟩
  | .local _ .vmem, ⟨29, _⟩ => ⟨S1x128x1024, .bf16⟩
  | .local _ .vmem, ⟨30, _⟩ => ⟨S1x128x1024, .bf16⟩
  | .local _ .vmem, ⟨31, _⟩ => ⟨S1x1024x32, .bf16⟩
  | .local _ .vmem, ⟨32, _⟩ => ⟨S1x1024x32, .bf16⟩
  | .local _ .vmem, ⟨33, _⟩ => ⟨S1x4x1024, .f32⟩
  | .local _ .vmem, ⟨34, _⟩ => ⟨S1x4x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev main_v49_3 : Ref sig .tc := ⟨.hbm, 66, rfl⟩
abbrev main_v49_4 : Ref sig .tc := ⟨.hbm, 67, rfl⟩
abbrev main_v49_5 : Ref sig .tc := ⟨.hbm, 68, rfl⟩
abbrev main_v49_6 : Ref sig .tc := ⟨.hbm, 69, rfl⟩
abbrev main_v49_7 : Ref sig .tc := ⟨.hbm, 70, rfl⟩
abbrev main_v49_8 : Ref sig .tc := ⟨.hbm, 71, rfl⟩
abbrev main_v49_9 : Ref sig .tc := ⟨.hbm, 72, rfl⟩
abbrev main_v49_10 : Ref sig .tc := ⟨.hbm, 73, rfl⟩
abbrev main_v49_11 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x576x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x160x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x80x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x32 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ProjReferenceIdeal.lean ====
abbrev S8x4096x1024 : Shape := ⟨3, ![8, 4096, 1024]⟩
abbrev S1024 : Shape := ⟨1, ![1024]⟩
abbrev S1024x3200 : Shape := ⟨2, ![1024, 3200]⟩
abbrev S3x2x64 : Shape := ⟨3, ![3, 2, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3200 : Shape := ⟨3, ![8, 4096, 3200]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x32 : Shape := ⟨3, ![8, 4096, 32]⟩
abbrev S8x4096x4 : Shape := ⟨3, ![8, 4096, 4]⟩
abbrev S1x1x64 : Shape := ⟨3, ![1, 1, 64]⟩
abbrev S64 : Shape := ⟨1, ![64]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x512x4096 : Shape := ⟨3, ![8, 512, 4096]⟩
abbrev S8x4096x4x128 : Shape := ⟨4, ![8, 4096, 4, 128]⟩
abbrev S8x4096x4x1 : Shape := ⟨4, ![8, 4096, 4, 1]⟩
abbrev S8x4096x4x15 : Shape := ⟨4, ![8, 4096, 4, 15]⟩
abbrev S8x4096x4x144 : Shape := ⟨4, ![8, 4096, 4, 144]⟩
abbrev S8x16x256x576 : Shape := ⟨4, ![8, 16, 256, 576]⟩
abbrev S8x16x576x256 : Shape := ⟨4, ![8, 16, 576, 256]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x15 : Shape := ⟨4, ![8, 4096, 2, 15]⟩
abbrev S8x4096x2x80 : Shape := ⟨4, ![8, 4096, 2, 80]⟩
abbrev S8x16x256x160 : Shape := ⟨4, ![8, 16, 256, 160]⟩
abbrev S8x16x160x256 : Shape := ⟨4, ![8, 16, 160, 256]⟩
abbrev S8x4096x1x64 : Shape := ⟨4, ![8, 4096, 1, 64]⟩
abbrev S8x4096x1x1 : Shape := ⟨4, ![8, 4096, 1, 1]⟩
abbrev S8x4096x1x15 : Shape := ⟨4, ![8, 4096, 1, 15]⟩
abbrev S8x4096x1x80 : Shape := ⟨4, ![8, 4096, 1, 80]⟩
abbrev S8x16x256x80 : Shape := ⟨4, ![8, 16, 256, 80]⟩
abbrev S8x16x80x256 : Shape := ⟨4, ![8, 16, 80, 256]⟩
abbrev S8x128x4096 : Shape := ⟨3, ![8, 128, 4096]⟩
abbrev S8x4x4096 : Shape := ⟨3, ![8, 4, 4096]⟩

abbrev nBuf : Space → Nat
  | .hbm => 204
  | .vmem => 0
  | .smem => 0
  | _ => 0

abbrev hbmTy0_0 (i : Nat) : BufTy := match i % 128 with
  | 0 => ⟨S8x4096x1024, .f32⟩
  | 1 => ⟨S1024, .f32⟩
  | 2 => ⟨S1024x3200, .bf16⟩
  | 3 => ⟨S3x2x64, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S1x1x1024, .f32⟩
  | 18 => ⟨S8x4096x1024, .f32⟩
  | 19 => ⟨S8x4096x1024, .f32⟩
  | 20 => ⟨S1024x3200, .f32⟩
  | 21 => ⟨S8x4096x3200, .f32⟩
  | 22 => ⟨S8x4096x512, .f32⟩
  | 23 => ⟨S8x4096x512, .f32⟩
  | 24 => ⟨S8x4096x512, .f32⟩
  | 25 => ⟨S8x4096x512, .f32⟩
  | 26 => ⟨S8x4096x128, .f32⟩
  | 27 => ⟨S8x4096x128, .f32⟩
  | 28 => ⟨S8x4096x512, .f32⟩
  | 29 => ⟨S8x4096x64, .f32⟩
  | 30 => ⟨S8x4096x64, .f32⟩
  | 31 => ⟨S8x4096x128, .f32⟩
  | 32 => ⟨S8x4096x32, .f32⟩
  | 33 => ⟨S8x4096x4, .f32⟩
  | 34 => ⟨S1x1x64, .f32⟩
  | 35 => ⟨S64, .f32⟩
  | 36 => ⟨S8x4096x8x64, .f32⟩
  | 37 => ⟨S8x4096x8x64, .f32⟩
  | 38 => ⟨S_, .f32⟩
  | 39 => ⟨S8x4096x8, .f32⟩
  | 40 => ⟨S8x4096x8x1, .f32⟩
  | 41 => ⟨S_, .f32⟩
  | 42 => ⟨S8x4096x8x1, .f32⟩
  | 43 => ⟨S8x4096x8x1, .f32⟩
  | 44 => ⟨S_, .f32⟩
  | 45 => ⟨S8x4096x8x1, .f32⟩
  | 46 => ⟨S8x4096x8x1, .f32⟩
  | 47 => ⟨S8x4096x8x1, .f32⟩
  | 48 => ⟨S8x4096x8x64, .f32⟩
  | 49 => ⟨S8x4096x8x64, .f32⟩
  | 50 => ⟨S1x1x1x64, .f32⟩
  | 51 => ⟨S8x4096x8x64, .f32⟩
  | 52 => ⟨S8x4096x8x64, .f32⟩
  | 53 => ⟨S8x4096x512, .f32⟩
  | 54 => ⟨S_, .f32⟩
  | 55 => ⟨S8x4096x512, .f32⟩
  | 56 => ⟨S8x4096x512, .f32⟩
  | 57 => ⟨S8x512x4096, .f32⟩
  | 58 => ⟨S8x512x4096, .bf16⟩
  | 59 => ⟨S1x1x64, .f32⟩
  | 60 => ⟨S64, .f32⟩
  | 61 => ⟨S8x4096x8x64, .f32⟩
  | 62 => ⟨S8x4096x8x64, .f32⟩
  | 63 => ⟨S_, .f32⟩
  | 64 => ⟨S8x4096x8, .f32⟩
  | 65 => ⟨S8x4096x8x1, .f32⟩
  | 66 => ⟨S_, .f32⟩
  | 67 => ⟨S8x4096x8x1, .f32⟩
  | 68 => ⟨S8x4096x8x1, .f32⟩
  | 69 => ⟨S_, .f32⟩
  | 70 => ⟨S8x4096x8x1, .f32⟩
  | 71 => ⟨S8x4096x8x1, .f32⟩
  | 72 => ⟨S8x4096x8x1, .f32⟩
  | 73 => ⟨S8x4096x8x64, .f32⟩
  | 74 => ⟨S8x4096x8x64, .f32⟩
  | 75 => ⟨S1x1x1x64, .f32⟩
  | 76 => ⟨S8x4096x8x64, .f32⟩
  | 77 => ⟨S8x4096x8x64, .f32⟩
  | 78 => ⟨S8x4096x512, .f32⟩
  | 79 => ⟨S8x4096x512, .bf16⟩
  | 80 => ⟨S8x4096x4x128, .f32⟩
  | 81 => ⟨S_, .f32⟩
  | 82 => ⟨S8x4096x4x1, .f32⟩
  | 83 => ⟨S_, .f32⟩
  | 84 => ⟨S8x4096x4x15, .f32⟩
  | 85 => ⟨S8x4096x4x144, .f32⟩
  | 86 => ⟨S8x16x256x576, .f32⟩
  | 87 => ⟨S8x16x576x256, .f32⟩
  | 88 => ⟨S8x16x576x256, .bf16⟩
  | 89 => ⟨S1x1x64, .f32⟩
  | 90 => ⟨S64, .f32⟩
  | 91 => ⟨S8x4096x8x64, .f32⟩
  | 92 => ⟨S8x4096x8x64, .f32⟩
  | 93 => ⟨S_, .f32⟩
  | 94 => ⟨S8x4096x8, .f32⟩
  | 95 => ⟨S8x4096x8x1, .f32⟩
  | 96 => ⟨S_, .f32⟩
  | 97 => ⟨S8x4096x8x1, .f32⟩
  | 98 => ⟨S8x4096x8x1, .f32⟩
  | 99 => ⟨S_, .f32⟩
  | 100 => ⟨S8x4096x8x1, .f32⟩
  | 101 => ⟨S8x4096x8x1, .f32⟩
  | 102 => ⟨S8x4096x8x1, .f32⟩
  | 103 => ⟨S8x4096x8x64, .f32⟩
  | 104 => ⟨S8x4096x8x64, .f32⟩
  | 105 => ⟨S1x1x1x64, .f32⟩
  | 106 => ⟨S8x4096x8x64, .f32⟩
  | 107 => ⟨S8x4096x8x64, .f32⟩
  | 108 => ⟨S8x4096x512, .f32⟩
  | 109 => ⟨S_, .f32⟩
  | 110 => ⟨S8x4096x512, .f32⟩
  | 111 => ⟨S8x4096x512, .f32⟩
  | 112 => ⟨S8x512x4096, .f32⟩
  | 113 => ⟨S8x512x4096, .bf16⟩
  | 114 => ⟨S1x1x64, .f32⟩
  | 115 => ⟨S64, .f32⟩
  | 116 => ⟨S8x4096x2x64, .f32⟩
  | 117 => ⟨S8x4096x2x64, .f32⟩
  | 118 => ⟨S_, .f32⟩
  | 119 => ⟨S8x4096x2, .f32⟩
  | 120 => ⟨S8x4096x2x1, .f32⟩
  | 121 => ⟨S_, .f32⟩
  | 122 => ⟨S8x4096x2x1, .f32⟩
  | 123 => ⟨S8x4096x2x1, .f32⟩
  | 124 => ⟨S_, .f32⟩
  | 125 => ⟨S8x4096x2x1, .f32⟩
  | 126 => ⟨S8x4096x2x1, .f32⟩
  | 127 => ⟨S8x4096x2x1, .f32⟩
  | _ => ⟨S8x4096x1024, .f32⟩

abbrev hbmTy0_1 (i : Nat) : BufTy := match i % 128 with
  | 0 => ⟨S8x4096x2x64, .f32⟩
  | 1 => ⟨S8x4096x2x64, .f32⟩
  | 2 => ⟨S1x1x1x64, .f32⟩
  | 3 => ⟨S8x4096x2x64, .f32⟩
  | 4 => ⟨S8x4096x2x64, .f32⟩
  | 5 => ⟨S8x4096x128, .f32⟩
  | 6 => ⟨S8x4096x128, .bf16⟩
  | 7 => ⟨S8x4096x2x64, .f32⟩
  | 8 => ⟨S_, .f32⟩
  | 9 => ⟨S8x4096x2x1, .f32⟩
  | 10 => ⟨S_, .f32⟩
  | 11 => ⟨S8x4096x2x15, .f32⟩
  | 12 => ⟨S8x4096x2x80, .f32⟩
  | 13 => ⟨S8x16x256x160, .f32⟩
  | 14 => ⟨S8x16x160x256, .f32⟩
  | 15 => ⟨S8x16x160x256, .bf16⟩
  | 16 => ⟨S1x1x64, .f32⟩
  | 17 => ⟨S64, .f32⟩
  | 18 => ⟨S8x4096x8x64, .f32⟩
  | 19 => ⟨S8x4096x8x64, .f32⟩
  | 20 => ⟨S_, .f32⟩
  | 21 => ⟨S8x4096x8, .f32⟩
  | 22 => ⟨S8x4096x8x1, .f32⟩
  | 23 => ⟨S_, .f32⟩
  | 24 => ⟨S8x4096x8x1, .f32⟩
  | 25 => ⟨S8x4096x8x1, .f32⟩
  | 26 => ⟨S_, .f32⟩
  | 27 => ⟨S8x4096x8x1, .f32⟩
  | 28 => ⟨S8x4096x8x1, .f32⟩
  | 29 => ⟨S8x4096x8x1, .f32⟩
  | 30 => ⟨S8x4096x8x64, .f32⟩
  | 31 => ⟨S8x4096x8x64, .f32⟩
  | 32 => ⟨S1x1x1x64, .f32⟩
  | 33 => ⟨S8x4096x8x64, .f32⟩
  | 34 => ⟨S8x4096x8x64, .f32⟩
  | 35 => ⟨S8x4096x512, .f32⟩
  | 36 => ⟨S_, .f32⟩
  | 37 => ⟨S8x4096x512, .f32⟩
  | 38 => ⟨S8x4096x512, .f32⟩
  | 39 => ⟨S8x512x4096, .f32⟩
  | 40 => ⟨S8x512x4096, .bf16⟩
  | 41 => ⟨S1x1x64, .f32⟩
  | 42 => ⟨S64, .f32⟩
  | 43 => ⟨S8x4096x64, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S_, .f32⟩
  | 51 => ⟨S8x4096x1, .f32⟩
  | 52 => ⟨S8x4096x1, .f32⟩
  | 53 => ⟨S8x4096x1, .f32⟩
  | 54 => ⟨S8x4096x64, .f32⟩
  | 55 => ⟨S8x4096x64, .f32⟩
  | 56 => ⟨S1x1x64, .f32⟩
  | 57 => ⟨S8x4096x64, .f32⟩
  | 58 => ⟨S8x4096x64, .f32⟩
  | 59 => ⟨S8x4096x64, .bf16⟩
  | 60 => ⟨S8x4096x1x64, .f32⟩
  | 61 => ⟨S_, .f32⟩
  | 62 => ⟨S8x4096x1x1, .f32⟩
  | 63 => ⟨S_, .f32⟩
  | 64 => ⟨S8x4096x1x15, .f32⟩
  | 65 => ⟨S8x4096x1x80, .f32⟩
  | 66 => ⟨S8x16x256x80, .f32⟩
  | 67 => ⟨S8x16x80x256, .f32⟩
  | 68 => ⟨S8x16x80x256, .bf16⟩
  | 69 => ⟨S8x128x4096, .f32⟩
  | 70 => ⟨S8x128x4096, .bf16⟩
  | 71 => ⟨S8x4096x32, .bf16⟩
  | 72 => ⟨S8x4x4096, .f32⟩
  | 73 => ⟨S_, .f32⟩
  | 74 => ⟨S8x4x4096, .f32⟩
  | 75 => ⟨S8x4x4096, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_v77 : Ref sig .tc := ⟨.hbm, 94, rfl⟩
abbrev main_v78 : Ref sig .tc := ⟨.hbm, 95, rfl⟩
abbrev main_cst_12 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_14 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_cst_16 : Ref sig .tc := ⟨.hbm, 121, rfl⟩
abbrev main_v100 : Ref sig .tc := ⟨.hbm, 122, rfl⟩
abbrev main_v101 : Ref sig .tc := ⟨.hbm, 123, rfl⟩
abbrev main_cst_17 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_18 : Ref sig .tc := ⟨.hbm, 136, rfl⟩
abbrev main_v113 : Ref sig .tc := ⟨.hbm, 137, rfl⟩
abbrev main_cst_19 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_20 : Ref sig .tc := ⟨.hbm, 148, rfl⟩
abbrev main_v123 : Ref sig .tc := ⟨.hbm, 149, rfl⟩
abbrev main_v124 : Ref sig .tc := ⟨.hbm, 150, rfl⟩
abbrev main_cst_21 : Ref sig .tc := ⟨.hbm, 151, rfl⟩
abbrev main_v125 : Ref sig .tc := ⟨.hbm, 152, rfl⟩
abbrev main_v126 : Ref sig .tc := ⟨.hbm, 153, rfl⟩
abbrev main_cst_22 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_23 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_24 : Ref sig .tc := ⟨.hbm, 172, rfl⟩
abbrev main_v143 : Ref sig .tc := ⟨.hbm, 173, rfl⟩
abbrev main_v144 : Ref sig .tc := ⟨.hbm, 174, rfl⟩
abbrev main_cst_25 : Ref sig .tc := ⟨.hbm, 175, rfl⟩
abbrev main_v145 : Ref sig .tc := ⟨.hbm, 176, rfl⟩
abbrev main_v146 : Ref sig .tc := ⟨.hbm, 177, rfl⟩
abbrev main_cst_26 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_27 : Ref sig .tc := ⟨.hbm, 189, rfl⟩
abbrev main_v157 : Ref sig .tc := ⟨.hbm, 190, rfl⟩
abbrev main_cst_28 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_29 : Ref sig .tc := ⟨.hbm, 201, rfl⟩
abbrev main_v167 : Ref sig .tc := ⟨.hbm, 202, rfl⟩
abbrev main_v168 : Ref sig .tc := ⟨.hbm, 203, rfl⟩

abbrev nD : Nat := 1
abbrev τ : Topo := Topo.v7x

variable {F : FTy → Type} [FloatOps F]
-- ==== Band.lean ====
abbrev S8x512x4096 : Shape := ⟨3, ![8, 512, 4096]⟩
abbrev S8x4096x128 : Shape := ⟨3, ![8, 4096, 128]⟩
abbrev S8x16x160x256 : Shape := ⟨4, ![8, 16, 160, 256]⟩
abbrev S8x3x256x256 : Shape := ⟨4, ![8, 3, 256, 256]⟩
abbrev S8 : Shape := ⟨1, ![8]⟩
abbrev S8x4096x512 : Shape := ⟨3, ![8, 4096, 512]⟩
abbrev S1x512x256 : Shape := ⟨3, ![1, 512, 256]⟩
abbrev S1x4096x128 : Shape := ⟨3, ![1, 4096, 128]⟩
abbrev S1x16x160x256 : Shape := ⟨4, ![1, 16, 160, 256]⟩
abbrev S1x256x512 : Shape := ⟨3, ![1, 256, 512]⟩
abbrev S512x256 : Shape := ⟨2, ![512, 256]⟩
abbrev S1x64x256 : Shape := ⟨3, ![1, 64, 256]⟩
abbrev S64x256 : Shape := ⟨2, ![64, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S1 : Shape := ⟨1, ![1]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S1x1x80x256 : Shape := ⟨4, ![1, 1, 80, 256]⟩
abbrev S80x256 : Shape := ⟨2, ![80, 256]⟩
abbrev S256x512 : Shape := ⟨2, ![256, 512]⟩

abbrev nBuf : Space → Nat
  | .hbm => 6
  | .vmem => 10
  | .smem => 1
  | _ => 0

abbrev bufTy : (tb : Table) → Fin (tcTables nBuf tb) → BufTy
  | .hbm, ⟨0, _⟩ => ⟨S8x512x4096, .bf16⟩
  | .hbm, ⟨1, _⟩ => ⟨S8x4096x128, .bf16⟩
  | .hbm, ⟨2, _⟩ => ⟨S8x16x160x256, .bf16⟩
  | .hbm, ⟨3, _⟩ => ⟨S8x3x256x256, .f32⟩
  | .hbm, ⟨4, _⟩ => ⟨S8, .f32⟩
  | .hbm, ⟨5, _⟩ => ⟨S8x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x160x256, .bf16⟩
  | .local _ .vmem, ⟨5, _⟩ => ⟨S1x16x160x256, .bf16⟩
  | .local _ .vmem, ⟨6, _⟩ => ⟨S8x3x256x256, .f32⟩
  | .local _ .vmem, ⟨7, _⟩ => ⟨S1x256x512, .bf16⟩
  | .local _ .vmem, ⟨8, _⟩ => ⟨S1x256x512, .bf16⟩
  | .local _ .vmem, ⟨9, _⟩ => ⟨S512x256, .f32⟩
  | .local _ .smem, ⟨0, _⟩ => ⟨S8, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v4 : BitVec 32 := Scalar.muli arg1 c256_i32
  v4
def k0_mult2 (i : grid0.Coords) : BitVec 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c256_i32_2 : BitVec 32 := 256#32
  let v6 : BitVec 32 := Scalar.muli v1 c256_i32_2
  v6
def k0_off1 (i : grid0.Coords) : Fin 3 → Nat :=
  let c0_5 : Index := 0#32
  let arg1 : BitVec 32 := BitVec.ofNat 32 (i 1).val
  let c256_i32 : BitVec 32 := 256#32
  let v4 : BitVec 32 := Scalar.muli arg1 c256_i32
  let v5 : BitVec 32 := v4
  let v12 : Index := Scalar.indexCast v5
  let c0_6 : Index := 0#32
  ![0, v12.toNat, 0]
def k0_off2 (i : grid0.Coords) : Fin 3 → Nat :=
  let c0_12 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c256_i32_2 : BitVec 32 := 256#32
  let v6 : BitVec 32 := Scalar.muli v1 c256_i32_2
  let v7 : BitVec 32 := v6
  let v19 : Index := Scalar.indexCast v7
  let c0_13 : Index := 0#32
  ![0, v19.toNat, 0]
def k0_off3 (i : grid0.Coords) : Fin 4 → Nat :=
  let c0_15 : Index := 0#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v23 : Index := Scalar.indexCast v3
  let c0_16 : Index := 0#32
  let c0_17 : Index := 0#32
  ![0, v23.toNat, 0, 0]
def k0_off4 (i : grid0.Coords) : Fin 4 → Nat :=
  let c1_30 : Index := 1#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v42 : Index := Scalar.indexCast v3
  let c0_31 : Index := 0#32
  let c0_32 : Index := 0#32
  ![1, v42.toNat, 0, 0]
def k0_off5 (i : grid0.Coords) : Fin 4 → Nat :=
  let c2_45 : Index := 2#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v61 : Index := Scalar.indexCast v3
  let c0_46 : Index := 0#32
  let c0_47 : Index := 0#32
  ![2, v61.toNat, 0, 0]
def k0_off6 (i : grid0.Coords) : Fin 4 → Nat :=
  let c3_60 : Index := 3#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v80 : Index := Scalar.indexCast v3
  let c0_61 : Index := 0#32
  let c0_62 : Index := 0#32
  ![3, v80.toNat, 0, 0]
def k0_off7 (i : grid0.Coords) : Fin 4 → Nat :=
  let c4_75 : Index := 4#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v99 : Index := Scalar.indexCast v3
  let c0_76 : Index := 0#32
  let c0_77 : Index := 0#32
  ![4, v99.toNat, 0, 0]
def k0_off8 (i : grid0.Coords) : Fin 4 → Nat :=
  let c5_90 : Index := 5#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v118 : Index := Scalar.indexCast v3
  let c0_91 : Index := 0#32
  let c0_92 : Index := 0#32
  ![5, v118.toNat, 0, 0]
def k0_off9 (i : grid0.Coords) : Fin 4 → Nat :=
  let c0_98 : Index := 0#32
  let arg1 : BitVec 32 := BitVec.ofNat 32 (i 1).val
  let v141 : Index := Scalar.indexCast arg1
  let c0_99 : Index := 0#32
  let c0_100 : Index := 0#32
  ![0, v141.toNat, 0, 0]
def k0_off10 (i : grid0.Coords) : Fin 4 → Nat :=
  let c0_102 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v145 : Index := Scalar.indexCast v1
  let c0_103 : Index := 0#32
  let c0_104 : Index := 0#32
  ![0, v145.toNat, 0, 0]
def k0_off11 (i : grid0.Coords) : Fin 4 → Nat :=
  let c6_121 : Index := 6#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v178 : Index := Scalar.indexCast v3
  let c0_122 : Index := 0#32
  let c0_123 : Index := 0#32
  ![6, v178.toNat, 0, 0]
def k0_off12 (i : grid0.Coords) : Fin 4 → Nat :=
  let c7_152 : Index := 7#32
  let arg1 : BitVec 32 := BitVec.ofNat 32 (i 1).val
  let c0_i32_0 : BitVec 32 := 0#32
  let v2 : BitVec 1 := Scalar.cmpi .sgt arg1 c0_i32_0
  let c1_i32_1 : BitVec 32 := 1#32
  let c2_i32 : BitVec 32 := 2#32
  let v3 : BitVec 32 := Scalar.select v2 c1_i32_1 c2_i32
  let v238 : Index := Scalar.indexCast v3
  let c0_153 : Index := 0#32
  let c0_154 : Index := 0#32
  ![7, v238.toNat, 0, 0]
def k0_off13 (i : grid0.Coords) : Fin 4 → Nat :=
  let c0_192 : Index := 0#32
  let arg1 : BitVec 32 := BitVec.ofNat 32 (i 1).val
  let v343 : Index := Scalar.indexCast arg1
  let c80 : Index := 80#32
  let c0_193 : Index := 0#32
  ![0, v343.toNat, 80, 0]
def k0_off14 (i : grid0.Coords) : Fin 4 → Nat :=
  let c0_195 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v347 : Index := Scalar.indexCast v1
  let c80_196 : Index := 80#32
  let c0_197 : Index := 0#32
  ![0, v347.toNat, 80, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x160x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x3x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== BandReferenceIdeal.lean ====
abbrev S8x512x4096 : Shape := ⟨3, ![8, 512, 4096]⟩
abbrev S8x4096x128 : Shape := ⟨3, ![8, 4096, 128]⟩
abbrev S8x16x160x256 : Shape := ⟨4, ![8, 16, 160, 256]⟩
abbrev S8x3x256x256 : Shape := ⟨4, ![8, 3, 256, 256]⟩
abbrev S8 : Shape := ⟨1, ![8]⟩
abbrev S8x4096x512 : Shape := ⟨3, ![8, 4096, 512]⟩
abbrev S8x64x64x2x4x64 : Shape := ⟨6, ![8, 64, 64, 2, 4, 64]⟩
abbrev S8x4096x2x64 : Shape := ⟨4, ![8, 4096, 2, 64]⟩
abbrev S8x64x64x2x64 : Shape := ⟨5, ![8, 64, 64, 2, 64]⟩
abbrev S_ : Shape := ⟨0, ![]⟩
abbrev S8x66x64x2x64 : Shape := ⟨5, ![8, 66, 64, 2, 64]⟩
abbrev S8x64x192x2x64 : Shape := ⟨5, ![8, 64, 192, 2, 64]⟩
abbrev S8x16x256x160 : Shape := ⟨4, ![8, 16, 256, 160]⟩
abbrev S8x4096x2x80 : Shape := ⟨4, ![8, 4096, 2, 80]⟩
abbrev S8x1x256x256 : Shape := ⟨4, ![8, 1, 256, 256]⟩
abbrev S8x256x256 : Shape := ⟨3, ![8, 256, 256]⟩
abbrev S8x512x256 : Shape := ⟨3, ![8, 512, 256]⟩
abbrev S8x192x64 : Shape := ⟨3, ![8, 192, 64]⟩
abbrev S1x8x192x64 : Shape := ⟨4, ![1, 8, 192, 64]⟩
abbrev S4x8x192x64 : Shape := ⟨4, ![4, 8, 192, 64]⟩
abbrev S4x8x64x192 : Shape := ⟨4, ![4, 8, 64, 192]⟩
abbrev S16x4x8x64x192 : Shape := ⟨5, ![16, 4, 8, 64, 192]⟩
abbrev S64x2x4x64x192 : Shape := ⟨5, ![64, 2, 4, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S8x64x2x192x64x4 : Shape := ⟨6, ![8, 64, 2, 192, 64, 4]⟩
abbrev S8x64x2x4x64x192 : Shape := ⟨6, ![8, 64, 2, 4, 64, 192]⟩
abbrev S1x64x2x4x64x192 : Shape := ⟨6, ![1, 64, 2, 4, 64, 192]⟩
abbrev S1x64x1x1x1x192 : Shape := ⟨6, ![1, 64, 1, 1, 1, 192]⟩
abbrev S2x4 : Shape := ⟨2, ![2, 4]⟩
abbrev S1x1x2x4x1x1 : Shape := ⟨6, ![1, 1, 2, 4, 1, 1]⟩
abbrev S8x64x2x4x64 : Shape := ⟨5, ![8, 64, 2, 4, 64]⟩
abbrev S8x64x2x4x64x1 : Shape := ⟨6, ![8, 64, 2, 4, 64, 1]⟩
abbrev S8x64x2x64x4x64 : Shape := ⟨6, ![8, 64, 2, 64, 4, 64]⟩

abbrev nBuf : Space → Nat
  | .hbm => 105
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x4096x128, .bf16⟩
  | .hbm, ⟨2, _⟩ => ⟨S8x16x160x256, .bf16⟩
  | .hbm, ⟨3, _⟩ => ⟨S8x3x256x256, .f32⟩
  | .hbm, ⟨4, _⟩ => ⟨S8, .f32⟩
  | .hbm, ⟨5, _⟩ => ⟨S8x4096x512, .bf16⟩
  | .hbm, ⟨6, _⟩ => ⟨S8x4096x512, .f32⟩
  | .hbm, ⟨7, _⟩ => ⟨S8x64x64x2x4x64, .f32⟩
  | .hbm, ⟨8, _⟩ => ⟨S8x4096x128, .f32⟩
  | .hbm, ⟨9, _⟩ => ⟨S8x4096x2x64, .f32⟩
  | .hbm, ⟨10, _⟩ => ⟨S8x64x64x2x64, .f32⟩
  | .hbm, ⟨11, _⟩ => ⟨S_, .i32⟩
  | .hbm, ⟨12, _⟩ => ⟨S_, .f32⟩
  | .hbm, ⟨13, _⟩ => ⟨S8x66x64x2x64, .f32⟩
  | .hbm, ⟨14, _⟩ => ⟨S8x64x64x2x64, .f32⟩
  | .hbm, ⟨15, _⟩ => ⟨S8x64x64x2x64, .f32⟩
  | .hbm, ⟨16, _⟩ => ⟨S8x64x64x2x64, .f32⟩
  | .hbm, ⟨17, _⟩ => ⟨S8x64x192x2x64, .f32⟩
  | .hbm, ⟨18, _⟩ => ⟨S8x16x256x160, .bf16⟩
  | .hbm, ⟨19, _⟩ => ⟨S8x16x256x160, .f32⟩
  | .hbm, ⟨20, _⟩ => ⟨S8x4096x2x80, .f32⟩
  | .hbm, ⟨21, _⟩ => ⟨S8x4096x2x64, .f32⟩
  | .hbm, ⟨22, _⟩ => ⟨S8x64x64x2x64, .f32⟩
  | .hbm, ⟨23, _⟩ => ⟨S_, .i32⟩
  | .hbm, ⟨24, _⟩ => ⟨S_, .f32⟩
  | .hbm, ⟨25, _⟩ => ⟨S8x66x64x2x64, .f32⟩
  | .hbm, ⟨26, _⟩ => ⟨S8x64x64x2x64, .f32⟩
  | .hbm, ⟨27, _⟩ => ⟨S8x64x64x2x64, .f32⟩
  | .hbm, ⟨28, _⟩ => ⟨S8x64x64x2x64, .f32⟩
  | .hbm, ⟨29, _⟩ => ⟨S8x64x192x2x64, .f32⟩
  | .hbm, ⟨30, _⟩ => ⟨S8x1x256x256, .f32⟩
  | .hbm, ⟨31, _⟩ => ⟨S8x256x256, .f32⟩
  | .hbm, ⟨32, _⟩ => ⟨S8x1x256x256, .f32⟩
  | .hbm, ⟨33, _⟩ => ⟨S8x256x256, .f32⟩
  | .hbm, ⟨34, _⟩ => ⟨S8x512x256, .f32⟩
  | .hbm, ⟨35, _⟩ => ⟨S8x192x64, .f32⟩
  | .hbm, ⟨36, _⟩ => ⟨S8x192x64, .f32⟩
  | .hbm, ⟨37, _⟩ => ⟨S8x192x64, .f32⟩
  | .hbm, ⟨38, _⟩ => ⟨S8x192x64, .f32⟩
  | .hbm, ⟨39, _⟩ => ⟨S1x8x192x64, .f32⟩
  | .hbm, ⟨40, _⟩ => ⟨S1x8x192x64, .f32⟩
  | .hbm, ⟨41, _⟩ => ⟨S1x8x192x64, .f32⟩
  | .hbm, ⟨42, _⟩ => ⟨S1x8x192x64, .f32⟩
  | .hbm, ⟨43, _⟩ => ⟨S4x8x192x64, .f32⟩
  | .hbm, ⟨44, _⟩ => ⟨S4x8x64x192, .f32⟩
  | .hbm, ⟨45, _⟩ => ⟨S16x4x8x64x192, .f32⟩
  | .hbm, ⟨46, _⟩ => ⟨S64x2x4x64x192, .f32⟩
  | .hbm, ⟨47, _⟩ => ⟨S64, .i32⟩
  | .hbm, ⟨48, _⟩ => ⟨S64x1, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S192, .i32⟩
  | .hbm, ⟨53, _⟩ => ⟨S1x192, .i32⟩
  | .hbm, ⟨54, _⟩ => ⟨S64x192, .i32⟩
  | .hbm, ⟨55, _⟩ => ⟨S64x192, .i32⟩
  | .hbm, ⟨56, _⟩ => ⟨S64x192, .i32⟩
  | .hbm, ⟨57, _⟩ => ⟨S_, .i32⟩
  | .hbm, ⟨58, _⟩ => ⟨S64x192, .i32⟩
  | .hbm, ⟨59, _⟩ => ⟨S64x192, .i1⟩
  | .hbm, ⟨60, _⟩ => ⟨S8x64x2x192x64x4, .f32⟩
  | .hbm, ⟨61, _⟩ => ⟨S8x64x2x4x64x192, .f32⟩
  | .hbm, ⟨62, _⟩ => ⟨S1x64x2x4x64x192, .f32⟩
  | .hbm, ⟨63, _⟩ => ⟨S8x64x2x4x64x192, .f32⟩
  | .hbm, ⟨64, _⟩ => ⟨S8x64x2x4x64x192, .f32⟩
  | .hbm, ⟨65, _⟩ => ⟨S1x64x1x1x1x192, .i1⟩
  | .hbm, ⟨66, _⟩ => ⟨S_, .f32⟩
  | .hbm, ⟨67, _⟩ => ⟨S_, .f32⟩
  | .hbm, ⟨68, _⟩ => ⟨S8x64x2x4x64x192, .i1⟩
  | .hbm, ⟨69, _⟩ => ⟨S8x64x2x4x64x192, .f32⟩
  | .hbm, ⟨70, _⟩ => ⟨S8x64x2x4x64x192, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S2x4, .f32⟩
  | .hbm, ⟨75, _⟩ => ⟨S1x1x2x4x1x1, .f32⟩
  | .hbm, ⟨76, _⟩ => ⟨S_, .f32⟩
  | .hbm, ⟨77, _⟩ => ⟨S8x64x2x4x64, .f32⟩
  | .hbm, ⟨78, _⟩ => ⟨S8x64x2x4x64x1, .f32⟩
  | .hbm, ⟨79, _⟩ => ⟨S8x64x2x4x64x1, .f32⟩
  | .hbm, ⟨80, _⟩ => ⟨S8x64x2x4x64x1, .f32⟩
  | .hbm, ⟨81, _⟩ => ⟨S8x64x2x4x64x192, .f32⟩
  | .hbm, ⟨82, _⟩ => ⟨S8x64x2x4x64x192, .f32⟩
  | .hbm, ⟨83, _⟩ => ⟨S_, .f32⟩
  | .hbm, ⟨84, _⟩ => ⟨S_, .f32⟩
  | .hbm, ⟨85, _⟩ => ⟨S8x64x2x4x64x192, .f32⟩
  | .hbm, ⟨86, _⟩ => ⟨S8x64x2x4x64x192, .f32⟩
  | .hbm, ⟨87, _⟩ => ⟨S8x64x2x4x64x192, .f32⟩
  | .hbm, ⟨88, _⟩ => ⟨S_, .f32⟩
  | .hbm, ⟨89, _⟩ => ⟨S8x64x2x4x64, .f32⟩
  | .hbm, ⟨90, _⟩ => ⟨S8x64x2x4x64x1, .f32⟩
  | .hbm, ⟨91, _⟩ => ⟨S8x64x2x4x64x1, .f32⟩
  | .hbm, ⟨92, _⟩ => ⟨S8x64x2x4x64x1, .f32⟩
  | .hbm, ⟨93, _⟩ => ⟨S_, .f32⟩
  | .hbm, ⟨94, _⟩ => ⟨S_, .f32⟩
  | .hbm, ⟨95, _⟩ => ⟨S8x64x2x4x64x1, .f32⟩
  | .hbm, ⟨96, _⟩ => ⟨S8x64x2x4x64x1, .f32⟩
  | .hbm, ⟨97, _⟩ => ⟨S8x64x2x4x64x1, .f32⟩
  | .hbm, ⟨98, _⟩ => ⟨S8x64x2x4x64x1, .f32⟩
  | .hbm, ⟨99, _⟩ => ⟨S8x64x2x4x64x192, .f32⟩
  | .hbm, ⟨100, _⟩ => ⟨S8x64x2x4x64x192, .f32⟩
  | .hbm, ⟨101, _⟩ => ⟨S8x64x2x64x4x64, .f32⟩
  | .hbm, ⟨102, _⟩ => ⟨S8x64x64x2x4x64, .f32⟩
  | .hbm, ⟨103, _⟩ => ⟨S8x4096x512, .f32⟩
  | .hbm, ⟨104, _⟩ => ⟨S8x4096x512, .bf16⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_6 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== Weight.lean ====
abbrev S2x1024x3108 : Shape := ⟨3, ![2, 1024, 3108]⟩
abbrev S1024x3200 : Shape := ⟨2, ![1024, 3200]⟩
abbrev S1x128x3108 : Shape := ⟨3, ![1, 128, 3108]⟩
abbrev S128x3200 : Shape := ⟨2, ![128, 3200]⟩
abbrev S128x3108 : Shape := ⟨2, ![128, 3108]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x3108, .f32⟩
  | .hbm, ⟨1, _⟩ => ⟨S1024x3200, .bf16⟩
  | .local _ .vmem, ⟨0, _⟩ => ⟨S1x128x3108, .f32⟩
  | .local _ .vmem, ⟨1, _⟩ => ⟨S1x128x3108, .f32⟩
  | .local _ .vmem, ⟨2, _⟩ => ⟨S128x3200, .bf16⟩
  | .local _ .vmem, ⟨3, _⟩ => ⟨S128x3200, .bf16⟩
  | _, _ => ⟨S2x1024x3108, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x3108 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WeightReferenceIdeal.lean ====
abbrev S2x1024x3108 : Shape := ⟨3, ![2, 1024, 3108]⟩
abbrev S1x1024x3108 : Shape := ⟨3, ![1, 1024, 3108]⟩
abbrev S1024x3108 : Shape := ⟨2, ![1024, 3108]⟩
abbrev S_ : Shape := ⟨0, ![]⟩
abbrev S1024x3200 : Shape := ⟨2, ![1024, 3200]⟩

abbrev nBuf : Space → Nat
  | .hbm => 7
  | .vmem => 0
  | .smem => 0
  | _ => 0

abbrev bufTy : (tb : Table) → Fin (tcTables nBuf tb) → BufTy
  | .hbm, ⟨0, _⟩ => ⟨S2x1024x3108, .f32⟩
  | .hbm, ⟨1, _⟩ => ⟨S1x1024x3108, .f32⟩
  | .hbm, ⟨2, _⟩ => ⟨S1024x3108, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | _, _ => ⟨S2x1024x3108, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Bias.lean ====
abbrev S32x20 : Shape := ⟨2, ![32, 20]⟩
abbrev S4x512x32 : Shape := ⟨3, ![4, 512, 32]⟩
abbrev S20x4x512 : Shape := ⟨3, ![20, 4, 512]⟩
abbrev S20x4x256x256 : Shape := ⟨4, ![20, 4, 256, 256]⟩
abbrev S1x4x512 : Shape := ⟨3, ![1, 4, 512]⟩
abbrev S1x4x256x256 : Shape := ⟨4, ![1, 4, 256, 256]⟩
abbrev S4x512 : Shape := ⟨2, ![4, 512]⟩
abbrev S1x512 : Shape := ⟨2, ![1, 512]⟩
abbrev S256x512 : Shape := ⟨2, ![256, 512]⟩
abbrev S256x256 : Shape := ⟨2, ![256, 256]⟩
abbrev S1x1x256x256 : Shape := ⟨4, ![1, 1, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S32x20, .f32⟩
  | .hbm, ⟨1, _⟩ => ⟨S4x512x32, .f32⟩
  | .hbm, ⟨2, _⟩ => ⟨S20x4x512, .f32⟩
  | .hbm, ⟨3, _⟩ => ⟨S20x4x256x256, .f32⟩
  | .local _ .vmem, ⟨0, _⟩ => ⟨S1x4x512, .f32⟩
  | .local _ .vmem, ⟨1, _⟩ => ⟨S1x4x512, .f32⟩
  | .local _ .vmem, ⟨2, _⟩ => ⟨S1x4x256x256, .f32⟩
  | .local _ .vmem, ⟨3, _⟩ => ⟨S1x4x256x256, .f32⟩
  | _, _ => ⟨S32x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasReferenceIdeal.lean ====
abbrev S32x20 : Shape := ⟨2, ![32, 20]⟩
abbrev S256 : Shape := ⟨1, ![256]⟩
abbrev S1x256x1 : Shape := ⟨3, ![1, 256, 1]⟩
abbrev S1x1x256 : Shape := ⟨3, ![1, 1, 256]⟩
abbrev S4 : Shape := ⟨1, ![4]⟩
abbrev S4x1x1 : Shape := ⟨3, ![4, 1, 1]⟩
abbrev S_ : Shape := ⟨0, ![]⟩
abbrev S4x256x1 : Shape := ⟨3, ![4, 256, 1]⟩
abbrev S4x256x256 : Shape := ⟨3, ![4, 256, 256]⟩
abbrev S4x256x256x1 : Shape := ⟨4, ![4, 256, 256, 1]⟩
abbrev S4x256x256x20 : Shape := ⟨4, ![4, 256, 256, 20]⟩
abbrev S20x4x256x256 : Shape := ⟨4, ![20, 4, 256, 256]⟩

abbrev nBuf : Space → Nat
  | .hbm => 62
  | .vmem => 0
  | .smem => 0
  | _ => 0

abbrev bufTy : (tb : Table) → Fin (tcTables nBuf tb) → BufTy
  | .hbm, ⟨0, _⟩ => ⟨S32x20, .f32⟩
  | .hbm, ⟨1, _⟩ => ⟨S256, .i32⟩
  | .hbm, ⟨2, _⟩ => ⟨S1x256x1, .i32⟩
  | .hbm, ⟨3, _⟩ => ⟨S256, .i32⟩
  | .hbm, ⟨4, _⟩ => ⟨S1x1x256, .i32⟩
  | .hbm, ⟨5, _⟩ => ⟨S4, .i32⟩
  | .hbm, ⟨6, _⟩ => ⟨S4x1x1, .i32⟩
  | .hbm, ⟨7, _⟩ => ⟨S_, .i32⟩
  | .hbm, ⟨8, _⟩ => ⟨S4x1x1, .i32⟩
  | .hbm, ⟨9, _⟩ => ⟨S4x1x1, .i32⟩
  | .hbm, ⟨10, _⟩ => ⟨S4x256x1, .i32⟩
  | .hbm, ⟨11, _⟩ => ⟨S4x256x1, .i32⟩
  | .hbm, ⟨12, _⟩ => ⟨S4x256x1, .i32⟩
  | .hbm, ⟨13, _⟩ => ⟨S4x256x256, .i32⟩
  | .hbm, ⟨14, _⟩ => ⟨S4x256x256, .i32⟩
  | .hbm, ⟨15, _⟩ => ⟨S4x256x256, .i32⟩
  | .hbm, ⟨16, _⟩ => ⟨S4x256x256, .i32⟩
  | .hbm, ⟨17, _⟩ => ⟨S_, .i32⟩
  | .hbm, ⟨18, _⟩ => ⟨S4x256x256, .i32⟩
  | .hbm, ⟨19, _⟩ => ⟨S4x256x256, .i32⟩
  | .hbm, ⟨20, _⟩ => ⟨S4x256x256, .f32⟩
  | .hbm, ⟨21, _⟩ => ⟨S_, .f32⟩
  | .hbm, ⟨22, _⟩ => ⟨S4x256x256, .f32⟩
  | .hbm, ⟨23, _⟩ => ⟨S4x256x256, .f32⟩
  | .hbm, ⟨24, _⟩ => ⟨S4x256x256, .f32⟩
  | .hbm, ⟨25, _⟩ => ⟨S_, .f32⟩
  | .hbm, ⟨26, _⟩ => ⟨S4x256x256, .f32⟩
  | .hbm, ⟨27, _⟩ => ⟨S4x256x256, .f32⟩
  | .hbm, ⟨28, _⟩ => ⟨S_, .f32⟩
  | .hbm, ⟨29, _⟩ => ⟨S4x256x256, .f32⟩
  | .hbm, ⟨30, _⟩ => ⟨S4x256x256, .f32⟩
  | .hbm, ⟨31, _⟩ => ⟨S4x256x256, .i32⟩
  | .hbm, ⟨32, _⟩ => ⟨S_, .i32⟩
  | .hbm, ⟨33, _⟩ => ⟨S4x256x256, .i32⟩
  | .hbm, ⟨34, _⟩ => ⟨S4x256x256, .i32⟩
  | .hbm, ⟨35, _⟩ => ⟨S_, .i32⟩
  | .hbm, ⟨36, _⟩ => ⟨S4x256x256, .i32⟩
  | .hbm, ⟨37, _⟩ => ⟨S4x256x256, .i32⟩
  | .hbm, ⟨38, _⟩ => ⟨S_, .i32⟩
  | .hbm, ⟨39, _⟩ => ⟨S4x256x256, .i32⟩
  | .hbm, ⟨40, _⟩ => ⟨S4x256x256, .i1⟩
  | .hbm, ⟨41, _⟩ => ⟨S_, .i32⟩
  | .hbm, ⟨42, _⟩ => ⟨S_, .i32⟩
  | .hbm, ⟨43, _⟩ => ⟨S4x256x256, .i32⟩
  | .hbm, ⟨44, _⟩ => ⟨S4x256x256, .i32⟩
  | .hbm, ⟨45, _⟩ => ⟨S4x256x256, .i32⟩
  | .hbm, ⟨46, _⟩ => ⟨S_, .i32⟩
  | .hbm, ⟨47, _⟩ => ⟨S4x256x256, .i32⟩
  | .hbm, ⟨48, _⟩ => ⟨S4x256x256, .i1⟩
  | .hbm, ⟨49, _⟩ => ⟨S4x256x256, .i32⟩
  | .hbm, ⟨50, _⟩ => ⟨S4x256x256, .i32⟩
  | .hbm, ⟨51, _⟩ => ⟨S4x256x256, .i32⟩
  | .hbm, ⟨52, _⟩ => ⟨S_, .i32⟩
  | .hbm, ⟨53, _⟩ => ⟨S4x256x256, .i32⟩
  | .hbm, ⟨54, _⟩ => ⟨S4x256x256, .i1⟩
  | .hbm, ⟨55, _⟩ => ⟨S_, .i32⟩
  | .hbm, ⟨56, _⟩ => ⟨S4x256x256, .i32⟩
  | .hbm, ⟨57, _⟩ => ⟨S4x256x256, .i32⟩
  | .hbm, ⟨58, _⟩ => ⟨S4x256x256, .i32⟩
  | .hbm, ⟨59, _⟩ => ⟨S4x256x256x1, .i32⟩
  | .hbm, ⟨60, _⟩ => ⟨S4x256x256x20, .f32⟩
  | .hbm, ⟨61, _⟩ => ⟨S20x4x256x256, .f32⟩
  | _, _ => ⟨S32x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_c_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Frames.lean ====
module

public import proofs.«01_k».proof.Defs
public import proofs.«01_k».proof.Proof.Gen.ReferenceIdeal
public import proofs.«01_k».proof.Proof.Gen.ReferenceIdeal.Run
public import proofs.«01_k».proof.Proof.Gen.MoeReferenceIdeal
public import proofs.«01_k».proof.Proof.Gen.MoeReferenceIdeal.Run
public import proofs.«01_k».proof.Proof.Gen.ProjReferenceIdeal
public import proofs.«01_k».proof.Proof.Gen.ProjReferenceIdeal.Run
public import proofs.«01_k».proof.Proof.Gen.BandReferenceIdeal
public import proofs.«01_k».proof.Proof.Gen.BandReferenceIdeal.Run
public import proofs.«01_k».proof.Proof.Gen.WeightReferenceIdeal
public import proofs.«01_k».proof.Proof.Gen.WeightReferenceIdeal.Run
public import proofs.«01_k».proof.Proof.Gen.BiasReferenceIdeal
public import proofs.«01_k».proof.Proof.Gen.BiasReferenceIdeal.Run
public import Idealize.ShloMosaic.Lib.Claim

@[expose] public section

noncomputable section

namespace Cert.Hand

open Idealize.ShloMosaic Idealize.ShloMosaic.TcCoe Idealize.SL.Sem

/-- The frame of the experts' reference: its run leaves the arguments alone, and it declares no semaphore. -/
theorem frame_moe_reference : Cert.quiescent_MoeReferenceIdeal (hMoeReferenceIdeal := Cert.MoeReferenceIdeal.Gen.facts) := fun m g _ =>
  (θ_run Cert.MoeReferenceIdeal.defs _ _).mono
    (fun r h => ⟨fun c => (h c).2, sem_eq_zero_of_no_sems (by decide) r.2⟩) (Cert.MoeReferenceIdeal.Value.run m g)

/-- The frame of the merge's reference, likewise. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩) (Cert.ReferenceIdeal.Value.run m g)

/-- The frame of the projections' reference, likewise. -/
theorem frame_proj_reference : Cert.quiescent_ProjReferenceIdeal (hProjReferenceIdeal := Cert.ProjReferenceIdeal.Gen.facts) := fun m g _ =>
  (θ_run Cert.ProjReferenceIdeal.defs _ _).mono
    (fun r h => ⟨fun c => (h c).2.2.2.2.2.2.2.2.2.2.2.2, sem_eq_zero_of_no_sems (by decide) r.2⟩) (Cert.ProjReferenceIdeal.Value.run m g)

/-- The frame of the sliding window's reference, likewise. -/
theorem frame_band_reference : Cert.quiescent_BandReferenceIdeal (hBandReferenceIdeal := Cert.BandReferenceIdeal.Gen.facts) := fun m g _ =>
  (θ_run Cert.BandReferenceIdeal.defs _ _).mono
    (fun r h => ⟨fun c => (h c).2, sem_eq_zero_of_no_sems (by decide) r.2⟩) (Cert.BandReferenceIdeal.Value.run m g)

/-- The frame of the weight's reference, likewise. -/
theorem frame_weight_reference : Cert.quiescent_WeightReferenceIdeal (hWeightReferenceIdeal := Cert.WeightReferenceIdeal.Gen.facts) := fun m g _ =>
  (θ_run Cert.WeightReferenceIdeal.defs _ _).mono
    (fun r h => ⟨fun c => (h c).2, sem_eq_zero_of_no_sems (by decide) r.2⟩) (Cert.WeightReferenceIdeal.Value.run m g)

/-- The frame of the bias's reference, likewise. -/
theorem frame_bias_reference : Cert.quiescent_BiasReferenceIdeal (hBiasReferenceIdeal := Cert.BiasReferenceIdeal.Gen.facts) := fun m g _ =>
  (θ_run Cert.BiasReferenceIdeal.defs _ _).mono
    (fun r h => ⟨fun c => (h c).2, sem_eq_zero_of_no_sems (by decide) r.2⟩) (Cert.BiasReferenceIdeal.Value.run m g)

end Cert.Hand
end
-- ==== Proof.MoePay.lean ====
module

public import proofs.«01_k».proof.Proof.Gen.MoeIdeal.Value
public import Idealize.ShloMosaic.Lib.Pointwise

@[expose] public section

noncomputable section

namespace Cert.MoeIdeal.Hand

open Cert.MoeIdeal Cert.MoeIdeal.Gen Idealize.ShloMosaic Idealize.ShloMosaic.TcCoe

theorem hz : (![0, 0] : Fin 2 → Nat) = fun _ => 0 := funext fun a => by fin_cases a <;> rfl

/-- One hidden unit of an expert from its two products `a`, `b` and the gate `w`: `silu a * b * w`. -/
def unit (a b w : EReal) : EReal := a * Ideal.div 1 (1 + Ideal.exp (0 - a)) * b * w

/-- The sum over the lanes that the body writes for a gate is the gate of expert `4 g + u`. -/
theorem pick (g : Fin 4) (u : Nat) (hu : u < 4) (v : Fin 16 → EReal) :
    (∑ x : Fin 16, Scalar.select (IntOp.cmpi CmpIPredicate.eq (BitVec.ofNat 32 x.val)
        (Scalar.addi (Scalar.muli (BitVec.ofNat 32 g.val) 4#32) (BitVec.ofNat 32 u))) (v x) 0)
      = v ⟨4 * g.val + u, by omega⟩ := by
  have hd : ∀ (g : Fin 4) (u : Fin 4) (x : Fin 16), IntOp.cmpi CmpIPredicate.eq (BitVec.ofNat 32 x.val)
        (Scalar.addi (Scalar.muli (BitVec.ofNat 32 g.val) 4#32) (BitVec.ofNat 32 u.val))
        = if x.val = 4 * g.val + u.val then 1#1 else 0#1 := by decide +kernel
  rw [Finset.sum_eq_single (⟨4 * g.val + u, by omega⟩ : Fin 16)]
  · rw [hd g ⟨u, hu⟩, if_pos rfl]; rfl
  · intro x _ hx
    rw [hd g ⟨u, hu⟩, if_neg (fun h => hx (Fin.ext h))]; rfl
  · intro h; exact absurd (Finset.mem_univ _) h

/-- Unit `k` of the four experts of group `g`, at row `r` and result lane `l`: the expert is `k / 256`, its unit `k % 256`. -/
def stepTerm (g : Fin 4) (x1 : Vec Ideal S1024x1024 .bf16) (x2 : Vec Ideal S1024x16 .f32) (x3 : Vec Ideal S4x1024x512 .bf16)
    (x4 : Vec Ideal S1024x1024 .bf16) (r l : Fin 1024) (k : Fin 1024) : EReal :=
  unit (∑ j : Fin 1024, x1 (ix2 r j) * x3 (ix3 ⟨k.val / 256, by omega⟩ j ⟨k.val % 256, by omega⟩))
    (∑ j : Fin 1024, x1 (ix2 r j) * x3 (ix3 ⟨k.val / 256, by omega⟩ j ⟨256 + k.val % 256, by omega⟩))
    (x2 (ix2 r ⟨4 * g.val + k.val / 256, by omega⟩)) * x4 (ix2 k l)

/-- The four branches of the concatenated units, read at unit `k`. -/
theorem units_eq (g : Fin 4) (x1 : Vec Ideal S1024x1024 .bf16) (x2 : Vec Ideal S1024x16 .f32) (x3 : Vec Ideal S4x1024x512 .bf16)
    (x4 : Vec Ideal S1024x1024 .bf16) (r l : Fin 1024) (k : Fin 1024) :
    (if h : k.val < 256 then
        unit (∑ j : Fin 1024, x1 (ix2 r j) * x3 (ix3 0 j ⟨k.val, by omega⟩)) (∑ j : Fin 1024, x1 (ix2 r j) * x3 (ix3 0 j ⟨256 + k.val, by omega⟩))
          (∑ x : Fin 16, Scalar.select (IntOp.cmpi CmpIPredicate.eq (BitVec.ofNat 32 x.val)
            (Scalar.addi (Scalar.muli (BitVec.ofNat 32 g.val) 4#32) 0#32)) (x2 (ix2 r x)) 0)
      else if h : k.val - 256 < 256 then
        unit (∑ j : Fin 1024, x1 (ix2 r j) * x3 (ix3 1 j ⟨k.val - 256, by omega⟩)) (∑ j : Fin 1024, x1 (ix2 r j) * x3 (ix3 1 j ⟨256 + (k.val - 256), by omega⟩))
          (∑ x : Fin 16, Scalar.select (IntOp.cmpi CmpIPredicate.eq (BitVec.ofNat 32 x.val)
            (Scalar.addi (Scalar.muli (BitVec.ofNat 32 g.val) 4#32) 1#32)) (x2 (ix2 r x)) 0)
      else if h : k.val - 256 - 256 < 256 then
        unit (∑ j : Fin 1024, x1 (ix2 r j) * x3 (ix3 2 j ⟨k.val - 256 - 256, by omega⟩)) (∑ j : Fin 1024, x1 (ix2 r j) * x3 (ix3 2 j ⟨256 + (k.val - 256 - 256), by omega⟩))
          (∑ x : Fin 16, Scalar.select (IntOp.cmpi CmpIPredicate.eq (BitVec.ofNat 32 x.val)
            (Scalar.addi (Scalar.muli (BitVec.ofNat 32 g.val) 4#32) 2#32)) (x2 (ix2 r x)) 0)
      else
        unit (∑ j : Fin 1024, x1 (ix2 r j) * x3 (ix3 3 j ⟨k.val - 256 - 256 - 256, by omega⟩)) (∑ j : Fin 1024, x1 (ix2 r j) * x3 (ix3 3 j ⟨256 + (k.val - 256 - 256 - 256), by omega⟩))
          (∑ x : Fin 16, Scalar.select (IntOp.cmpi CmpIPredicate.eq (BitVec.ofNat 32 x.val)
            (Scalar.addi (Scalar.muli (BitVec.ofNat 32 g.val) 4#32) 3#32)) (x2 (ix2 r x)) 0)) * x4 (ix2 k l)
      = stepTerm g x1 x2 x3 x4 r l k := by
  have key : ∀ (u : Nat) (hu : u < 4) (f : Nat) (hf : f < 256), k.val = u * 256 + f →
      unit (∑ j : Fin 1024, x1 (ix2 r j) * x3 (ix3 ⟨u, hu⟩ j ⟨f, by omega⟩)) (∑ j : Fin 1024, x1 (ix2 r j) * x3 (ix3 ⟨u, hu⟩ j ⟨256 + f, by omega⟩))
        (x2 (ix2 r ⟨4 * g.val + u, by omega⟩)) * x4 (ix2 k l) = stepTerm g x1 x2 x3 x4 r l k := by
    intro u hu f hf hk
    have h1 : k.val / 256 = u := by omega
    have h2 : k.val % 256 = f := by omega
    subst h1 h2
    rfl
  rw [pick g 0 (by decide), pick g 1 (by decide), pick g 2 (by decide), pick g 3 (by decide)]
  split_ifs with h0 h1 h2
  · exact key 0 (by decide) k.val h0 (by omega)
  · exact key 1 (by decide) (k.val - 256) h1 (by omega)
  · exact key 2 (by decide) (k.val - 256 - 256) h2 (by omega)
  · exact key 3 (by decide) (k.val - 256 - 256 - 256) (by omega) (by omega)

theorem out_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x16 .f32) (harg4 : arg4.IsWhole) (arg5 : Memref sig .tc .vmem S4x1024x512 .bf16) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec Ideal S1024x1024 .f32) (x1 : Vec Ideal S1024x1024 .bf16) (x2 : Vec Ideal S1024x16 .f32) (x3 : Vec Ideal S4x1024x512 .bf16) (x4 : Vec Ideal S1024x1024 .bf16) (r l : Fin 1024) :
    out0_A_5 c i arg2 harg2 arg3 harg3 arg4 harg4 arg5 harg5 arg6 harg6 arg7 harg7 hc0 hc1 x0 x1 x2 x3 x4 (ix2 r l) = x0 (ix2 r l) + ∑ k, stepTerm (i 1) x1 x2 x3 x4 r l k := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, View.ld_unit_zero (S := S1024x1024) hz, View.ld_unit_zero (S := S1024x16) hz, shapeCast_self]
  unfold_payloads
  pointwise

  exact congrArg _ (Finset.sum_congr rfl fun k _ => units_eq (i 1) x1 x2 x3 x4 r l k)

theorem out_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x16 .f32) (harg4 : arg4.IsWhole) (arg5 : Memref sig .tc .vmem S4x1024x512 .bf16) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec Ideal S1024x1024 .f32) (x1 : Vec Ideal S1024x1024 .bf16) (x2 : Vec Ideal S1024x16 .f32) (x3 : Vec Ideal S4x1024x512 .bf16) (x4 : Vec Ideal S1024x1024 .bf16) (xo : Vec Ideal S1024x1024 .f32) (r l : Fin 1024) :
    out0_B_5 c i arg2 harg2 arg3 harg3 arg4 harg4 arg5 harg5 arg6 harg6 arg7 harg7 hc0 hc1 x0 x1 x2 x3 x4 xo (ix2 r l) = xo (ix2 r l) + ∑ k, stepTerm (i 1) x1 x2 x3 x4 r l k := by
  unfold out0_B_5
  rw [View.read_writes_eq_canon _ _ _ (cover0_B_5 c i arg2 harg2 arg3 harg3 arg4 harg4 arg5 harg5 arg6 harg6 arg7 harg7 hc0 hc1 x0 x1 x2 x3 x4 xo)]
  unfold kernelRun0_B
  dsimp only
  sl_unfold_words
  rw [View.canon_unit_zero hz]
  simp only [View.readAt_eq_ld, harg7.read_unread, harg3.read_unread, harg4.read_unread, harg5.read_unread, harg6.read_unread, View.ld_unit_zero (S := S1024x1024) hz, View.ld_unit_zero (S := S1024x16) hz, shapeCast_self]
  unfold_payloads
  pointwise

  exact congrArg _ (Finset.sum_congr rfl fun k _ => units_eq (i 1) x1 x2 x3 x4 r l k)

end Cert.MoeIdeal.Hand
end
-- ==== Proof.MoeValue.lean ====
module

public import proofs.«01_k».proof.Proof.MoePay
public import Idealize.ShloMosaic.Lib.Pipeline.Value

@[expose] public section

noncomputable section

namespace Cert.MoeIdeal.Hand

open Cert.MoeIdeal Cert.MoeIdeal.Gen Idealize.ShloMosaic Idealize.ShloMosaic.TcCoe Idealize.SL.Sem

variable (m : (ℓ : Loc nD τ sig) → Buf (Elt Ideal) ℓ)

/-! ## The call's arguments and the arrays that its host lines prepare -/

abbrev aX (c : Dev nD) : FVec Ideal S32768x1024 .f32 := m ((c : Thread nD τ).loc main_arg0)
abbrev aH (c : Dev nD) : FVec Ideal S32768x1024 .bf16 := m ((c : Thread nD τ).loc main_arg1)
abbrev aG (c : Dev nD) : FVec Ideal S32768x16 .f32 := m ((c : Thread nD τ).loc main_arg2)
abbrev aWg (c : Dev nD) : FVec Ideal S16x1024x256 .f32 := m ((c : Thread nD τ).loc main_arg3)
abbrev aWu (c : Dev nD) : FVec Ideal S16x1024x256 .f32 := m ((c : Thread nD τ).loc main_arg4)
abbrev aWd (c : Dev nD) : FVec Ideal S16x256x1024 .f32 := m ((c : Thread nD τ).loc main_arg5)

theorem V_v1 (c : Dev nD) : V m c main_v1 = truncf .bf16 (concatenate S16x1024x512 2 [⟨S16x1024x256, aWg m c⟩, ⟨S16x1024x256, aWu m c⟩] concatenates_S16x1024x256_S16x1024x256_S16x1024x512_d2 : FVec Ideal S16x1024x512 .f32) bitsLt_bf16_f32 := by
  unfold V hostOps0
  after_results

theorem V_v3 (c : Dev nD) : V m c main_v3 = shapeCast S4096x1024 (truncf .bf16 (aWd m c) bitsLt_bf16_f32 : FVec Ideal S16x256x1024 .bf16) shapeCasts_S16x256x1024_S4096x1024 := by
  unfold V hostOps0
  after_results
  rfl

theorem v1_left (c : Dev nD) (e : Fin 16) (j : Fin 1024) (f : Fin 256) :
    V m c main_v1 (ix3 e j ⟨f.val, by omega⟩) = aWg m c (ix3 e j f) := by
  rw [V_v1]
  pointwise

theorem v1_right (c : Dev nD) (e : Fin 16) (j : Fin 1024) (f : Fin 256) :
    V m c main_v1 (ix3 e j ⟨256 + f.val, by omega⟩) = aWu m c (ix3 e j f) := by
  rw [V_v1]
  pointwise

theorem v3_apply (c : Dev nD) (k : Fin 4096) (l : Fin 1024) :
    V m c main_v3 (ix2 k l) = aWd m c (ix3 ⟨k.val / 256, by omega⟩ ⟨k.val % 256, by omega⟩ l) := by
  rw [V_v3]
  pointwise

theorem index0 : ∀ t : Fin cfg0.N, win0_0.index t 0 = t.val / 4 ∧ win0_0.index t 1 = 0 := by decide +kernel
theorem index1 : ∀ t : Fin cfg0.N, win0_1.index t 0 = t.val / 4 ∧ win0_1.index t 1 = 0 := by decide +kernel
theorem index2 : ∀ t : Fin cfg0.N, win0_2.index t 0 = t.val / 4 ∧ win0_2.index t 1 = 0 := by decide +kernel
theorem index3 : ∀ t : Fin cfg0.N, win0_3.index t 0 = t.val % 4 ∧ win0_3.index t 1 = 0 ∧ win0_3.index t 2 = 0 := by decide +kernel
theorem index4 : ∀ t : Fin cfg0.N, win0_4.index t 0 = t.val % 4 ∧ win0_4.index t 1 = 0 := by decide +kernel
theorem index5 : ∀ t : Fin cfg0.N, win0_5.index t 0 = t.val / 4 ∧ win0_5.index t 1 = 0 := by decide +kernel
theorem coord1 : ∀ t : Fin cfg0.N, (grid0.coords t 1).val = t.val % 4 := by decide +kernel

/-- Row `r` of point `t`'s block of tokens. -/
abbrev tok (t : Fin cfg0.N) (r : Fin 1024) : Fin 32768 := ⟨t.val / 4 * 1024 + r.val, by have := t.isLt; have : cfg0.N = 128 := N_0; omega⟩

theorem iblk0 (c : Dev nD) (t : Fin cfg0.N) (r : Fin 1024) (l : Fin 1024) :
    (iblk m c 0 t : Vec Ideal S1024x1024 .f32) (ix2 r l) = aX m c (ix2 (tok t r) l) := by
  unfold iblk
  rw [View.read_apply]
  show V m c main_arg0 _ = _
  rw [V_main_arg0]
  congr 1
  funext a
  apply Fin.ext
  have hi := index0 t
  match a with
  | ⟨0, _⟩ => show win0_0.index t 0 * 1024 + 1 * r.val = t.val / 4 * 1024 + r.val; rw [hi.1]; omega
  | ⟨1, _⟩ => show win0_0.index t 1 * 1024 + 1 * l.val = l.val; rw [hi.2]; omega

theorem iblk1 (c : Dev nD) (t : Fin cfg0.N) (r : Fin 1024) (l : Fin 1024) :
    (iblk m c 1 t : Vec Ideal S1024x1024 .bf16) (ix2 r l) = aH m c (ix2 (tok t r) l) := by
  unfold iblk
  rw [View.read_apply]
  show V m c main_arg1 _ = _
  rw [V_main_arg1]
  congr 1
  funext a
  apply Fin.ext
  have hi := index1 t
  match a with
  | ⟨0, _⟩ => show win0_1.index t 0 * 1024 + 1 * r.val = t.val / 4 * 1024 + r.val; rw [hi.1]; omega
  | ⟨1, _⟩ => show win0_1.index t 1 * 1024 + 1 * l.val = l.val; rw [hi.2]; omega

theorem iblk2 (c : Dev nD) (t : Fin cfg0.N) (r : Fin 1024) (l : Fin 16) :
    (iblk m c 2 t : Vec Ideal S1024x16 .f32) (ix2 r l) = aG m c (ix2 (tok t r) l) := by
  unfold iblk
  rw [View.read_apply]
  show V m c main_arg2 _ = _
  rw [V_main_arg2]
  congr 1
  funext a
  apply Fin.ext
  have hi := index2 t
  match a with
  | ⟨0, _⟩ => show win0_2.index t 0 * 1024 + 1 * r.val = t.val / 4 * 1024 + r.val; rw [hi.1]; omega
  | ⟨1, _⟩ => show win0_2.index t 1 * 16 + 1 * l.val = l.val; rw [hi.2]; omega

theorem iblk3 (c : Dev nD) (t : Fin cfg0.N) (u : Fin 4) (j : Fin 1024) (f : Fin 512) :
    (iblk m c 3 t : Vec Ideal S4x1024x512 .bf16) (ix3 u j f) = V m c main_v1 (ix3 ⟨t.val % 4 * 4 + u.val, by omega⟩ j f) := by
  unfold iblk
  rw [View.read_apply]
  show V m c main_v1 _ = _
  congr 1
  funext a
  apply Fin.ext
  have hi := index3 t
  match a with
  | ⟨0, _⟩ => show win0_3.index t 0 * 4 + 1 * u.val = t.val % 4 * 4 + u.val; rw [hi.1]; omega
  | ⟨1, _⟩ => show win0_3.index t 1 * 1024 + 1 * j.val = j.val; rw [hi.2.1]; omega
  | ⟨2, _⟩ => show win0_3.index t 2 * 512 + 1 * f.val = f.val; rw [hi.2.2]; omega

theorem iblk4 (c : Dev nD) (t : Fin cfg0.N) (k l : Fin 1024) :
    (iblk m c 4 t : Vec Ideal S1024x1024 .bf16) (ix2 k l) = V m c main_v3 (ix2 ⟨t.val % 4 * 1024 + k.val, by omega⟩ l) := by
  unfold iblk
  rw [View.read_apply]
  show V m c main_v3 _ = _
  congr 1
  funext a
  apply Fin.ext
  have hi := index4 t
  match a with
  | ⟨0, _⟩ => show win0_4.index t 0 * 1024 + 1 * k.val = t.val % 4 * 1024 + k.val; rw [hi.1]; omega
  | ⟨1, _⟩ => show win0_4.index t 1 * 1024 + 1 * l.val = l.val; rw [hi.2]; omega

/-! ## The function -/

/-- Unit `f` of expert `e` at token `t`, times its row of the last product, at lane `l`. -/
def term (h : FVec Ideal S32768x1024 .bf16) (g : FVec Ideal S32768x16 .f32) (wg wu : FVec Ideal S16x1024x256 .f32)
    (wd : FVec Ideal S16x256x1024 .f32) (t : Fin 32768) (l : Fin 1024) (e : Fin 16) (f : Fin 256) : EReal :=
  unit (∑ j : Fin 1024, h (ix2 t j) * wg (ix3 e j f)) (∑ j : Fin 1024, h (ix2 t j) * wu (ix3 e j f)) (g (ix2 t e)) * wd (ix3 e f l)

/-- The same with the units of all experts counted through. -/
def flat (h : FVec Ideal S32768x1024 .bf16) (g : FVec Ideal S32768x16 .f32) (wg wu : FVec Ideal S16x1024x256 .f32)
    (wd : FVec Ideal S16x256x1024 .f32) (t : Fin 32768) (l : Fin 1024) (n : Fin 4096) : EReal :=
  term h g wg wu wd t l ⟨n.val / 256, by omega⟩ ⟨n.val % 256, by omega⟩

theorem stepTerm_eq (c : Dev nD) (t : Fin cfg0.N) (r l k : Fin 1024) :
    stepTerm (grid0.coords t 1) (iblk m c 1 t) (iblk m c 2 t) (iblk m c 3 t) (iblk m c 4 t) r l k
      = flat (aH m c) (aG m c) (aWg m c) (aWu m c) (aWd m c) (tok t r) l ⟨t.val % 4 * 1024 + k.val, by omega⟩ := by
  unfold stepTerm flat term
  have e1 : (t.val % 4 * 1024 + k.val) / 256 = t.val % 4 * 4 + k.val / 256 := by omega
  have e2 : (t.val % 4 * 1024 + k.val) % 256 = k.val % 256 := by omega
  have e3 : 4 * (grid0.coords t 1).val + k.val / 256 = t.val % 4 * 4 + k.val / 256 := by rw [coord1]; omega
  simp only [iblk1, iblk2, iblk3, iblk4, e1, e2, e3]
  rw [v3_apply]
  simp only [e1, e2]
  congr 2
  · exact Finset.sum_congr rfl fun j _ => congrArg _ (v1_left m c _ j ⟨k.val % 256, by omega⟩)
  · exact Finset.sum_congr rfl fun j _ => congrArg _ (v1_right m c _ j ⟨k.val % 256, by omega⟩)

/-- The sum of one step: the 1024 units of group `g`. -/
def group (c : Dev nD) (t : Fin 32768) (l : Fin 1024) (g : Fin 4) : EReal :=
  ∑ k : Fin 1024, flat (aH m c) (aG m c) (aWg m c) (aWu m c) (aWd m c) t l ⟨g.val * 1024 + k.val, by omega⟩

theorem step_A (c : Dev nD) (t : Fin cfg0.N) (h0 : t.val % 4 = 0) (r l : Fin 1024) :
    outsAt0 m c t.val t.isLt (ix2 r l) = aX m c (ix2 (tok t r) l) + group m c (tok t r) l ⟨t.val % 4, by omega⟩ := by
  rw [outsAt0_A m c t h0 (by omega), out_A, iblk0]
  simp only [stepTerm_eq]
  rfl

theorem step_B (c : Dev nD) (t : Fin cfg0.N) (h0 : 1 ≤ t.val % 4) (r l : Fin 1024) :
    outsAt0 m c t.val t.isLt (ix2 r l) = outsAt0 m c (t.val - 1) (Nat.lt_of_le_of_lt (Nat.sub_le _ _) t.isLt) (ix2 r l)
      + group m c (tok t r) l ⟨t.val % 4, by omega⟩ := by
  rw [outsAt0_B m c t (by omega) h0, out_B]
  simp only [stepTerm_eq]
  rfl

/-- What the last point of a block of tokens leaves: the tokens plus the sums of the four groups. -/
theorem last (c : Dev nD) (t : Fin cfg0.N) (h3 : t.val % 4 = 3) (r l : Fin 1024) :
    outsAt0 m c t.val t.isLt (ix2 r l) = aX m c (ix2 (tok t r) l) + ∑ g : Fin 4, group m c (tok t r) l g := by
  have hN : cfg0.N = 128 := N_0
  obtain ⟨n, hn⟩ := t
  obtain ⟨k, rfl⟩ : ∃ k, n = k + 3 := ⟨n - 3, by dsimp only at h3; omega⟩
  dsimp only at h3
  have eB3 := step_B m c ⟨k + 3, hn⟩ (by dsimp only; omega) r l
  have eB2 := step_B m c ⟨k + 2, by omega⟩ (by dsimp only; omega) r l
  have eB1 := step_B m c ⟨k + 1, by omega⟩ (by dsimp only; omega) r l
  have eA := step_A m c ⟨k, by omega⟩ (by dsimp only; omega) r l
  have t2 : tok ⟨k + 2, by omega⟩ r = tok ⟨k + 3, hn⟩ r := Fin.ext (by show (k + 2) / 4 * 1024 + r.val = (k + 3) / 4 * 1024 + r.val; omega)
  have t1 : tok ⟨k + 1, by omega⟩ r = tok ⟨k + 3, hn⟩ r := Fin.ext (by show (k + 1) / 4 * 1024 + r.val = (k + 3) / 4 * 1024 + r.val; omega)
  have t0 : tok ⟨k, by omega⟩ r = tok ⟨k + 3, hn⟩ r := Fin.ext (by show k / 4 * 1024 + r.val = (k + 3) / 4 * 1024 + r.val; omega)
  rw [t2] at eB2; rw [t1] at eB1; rw [t0] at eA
  have q := eB3.trans (congrArg (· + _) (eB2.trans (congrArg (· + _) (eB1.trans (congrArg (· + _) eA)))))
  refine q.trans ?_
  have g0 : (⟨k % 4, by omega⟩ : Fin 4) = 0 := Fin.ext (by show k % 4 = 0; omega)
  have g1 : (⟨(k + 1) % 4, by omega⟩ : Fin 4) = 1 := Fin.ext (by show (k + 1) % 4 = 1; omega)
  have g2 : (⟨(k + 2) % 4, by omega⟩ : Fin 4) = 2 := Fin.ext (by show (k + 2) % 4 = 2; omega)
  have g3 : (⟨(k + 3) % 4, by omega⟩ : Fin 4) = 3 := Fin.ext (by show (k + 3) % 4 = 3; omega)
  dsimp only
  rw [g0, g1, g2, g3, Fin.sum_univ_four]
  simp only [add_assoc]

/-- The four groups of 1024 units are the sixteen experts of 256. -/
theorem groups (c : Dev nD) (t : Fin 32768) (l : Fin 1024) :
    ∑ g : Fin 4, group m c t l g
      = ∑ e : Fin 16, ∑ f : Fin 256, term (aH m c) (aG m c) (aWg m c) (aWu m c) (aWd m c) t l e f := by
  unfold group
  rw [← Fin.sum_univ_tiles 4 1024 (by decide : 4 * 1024 = 4096) (flat (aH m c) (aG m c) (aWg m c) (aWu m c) (aWd m c) t l),
    Fin.sum_univ_tiles 16 256 (by decide : 16 * 256 = 4096) (flat (aH m c) (aG m c) (aWg m c) (aWu m c) (aWd m c) t l)]
  refine Finset.sum_congr rfl fun e _ => Finset.sum_congr rfl fun f _ => ?_
  unfold flat
  congr 1
  · exact Fin.ext (by show (e.val * 256 + f.val) / 256 = e.val; omega)
  · exact Fin.ext (by show (e.val * 256 + f.val) % 256 = f.val; omega)

/-- The call's function: the tokens plus the gated experts. -/
def moe (x : FVec Ideal S32768x1024 .f32) (h : FVec Ideal S32768x1024 .bf16) (g : FVec Ideal S32768x16 .f32) (wg wu : FVec Ideal S16x1024x256 .f32)
    (wd : FVec Ideal S16x256x1024 .f32) : FVec Ideal S32768x1024 .f32 := fun i =>
  x i + ∑ e : Fin 16, ∑ f : Fin 256, term h g wg wu wd (i 0) (i 1) e f

abbrev result (c : Dev nD) : Buf (Elt Ideal) ((c : Thread nD τ).loc main_v4) :=
  moe (aX m c) (aH m c) (aG m c) (aWg m c) (aWu m c) (aWd m c)

theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  rw [Cert.MoeIdeal.Value.flushed5]
  funext y
  rw [View.read_apply]
  have e := (last m c t h3 (y 0) (y 1)).trans (congrArg (_ + ·) (groups m c (tok t (y 0)) (y 1)))
  have hi := index5 t
  have ey : ((cfg0.win 5).blk t).view.emb y = (ix2 (tok t (y 0)) (y 1) : S32768x1024.Idx) := by
    funext a
    apply Fin.ext
    match a with
    | ⟨0, _⟩ => show win0_5.index t 0 * 1024 + 1 * (y 0).val = t.val / 4 * 1024 + (y 0).val; rw [hi.1]; omega
    | ⟨1, _⟩ => show win0_5.index t 1 * 1024 + 1 * (y 1).val = (y 1).val; rw [hi.2]; omega
  rw [ey]
  refine Eq.trans ?_ e
  show outsAt0 m c t.val t.isLt _ = _
  congr 1
  funext a
  apply Fin.ext
  match a with
  | ⟨0, _⟩ => rfl
  | ⟨1, _⟩ => rfl

theorem final_eq (c : Dev nD) : (dats m 0 c).arrAt 5 cfg0.N = result m c :=
  (dats m 0 c).arrAt_eq_of_cover 5 (result m c) (flushed_eq m c) fun i => by
    have hN : cfg0.N = 128 := N_0
    have h0 : (i 0 : Nat) < 32768 := (i 0).isLt
    have h1 : (i 1 : Nat) < 1024 := (i 1).isLt
    let t : Fin cfg0.N := ⟨(i 0).val / 1024 * 4 + 3, by omega⟩
    have ht : t.val = (i 0).val / 1024 * 4 + 3 := rfl
    have hi := index5 t
    refine ⟨t, (flush0_5 t).mpr (by omega), ?_⟩
    show i ∈ ((View.whole main_v4).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024
                rw [hi.1]; omega
    | ⟨1, _⟩ => show win0_5.index t 1 * 1024 ≤ (i 1 : Nat) ∧ (i 1 : Nat) < win0_5.index t 1 * 1024 + 1024
                rw [hi.2]; omega

end Cert.MoeIdeal.Hand
end
-- ==== Proof.MoeClaim.lean ====
module

public import proofs.«01_k».proof.Defs
public import proofs.«01_k».proof.Proof.MoeValue
public import proofs.«01_k».proof.Proof.Gen.MoeReferenceIdeal.Read
public import proofs.«01_k».proof.Proof.Gen.MoeReferenceIdeal.Run

@[expose] public section

noncomputable section

namespace Cert.MoeIdeal.Hand

open Idealize.ShloMosaic Idealize.ShloMosaic.TcCoe Idealize.SL.Sem

open Cert.MoeReferenceIdeal Cert.MoeReferenceIdeal.Gen in
/-- The reference's composed term is the same function. -/
theorem reference_eq (x : FVec Ideal S32768x1024 .f32) (h : FVec Ideal S32768x1024 .bf16) (g : FVec Ideal S32768x16 .f32) (wg wu : FVec Ideal S16x1024x256 .f32)
    (wd : FVec Ideal S16x256x1024 .f32) : Cert.MoeReferenceIdeal.Read.val_main_v9 (F := Ideal) x h g wg wu wd = moe x h g wg wu wd := by
  funext i
  unfold Read.val_main_v9 Read.val_main_v8 Read.val_main_v7 Read.val_main_v4 Read.val_main_v2 Read.val_main_call0_v5 Read.val_main_call0_v4 Read.val_main_call0_v3 Read.val_main_call0_v2 Read.val_main_call0_v1 Read.val_main_call0_v0 Read.val_main_v1 Read.val_main_v3 Read.val_main_v6 Read.val_main_v5 Read.val_main_v0 Read.val_main_call0_cst Read.val_main_call0_cst_0
  pointwise
  unfold moe term unit
  simp only [zero_sub]

theorem algebraic : Cert.algebraic_MoeIdeal_MoeReferenceIdeal (hMoeIdeal := Cert.MoeIdeal.Gen.facts) (hMoeReferenceIdeal := Cert.MoeReferenceIdeal.Gen.facts) := by
  intro m g m' g' _ hm
  refine ⟨fun c => result m c, Cert.MoeIdeal.Value.run_blocks m g |> (θ_run _ _ _).mono (fun r h c => ?_), Cert.MoeReferenceIdeal.Value.run m' g' |> (θ_run _ _ _).mono (fun r h c => ?_)⟩
  · have q := h c
    rw [final_eq] at q
    exact q
  · obtain ⟨e0, e1, e2, e3, e4, e5⟩ := hm c
    refine ⟨(h c).1.trans ?_, (h c).2⟩
    rw [Cert.MoeReferenceIdeal.Read.val_main_v9_eq, reference_eq, e0, e1, e2, e3, e4, e5]

end Cert.MoeIdeal.Hand
end
-- ==== Proof.TopTwo.lean ====
module

public import Idealize.ShloMosaic.Lib.Pointwise
public import Idealize.ShloMosaic.Lib.SortFacts

@[expose] public section

noncomputable section

namespace Cert.Route

open Idealize.ShloMosaic

/-- `b` comes ahead of `c` among the values `f`: it is greater, or it is equal and at a lower position. -/
def Ahead {n : Nat} (f : Fin n → EReal) (b c : Fin n) : Prop := f c < f b ∨ (f b = f c ∧ b < c)

theorem Ahead.le {n : Nat} {f : Fin n → EReal} {b c : Fin n} (h : Ahead f b c) : f c ≤ f b :=
  h.elim le_of_lt fun h => h.1.ge

theorem Ahead.trans {n : Nat} {f : Fin n → EReal} {a b c : Fin n} (h : Ahead f a b) (h' : Ahead f b c) : Ahead f a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

/-- The relation a descending stable sort compares by. -/
def greater {n : Nat} (f : Fin n → EReal) (b c : Fin n) : Bool := decide (f c < f b)

theorem pairwise_insert {n : Nat} (f : Fin n → EReal) (a : Fin n) (l : List (Fin n)) (ha : ∀ b ∈ l, a < b)
    (hl : l.Pairwise (Ahead f)) : (insertBefore (greater f) a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore _ a l).mem_iff.mp hc) with rfl | hc'
      · exact .inl (of_decide_eq_true h)
      · exact hl.1 c hc'
    · rename_i h
      have hab : Ahead f a b := by
        rcases lt_or_eq_of_le (not_lt.mp fun hh => h (decide_eq_true hh)) with q | q
        · exact .inl q
        · exact .inr ⟨q.symm, ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_sort {n : Nat} (f : Fin n → EReal) (l : List (Fin n)) (hl : l.Pairwise (· < ·)) :
    (stableSort (greater f) l).Pairwise (Ahead f) := by
  induction l with
  | nil => exact List.Pairwise.nil
  | cons a l ih =>
    rw [List.pairwise_cons] at hl
    unfold stableSort
    exact pairwise_insert f a _ (fun b hb => hl.1 b ((perm_stableSort _ l).mem_iff.mp hb)) (ih hl.2)

/-- The position of the value that comes `k`-th among `f`, equal values in the order of their positions. -/
def top {n : Nat} (f : Fin n → EReal) (k : Fin n) : Fin n := sortedFrom (greater f) k

theorem top_ahead {n : Nat} (f : Fin n → EReal) (i j : Fin n) (hij : i < j) : Ahead f (top f i) (top f j) := by
  have hp : ∀ a b : Fin (sortPositions n (greater f)).length, a < b →
      Ahead f ((sortPositions n (greater f)).get a) ((sortPositions n (greater f)).get b) :=
    List.pairwise_iff_get.mp (pairwise_sort f (List.finRange n) (List.pairwise_lt_finRange n))
  unfold top sortedFrom
  exact hp _ _ (by simp only [Fin.lt_def, Fin.val_cast]; exact hij)

theorem top_surjective {n : Nat} (f : Fin n → EReal) : Function.Surjective (top f) := sortedFrom_surjective _

theorem top_injective {n : Nat} (f : Fin n → EReal) : Function.Injective (top f) := sortedFrom_injective _

/-- The first comes ahead of every other. -/
theorem first_ahead (f : Fin 4 → EReal) (h : Fin 4) (hh : h ≠ top f 0) : Ahead f (top f 0) h := by
  obtain ⟨k, rfl⟩ := top_surjective f h
  exact top_ahead f 0 k (Fin.pos_of_ne_zero fun e => hh (by rw [e]))

/-- The second comes ahead of every other but the first. -/
theorem second_ahead (f : Fin 4 → EReal) (h : Fin 4) (h0 : h ≠ top f 0) (h1 : h ≠ top f 1) : Ahead f (top f 1) h := by
  obtain ⟨k, rfl⟩ := top_surjective f h
  refine top_ahead f 1 k ?_
  have a : k ≠ 0 := fun e => h0 (by rw [e])
  have b : k ≠ 1 := fun e => h1 (by rw [e])
  have q : ∀ k : Fin 4, k ≠ 0 → k ≠ 1 → 1 < k := by decide
  exact q k a b

theorem first_le (f : Fin 4 → EReal) (h : Fin 4) : f h ≤ f (top f 0) := by
  by_cases e : h = top f 0
  · rw [e]
  · exact (first_ahead f h e).le

theorem first_ne_second (f : Fin 4 → EReal) : top f 0 ≠ top f 1 := fun h => absurd (top_injective f h) (by decide)

/-- The host's top values of a row, and their positions. -/
theorem topK_apply {N k : Nat} (x : (⟨2, ![N, 4]⟩ : Shape).Idx → EReal) (h : (⟨2, ![N, 4]⟩ : Shape).Slices (fun _ => 0) ⟨2, ![N, k]⟩)
    (r : Fin N) (l : Fin k) (hk : l.val < 4) :
    (Host.topK (⟨2, ![N, k]⟩ : Shape) 1 (FloatOps.cmpfTotal (F := Ideal) (φ := .f32) .gt) x h).1 (ix2 r l)
        = x (ix2 r (top (fun e => x (ix2 r e)) ⟨l.val, hk⟩))
      ∧ (Host.topK (⟨2, ![N, k]⟩ : Shape) 1 (FloatOps.cmpfTotal (F := Ideal) (φ := .f32) .gt) x h).2 (ix2 r l)
        = BitVec.ofNat 32 (top (fun e => x (ix2 r e)) ⟨l.val, hk⟩).val := by
  have hj : (fun a : Fin 2 => (⟨0 + (ix2 r l (a.cast h.1.symm)).val,
      Nat.lt_of_lt_of_le (Nat.add_lt_add_left (ix2 r l _).isLt _) (h.2 a)⟩ : Fin ((⟨2, ![N, 4]⟩ : Shape).size a))) = ix2 r ⟨l.val, hk⟩ := by
    funext a
    apply Fin.ext
    match a with
    | ⟨0, _⟩ => exact Nat.zero_add _
    | ⟨1, _⟩ => exact Nat.zero_add _
  have al : ∀ e : Fin 4, (ix2 r (⟨l.val, hk⟩ : Fin 4)).along (s := ⟨2, ![N, 4]⟩) 1 e = ix2 r e := by
    intro e
    funext a
    match a with
    | ⟨0, _⟩ => rfl
    | ⟨1, _⟩ => rfl
  have sl : ∀ {α : Type} (y : (⟨2, ![N, 4]⟩ : Shape).Idx → α),
      extractStridedSlice ⟨2, ![N, k]⟩ (fun _ => 0) y h (ix2 r l) = y (ix2 r ⟨l.val, hk⟩) := fun y => congrArg y hj
  have srt : sortedFrom (n := 4) (fun a b => FloatOps.cmpfTotal (F := Ideal) (φ := .f32) .gt
      (x ((ix2 r (⟨l.val, hk⟩ : Fin 4)).along (s := ⟨2, ![N, 4]⟩) 1 a)) (x ((ix2 r (⟨l.val, hk⟩ : Fin 4)).along (s := ⟨2, ![N, 4]⟩) 1 b)) == 1#1)
      ⟨l.val, hk⟩ = top (fun e => x (ix2 r e)) ⟨l.val, hk⟩ := by
    unfold top
    congr 1
    funext a b
    rw [al, al]
    unfold greater
    show (BitVec.ofBool (decide (x (ix2 r b) < x (ix2 r a))) == 1#1) = _
    cases decide (x (ix2 r b) < x (ix2 r a)) <;> rfl
  have e1 := sl (Host.sort2 (⟨2, ![N, 4]⟩ : Shape) 1 (fun a b => FloatOps.cmpfTotal (F := Ideal) (φ := .f32) .gt a.1 b.1) x
    (iotaInDim ⟨2, ![N, 4]⟩ 32 1)).1
  have e2 := sl (Host.sort2 (⟨2, ![N, 4]⟩ : Shape) 1 (fun a b => FloatOps.cmpfTotal (F := Ideal) (φ := .f32) .gt a.1 b.1) x
    (iotaInDim ⟨2, ![N, 4]⟩ 32 1)).2
  constructor
  · refine Eq.trans (show _ = _ from rfl) (e1.trans ?_)
    show x ((ix2 r (⟨l.val, hk⟩ : Fin 4)).along (s := ⟨2, ![N, 4]⟩) 1 (sortedFrom (n := 4) _ ⟨l.val, hk⟩)) = _
    rw [← srt, al]
    rfl
  · refine Eq.trans (show _ = _ from rfl) (e2.trans ?_)
    rw [← srt]
    rfl

end Cert.Route

end
-- ==== Proof.Route.lean ====
module

public import proofs.«01_k».proof.Proof.TopTwo

@[expose] public section

noncomputable section

namespace Cert.Route

open Idealize.ShloMosaic

/-! ### Literals -/

theorem lit_bot : Ideal.ofBits .f32 0xFF800000#32 = (⊥ : EReal) := by simp [Ideal.ofBits, Ideal.ieee]
theorem lit_top : Ideal.ofBits .f32 0x7F800000#32 = (⊤ : EReal) := by simp [Ideal.ofBits, Ideal.ieee]
theorem lit_4 : Ideal.ofBits .f32 0x40800000#32 = ((4 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_20 : Ideal.ofBits .f32 0x41A00000#32 = ((20 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num

/-- The small number that the normalisations add is a positive real. -/
theorem lit_eps : ∃ e : ℝ, 0 < e ∧ Ideal.ofBits .f32 0x358637BD#32 = (e : EReal) := by
  refine ⟨_, ?_, by simp [Ideal.ofBits, Ideal.ieee, -EReal.coe_mul]; rfl⟩
  positivity

/-! ### Columns as numbers -/

/-- A column's number. -/
def col (n : Nat) : EReal := ((n : ℝ) : EReal)

theorem col_inj {m n : Nat} : col m = col n ↔ m = n := by simp [col]
theorem col_le {m n : Nat} : col m ≤ col n ↔ m ≤ n := by simp [col]
theorem col_lt {m n : Nat} : col m < col n ↔ m < n := by simp [col]

theorem col_sub_16 (n : Nat) : col (16 + n) - ((16 : ℝ) : EReal) = col n := by
  unfold col
  rw [← EReal.coe_sub]
  exact congrArg Real.toEReal (by push_cast; ring)
theorem col_mul_4 (n : Nat) : col n * ((4 : ℝ) : EReal) = col (4 * n) := by
  unfold col
  rw [← EReal.coe_mul]
  exact congrArg Real.toEReal (by push_cast; ring)
theorem col_next_mul_4 (n : Nat) : (col n + 1) * ((4 : ℝ) : EReal) = col (4 * n + 4) := by
  have h : col n + 1 = col (n + 1) := by simp [col]
  rw [h, col_mul_4]
  rfl

theorem sitofp_col (n : Nat) (hn : n < 2 ^ 31) : FloatOps.sitofp (F := Ideal) .f32 (BitVec.ofNat 32 n) = col n := by
  show (((BitVec.ofNat 32 n).toInt : ℝ) : EReal) = _
  have h : (BitVec.ofNat 32 n).toInt = (n : ℤ) := by
    rw [BitVec.toInt_eq_toNat_of_lt] <;> rw [BitVec.toNat_ofNat] <;> omega
  rw [h]; simp [col]

theorem sitofp_128 (x : Fin 128) : FloatOps.sitofp (F := Ideal) .f32 (BitVec.ofNat 32 x.val) = col x.val :=
  sitofp_col _ (by omega)
theorem sitofp_16 (x : Fin 16) : FloatOps.sitofp (F := Ideal) .f32 (BitVec.ofNat 32 x.val) = col x.val :=
  sitofp_col _ (by omega)

/-! ### Greatest value and first position -/

theorem fold_max {n : Nat} (f : Fin n → EReal) (i : Fin n) (h : ∀ j, f j ≤ f i) :
    Finset.fold max (Ideal.ofBits .f32 0xFF800000#32) f Finset.univ = f i := by
  rw [lit_bot]
  refine le_antisymm ((Finset.fold_max_le _).mpr ⟨bot_le, fun j _ => h j⟩) ?_
  exact (Finset.le_fold_max _).mpr (.inr ⟨i, Finset.mem_univ _, le_rfl⟩)

/-- The least column whose value is `v`, as the body takes it. -/
theorem fold_min_first (m : Fin 128 → EReal) (v : EReal) (i : Fin 128) (hi : m i = v) (hlt : ∀ x < i, m x ≠ v) :
    Finset.fold min (Ideal.ofBits .f32 0x7F800000#32)
      (fun x => if m x = v then col x.val else Ideal.ofBits .f32 0x44000000#32) Finset.univ = col i.val := by
  rw [lit_top, lit_512]
  refine le_antisymm ((Finset.fold_min_le _).mpr (.inr ⟨i, Finset.mem_univ _, ?_⟩)) ((Finset.le_fold_min _).mpr ⟨le_top, fun x _ => ?_⟩)
  · rw [if_pos hi]
  · split
    · rename_i h
      exact col_le.mpr (not_lt.mp fun hh => hlt x hh h)
    · have : ((512 : ℝ) : EReal) = col 512 := by simp [col]
      rw [this]; exact col_le.mpr (by omega)

/-! ### Four columns from `b`, all others masked -/

section four

variable (ℓ : Fin 128 → EReal) (b : Nat) (hb : b + 4 ≤ 128)

/-- The row with every column but the four from `b` masked. -/
def mask (x : Fin 128) : EReal := if b ≤ x.val ∧ x.val < b + 4 then ℓ x else ⊥

/-- The four columns from `b`. -/
def four (e : Fin 4) : EReal := ℓ ⟨b + e.val, by omega⟩

theorem mask_four (e : Fin 4) : mask ℓ b ⟨b + e.val, by omega⟩ = four ℓ b hb e := by
  unfold mask four
  exact if_pos ⟨by simp, by simp⟩

theorem mask_cases (x : Fin 128) : mask ℓ b x = ⊥ ∨ ∃ e : Fin 4, x = ⟨b + e.val, by omega⟩ := by
  by_cases h : b ≤ x.val ∧ x.val < b + 4
  · exact .inr ⟨⟨x.val - b, by omega⟩, Fin.ext (by simp; omega)⟩
  · exact .inl (if_neg h)

variable (hbot : ∀ e, ⊥ < four ℓ b hb e)

include hbot

theorem max_first : Finset.fold max (Ideal.ofBits .f32 0xFF800000#32) (mask ℓ b) Finset.univ
    = four ℓ b hb (top (four ℓ b hb) 0) := by
  rw [← mask_four]
  refine fold_max _ _ fun x => ?_
  rcases mask_cases ℓ b hb x with h | ⟨e, rfl⟩
  · rw [h]; exact bot_le
  · rw [mask_four, mask_four]; exact first_le _ e

theorem min_first : Finset.fold min (Ideal.ofBits .f32 0x7F800000#32)
    (fun x => if mask ℓ b x = four ℓ b hb (top (four ℓ b hb) 0) then col x.val else Ideal.ofBits .f32 0x44000000#32) Finset.univ
    = col (b + (top (four ℓ b hb) 0).val) := by
  refine fold_min_first (mask ℓ b) _ ⟨b + (top (four ℓ b hb) 0).val, by omega⟩ (mask_four ℓ b hb _) fun x hx => ?_
  rcases mask_cases ℓ b hb x with h | ⟨e, rfl⟩
  · rw [h]; exact (hbot _).ne
  · rw [mask_four]
    have hlt : e < top (four ℓ b hb) 0 := by
      have := Fin.lt_def.mp hx; simp at this; exact this
    rcases first_ahead (four ℓ b hb) e hlt.ne with h | ⟨_, h⟩
    · exact h.ne
    · exact absurd h hlt.asymm

/-- The masked row with its greatest column masked as well. -/
def mask2 (x : Fin 128) : EReal := if col x.val = col (b + (top (four ℓ b hb) 0).val) then ⊥ else mask ℓ b x

omit hbot in
theorem mask2_four (e : Fin 4) (he : e ≠ top (four ℓ b hb) 0) : mask2 ℓ b hb ⟨b + e.val, by omega⟩ = four ℓ b hb e := by
  unfold mask2
  rw [if_neg, mask_four]
  rw [col_inj]
  exact fun h => he (Fin.ext (by simp at h; exact h))

omit hbot in
theorem mask2_cases (x : Fin 128) : mask2 ℓ b hb x = ⊥ ∨ ∃ e : Fin 4, e ≠ top (four ℓ b hb) 0 ∧ x = ⟨b + e.val, by omega⟩ := by
  by_cases h : col x.val = col (b + (top (four ℓ b hb) 0).val)
  · exact .inl (if_pos h)
  · rcases mask_cases ℓ b hb x with h' | ⟨e, rfl⟩
    · exact .inl ((if_neg h).trans h')
    · exact .inr ⟨e, fun he => h (by rw [he]), rfl⟩

theorem max_second : Finset.fold max (Ideal.ofBits .f32 0xFF800000#32) (mask2 ℓ b hb) Finset.univ
    = four ℓ b hb (top (four ℓ b hb) 1) := by
  have hne := (first_ne_second (four ℓ b hb)).symm
  rw [← mask2_four ℓ b hb _ hne]
  refine fold_max _ _ fun x => ?_
  rcases mask2_cases ℓ b hb x with h | ⟨e, he, rfl⟩
  · rw [h]; exact bot_le
  · rw [mask2_four ℓ b hb _ he, mask2_four ℓ b hb _ hne]
    by_cases h1 : e = top (four ℓ b hb) 1
    · rw [h1]
    · exact (second_ahead _ e he h1).le

theorem min_second : Finset.fold min (Ideal.ofBits .f32 0x7F800000#32)
    (fun x => if mask2 ℓ b hb x = four ℓ b hb (top (four ℓ b hb) 1) then col x.val else Ideal.ofBits .f32 0x44000000#32) Finset.univ
    = col (b + (top (four ℓ b hb) 1).val) := by
  have hne := (first_ne_second (four ℓ b hb)).symm
  refine fold_min_first (mask2 ℓ b hb) _ ⟨b + (top (four ℓ b hb) 1).val, by omega⟩ (mask2_four ℓ b hb _ hne) fun x hx => ?_
  rcases mask2_cases ℓ b hb x with h | ⟨e, he, rfl⟩
  · rw [h]; exact (hbot _).ne
  · rw [mask2_four ℓ b hb _ he]
    have hlt : e < top (four ℓ b hb) 1 := by
      have := Fin.lt_def.mp hx; simp at this; exact this
    rcases second_ahead (four ℓ b hb) e he hlt.ne with h | ⟨_, h⟩
    · exact h.ne
    · exact absurd h hlt.asymm

end four

/-! ### The gates of a row -/

/-- The chosen group's probability, from the four groups' logits. -/
def share (G : Fin 4 → EReal) : EReal := Ideal.div 1 (∑ h : Fin 4, Ideal.exp (G h - G (top G 0)))

/-- The second expert's weight relative to the first's, from the logits of a group's experts. -/
def rel (E : Fin 4 → EReal) : EReal := Ideal.exp (E (top E 1) - E (top E 0))

/-- The gate of expert `c`, from the groups' logits and the experts' logits by group. -/
def gate (G : Fin 4 → EReal) (E : Fin 4 → Fin 4 → EReal) (c : Fin 16) : EReal :=
  (if c.val = 4 * (top G 0).val + (top (E (top G 0)) 0).val then Ideal.div (share G) (1 + rel (E (top G 0))) else 0)
    + (if c.val = 4 * (top G 0).val + (top (E (top G 0)) 1).val
        then Ideal.div (share G) (1 + rel (E (top G 0))) * rel (E (top G 0)) else 0)

theorem exp_real (r : ℝ) : Ideal.exp (r : EReal) = (Real.exp r : EReal) := rfl

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The same gate from softmaxes over the groups and over the two chosen experts. -/
theorem softmax_gate (G : Fin 4 → ℝ) (E : Fin 4 → ℝ) (g : Fin 4) (e0 e1 : Fin 4) :
    Ideal.div (Ideal.exp ((E e0 : EReal) - E e0)) (Ideal.exp ((E e0 : EReal) - E e0) + Ideal.exp ((E e1 : EReal) - E e0))
        * Ideal.div (Ideal.exp ((G g : EReal) - G g)) (∑ h, Ideal.exp ((G h : EReal) - G g))
      = Ideal.div (Ideal.div 1 (∑ h, Ideal.exp ((G h : EReal) - G g))) (1 + Ideal.exp ((E e1 : EReal) - E e0))
    ∧ Ideal.div (Ideal.exp ((E e1 : EReal) - E e0)) (Ideal.exp ((E e0 : EReal) - E e0) + Ideal.exp ((E e1 : EReal) - E e0))
        * Ideal.div (Ideal.exp ((G g : EReal) - G g)) (∑ h, Ideal.exp ((G h : EReal) - G g))
      = Ideal.div (Ideal.div 1 (∑ h, Ideal.exp ((G h : EReal) - G g))) (1 + Ideal.exp ((E e1 : EReal) - E e0))
        * Ideal.exp ((E e1 : EReal) - E e0) := by
  have one : (1 : EReal) = ((1 : ℝ) : EReal) := by norm_cast
  simp only [← EReal.coe_sub, exp_real, sum_real, sub_self, Real.exp_zero, one, ← EReal.coe_add]
  have hs : (∑ h, Real.exp (G h - G g)) ≠ 0 := (Finset.sum_pos (fun _ _ => Real.exp_pos _) ⟨0, Finset.mem_univ _⟩).ne'
  have ht : (1 + Real.exp (E e1 - E e0)) ≠ 0 := by positivity
  rw [div_real _ _ ht, div_real _ _ ht, div_real _ _ hs, div_real _ _ ht, ← EReal.coe_mul, ← EReal.coe_mul, ← EReal.coe_mul]
  constructor
  · congr 1; field_simp
  · congr 1; field_simp

end Cert.Route

end
-- ==== Proof.MergeRow.lean ====
module

public import proofs.«01_k».proof.Proof.Route

@[expose] public section

noncomputable section

namespace Cert.Merge

open Idealize.ShloMosaic Cert.Route

/-! ## The merge of one token, as a function of the token's row and the weights -/

/-- A row divided by its root mean square, scaled by `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The logistic function. -/
def logistic (a : EReal) : EReal := Ideal.div 1 (1 + Ideal.exp (0 - a))

/-- One branch: its gate times its projected output. -/
def branch (h : Fin 1024 → EReal) (wg : Fin 1024 → EReal) (bg : EReal) (o wb : Fin 512 → EReal) : EReal :=
  logistic (∑ j, h j * wg j + bg) * ∑ j, o j * wb j

/-- The three gated branches added up, at lane `k`. -/
def mixed (x gm : Fin 1024 → EReal) (oa ob oc : Fin 512 → EReal) (wg : Fin 1024 → Fin 3072 → EReal) (bg : Fin 3072 → EReal)
    (wb : Fin 3 → Fin 512 → Fin 1024 → EReal) (k : Fin 1024) : EReal :=
  branch (rms x gm) (fun j => wg j ⟨k.val, by omega⟩) (bg ⟨k.val, by omega⟩) oa (fun j => wb 0 j k)
    + branch (rms x gm) (fun j => wg j ⟨1024 + k.val, by omega⟩) (bg ⟨1024 + k.val, by omega⟩) ob (fun j => wb 1 j k)
    + branch (rms x gm) (fun j => wg j ⟨2048 + k.val, by omega⟩) (bg ⟨2048 + k.val, by omega⟩) oc (fun j => wb 2 j k)

/-- The token's stream after the merge, at lane `l`. -/
def stream (x gm : Fin 1024 → EReal) (oa ob oc : Fin 512 → EReal) (wg : Fin 1024 → Fin 3072 → EReal) (bg : Fin 3072 → EReal)
    (wb : Fin 3 → Fin 512 → Fin 1024 → EReal) (wo : Fin 1024 → Fin 1024 → EReal) (l : Fin 1024) : EReal :=
  x l + ∑ k, mixed x gm oa ob oc wg bg wb k * wo k l

/-- Every lane of a normalised row is a real number when the scale is, whatever the row holds. -/
theorem rms_real (x g : Fin 1024 → EReal) (hg : ∀ k, ∃ a : ℝ, g k = a) (k : Fin 1024) : ∃ a : ℝ, rms x g k = a := by
  obtain ⟨γ, hγ⟩ := hg k
  obtain ⟨e, he, hl⟩ := lit_eps
  unfold rms
  rw [lit_1024, hl, hγ]
  by_cases h : ∀ j, ∃ a : ℝ, x j = a
  · choose a ha using h
    simp only [ha, ← EReal.coe_mul, sum_real]
    rw [div_real _ _ (by norm_num), ← EReal.coe_add]
    have hs : 0 ≤ ∑ j, a j * a j := Finset.sum_nonneg fun j _ => mul_self_nonneg _
    have hp : 0 < (∑ j, a j * a j) / 1024 + e := by positivity
    have hr : Ideal.rsqrt (((∑ j, a j * a j) / 1024 + e : ℝ) : EReal)
        = (((Real.sqrt ((∑ j, a j * a j) / 1024 + e))⁻¹ : ℝ) : EReal) := by
      show (if _ < (0 : ℝ) then (⊥ : EReal) else if _ = (0 : ℝ) then ⊤ else _) = _
      rw [if_neg hp.le.not_gt, if_neg hp.ne']
    rw [hr, ← EReal.coe_mul, ← EReal.coe_mul]
    exact ⟨_, rfl⟩
  · push Not at h
    obtain ⟨j, hj⟩ := h
    have hsq : ∀ y : EReal, 0 ≤ y * y := by
      intro y
      induction y using EReal.rec with
      | bot => simp
      | top => simp
      | coe a => rw [← EReal.coe_mul]; exact_mod_cast mul_self_nonneg a
    have ht : x j * x j = ⊤ := by
      revert hj
      induction x j using EReal.rec with
      | bot => simp
      | top => simp
      | coe a => intro hj; exact absurd rfl (hj a)
    have hsum : ∑ j, x j * x j = ⊤ := top_le_iff.mp (ht ▸ Finset.single_le_sum (fun i _ => hsq (x i)) (Finset.mem_univ j))
    have hd : Ideal.div ⊤ ((1024 : ℝ) : EReal) = ⊤ := by
      unfold Ideal.div
      rw [if_neg (by simp), ← EReal.coe_inv]
      exact EReal.top_mul_of_pos (by exact_mod_cast (by norm_num : (0 : ℝ) < 1024⁻¹))
    rw [hsum, hd, EReal.top_add_of_ne_bot (EReal.coe_ne_bot _)]
    refine ⟨0, ?_⟩
    show x k * 0 * _ = _
    simp

/-- A logit is a real number when its operands are. -/
theorem logit_real (h w : Fin 1024 → EReal) (b : EReal) (hh : ∀ k, ∃ a : ℝ, h k = a) (hw : ∀ k, ∃ a : ℝ, w k = a)
    (hb : ∃ a : ℝ, b = a) : ∃ a : ℝ, ∑ k, h k * w k + b = a := by
  choose α hα using hh
  choose β hβ using hw
  obtain ⟨γ, rfl⟩ := hb
  simp only [hα, hβ, ← EReal.coe_mul, sum_real, ← EReal.coe_add]
  exact ⟨_, rfl⟩

/-- A real operand less itself adds nothing to a logit: the corrections of a product of rounded operands. -/
theorem corrections (h w : Fin 1024 → EReal) (b : EReal) (hh : ∀ k, ∃ a : ℝ, h k = a) (hw : ∀ k, ∃ a : ℝ, w k = a) :
    ∑ k, h k * w k + ∑ k, (h k - h k) * w k + ∑ k, h k * (w k - w k) + b = ∑ k, h k * w k + b := by
  choose α hα using hh
  choose β hβ using hw
  simp [hα, hβ, ← EReal.coe_sub]

end Cert.Merge

end
-- ==== Proof.MergePay.lean ====
module

public import proofs.«01_k».proof.Proof.Gen.KernelIdeal.Frame
public import proofs.«01_k».proof.Proof.MergeRow

@[expose] public section

noncomputable section

namespace Cert.KernelIdeal.Hand

open Cert.KernelIdeal Cert.KernelIdeal.Gen Idealize.ShloMosaic Cert.Route Cert.Merge

theorem hz : (![0, 0] : Fin 2 → Nat) = fun _ => 0 := funext fun a => by fin_cases a <;> rfl

section body

variable (x0 : Vec Ideal S512x1024 .f32) (x1 x2 x3 : Vec Ideal S512x512 .bf16) (x4 : Vec Ideal S1x1024 .f32)
  (x5 : Vec Ideal S1024x3072 .bf16) (x6 : Vec Ideal S1x3072 .f32) (x7 : Vec Ideal S3x512x1024 .bf16)
  (x8 : Vec Ideal S1024x1024 .bf16) (x9 : Vec Ideal S1x1024 .f32) (x10 x11 : Vec Ideal S1024x128 .bf16) (x12 : Vec Ideal S1x128 .f32)

/-- The stream of row `r` of the blocks, at lane `l`. -/
def rowStream (r : Fin 512) (l : Fin 1024) : EReal :=
  stream (fun k => x0 (ix2 r k)) (fun k => x4 (ix2 0 k)) (fun k => x1 (ix2 r k)) (fun k => x2 (ix2 r k)) (fun k => x3 (ix2 r k))
    (fun j k => x5 (ix2 j k)) (fun k => x6 (ix2 0 k)) (fun b j k => x7 (ix3 b j k)) (fun k l => x8 (ix2 k l)) l

theorem out_stream (r : Fin 512) (l : Fin 1024) :
    out0_13 x0 x1 x2 x3 x4 x5 x6 x7 x8 x9 x10 x11 x12 (ix2 r l) = rowStream x0 x1 x2 x3 x4 x5 x6 x7 x8 r l := by
  unfold_out out0_13
  rw [View.canon_unit_zero hz]
  simp only [View.ld_unit_zero (S := S512x1024) hz, View.ld_unit_zero (S := S1x1024) hz, View.ld_unit_zero (S := S512x512) hz, View.ld_unit_zero (S := S1024x1024) hz]
  unfold_payloads
  pointwise
  rfl

/-- The normalised row `r`. -/
def rowHidden (r : Fin 512) : Fin 1024 → EReal := rms (rowStream x0 x1 x2 x3 x4 x5 x6 x7 x8 r) (fun k => x9 (ix2 0 k))

theorem out_hidden (r : Fin 512) (l : Fin 1024) :
    out0_14 x0 x1 x2 x3 x4 x5 x6 x7 x8 x9 x10 x11 x12 (ix2 r l) = rowHidden x0 x1 x2 x3 x4 x5 x6 x7 x8 x9 r l := by
  unfold_out out0_14
  rw [View.canon_unit_zero hz]
  simp only [View.ld_unit_zero (S := S512x1024) hz, View.ld_unit_zero (S := S1x1024) hz, View.ld_unit_zero (S := S512x512) hz, View.ld_unit_zero (S := S1024x1024) hz]
  unfold_payloads
  pointwise
  rfl

/-- The logits that the body forms. -/
def logits : FVec Ideal S512x128 .f32 :=
  k0_pay14 (k0_pay30 x0 x1 x2 x3 x4 x5 x6 x7 x8 x9 x10 x11 x12) (k0_pay31 x0 x1 x2 x3 x4 x5 x6 x7 x8 x9 x10 x11 x12) (k0_pay32 x0 x1 x2 x3 x4 x5 x6 x7 x8 x9 x10 x11 x12) (k0_pay33 x0 x1 x2 x3 x4 x5 x6 x7 x8 x9 x10 x11 x12) (k0_pay29 x0 x1 x2 x3 x4 x5 x6 x7 x8 x9 x10 x11 x12) (View.ld x11 r0_13) (View.ld x12 r0_14)

theorem logits_apply (r : Fin 512) (l : Fin 128) :
    logits x0 x1 x2 x3 x4 x5 x6 x7 x8 x9 x10 x11 x12 (ix2 r l)
      = ∑ k, rowHidden x0 x1 x2 x3 x4 x5 x6 x7 x8 x9 r k * x10 (ix2 k l)
        + ∑ k, (rowHidden x0 x1 x2 x3 x4 x5 x6 x7 x8 x9 r k - rowHidden x0 x1 x2 x3 x4 x5 x6 x7 x8 x9 r k) * x10 (ix2 k l)
        + ∑ k, rowHidden x0 x1 x2 x3 x4 x5 x6 x7 x8 x9 r k * x11 (ix2 k l) + x12 (ix2 0 l) := by
  unfold logits k0_pay33 k0_pay32 k0_pay31 k0_pay30 k0_pay29 k0_pay28 k0_pay27 k0_pay26 k0_pay25 k0_pay24
  simp only [View.ld_unit_zero (S := S512x1024) hz, View.ld_unit_zero (S := S1x1024) hz, View.ld_unit_zero (S := S512x512) hz, View.ld_unit_zero (S := S1024x1024) hz, View.ld_unit_zero (S := S1024x128) hz, View.ld_unit_zero (S := S1x128) hz]
  unfold_payloads
  pointwise
  rfl

end body

/-! ## The routing -/

theorem mask_select (a b : Prop) [Decidable a] [Decidable b] (x y : EReal) :
    Scalar.select (IntOp.andi (BitVec.ofBool (decide a)) (BitVec.ofBool (decide b))) x y = if a ∧ b then x else y := by
  by_cases ha : a <;> by_cases hb : b <;> simp [ha, hb, Scalar.select, IntOp.andi]

section route

variable (a1 a2 : FVec Ideal S512x1024 .bf16) (a3 : FVec Ideal S512x128 .f32) (a4 : FVec Ideal S1024x128 .bf16)
  (a5 : FVec Ideal S512x128 .f32) (a6 : Vec Ideal S1024x128 .bf16) (a7 : Vec Ideal S1x128 .f32) (L : FVec Ideal S512x128 .f32)
  (hL : k0_pay14 a1 a2 a3 a4 a5 a6 a7 = L) (r : Fin 512)

/-- Row `r` of the logits. -/
def rowOf (x : Fin 128) : EReal := L (ix2 r x)

/-- The groups' logits. -/
abbrev groups : Fin 4 → EReal := four (rowOf L r) 16 (by omega)

/-- The experts' logits by group. -/
abbrev experts (g : Fin 4) : Fin 4 → EReal := four (rowOf L r) (4 * g.val) (by omega)

variable (hG : ∀ h, ⊥ < groups L r h)

/-- The logits that the body takes the group's maximum of. -/
def groupSel (x : Fin 128) : EReal :=
  Scalar.select (IntOp.andi (BitVec.ofBool (decide (Ideal.ofBits .f32 0x41800000#32 ≤ FloatOps.sitofp (F := Ideal) .f32 (BitVec.ofNat 32 x.val))))
      (BitVec.ofBool (decide (FloatOps.sitofp (F := Ideal) .f32 (BitVec.ofNat 32 x.val) < Ideal.ofBits .f32 0x41A00000#32))))
      (L (ix2 r x)) (Ideal.ofBits .f32 0xFF800000#32)

theorem groupSel_eq : groupSel L r = mask (rowOf L r) 16 := by
  funext x
  have h16 : ((16 : ℝ) : EReal) = col 16 := by simp [col]
  have h20 : ((20 : ℝ) : EReal) = col 20 := by simp [col]
  unfold groupSel
  rw [mask_select, sitofp_128, lit_16, lit_20, lit_bot, h16, h20]
  simp only [col_le, col_lt]
  rfl

include hL hG

theorem share_apply (hfin : ∀ h, ∃ a : ℝ, groups L r h = a) : k0_pay18 a1 a2 a3 a4 a5 a6 a7 (ix2 r 0) = share (groups L r) := by
  unfold k0_pay18 k0_pay17 k0_pay16 k0_pay15
  simp only [hL]
  pointwise
  show Ideal.div 1 (∑ x : Fin 128, Ideal.exp (groupSel L r x - Finset.fold max (Ideal.ofBits .f32 0xFF800000#32) (groupSel L r) Finset.univ)) = _
  rw [groupSel_eq, max_first _ _ (by omega) hG]
  unfold share
  congr 1
  obtain ⟨M, hM⟩ := hfin (top (groups L r) 0)
  refine (Finset.sum_subset (Finset.subset_univ (Finset.univ.map ⟨fun e : Fin 4 => (⟨16 + e.val, by omega⟩ : Fin 128),
    fun a b h => by simpa [Fin.ext_iff] using h⟩)) fun x _ hx => ?_).symm.trans ?_
  · rcases mask_cases (rowOf L r) 16 (by omega) x with h | ⟨e, rfl⟩
    · rw [h]
      show Ideal.exp (⊥ - groups L r (top (groups L r) 0)) = 0
      rw [hM]; rfl
    · exact absurd (Finset.mem_map.mpr ⟨e, Finset.mem_univ _, rfl⟩) hx
  · rw [Finset.sum_map]
    refine Finset.sum_congr rfl fun e _ => ?_
    exact congrArg (fun y => Ideal.exp (y - _)) (mask_four (rowOf L r) 16 (by omega) e)

theorem group_apply : k0_pay19 a1 a2 a3 a4 a5 a6 a7 (ix2 r 0) = col (top (groups L r) 0).val := by
  unfold k0_pay19 k0_pay17 k0_pay16 k0_pay15
  simp only [hL]
  pointwise
  show Finset.fold min (Ideal.ofBits .f32 0x7F800000#32) (fun x : Fin 128 =>
      if groupSel L r x = Finset.fold max (Ideal.ofBits .f32 0xFF800000#32) (groupSel L r) Finset.univ
        then FloatOps.sitofp (F := Ideal) .f32 (BitVec.ofNat 32 x.val) else Ideal.ofBits .f32 0x44000000#32) Finset.univ
    - Ideal.ofBits .f32 0x41800000#32 = _
  rw [groupSel_eq, max_first _ _ (by omega) hG]
  simp only [sitofp_128]
  rw [min_first _ _ (by omega) hG, lit_16]
  exact col_sub_16 _

theorem inGroup_apply (x : Fin 128) : k0_pay20 a1 a2 a3 a4 a5 a6 a7 (ix2 r x)
    = BitVec.ofBool (decide (4 * (top (groups L r) 0).val ≤ x.val)) := by
  unfold k0_pay20 k0_pay15
  have h := group_apply a1 a2 a3 a4 a5 a6 a7 L hL r hG
  generalize k0_pay19 a1 a2 a3 a4 a5 a6 a7 = y at h ⊢
  pointwise
  show BitVec.ofBool (decide (y (ix2 r 0) * Ideal.ofBits .f32 0x40800000#32 ≤ FloatOps.sitofp (F := Ideal) .f32 (BitVec.ofNat 32 x.val))) = _
  rw [h, sitofp_128, lit_4, col_mul_4]
  simp only [col_le]

theorem end_apply : k0_pay21 a1 a2 a3 a4 a5 a6 a7 (ix2 r 0) * (k0_pay22 (F := Ideal)) (ix2 r 0) = col (4 * (top (groups L r) 0).val + 4) := by
  unfold k0_pay21 k0_pay22
  have h := group_apply a1 a2 a3 a4 a5 a6 a7 L hL r hG
  generalize k0_pay19 a1 a2 a3 a4 a5 a6 a7 = y at h ⊢
  pointwise
  show (y (ix2 r 0) + 1) * Ideal.ofBits .f32 0x40800000#32 = _
  rw [h, lit_4]
  exact col_next_mul_4 _

omit hL hG

/-- The last steps of the body: the two greatest logits among four columns, and the weights at their places. -/
theorem gates_apply (p : Vec Ideal S512x1 .f32) (w : IVec S512x128 1) (y z : Vec Ideal S512x1 .f32) (b : Nat) (hb : b + 4 ≤ 128)
    (hw : ∀ x, w (ix2 r x) = BitVec.ofBool (decide (b ≤ x.val))) (hyz : y (ix2 r 0) * z (ix2 r 0) = col (b + 4))
    (hE : ∀ e, ⊥ < four (rowOf L r) b hb e) (c : Fin 16) :
    k0_pay23 L (k0_pay15 (F := Ideal)) p w y z (ix2 r c)
      = (if c.val = b + (top (four (rowOf L r) b hb) 0).val
            then Ideal.div (p (ix2 r 0)) (1 + rel (four (rowOf L r) b hb)) else 0)
          + (if c.val = b + (top (four (rowOf L r) b hb) 1).val
            then Ideal.div (p (ix2 r 0)) (1 + rel (four (rowOf L r) b hb)) * rel (four (rowOf L r) b hb) else 0) := by
  let f1 : Fin 128 → EReal := fun x => Scalar.select (IntOp.andi (w (ix2 r x)) (BitVec.ofBool
    (decide (FloatOps.sitofp (F := Ideal) .f32 (BitVec.ofNat 32 x.val) < y (ix2 r 0) * z (ix2 r 0))))) (L (ix2 r x)) (Ideal.ofBits .f32 0xFF800000#32)
  let m1 : EReal := Finset.fold max (Ideal.ofBits .f32 0xFF800000#32) f1 Finset.univ
  let i1 : EReal := Finset.fold min (Ideal.ofBits .f32 0x7F800000#32) (fun x : Fin 128 =>
      if f1 x = m1 then FloatOps.sitofp (F := Ideal) .f32 (BitVec.ofNat 32 x.val) else Ideal.ofBits .f32 0x44000000#32) Finset.univ
  let f2 : Fin 128 → EReal := fun x => if FloatOps.sitofp (F := Ideal) .f32 (BitVec.ofNat 32 x.val) = i1 then Ideal.ofBits .f32 0xFF800000#32 else f1 x
  let m2 : EReal := Finset.fold max (Ideal.ofBits .f32 0xFF800000#32) f2 Finset.univ
  let i2 : EReal := Finset.fold min (Ideal.ofBits .f32 0x7F800000#32) (fun x : Fin 128 =>
      if f2 x = m2 then FloatOps.sitofp (F := Ideal) .f32 (BitVec.ofNat 32 x.val) else Ideal.ofBits .f32 0x44000000#32) Finset.univ
  have e1 : f1 = mask (rowOf L r) b := by
    funext x
    show Scalar.select _ _ _ = _
    rw [hw, hyz, mask_select, sitofp_128, lit_bot]
    simp only [col_lt]
    rfl
  have em1 : m1 = four (rowOf L r) b hb (top (four (rowOf L r) b hb) 0) := by
    show Finset.fold max _ f1 _ = _
    rw [e1, max_first _ _ hb hE]
  have ei1 : i1 = col (b + (top (four (rowOf L r) b hb) 0).val) := by
    show Finset.fold min _ (fun x : Fin 128 => if f1 x = m1 then _ else _) _ = _
    rw [e1, em1]
    simp only [sitofp_128]
    exact min_first _ _ hb hE
  have e2 : f2 = mask2 (rowOf L r) b hb := by
    funext x
    show (if _ = i1 then _ else f1 x) = _
    rw [e1, ei1, sitofp_128, lit_bot]
    rfl
  have em2 : m2 = four (rowOf L r) b hb (top (four (rowOf L r) b hb) 1) := by
    show Finset.fold max _ f2 _ = _
    rw [e2, max_second _ _ hb hE]
  have ei2 : i2 = col (b + (top (four (rowOf L r) b hb) 1).val) := by
    show Finset.fold min _ (fun x : Fin 128 => if f2 x = m2 then _ else _) _ = _
    rw [e2, em2]
    simp only [sitofp_128]
    exact min_second _ _ hb hE
  unfold k0_pay23 k0_pay15
  pointwise
  show (if FloatOps.sitofp (F := Ideal) .f32 (BitVec.ofNat 32 c.val) = i1 then Ideal.div (p (ix2 r 0)) (1 + Ideal.exp (m2 - m1)) else 0)
    + (if FloatOps.sitofp (F := Ideal) .f32 (BitVec.ofNat 32 c.val) = i2 then Ideal.div (p (ix2 r 0)) (1 + Ideal.exp (m2 - m1)) * Ideal.exp (m2 - m1) else 0) = _
  rw [em1, em2, ei1, ei2, sitofp_16]
  simp only [col_inj]
  rfl

/-- The gates of row `r` from real logits. -/
theorem gate_apply (hfin : ∀ x : Fin 128, x.val < 20 → ∃ a : ℝ, rowOf L r x = a)
    (hL : k0_pay14 a1 a2 a3 a4 a5 a6 a7 = L) (c : Fin 16) :
    k0_pay23 L (k0_pay15 (F := Ideal)) (k0_pay18 a1 a2 a3 a4 a5 a6 a7) (k0_pay20 a1 a2 a3 a4 a5 a6 a7) (k0_pay21 a1 a2 a3 a4 a5 a6 a7)
        (k0_pay22 (F := Ideal)) (ix2 r c)
      = gate (groups L r) (experts L r) c := by
  have hf : ∀ h, ∃ a : ℝ, groups L r h = a := fun h => hfin _ (by show 16 + h.val < 20; omega)
  have hG : ∀ h, ⊥ < groups L r h := fun h => by obtain ⟨a, ha⟩ := hf h; rw [ha]; exact EReal.bot_lt_coe a
  have hE : ∀ g e, ⊥ < experts L r g e := fun g e => by
    obtain ⟨a, ha⟩ := hfin ⟨4 * g.val + e.val, by omega⟩ (by show 4 * g.val + e.val < 20; omega)
    show ⊥ < rowOf L r _
    rw [ha]; exact EReal.bot_lt_coe a
  rw [gates_apply L r _ _ _ _ (4 * (top (groups L r) 0).val) (by omega) (inGroup_apply a1 a2 a3 a4 a5 a6 a7 L hL r hG)
    (end_apply a1 a2 a3 a4 a5 a6 a7 L hL r hG) (hE _), share_apply a1 a2 a3 a4 a5 a6 a7 L hL r hG hf]
  rfl

end route

end Cert.KernelIdeal.Hand

end
-- ==== Proof.MergeSpec.lean ====
module

public import proofs.«01_k».proof.Proof.MergeRow
public import Idealize.ShloMosaic.Lib.Pointwise

@[expose] public section

noncomputable section

namespace Cert.Merge

open Idealize.ShloMosaic Cert.Route

/-! ## The merge of all tokens, as functions of the fourteen argument arrays -/

/-- The arguments of the merge. -/
structure Args where
  x : FVec Ideal ⟨3, ![8, 4096, 1024]⟩ .f32
  oa : FVec Ideal ⟨3, ![8, 4096, 512]⟩ .bf16
  ob : FVec Ideal ⟨3, ![8, 4096, 512]⟩ .bf16
  oc : FVec Ideal ⟨3, ![8, 4096, 512]⟩ .bf16
  normMix : FVec Ideal ⟨1, ![1024]⟩ .f32
  wBranch : FVec Ideal ⟨3, ![3, 512, 1024]⟩ .f32
  wGate : FVec Ideal ⟨2, ![1024, 3072]⟩ .f32
  bGate : FVec Ideal ⟨1, ![3072]⟩ .f32
  wOut : FVec Ideal ⟨2, ![1024, 1024]⟩ .f32
  normFfn : FVec Ideal ⟨1, ![1024]⟩ .f32
  wGroup : FVec Ideal ⟨2, ![1024, 4]⟩ .f32
  bGroup : FVec Ideal ⟨1, ![4]⟩ .f32
  wExpert : FVec Ideal ⟨2, ![1024, 16]⟩ .f32
  bExpert : FVec Ideal ⟨1, ![16]⟩ .f32

/-- The sequence and the place in it of token `t`. -/
abbrev bat (t : Fin 32768) : Fin 8 := ⟨t.val / 4096, by omega⟩
abbrev pos (t : Fin 32768) : Fin 4096 := ⟨t.val % 4096, by omega⟩

/-- Expert `e` of group `g` among the sixteen. -/
abbrev exp16 (g e : Fin 4) : Fin 16 := ⟨4 * g.val + e.val, by omega⟩

variable (A : Args)

/-- The stream of token `t`. -/
def streamOf (t : Fin 32768) (l : Fin 1024) : EReal :=
  stream (fun k => A.x (ix3 (bat t) (pos t) k)) (fun k => A.normMix (ix1 k)) (fun k => A.oa (ix3 (bat t) (pos t) k))
    (fun k => A.ob (ix3 (bat t) (pos t) k)) (fun k => A.oc (ix3 (bat t) (pos t) k))
    (fun j k => A.wGate (ix2 j k)) (fun k => A.bGate (ix1 k)) (fun b j k => A.wBranch (ix3 b j k)) (fun k l => A.wOut (ix2 k l)) l

/-- The normalised stream of token `t`. -/
def hiddenOf (t : Fin 32768) : Fin 1024 → EReal := rms (streamOf A t) (fun k => A.normFfn (ix1 k))

/-- The logits of the groups at token `t`. -/
def groupOf (t : Fin 32768) (g : Fin 4) : EReal := ∑ k, hiddenOf A t k * A.wGroup (ix2 k g) + A.bGroup (ix1 g)

/-- The logits of the experts of group `g` at token `t`. -/
def expertOf (t : Fin 32768) (g e : Fin 4) : EReal :=
  ∑ k, hiddenOf A t k * A.wExpert (ix2 k (exp16 g e)) + A.bExpert (ix1 (exp16 g e))

/-- The three results. -/
def resStream : FVec Ideal ⟨2, ![32768, 1024]⟩ .f32 := fun i => streamOf A (i 0) (i 1)
def resHidden : FVec Ideal ⟨2, ![32768, 1024]⟩ .bf16 := fun i => hiddenOf A (i 0) (i 1)
def resGate : FVec Ideal ⟨2, ![32768, 16]⟩ .f32 := fun i => gate (groupOf A (i 0)) (expertOf A (i 0)) (i 1)

/-- The last norm's gains and the router's weights and biases are real numbers. -/
structure Finite : Prop where
  norm : ∀ k, ∃ a : ℝ, A.normFfn (ix1 k) = a
  wGroup : ∀ k g, ∃ a : ℝ, A.wGroup (ix2 k g) = a
  bGroup : ∀ g, ∃ a : ℝ, A.bGroup (ix1 g) = a
  wExpert : ∀ k e, ∃ a : ℝ, A.wExpert (ix2 k e) = a
  bExpert : ∀ e, ∃ a : ℝ, A.bExpert (ix1 e) = a

variable {A}

theorem Finite.hidden (h : Finite A) (t : Fin 32768) (k : Fin 1024) : ∃ a : ℝ, hiddenOf A t k = a :=
  rms_real _ _ h.norm k

theorem Finite.groupReal (h : Finite A) (t : Fin 32768) (g : Fin 4) : ∃ a : ℝ, groupOf A t g = a :=
  logit_real _ (fun k => A.wGroup (ix2 k g)) _ (h.hidden t) (fun k => h.wGroup k g) (h.bGroup g)

theorem Finite.expertReal (h : Finite A) (t : Fin 32768) (g e : Fin 4) : ∃ a : ℝ, expertOf A t g e = a :=
  logit_real _ (fun k => A.wExpert (ix2 k (exp16 g e))) _ (h.hidden t) (fun k => h.wExpert k _) (h.bExpert _)

end Cert.Merge

end
-- ==== Proof.MergeValue.lean ====
module

public import proofs.«01_k».proof.Proof.MergePay
public import proofs.«01_k».proof.Proof.MergeSpec
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem
open Cert.Route Cert.Merge

variable (m : (ℓ : Loc nD τ sig) → Buf (Elt Ideal) ℓ)

/-! ## The call's arguments and the arrays that its host lines prepare -/

abbrev aX (c : Dev nD) : FVec Ideal S8x4096x1024 .f32 := m ((c : Thread nD τ).loc main_arg0)
abbrev aOa (c : Dev nD) : FVec Ideal S8x4096x512 .bf16 := m ((c : Thread nD τ).loc main_arg1)
abbrev aOb (c : Dev nD) : FVec Ideal S8x4096x512 .bf16 := m ((c : Thread nD τ).loc main_arg2)
abbrev aOc (c : Dev nD) : FVec Ideal S8x4096x512 .bf16 := m ((c : Thread nD τ).loc main_arg3)
abbrev aGm (c : Dev nD) : FVec Ideal S1024 .f32 := m ((c : Thread nD τ).loc main_arg4)
abbrev aWb (c : Dev nD) : FVec Ideal S3x512x1024 .f32 := m ((c : Thread nD τ).loc main_arg5)
abbrev aWg (c : Dev nD) : FVec Ideal S1024x3072 .f32 := m ((c : Thread nD τ).loc main_arg6)
abbrev aBg (c : Dev nD) : FVec Ideal S3072 .f32 := m ((c : Thread nD τ).loc main_arg7)
abbrev aWo (c : Dev nD) : FVec Ideal S1024x1024 .f32 := m ((c : Thread nD τ).loc main_arg8)
abbrev aGf (c : Dev nD) : FVec Ideal S1024 .f32 := m ((c : Thread nD τ).loc main_arg9)
abbrev aWrg (c : Dev nD) : FVec Ideal S1024x4 .f32 := m ((c : Thread nD τ).loc main_arg10)
abbrev aBrg (c : Dev nD) : FVec Ideal S4 .f32 := m ((c : Thread nD τ).loc main_arg11)
abbrev aWre (c : Dev nD) : FVec Ideal S1024x16 .f32 := m ((c : Thread nD τ).loc main_arg12)
abbrev aBre (c : Dev nD) : FVec Ideal S16 .f32 := m ((c : Thread nD τ).loc main_arg13)

/-- The router's weights side by side: the experts' columns, the groups', and zeros. -/
abbrev wide (c : Dev nD) : FVec Ideal S1024x128 .f32 :=
  concatenate S1024x128 1 [⟨S1024x16, aWre m c⟩, ⟨S1024x4, aWrg m c⟩, ⟨S1024x108, (broadcastInDim S1024x108 ![] bcast_S_S1024x108 (constant (F := Ideal) S_ .f32 0x00000000#32) : FVec Ideal S1024x108 .f32)⟩] concatenates_S1024x16_S1024x4_S1024x108_S1024x128_d1

/-- The router's biases, likewise. -/
abbrev wideBias (c : Dev nD) : FVec Ideal S128 .f32 :=
  concatenate S128 0 [⟨S16, aBre m c⟩, ⟨S4, aBrg m c⟩, ⟨S108, (broadcastInDim S108 ![] bcast_S_S108 (constant (F := Ideal) S_ .f32 0x00000000#32) : FVec Ideal S108 .f32)⟩] concatenates_S16_S4_S108_S128_d0

theorem V_v4 (c : Dev nD) : V m c main_v4 = (broadcastInDim S1x128 ![1] bcast_S128_S1x128_1 (wideBias m c) : FVec Ideal S1x128 .f32) := by
  unfold V hostOps0
  after_results
  rfl

theorem V_v5 (c : Dev nD) : V m c main_v5 = truncf .bf16 (wide m c) bitsLt_bf16_f32 := by
  unfold V hostOps0
  after_results
  rfl

theorem V_v8 (c : Dev nD) : V m c main_v8
    = truncf .bf16 (subf (wide m c) (extf .f32 (truncf .bf16 (wide m c) bitsLt_bf16_f32) bitsLt_bf16_f32)) bitsLt_bf16_f32 := by
  unfold V hostOps0
  after_results
  rfl

theorem V_v9 (c : Dev nD) : V m c main_v9 = shapeCast S32768x1024 (aX m c) shapeCasts_S8x4096x1024_S32768x1024 := by
  unfold V hostOps0
  after_results
  rfl

theorem V_v10 (c : Dev nD) : V m c main_v10 = shapeCast S32768x512 (aOa m c) shapeCasts_S8x4096x512_S32768x512 := by
  unfold V hostOps0
  after_results
  rfl

theorem V_v11 (c : Dev nD) : V m c main_v11 = shapeCast S32768x512 (aOb m c) shapeCasts_S8x4096x512_S32768x512 := by
  unfold V hostOps0
  after_results
  rfl

theorem V_v12 (c : Dev nD) : V m c main_v12 = shapeCast S32768x512 (aOc m c) shapeCasts_S8x4096x512_S32768x512 := by
  unfold V hostOps0
  after_results
  rfl

theorem V_v13 (c : Dev nD) : V m c main_v13 = (broadcastInDim S1x1024 ![1] bcast_S1024_S1x1024_1 (aGm m c) : FVec Ideal S1x1024 .f32) := by
  unfold V hostOps0
  after_results

theorem V_v15 (c : Dev nD) : V m c main_v15 = (broadcastInDim S1x3072 ![1] bcast_S3072_S1x3072_1 (aBg m c) : FVec Ideal S1x3072 .f32) := by
  unfold V hostOps0
  after_results

theorem V_v18 (c : Dev nD) : V m c main_v18 = (broadcastInDim S1x1024 ![1] bcast_S1024_S1x1024_1 (aGf m c) : FVec Ideal S1x1024 .f32) := by
  unfold V hostOps0
  after_results

theorem V_v14 (c : Dev nD) : V m c main_v14 = truncf .bf16 (aWg m c) bitsLt_bf16_f32 := by
  unfold V hostOps0
  after_results

theorem V_v16 (c : Dev nD) : V m c main_v16 = truncf .bf16 (aWb m c) bitsLt_bf16_f32 := by
  unfold V hostOps0
  after_results

theorem V_v17 (c : Dev nD) : V m c main_v17 = truncf .bf16 (aWo m c) bitsLt_bf16_f32 := by
  unfold V hostOps0
  after_results

theorem coord0 : ∀ t : Fin cfg0.N, (grid0.coords t 0).val = t.val := by decide +kernel
theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index13 : ∀ t : Fin cfg0.N, win0_13.index t 0 = t.val ∧ win0_13.index t 1 = 0 := by decide +kernel
theorem index14 : ∀ t : Fin cfg0.N, win0_14.index t 0 = t.val ∧ win0_14.index t 1 = 0 := by decide +kernel
theorem index15 : ∀ t : Fin cfg0.N, win0_15.index t 0 = t.val ∧ win0_15.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel
theorem index7 : ∀ t : Fin cfg0.N, win0_7.index t 0 = 0 ∧ win0_7.index t 1 = 0 ∧ win0_7.index t 2 = 0 := by decide +kernel

/-- Row `r` of point `t`'s block of tokens. -/
abbrev tok (t : Fin cfg0.N) (r : Fin 512) : Fin 32768 := ⟨t.val * 512 + r.val, by have := t.isLt; have : cfg0.N = 64 := N_0; omega⟩

theorem v9_apply (c : Dev nD) (t : Fin 32768) (l : Fin 1024) :
    V m c main_v9 (ix2 t l) = aX m c (ix3 (bat t) (pos t) l) := by
  rw [V_v9]
  pointwise

theorem iblk0 (c : Dev nD) (t : Fin cfg0.N) (r : Fin 512) (l : Fin 1024) :
    (iblk m c 0 t : Vec Ideal S512x1024 .f32) (ix2 r l) = aX m c (ix3 (bat (tok t r)) (pos (tok t r)) l) := by
  rw [← v9_apply]
  unfold iblk
  rw [View.read_apply]
  show V m c main_v9 _ = _
  congr 1
  funext a
  apply Fin.ext
  have hi := index0 t
  match a with
  | ⟨0, _⟩ => show win0_0.index t 0 * 512 + 1 * r.val = t.val * 512 + r.val; rw [hi.1]; omega
  | ⟨1, _⟩ => show win0_0.index t 1 * 1024 + 1 * l.val = l.val; rw [hi.2]; omega

theorem v10_apply (c : Dev nD) (t : Fin 32768) (l : Fin 512) :
    V m c main_v10 (ix2 t l) = aOa m c (ix3 (bat t) (pos t) l) := by
  rw [V_v10]
  pointwise

theorem iblk1 (c : Dev nD) (t : Fin cfg0.N) (r : Fin 512) (l : Fin 512) :
    (iblk m c 1 t : Vec Ideal S512x512 .bf16) (ix2 r l) = aOa m c (ix3 (bat (tok t r)) (pos (tok t r)) l) := by
  rw [← v10_apply]
  unfold iblk
  rw [View.read_apply]
  show V m c main_v10 _ = _
  congr 1
  funext a
  apply Fin.ext
  have hi := index1 t
  match a with
  | ⟨0, _⟩ => show win0_1.index t 0 * 512 + 1 * r.val = t.val * 512 + r.val; rw [hi.1]; omega
  | ⟨1, _⟩ => show win0_1.index t 1 * 512 + 1 * l.val = l.val; rw [hi.2]; omega

theorem v11_apply (c : Dev nD) (t : Fin 32768) (l : Fin 512) :
    V m c main_v11 (ix2 t l) = aOb m c (ix3 (bat t) (pos t) l) := by
  rw [V_v11]
  pointwise

theorem iblk2 (c : Dev nD) (t : Fin cfg0.N) (r : Fin 512) (l : Fin 512) :
    (iblk m c 2 t : Vec Ideal S512x512 .bf16) (ix2 r l) = aOb m c (ix3 (bat (tok t r)) (pos (tok t r)) l) := by
  rw [← v11_apply]
  unfold iblk
  rw [View.read_apply]
  show V m c main_v11 _ = _
  congr 1
  funext a
  apply Fin.ext
  have hi := index2 t
  match a with
  | ⟨0, _⟩ => show win0_2.index t 0 * 512 + 1 * r.val = t.val * 512 + r.val; rw [hi.1]; omega
  | ⟨1, _⟩ => show win0_2.index t 1 * 512 + 1 * l.val = l.val; rw [hi.2]; omega

theorem v12_apply (c : Dev nD) (t : Fin 32768) (l : Fin 512) :
    V m c main_v12 (ix2 t l) = aOc m c (ix3 (bat t) (pos t) l) := by
  rw [V_v12]
  pointwise

theorem iblk3 (c : Dev nD) (t : Fin cfg0.N) (r : Fin 512) (l : Fin 512) :
    (iblk m c 3 t : Vec Ideal S512x512 .bf16) (ix2 r l) = aOc m c (ix3 (bat (tok t r)) (pos (tok t r)) l) := by
  rw [← v12_apply]
  unfold iblk
  rw [View.read_apply]
  show V m c main_v12 _ = _
  congr 1
  funext a
  apply Fin.ext
  have hi := index3 t
  match a with
  | ⟨0, _⟩ => show win0_3.index t 0 * 512 + 1 * r.val = t.val * 512 + r.val; rw [hi.1]; omega
  | ⟨1, _⟩ => show win0_3.index t 1 * 512 + 1 * l.val = l.val; rw [hi.2]; omega

theorem iblk4 (c : Dev nD) (t : Fin cfg0.N) (j : Fin 1) (k : Fin 1024) :
    (iblk m c 4 t : Vec Ideal S1x1024 .f32) (ix2 j k) = aGm m c (ix1 k) := by
  have e : (iblk m c 4 t : Vec Ideal S1x1024 .f32) (ix2 j k) = V m c main_v13 (ix2 j k) := by
    unfold iblk
    rw [View.read_apply]
    show V m c main_v13 _ = _
    congr 1
    funext a
    apply Fin.ext
    have hi := index4 t
    match a with
    | ⟨0, _⟩ => show win0_4.index t 0 * 1 + 1 * j.val = j.val; rw [hi.1]; omega
    | ⟨1, _⟩ => show win0_4.index t 1 * 1024 + 1 * k.val = k.val; rw [hi.2]; omega
  rw [e, V_v13]
  pointwise

theorem iblk5 (c : Dev nD) (t : Fin cfg0.N) (j : Fin 1024) (k : Fin 3072) :
    (iblk m c 5 t : Vec Ideal S1024x3072 .bf16) (ix2 j k) = aWg m c (ix2 j k) := by
  have e : (iblk m c 5 t : Vec Ideal S1024x3072 .bf16) (ix2 j k) = V m c main_v14 (ix2 j k) := by
    unfold iblk
    rw [View.read_apply]
    show V m c main_v14 _ = _
    congr 1
    funext a
    apply Fin.ext
    have hi := index5 t
    match a with
    | ⟨0, _⟩ => show win0_5.index t 0 * 1024 + 1 * j.val = j.val; rw [hi.1]; omega
    | ⟨1, _⟩ => show win0_5.index t 1 * 3072 + 1 * k.val = k.val; rw [hi.2]; omega
  rw [e, V_v14]
  pointwise

theorem iblk6 (c : Dev nD) (t : Fin cfg0.N) (j : Fin 1) (k : Fin 3072) :
    (iblk m c 6 t : Vec Ideal S1x3072 .f32) (ix2 j k) = aBg m c (ix1 k) := by
  have e : (iblk m c 6 t : Vec Ideal S1x3072 .f32) (ix2 j k) = V m c main_v15 (ix2 j k) := by
    unfold iblk
    rw [View.read_apply]
    show V m c main_v15 _ = _
    congr 1
    funext a
    apply Fin.ext
    have hi := index6 t
    match a with
    | ⟨0, _⟩ => show win0_6.index t 0 * 1 + 1 * j.val = j.val; rw [hi.1]; omega
    | ⟨1, _⟩ => show win0_6.index t 1 * 3072 + 1 * k.val = k.val; rw [hi.2]; omega
  rw [e, V_v15]
  pointwise

theorem iblk8 (c : Dev nD) (t : Fin cfg0.N) (j : Fin 1024) (k : Fin 1024) :
    (iblk m c 8 t : Vec Ideal S1024x1024 .bf16) (ix2 j k) = aWo m c (ix2 j k) := by
  have e : (iblk m c 8 t : Vec Ideal S1024x1024 .bf16) (ix2 j k) = V m c main_v17 (ix2 j k) := by
    unfold iblk
    rw [View.read_apply]
    show V m c main_v17 _ = _
    congr 1
    funext a
    apply Fin.ext
    have hi := index8 t
    match a with
    | ⟨0, _⟩ => show win0_8.index t 0 * 1024 + 1 * j.val = j.val; rw [hi.1]; omega
    | ⟨1, _⟩ => show win0_8.index t 1 * 1024 + 1 * k.val = k.val; rw [hi.2]; omega
  rw [e, V_v17]
  pointwise

theorem iblk9 (c : Dev nD) (t : Fin cfg0.N) (j : Fin 1) (k : Fin 1024) :
    (iblk m c 9 t : Vec Ideal S1x1024 .f32) (ix2 j k) = aGf m c (ix1 k) := by
  have e : (iblk m c 9 t : Vec Ideal S1x1024 .f32) (ix2 j k) = V m c main_v18 (ix2 j k) := by
    unfold iblk
    rw [View.read_apply]
    show V m c main_v18 _ = _
    congr 1
    funext a
    apply Fin.ext
    have hi := index9 t
    match a with
    | ⟨0, _⟩ => show win0_9.index t 0 * 1 + 1 * j.val = j.val; rw [hi.1]; omega
    | ⟨1, _⟩ => show win0_9.index t 1 * 1024 + 1 * k.val = k.val; rw [hi.2]; omega
  rw [e, V_v18]
  pointwise

theorem iblk10 (c : Dev nD) (t : Fin cfg0.N) (j : Fin 1024) (k : Fin 128) :
    (iblk m c 10 t : Vec Ideal S1024x128 .bf16) (ix2 j k) = wide m c (ix2 j k) := by
  have e : (iblk m c 10 t : Vec Ideal S1024x128 .bf16) (ix2 j k) = V m c main_v5 (ix2 j k) := by
    unfold iblk
    rw [View.read_apply]
    show V m c main_v5 _ = _
    congr 1
    funext a
    apply Fin.ext
    have hi := index10 t
    match a with
    | ⟨0, _⟩ => show win0_10.index t 0 * 1024 + 1 * j.val = j.val; rw [hi.1]; omega
    | ⟨1, _⟩ => show win0_10.index t 1 * 128 + 1 * k.val = k.val; rw [hi.2]; omega
  rw [e, V_v5]
  generalize wide m c = y; pointwise

theorem iblk11 (c : Dev nD) (t : Fin cfg0.N) (j : Fin 1024) (k : Fin 128) :
    (iblk m c 11 t : Vec Ideal S1024x128 .bf16) (ix2 j k) = wide m c (ix2 j k) - wide m c (ix2 j k) := by
  have e : (iblk m c 11 t : Vec Ideal S1024x128 .bf16) (ix2 j k) = V m c main_v8 (ix2 j k) := by
    unfold iblk
    rw [View.read_apply]
    show V m c main_v8 _ = _
    congr 1
    funext a
    apply Fin.ext
    have hi := index11 t
    match a with
    | ⟨0, _⟩ => show win0_11.index t 0 * 1024 + 1 * j.val = j.val; rw [hi.1]; omega
    | ⟨1, _⟩ => show win0_11.index t 1 * 128 + 1 * k.val = k.val; rw [hi.2]; omega
  rw [e, V_v8]
  generalize wide m c = y; pointwise

theorem iblk12 (c : Dev nD) (t : Fin cfg0.N) (j : Fin 1) (k : Fin 128) :
    (iblk m c 12 t : Vec Ideal S1x128 .f32) (ix2 j k) = wideBias m c (ix1 k) := by
  have e : (iblk m c 12 t : Vec Ideal S1x128 .f32) (ix2 j k) = V m c main_v4 (ix2 j k) := by
    unfold iblk
    rw [View.read_apply]
    show V m c main_v4 _ = _
    congr 1
    funext a
    apply Fin.ext
    have hi := index12 t
    match a with
    | ⟨0, _⟩ => show win0_12.index t 0 * 1 + 1 * j.val = j.val; rw [hi.1]; omega
    | ⟨1, _⟩ => show win0_12.index t 1 * 128 + 1 * k.val = k.val; rw [hi.2]; omega
  rw [e, V_v4]
  generalize wideBias m c = y; pointwise

theorem iblk7 (c : Dev nD) (t : Fin cfg0.N) (b : Fin 3) (j : Fin 512) (k : Fin 1024) :
    (iblk m c 7 t : Vec Ideal S3x512x1024 .bf16) (ix3 b j k) = aWb m c (ix3 b j k) := by
  have e : (iblk m c 7 t : Vec Ideal S3x512x1024 .bf16) (ix3 b j k) = V m c main_v16 (ix3 b j k) := by
    unfold iblk
    rw [View.read_apply]
    show V m c main_v16 _ = _
    congr 1
    funext a
    apply Fin.ext
    have hi := index7 t
    match a with
    | ⟨0, _⟩ => show win0_7.index t 0 * 3 + 1 * b.val = b.val; rw [hi.1]; omega
    | ⟨1, _⟩ => show win0_7.index t 1 * 512 + 1 * j.val = j.val; rw [hi.2.1]; omega
    | ⟨2, _⟩ => show win0_7.index t 2 * 1024 + 1 * k.val = k.val; rw [hi.2.2]; omega
  rw [e, V_v16]
  pointwise

theorem wide_expert (c : Dev nD) (j : Fin 1024) (e : Fin 16) : wide m c (ix2 j ⟨e.val, by omega⟩) = aWre m c (ix2 j e) := by
  unfold wide
  pointwise

theorem wide_group (c : Dev nD) (j : Fin 1024) (e : Fin 4) : wide m c (ix2 j ⟨16 + e.val, by omega⟩) = aWrg m c (ix2 j e) := by
  unfold wide
  pointwise

theorem wideBias_expert (c : Dev nD) (e : Fin 16) : wideBias m c (ix1 ⟨e.val, by omega⟩) = aBre m c (ix1 e) := by
  unfold wideBias
  pointwise

theorem wideBias_group (c : Dev nD) (e : Fin 4) : wideBias m c (ix1 ⟨16 + e.val, by omega⟩) = aBrg m c (ix1 e) := by
  unfold wideBias
  pointwise

/-! ## What each point leaves, and the arrays after the run -/

/-- The arguments, gathered. -/
def args (c : Dev nD) : Args where
  x := aX m c
  oa := aOa m c
  ob := aOb m c
  oc := aOc m c
  normMix := aGm m c
  wBranch := aWb m c
  wGate := aWg m c
  bGate := aBg m c
  wOut := aWo m c
  normFfn := aGf m c
  wGroup := aWrg m c
  bGroup := aBrg m c
  wExpert := aWre m c
  bExpert := aBre m c

theorem row_stream (c : Dev nD) (t : Fin cfg0.N) (r : Fin 512) (l : Fin 1024) :
    rowStream (iblk m c 0 t) (iblk m c 1 t) (iblk m c 2 t) (iblk m c 3 t) (iblk m c 4 t) (iblk m c 5 t) (iblk m c 6 t) (iblk m c 7 t)
      (iblk m c 8 t) r l = streamOf (args m c) (tok t r) l := by
  unfold rowStream streamOf args
  simp only [iblk0, iblk1, iblk2, iblk3, iblk4, iblk5, iblk6, iblk7, iblk8]

theorem row_hidden (c : Dev nD) (t : Fin cfg0.N) (r : Fin 512) :
    rowHidden (iblk m c 0 t) (iblk m c 1 t) (iblk m c 2 t) (iblk m c 3 t) (iblk m c 4 t) (iblk m c 5 t) (iblk m c 6 t) (iblk m c 7 t)
      (iblk m c 8 t) (iblk m c 9 t) r = hiddenOf (args m c) (tok t r) := by
  unfold rowHidden hiddenOf
  congr 1
  · funext l; exact row_stream m c t r l
  · funext k; exact iblk9 m c t 0 k

/-- The logits at point `t`. -/
abbrev lg (c : Dev nD) (t : Fin cfg0.N) : FVec Ideal S512x128 .f32 :=
  logits (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)

variable (hA : ∀ c, Finite (args m c))

include hA in
theorem row_logit (c : Dev nD) (t : Fin cfg0.N) (r : Fin 512) (l : Fin 128) (hw : ∀ k, ∃ a : ℝ, wide m c (ix2 k l) = a) :
    rowOf (lg m c t) r l = ∑ k, hiddenOf (args m c) (tok t r) k * wide m c (ix2 k l) + wideBias m c (ix1 l) := by
  unfold rowOf lg
  rw [logits_apply, row_hidden]
  simp only [iblk10, iblk11, iblk12]
  exact corrections _ (fun k => wide m c (ix2 k l)) _ ((hA c).hidden _) hw

include hA in
theorem row_groups (c : Dev nD) (t : Fin cfg0.N) (r : Fin 512) : groups (lg m c t) r = groupOf (args m c) (tok t r) := by
  funext g
  refine (row_logit m hA c t r ⟨16 + g.val, by omega⟩ fun k => ?_).trans ?_
  · rw [wide_group]; exact (hA c).wGroup k g
  · rw [wideBias_group]
    simp only [wide_group]
    rfl

include hA in
theorem row_experts (c : Dev nD) (t : Fin cfg0.N) (r : Fin 512) (g : Fin 4) :
    experts (lg m c t) r g = expertOf (args m c) (tok t r) g := by
  funext e
  refine (row_logit m hA c t r ⟨(exp16 g e).val, by omega⟩ fun k => ?_).trans ?_
  · rw [wide_expert]; exact (hA c).wExpert k _
  · rw [wideBias_expert]
    exact congrArg (· + _) (Finset.sum_congr rfl fun k _ => congrArg (_ * ·) (wide_expert m c k (exp16 g e)))

include hA in
theorem row_finite (c : Dev nD) (t : Fin cfg0.N) (r : Fin 512) (x : Fin 128) (hx : x.val < 20) :
    ∃ a : ℝ, rowOf (lg m c t) r x = a := by
  by_cases h : x.val < 16
  · have q := congrFun (row_experts m hA c t r ⟨x.val / 4, by omega⟩) ⟨x.val % 4, by omega⟩
    have e : experts (lg m c t) r ⟨x.val / 4, by omega⟩ ⟨x.val % 4, by omega⟩ = rowOf (lg m c t) r x :=
      congrArg (rowOf (lg m c t) r) (Fin.ext (by show 4 * (x.val / 4) + x.val % 4 = x.val; omega))
    rw [← e, q]
    exact (hA c).expertReal _ _ _
  · have q := congrFun (row_groups m hA c t r) ⟨x.val - 16, by omega⟩
    have e : groups (lg m c t) r ⟨x.val - 16, by omega⟩ = rowOf (lg m c t) r x :=
      congrArg (rowOf (lg m c t) r) (Fin.ext (by show 16 + (x.val - 16) = x.val; omega))
    rw [← e, q]
    exact (hA c).groupReal _ _

include hA in
theorem out_gate (c : Dev nD) (t : Fin cfg0.N) (r : Fin 512) (l : Fin 16) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r l)
      = gate (groupOf (args m c) (tok t r)) (expertOf (args m c) (tok t r)) l := by
  have hg := row_groups m hA c t r
  have he : experts (lg m c t) r = expertOf (args m c) (tok t r) := funext (row_experts m hA c t r)
  rw [← hg, ← he]
  unfold out0_15
  rw [View.canon_unit_zero hz]
  exact gate_apply _ _ _ _ _ _ _ (lg m c t) r (row_finite m hA c t r) rfl l

theorem flushed13_eq (c : Dev nD) (t : Fin cfg0.N) (_ : (cfg0.win 13).flush t = true) :
    (dats m 0 c).flushed 13 t = ((cfg0.win 13).blk t).view.read (Elt Ideal) (resStream (args m c) : Buf (Elt Ideal) ((c : Thread nD τ).loc main_v19_0)) := by
  have ef : (dats m 0 c).flushed 13 t = (cfg0.win 13).cut (grid0.coords t) (out0_13 (iblk m c 0 t) (iblk m c 1 t) (iblk m c 2 t)
      (iblk m c 3 t) (iblk m c 4 t) (iblk m c 5 t) (iblk m c 6 t) (iblk m c 7 t) (iblk m c 8 t) (iblk m c 9 t) (iblk m c 10 t)
      (iblk m c 11 t) (iblk m c 12 t)) := by
    show (cfg0.win 13).cut (grid0.coords t) ((dats m 0 c).after 13 t) = _
    rw [after0_13]
  rw [ef]
  funext y
  rw [View.read_apply]
  have hi := index13 t
  have ey : ((cfg0.win 13).blk t).view.emb y = (ix2 (tok t (y 0)) (y 1) : S32768x1024.Idx) := by
    funext a
    apply Fin.ext
    match a with
    | ⟨0, _⟩ => show win0_13.index t 0 * 512 + 1 * (y 0).val = t.val * 512 + (y 0).val; rw [hi.1]; omega
    | ⟨1, _⟩ => show win0_13.index t 1 * 1024 + 1 * (y 1).val = (y 1).val; rw [hi.2]; omega
  rw [ey]
  refine Eq.trans ?_ ((out_stream (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1)).trans (row_stream m c t (y 0) (y 1)))
  show out0_13 _ _ _ _ _ _ _ _ _ _ _ _ _ _ = _
  congr 1
  funext a
  apply Fin.ext
  match a with
  | ⟨0, _⟩ => rfl
  | ⟨1, _⟩ => rfl

theorem final13_eq (c : Dev nD) : (dats m 0 c).arrAt 13 cfg0.N = (resStream (args m c) : Buf (Elt Ideal) ((c : Thread nD τ).loc main_v19_0)) :=
  (dats m 0 c).arrAt_eq_of_cover 13 _ (flushed13_eq m c) fun i => by
    have hN : cfg0.N = 64 := N_0
    have h0 : (i 0 : Nat) < 32768 := (i 0).isLt
    have h1 : (i 1 : Nat) < 1024 := (i 1).isLt
    let t : Fin cfg0.N := ⟨(i 0).val / 512, by omega⟩
    have ht : t.val = (i 0).val / 512 := rfl
    have hi := index13 t
    refine ⟨t, flush0_13 t, ?_⟩
    show i ∈ ((View.whole main_v19_0).slice (win0_13.rect t)).set
    rw [View.set_slice_whole, Rect.mem_set_unit]
    intro a
    match a with
    | ⟨0, _⟩ => show win0_13.index t 0 * 512 ≤ (i 0 : Nat) ∧ (i 0 : Nat) < win0_13.index t 0 * 512 + 512
                rw [hi.1]; omega
    | ⟨1, _⟩ => show win0_13.index t 1 * 1024 ≤ (i 1 : Nat) ∧ (i 1 : Nat) < win0_13.index t 1 * 1024 + 1024
                rw [hi.2]; omega

theorem flushed14_eq (c : Dev nD) (t : Fin cfg0.N) (_ : (cfg0.win 14).flush t = true) :
    (dats m 0 c).flushed 14 t = ((cfg0.win 14).blk t).view.read (Elt Ideal) (resHidden (args m c) : Buf (Elt Ideal) ((c : Thread nD τ).loc main_v19_1)) := by
  have ef : (dats m 0 c).flushed 14 t = (cfg0.win 14).cut (grid0.coords t) (out0_14 (iblk m c 0 t) (iblk m c 1 t) (iblk m c 2 t)
      (iblk m c 3 t) (iblk m c 4 t) (iblk m c 5 t) (iblk m c 6 t) (iblk m c 7 t) (iblk m c 8 t) (iblk m c 9 t) (iblk m c 10 t)
      (iblk m c 11 t) (iblk m c 12 t)) := by
    show (cfg0.win 14).cut (grid0.coords t) ((dats m 0 c).after 14 t) = _
    rw [after0_14]
  rw [ef]
  funext y
  rw [View.read_apply]
  have hi := index14 t
  have ey : ((cfg0.win 14).blk t).view.emb y = (ix2 (tok t (y 0)) (y 1) : S32768x1024.Idx) := by
    funext a
    apply Fin.ext
    match a with
    | ⟨0, _⟩ => show win0_14.index t 0 * 512 + 1 * (y 0).val = t.val * 512 + (y 0).val; rw [hi.1]; omega
    | ⟨1, _⟩ => show win0_14.index t 1 * 1024 + 1 * (y 1).val = (y 1).val; rw [hi.2]; omega
  rw [ey]
  refine Eq.trans ?_ ((out_hidden (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1)).trans (congrFun (row_hidden m c t (y 0)) (y 1)))
  show out0_14 _ _ _ _ _ _ _ _ _ _ _ _ _ _ = _
  congr 1
  funext a
  apply Fin.ext
  match a with
  | ⟨0, _⟩ => rfl
  | ⟨1, _⟩ => rfl

theorem final14_eq (c : Dev nD) : (dats m 0 c).arrAt 14 cfg0.N = (resHidden (args m c) : Buf (Elt Ideal) ((c : Thread nD τ).loc main_v19_1)) :=
  (dats m 0 c).arrAt_eq_of_cover 14 _ (flushed14_eq m c) fun i => by
    have hN : cfg0.N = 64 := N_0
    have h0 : (i 0 : Nat) < 32768 := (i 0).isLt
    have h1 : (i 1 : Nat) < 1024 := (i 1).isLt
    let t : Fin cfg0.N := ⟨(i 0).val / 512, by omega⟩
    have ht : t.val = (i 0).val / 512 := rfl
    have hi := index14 t
    refine ⟨t, flush0_14 t, ?_⟩
    show i ∈ ((View.whole main_v19_1).slice (win0_14.rect t)).set
    rw [View.set_slice_whole, Rect.mem_set_unit]
    intro a
    match a with
    | ⟨0, _⟩ => show win0_14.index t 0 * 512 ≤ (i 0 : Nat) ∧ (i 0 : Nat) < win0_14.index t 0 * 512 + 512
                rw [hi.1]; omega
    | ⟨1, _⟩ => show win0_14.index t 1 * 1024 ≤ (i 1 : Nat) ∧ (i 1 : Nat) < win0_14.index t 1 * 1024 + 1024
                rw [hi.2]; omega

include hA in
theorem flushed15_eq (c : Dev nD) (t : Fin cfg0.N) (_ : (cfg0.win 15).flush t = true) :
    (dats m 0 c).flushed 15 t = ((cfg0.win 15).blk t).view.read (Elt Ideal) (resGate (args m c) : Buf (Elt Ideal) ((c : Thread nD τ).loc main_v19_2)) := by
  have ef : (dats m 0 c).flushed 15 t = (cfg0.win 15).cut (grid0.coords t) (out0_15 (iblk m c 0 t) (iblk m c 1 t) (iblk m c 2 t)
      (iblk m c 3 t) (iblk m c 4 t) (iblk m c 5 t) (iblk m c 6 t) (iblk m c 7 t) (iblk m c 8 t) (iblk m c 9 t) (iblk m c 10 t)
      (iblk m c 11 t) (iblk m c 12 t)) := by
    show (cfg0.win 15).cut (grid0.coords t) ((dats m 0 c).after 15 t) = _
    rw [after0_15]
  rw [ef]
  funext y
  rw [View.read_apply]
  have hi := index15 t
  have ey : ((cfg0.win 15).blk t).view.emb y = (ix2 (tok t (y 0)) (y 1) : S32768x16.Idx) := by
    funext a
    apply Fin.ext
    match a with
    | ⟨0, _⟩ => show win0_15.index t 0 * 512 + 1 * (y 0).val = t.val * 512 + (y 0).val; rw [hi.1]; omega
    | ⟨1, _⟩ => show win0_15.index t 1 * 16 + 1 * (y 1).val = (y 1).val; rw [hi.2]; omega
  rw [ey]
  refine Eq.trans ?_ (out_gate m hA c t (y 0) (y 1))
  show out0_15 _ _ _ _ _ _ _ _ _ _ _ _ _ _ = _
  congr 1
  funext a
  apply Fin.ext
  match a with
  | ⟨0, _⟩ => rfl
  | ⟨1, _⟩ => rfl

include hA in
theorem final15_eq (c : Dev nD) : (dats m 0 c).arrAt 15 cfg0.N = (resGate (args m c) : Buf (Elt Ideal) ((c : Thread nD τ).loc main_v19_2)) :=
  (dats m 0 c).arrAt_eq_of_cover 15 _ (flushed15_eq m hA c) fun i => by
    have hN : cfg0.N = 64 := N_0
    have h0 : (i 0 : Nat) < 32768 := (i 0).isLt
    have h1 : (i 1 : Nat) < 16 := (i 1).isLt
    let t : Fin cfg0.N := ⟨(i 0).val / 512, by omega⟩
    have ht : t.val = (i 0).val / 512 := rfl
    have hi := index15 t
    refine ⟨t, flush0_15 t, ?_⟩
    show i ∈ ((View.whole main_v19_2).slice (win0_15.rect t)).set
    rw [View.set_slice_whole, Rect.mem_set_unit]
    intro a
    match a with
    | ⟨0, _⟩ => show win0_15.index t 0 * 512 ≤ (i 0 : Nat) ∧ (i 0 : Nat) < win0_15.index t 0 * 512 + 512
                rw [hi.1]; omega
    | ⟨1, _⟩ => show win0_15.index t 1 * 16 ≤ (i 1 : Nat) ∧ (i 1 : Nat) < win0_15.index t 1 * 16 + 16
                rw [hi.2]; omega

end Cert.KernelIdeal.Hand

end
-- ==== Proof.MergeReference.lean ====
module

public import proofs.«01_k».proof.Proof.MergeSpec
public import proofs.«01_k».proof.Proof.TopTwo
public import proofs.«01_k».proof.Proof.Gen.ReferenceIdeal.Read

@[expose] public section

noncomputable section

namespace Cert.ReferenceIdeal.Hand

open Cert.ReferenceIdeal Cert.ReferenceIdeal.Gen Idealize.ShloMosaic Cert.Route Cert.Merge

variable (x0 : FVec Ideal S8x4096x1024 .f32) (x1 x2 x3 : FVec Ideal S8x4096x512 .bf16) (x4 : FVec Ideal S1024 .f32)
  (x5 : FVec Ideal S3x512x1024 .f32) (x6 : FVec Ideal S1024x3072 .f32) (x7 : FVec Ideal S3072 .f32) (x8 : FVec Ideal S1024x1024 .f32)
  (x9 : FVec Ideal S1024 .f32) (x10 : FVec Ideal S1024x4 .f32) (x11 : FVec Ideal S4 .f32) (x12 : FVec Ideal S1024x16 .f32)
  (x13 : FVec Ideal S16 .f32)

/-- The arguments, gathered. -/
def args : Args := ⟨x0, x1, x2, x3, x4, x5, x6, x7, x8, x9, x10, x11, x12, x13⟩

theorem stream_apply (t : Fin 32768) (l : Fin 1024) :
    Read.val_main_v40 (F := Ideal) x0 x1 x2 x3 x4 x5 x6 x7 x8 (ix2 t l)
      = streamOf (args x0 x1 x2 x3 x4 x5 x6 x7 x8 x9 x10 x11 x12 x13) t l := by
  unfold Read.val_main_v40 Read.val_main_v39 Read.val_main_v38 Read.val_main_v37 Read.val_main_v36 Read.val_main_v35 Read.val_main_v34 Read.val_main_v33 Read.val_main_v32 Read.val_main_v31 Read.val_main_v30 Read.val_main_v29 Read.val_main_v28 Read.val_main_v27 Read.val_main_v26 Read.val_main_v25 Read.val_main_v24 Read.val_main_v23 Read.val_main_v22 Read.val_main_v21 Read.val_main_v20 Read.val_main_v19 Read.val_main_v18 Read.val_main_v17 Read.val_main_v16 Read.val_main_v15 Read.val_main_v14 Read.val_main_v13 Read.val_main_v12 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst Read.val_main_cst_0 Read.val_main_cst_1 Read.val_main_cst_2 Read.val_main_cst_3 Read.val_main_cst_4
  pointwise
  unfold streamOf stream args
  dsimp only
  refine congrArg₂ (· + ·) rfl (Finset.sum_congr rfl fun k _ => congrArg (· * _) ?_)
  rw [Fin.sum_univ_three]
  unfold mixed branch Merge.logistic rms
  simp only [zero_sub, mul_comm (x5 _)]
  refine congrArg₂ (· + ·) (congrArg₂ (· + ·) ?_ ?_) ?_
  · simp
  · simp
  · simp

theorem hidden_apply (t : Fin 32768) (l : Fin 1024) :
    Read.val_main_v53 (F := Ideal) x0 x1 x2 x3 x4 x5 x6 x7 x8 x9 (ix2 t l) = hiddenOf (args x0 x1 x2 x3 x4 x5 x6 x7 x8 x9 x10 x11 x12 x13) t l := by
  have hs := stream_apply x0 x1 x2 x3 x4 x5 x6 x7 x8 x9 x10 x11 x12 x13 t
  unfold Read.val_main_v53 Read.val_main_v52 Read.val_main_v51 Read.val_main_v50 Read.val_main_v49 Read.val_main_v48 Read.val_main_v47 Read.val_main_v46 Read.val_main_v45 Read.val_main_v44 Read.val_main_v43 Read.val_main_v42 Read.val_main_v41 Read.val_main_cst_5 Read.val_main_cst_6 Read.val_main_cst_7
  generalize Read.val_main_v40 (F := Ideal) x0 x1 x2 x3 x4 x5 x6 x7 x8 = y at hs ⊢
  pointwise
  unfold hiddenOf rms args
  simp only [hs]
  rfl

theorem group_apply (t : Fin 32768) (g : Fin 4) :
    Read.val_main_v58 (F := Ideal) x0 x1 x2 x3 x4 x5 x6 x7 x8 x9 x10 x11 (ix2 t g) = groupOf (args x0 x1 x2 x3 x4 x5 x6 x7 x8 x9 x10 x11 x12 x13) t g := by
  have hs := hidden_apply x0 x1 x2 x3 x4 x5 x6 x7 x8 x9 x10 x11 x12 x13 t
  unfold Read.val_main_v58 Read.val_main_v57 Read.val_main_v56 Read.val_main_v55
  generalize Read.val_main_v53 (F := Ideal) x0 x1 x2 x3 x4 x5 x6 x7 x8 x9 = y at hs ⊢
  pointwise
  simp only [hs]
  rfl

theorem expert_apply (t : Fin 32768) (g e : Fin 4) :
    Read.val_main_v75 (F := Ideal) x0 x1 x2 x3 x4 x5 x6 x7 x8 x9 x12 x13 (ix3 t g e) = expertOf (args x0 x1 x2 x3 x4 x5 x6 x7 x8 x9 x10 x11 x12 x13) t g e := by
  have hs := hidden_apply x0 x1 x2 x3 x4 x5 x6 x7 x8 x9 x10 x11 x12 x13 t
  unfold Read.val_main_v75 Read.val_main_v74 Read.val_main_v73 Read.val_main_v72 Read.val_main_v71
  generalize Read.val_main_v53 (F := Ideal) x0 x1 x2 x3 x4 x5 x6 x7 x8 x9 = y at hs ⊢
  pointwise
  simp only [hs]
  unfold expertOf args
  have he : ∀ h, (⟨g.val * 4 + e.val, h⟩ : Fin 16) = exp16 g e := fun _ => Fin.ext (by show g.val * 4 + e.val = 4 * g.val + e.val; omega)
  simp only [he]

/-- The chosen group, as the index that the reference finds. -/
theorem index_apply (t : Fin 32768) (l : Fin 1) :
    Read.val_main_indices (F := Ideal) x0 x1 x2 x3 x4 x5 x6 x7 x8 x9 x10 x11 (ix2 t l) = BitVec.ofNat 32 (top (groupOf (args x0 x1 x2 x3 x4 x5 x6 x7 x8 x9 x10 x11 x12 x13) t) 0).val := by
  have hs := group_apply x0 x1 x2 x3 x4 x5 x6 x7 x8 x9 x10 x11 x12 x13 t
  unfold Read.val_main_indices
  generalize Read.val_main_v58 (F := Ideal) x0 x1 x2 x3 x4 x5 x6 x7 x8 x9 x10 x11 = y at hs ⊢
  refine ((topK_apply y sliceFits_S32768x4_S32768x1 t l (by omega)).2).trans ?_
  have e : (fun g => y (ix2 t g)) = groupOf (args x0 x1 x2 x3 x4 x5 x6 x7 x8 x9 x10 x11 x12 x13) t := funext hs
  rw [e]
  congr 3
  exact Fin.ext (by show l.val = 0; omega)

/-- The groups' probabilities. -/
theorem prob_apply (t : Fin 32768) (g : Fin 4) :
    Read.val_main_v69 (F := Ideal) x0 x1 x2 x3 x4 x5 x6 x7 x8 x9 x10 x11 (ix2 t g)
      = Ideal.div (Ideal.exp (groupOf (args x0 x1 x2 x3 x4 x5 x6 x7 x8 x9 x10 x11 x12 x13) t g - groupOf (args x0 x1 x2 x3 x4 x5 x6 x7 x8 x9 x10 x11 x12 x13) t (top (groupOf (args x0 x1 x2 x3 x4 x5 x6 x7 x8 x9 x10 x11 x12 x13) t) 0)))
        (∑ h, Ideal.exp (groupOf (args x0 x1 x2 x3 x4 x5 x6 x7 x8 x9 x10 x11 x12 x13) t h - groupOf (args x0 x1 x2 x3 x4 x5 x6 x7 x8 x9 x10 x11 x12 x13) t (top (groupOf (args x0 x1 x2 x3 x4 x5 x6 x7 x8 x9 x10 x11 x12 x13) t) 0))) := by
  have hs := group_apply x0 x1 x2 x3 x4 x5 x6 x7 x8 x9 x10 x11 x12 x13 t
  unfold Read.val_main_v69 Read.val_main_v68 Read.val_main_v67 Read.val_main_v66 Read.val_main_v65 Read.val_main_v64 Read.val_main_v63 Read.val_main_v62 Read.val_main_v61 Read.val_main_v60 Read.val_main_v59 Read.val_main_cst_8 Read.val_main_cst_9 Read.val_main_cst_10
  generalize Read.val_main_v58 (F := Ideal) x0 x1 x2 x3 x4 x5 x6 x7 x8 x9 x10 x11 = y at hs ⊢
  pointwise
  simp only [hs]
  have hm := fold_max (groupOf (args x0 x1 x2 x3 x4 x5 x6 x7 x8 x9 x10 x11 x12 x13) t) _ (first_le _)
  rw [hm, lit_bot, max_eq_right bot_le]

end Cert.ReferenceIdeal.Hand

end
-- ==== Proof.MergeTake.lean ====
module

public import proofs.«01_k».proof.Proof.MergeSpec
public import proofs.«01_k».proof.Proof.TopTwo
public import proofs.«01_k».proof.Proof.Gen.ReferenceIdeal.Read

@[expose] public section

noncomputable section

namespace Cert.ReferenceIdeal.Hand

open Cert.ReferenceIdeal Cert.ReferenceIdeal.Gen Idealize.ShloMosaic Cert.Route Cert.Merge

/-! ## The words of the reference's index arithmetic -/

theorem wrap_word : ∀ n : Fin 4, Scalar.select (IntOp.cmpi CmpIPredicate.slt (BitVec.ofNat 32 n.val) 0#32)
    (IntOp.addi (BitVec.ofNat 32 n.val) 4#32) (BitVec.ofNat 32 n.val) = BitVec.ofNat 32 n.val := by decide

theorem range_word : ∀ n : Fin 4, IntOp.andi (IntOp.cmpi CmpIPredicate.sge (BitVec.ofNat 32 n.val) 0#32)
    (IntOp.cmpi CmpIPredicate.sle (BitVec.ofNat 32 n.val) 3#32) = 1#1 := by decide

theorem clamp_word : ∀ n : Fin 4, min (BitVec.ofNat 32 n.val).toInt.toNat (4 - 1) = n.val := by decide

theorem number_word : ∀ g e : Fin 4, IntOp.addi (IntOp.muli (BitVec.ofNat 32 g.val) 4#32) (BitVec.ofNat 32 e.val)
    = BitVec.ofNat 32 (4 * g.val + e.val) := by decide

theorem equal_word : ∀ n c : Fin 16, IntOp.cmpi CmpIPredicate.eq (BitVec.ofNat 32 n.val) (BitVec.ofNat 32 c.val)
    = if c.val = n.val then 1#1 else 0#1 := by decide

/-- A one at the number `n` among the sixteen. -/
theorem one_hot (n : Nat) (c : Fin 16) (hn : n < 16) :
    FloatOps.uitofp (F := Ideal) .f32 (IntOp.cmpi CmpIPredicate.eq (BitVec.ofNat 32 n) (BitVec.ofNat 32 c.val))
      = if c.val = n then (1 : EReal) else 0 := by
  rw [equal_word ⟨n, hn⟩ c]
  show (((if c.val = n then 1#1 else 0#1 : BitVec 1).toNat : ℝ) : EReal) = _
  split <;> simp

/-- A choice by a range test that holds everywhere. -/
theorem select_all {n : Nat} {f : Fin n → BitVec 1} (h : ∀ x, f x = 1#1) (a b : EReal) :
    Scalar.select (Finset.fold IntOp.andi 1#1 f Finset.univ) a b = a := by
  have e : Finset.fold IntOp.andi 1#1 f Finset.univ = 1#1 := by
    obtain rfl : f = fun _ => 1#1 := funext h
    rw [Finset.fold_const (op := IntOp.andi) (h := rfl)]
    split <;> rfl
  rw [e]; rfl

/-! ## Reading along an axis at found indices -/

theorem take_one (y : FVec Ideal S32768x4 .f32) (w : IVec S32768x1x1 32) (t : Fin 32768) (l : Fin 1) (n : Fin 4)
    (hw : w (ix3 t 0 0) = BitVec.ofNat 32 n.val) :
    Host.gather gather_S32768x4_S32768x1x1_S32768x1_n_1_0_0_1_2_11 y w (ix2 t l) = y (ix2 t n) := by
  unfold Host.gather
  refine congrArg y (funext fun a => Fin.ext ?_)
  match a with
  | ⟨0, _⟩ => show 0 + t.val + 0 = t.val; omega
  | ⟨1, _⟩ =>
    refine Eq.trans ?_ (clamp_word n)
    rw [← hw]
    show _ + 0 + 0 = _
    show min (w _).toInt.toNat (4 - 1) = _
    congr 4
    funext b
    apply Fin.ext
    match b with
    | ⟨0, _⟩ => rfl
    | ⟨1, _⟩ => show l.val = 0; omega
    | ⟨2, _⟩ => rfl

theorem take_rows (y : FVec Ideal S32768x4x4 .f32) (w : IVec S32768x1x1 32) (t : Fin 32768) (l : Fin 1) (e : Fin 4) (n : Fin 4)
    (hw : w (ix3 t 0 0) = BitVec.ofNat 32 n.val) :
    Host.gather gather_S32768x4x4_S32768x1x1_S32768x1x4_2_1_0_0_1_2_114 y w (ix3 t l e) = y (ix3 t n e) := by
  unfold Host.gather
  refine congrArg y (funext fun a => Fin.ext ?_)
  match a with
  | ⟨0, _⟩ => show 0 + t.val + 0 = t.val; omega
  | ⟨1, _⟩ =>
    refine Eq.trans ?_ (clamp_word n)
    rw [← hw]
    show _ + 0 + 0 = _
    show min (w _).toInt.toNat (4 - 1) = _
    congr 4
    funext b
    apply Fin.ext
    match b with
    | ⟨0, _⟩ => rfl
    | ⟨1, _⟩ => show l.val = 0; omega
    | ⟨2, _⟩ => rfl
  | ⟨2, _⟩ => show 0 + 0 + e.val = e.val; omega

end Cert.ReferenceIdeal.Hand

end
-- ==== Proof.MergeChoice.lean ====
module

public import proofs.«01_k».proof.Proof.MergeReference
public import proofs.«01_k».proof.Proof.MergeTake

@[expose] public section

set_option maxHeartbeats 1000000

noncomputable section

namespace Cert.ReferenceIdeal.Hand

open Cert.ReferenceIdeal Cert.ReferenceIdeal.Gen Idealize.ShloMosaic Cert.Route Cert.Merge

variable (x0 : FVec Ideal S8x4096x1024 .f32) (x1 x2 x3 : FVec Ideal S8x4096x512 .bf16) (x4 : FVec Ideal S1024 .f32)
  (x5 : FVec Ideal S3x512x1024 .f32) (x6 : FVec Ideal S1024x3072 .f32) (x7 : FVec Ideal S3072 .f32) (x8 : FVec Ideal S1024x1024 .f32)
  (x9 : FVec Ideal S1024 .f32) (x10 : FVec Ideal S1024x4 .f32) (x11 : FVec Ideal S4 .f32) (x12 : FVec Ideal S1024x16 .f32)
  (x13 : FVec Ideal S16 .f32)

/-- The chosen group's probability. -/
theorem share_apply (t : Fin 32768) (l : Fin 1) :
    Read.val_main_v70 (F := Ideal) x0 x1 x2 x3 x4 x5 x6 x7 x8 x9 x10 x11 (ix2 t l)
      = Read.val_main_v69 (F := Ideal) x0 x1 x2 x3 x4 x5 x6 x7 x8 x9 x10 x11 (ix2 t (top (groupOf (args x0 x1 x2 x3 x4 x5 x6 x7 x8 x9 x10 x11 x12 x13) t) 0)) := by
  have hs := index_apply x0 x1 x2 x3 x4 x5 x6 x7 x8 x9 x10 x11 x12 x13 t
  unfold Read.val_main_v70 Read.val_main_call0_v14 Read.val_main_call0_v13 Read.val_main_call0_v12 Read.val_main_call0_v11 Read.val_main_call0_v10 Read.val_main_call0_v9 Read.val_main_call0_v8 Read.val_main_call0_v7 Read.val_main_call0_v6 Read.val_main_call0_v5 Read.val_main_call0_v4 Read.val_main_call0_v3 Read.val_main_call0_v2 Read.val_main_call0_v1 Read.val_main_call0_v0 Read.val_main_call0_c Read.val_main_call0_c_0 Read.val_main_call0_c_1 Read.val_main_call0_c_2 Read.val_main_call0_c_3 Read.val_main_call0_cst
  generalize Read.val_main_indices (F := Ideal) x0 x1 x2 x3 x4 x5 x6 x7 x8 x9 x10 x11 = w at hs ⊢
  generalize Read.val_main_v69 (F := Ideal) x0 x1 x2 x3 x4 x5 x6 x7 x8 x9 x10 x11 = y
  generalize (top (groupOf (args x0 x1 x2 x3 x4 x5 x6 x7 x8 x9 x10 x11 x12 x13) t) 0) = n at hs ⊢
  pointwise
  simp only [hs, wrap_word, range_word]
  refine (select_all (fun _ => rfl) _ _).trans ?_
  refine take_one y _ t l n ?_
  pointwise
  simp only [hs, wrap_word]

/-- The chosen group's experts. -/
theorem chosen_apply (t : Fin 32768) (e : Fin 4) :
    Read.val_main_v78 (F := Ideal) x0 x1 x2 x3 x4 x5 x6 x7 x8 x9 x10 x11 x12 x13 (ix2 t e) = (expertOf (args x0 x1 x2 x3 x4 x5 x6 x7 x8 x9 x10 x11 x12 x13) t (top (groupOf (args x0 x1 x2 x3 x4 x5 x6 x7 x8 x9 x10 x11 x12 x13) t) 0)) e := by
  have hi := index_apply x0 x1 x2 x3 x4 x5 x6 x7 x8 x9 x10 x11 x12 x13 t
  have hs := expert_apply x0 x1 x2 x3 x4 x5 x6 x7 x8 x9 x10 x11 x12 x13 t
  unfold Read.val_main_v78 Read.val_main_v77 Read.val_main_call1_v14 Read.val_main_call1_v13 Read.val_main_call1_v12 Read.val_main_call1_v11 Read.val_main_call1_v10 Read.val_main_call1_v9 Read.val_main_call1_v8 Read.val_main_call1_v7 Read.val_main_call1_v6 Read.val_main_call1_v5 Read.val_main_call1_v4 Read.val_main_call1_v3 Read.val_main_call1_v2 Read.val_main_call1_v1 Read.val_main_call1_v0 Read.val_main_call1_c Read.val_main_call1_c_0 Read.val_main_call1_c_1 Read.val_main_call1_c_2 Read.val_main_call1_c_3 Read.val_main_call1_cst Read.val_main_v76
  generalize Read.val_main_indices (F := Ideal) x0 x1 x2 x3 x4 x5 x6 x7 x8 x9 x10 x11 = w at hi ⊢
  generalize Read.val_main_v75 (F := Ideal) x0 x1 x2 x3 x4 x5 x6 x7 x8 x9 x12 x13 = y at hs ⊢
  rw [← hs]
  generalize (top (groupOf (args x0 x1 x2 x3 x4 x5 x6 x7 x8 x9 x10 x11 x12 x13) t) 0) = n at hi ⊢
  pointwise
  simp only [hi, wrap_word, range_word]
  refine (select_all (fun _ => rfl) _ _).trans ?_
  refine take_rows y _ t 0 e n ?_
  pointwise
  simp only [hi, wrap_word]

/-- The two best experts of the chosen group, and their logits. -/
theorem best_apply (t : Fin 32768) (l : Fin 2) :
    Read.val_main_values_11 (F := Ideal) x0 x1 x2 x3 x4 x5 x6 x7 x8 x9 x10 x11 x12 x13 (ix2 t l) = (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) ⟨l.val, by omega⟩)
      ∧ Read.val_main_indices_12 (F := Ideal) x0 x1 x2 x3 x4 x5 x6 x7 x8 x9 x10 x11 x12 x13 (ix2 t l) = BitVec.ofNat 32 (top (expertOf (args x0 x1 x2 x3 x4 x5 x6 x7 x8 x9 x10 x11 x12 x13) t (top (groupOf (args x0 x1 x2 x3 x4 x5 x6 x7 x8 x9 x10 x11 x12 x13) t) 0)) ⟨l.val, by omega⟩).val := by
  have hs := chosen_apply x0 x1 x2 x3 x4 x5 x6 x7 x8 x9 x10 x11 x12 x13 t
  unfold Read.val_main_values_11 Read.val_main_indices_12
  generalize Read.val_main_v78 (F := Ideal) x0 x1 x2 x3 x4 x5 x6 x7 x8 x9 x10 x11 x12 x13 = y at hs ⊢
  have e : (fun g => y (ix2 t g)) = (expertOf (args x0 x1 x2 x3 x4 x5 x6 x7 x8 x9 x10 x11 x12 x13) t (top (groupOf (args x0 x1 x2 x3 x4 x5 x6 x7 x8 x9 x10 x11 x12 x13) t) 0)) := funext hs
  have h := topK_apply y sliceFits_S32768x4_S32768x2 t l (by omega)
  rw [e, hs] at h
  exact h

/-- The weights of the two best experts. -/
theorem weight_apply (t : Fin 32768) (l : Fin 2) :
    Read.val_main_v91 (F := Ideal) x0 x1 x2 x3 x4 x5 x6 x7 x8 x9 x10 x11 x12 x13 (ix2 t l)
      = Ideal.div (Ideal.exp ((expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) ⟨l.val, by omega⟩) - (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) 0)))
          (Ideal.exp ((expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) 0) - (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) 0)) + Ideal.exp ((expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) 1) - (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) 0)))
        * Ideal.div (Ideal.exp ((groupOf (args x0 x1 x2 x3 x4 x5 x6 x7 x8 x9 x10 x11 x12 x13) t) (top (groupOf (args x0 x1 x2 x3 x4 x5 x6 x7 x8 x9 x10 x11 x12 x13) t) 0) - (groupOf (args x0 x1 x2 x3 x4 x5 x6 x7 x8 x9 x10 x11 x12 x13) t) (top (groupOf (args x0 x1 x2 x3 x4 x5 x6 x7 x8 x9 x10 x11 x12 x13) t) 0))) (∑ h, Ideal.exp ((groupOf (args x0 x1 x2 x3 x4 x5 x6 x7 x8 x9 x10 x11 x12 x13) t) h - (groupOf (args x0 x1 x2 x3 x4 x5 x6 x7 x8 x9 x10 x11 x12 x13) t) (top (groupOf (args x0 x1 x2 x3 x4 x5 x6 x7 x8 x9 x10 x11 x12 x13) t) 0))) := by
  have hp := (share_apply x0 x1 x2 x3 x4 x5 x6 x7 x8 x9 x10 x11 x12 x13 t 0).trans (prob_apply x0 x1 x2 x3 x4 x5 x6 x7 x8 x9 x10 x11 x12 x13 t _)
  have hs := fun l => (best_apply x0 x1 x2 x3 x4 x5 x6 x7 x8 x9 x10 x11 x12 x13 t l).1
  unfold Read.val_main_v91 Read.val_main_v90 Read.val_main_v89 Read.val_main_v88 Read.val_main_v87 Read.val_main_v86 Read.val_main_v85 Read.val_main_v84 Read.val_main_v83 Read.val_main_v82 Read.val_main_v81 Read.val_main_v80 Read.val_main_v79 Read.val_main_cst_13 Read.val_main_cst_14 Read.val_main_cst_15
  generalize Read.val_main_v70 (F := Ideal) x0 x1 x2 x3 x4 x5 x6 x7 x8 x9 x10 x11 = w at hp ⊢
  generalize Read.val_main_values_11 (F := Ideal) x0 x1 x2 x3 x4 x5 x6 x7 x8 x9 x10 x11 x12 x13 = y at hs ⊢
  pointwise
  simp only [hs, hp]
  have hm : ∀ x : Fin 2, (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) ⟨x.val, by omega⟩) ≤ (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) ⟨(0 : Fin 2).val, by omega⟩) :=
    fun x => first_le _ _
  rw [fold_max (fun x : Fin 2 => (expertOf (args x0 x1 x2 x3 x4 x5 x6 x7 x8 x9 x10 x11 x12 x13) t (top (groupOf (args x0 x1 x2 x3 x4 x5 x6 x7 x8 x9 x10 x11 x12 x13) t) 0)) (top (expertOf (args x0 x1 x2 x3 x4 x5 x6 x7 x8 x9 x10 x11 x12 x13) t (top (groupOf (args x0 x1 x2 x3 x4 x5 x6 x7 x8 x9 x10 x11 x12 x13) t) 0)) ⟨x.val, by omega⟩)) 0 hm, lit_bot, max_eq_right bot_le, Fin.sum_univ_two]
  rfl

/-- The numbers of the two best experts. -/
theorem number_apply (t : Fin 32768) (l : Fin 2) :
    Read.val_main_v95 (F := Ideal) x0 x1 x2 x3 x4 x5 x6 x7 x8 x9 x10 x11 x12 x13 (ix2 t l)
      = BitVec.ofNat 32 (4 * (top (groupOf (args x0 x1 x2 x3 x4 x5 x6 x7 x8 x9 x10 x11 x12 x13) t) 0).val + (top (expertOf (args x0 x1 x2 x3 x4 x5 x6 x7 x8 x9 x10 x11 x12 x13) t (top (groupOf (args x0 x1 x2 x3 x4 x5 x6 x7 x8 x9 x10 x11 x12 x13) t) 0)) ⟨l.val, by omega⟩).val) := by
  have hi := index_apply x0 x1 x2 x3 x4 x5 x6 x7 x8 x9 x10 x11 x12 x13 t
  have hs := fun l => (best_apply x0 x1 x2 x3 x4 x5 x6 x7 x8 x9 x10 x11 x12 x13 t l).2
  unfold Read.val_main_v95 Read.val_main_v94 Read.val_main_v93 Read.val_main_v92 Read.val_main_c
  generalize Read.val_main_indices (F := Ideal) x0 x1 x2 x3 x4 x5 x6 x7 x8 x9 x10 x11 = w at hi ⊢
  generalize Read.val_main_indices_12 (F := Ideal) x0 x1 x2 x3 x4 x5 x6 x7 x8 x9 x10 x11 x12 x13 = y at hs ⊢
  pointwise
  simp only [hs, hi]
  exact number_word _ _

/-- The gates. -/
theorem gate_row (hA : Finite (args x0 x1 x2 x3 x4 x5 x6 x7 x8 x9 x10 x11 x12 x13)) (t : Fin 32768) (c : Fin 16) :
    Read.val_main_v100 (F := Ideal) x0 x1 x2 x3 x4 x5 x6 x7 x8 x9 x10 x11 x12 x13 (ix2 t c) = gate (groupOf (args x0 x1 x2 x3 x4 x5 x6 x7 x8 x9 x10 x11 x12 x13) t) (expertOf (args x0 x1 x2 x3 x4 x5 x6 x7 x8 x9 x10 x11 x12 x13) t) c := by
  have hw := weight_apply x0 x1 x2 x3 x4 x5 x6 x7 x8 x9 x10 x11 x12 x13 t
  have hn := number_apply x0 x1 x2 x3 x4 x5 x6 x7 x8 x9 x10 x11 x12 x13 t
  unfold Read.val_main_v100 Read.val_main_v99 Read.val_main_v98 Read.val_main_v97 Read.val_main_v96 Read.val_main_call2_v4 Read.val_main_call2_v3 Read.val_main_call2_v2 Read.val_main_call2_v1 Read.val_main_call2_v0 Read.val_main_cst_16
  generalize Read.val_main_v91 (F := Ideal) x0 x1 x2 x3 x4 x5 x6 x7 x8 x9 x10 x11 x12 x13 = w at hw ⊢
  generalize Read.val_main_v95 (F := Ideal) x0 x1 x2 x3 x4 x5 x6 x7 x8 x9 x10 x11 x12 x13 = y at hn ⊢
  pointwise
  simp only [hw, hn]
  have hG : ∀ g, ∃ a : ℝ, (groupOf (args x0 x1 x2 x3 x4 x5 x6 x7 x8 x9 x10 x11 x12 x13) t) g = a := hA.groupReal t
  have hE : ∀ g e, ∃ a : ℝ, expertOf (args x0 x1 x2 x3 x4 x5 x6 x7 x8 x9 x10 x11 x12 x13) t g e = a := hA.expertReal t
  generalize (groupOf (args x0 x1 x2 x3 x4 x5 x6 x7 x8 x9 x10 x11 x12 x13) t) = G at hG ⊢
  generalize expertOf (args x0 x1 x2 x3 x4 x5 x6 x7 x8 x9 x10 x11 x12 x13) t = E at hE ⊢
  choose G' hG using hG
  choose E' hE using hE
  have h := softmax_gate G' (E' (top G 0)) (top G 0) (top (E (top G 0)) 0) (top (E (top G 0)) 1)
  simp only [← hG, ← hE] at h
  rw [Fin.sum_univ_two, one_hot _ _ (by omega), one_hot _ _ (by omega)]
  unfold gate share rel
  refine congrArg₂ (· + ·) ?_ ?_
  · refine (ite_mul _ _ _ _).trans ?_
    rw [one_mul, zero_mul]
    exact congrArg (fun a => ite _ a 0) h.1
  · refine (ite_mul _ _ _ _).trans ?_
    rw [one_mul, zero_mul]
    exact congrArg (fun a => ite _ a 0) h.2

end Cert.ReferenceIdeal.Hand

end
-- ==== Proof.MergeClaim.lean ====
module

public import proofs.«01_k».proof.Defs
public import proofs.«01_k».proof.Proof.MergeValue
public import proofs.«01_k».proof.Proof.MergeChoice
public import proofs.«01_k».proof.Proof.Gen.Pre_router_finite
public import proofs.«01_k».proof.Proof.Gen.ReferenceIdeal.Run
public import Idealize.ShloMosaic.Lib.ReduceAll

@[expose] public section

noncomputable section

/-! ## The precondition, read -/

namespace Cert.Pre_router_finite.Hand

open Cert.Pre_router_finite Cert.Pre_router_finite.Gen Idealize.ShloMosaic Cert.Merge Cert.Route

theorem real_of_test (x : EReal) (h : Ideal.cmp .olt (max x (-x)) (Ideal.ofBits .f32 0x7F800000#32) = 1#1) : ∃ a : ℝ, x = a := by
  rw [lit_top] at h
  induction x with
  | bot => simp [Ideal.cmp] at h
  | top => simp [Ideal.cmp] at h
  | coe a => exact ⟨a, rfl⟩

theorem and_one {a b : BitVec 1} (h : IntOp.andi a b = 1#1) : a = 1#1 ∧ b = 1#1 := by
  revert a b; decide

instance : Subsingleton S_.Idx := ⟨fun _ _ => funext fun a => a.elim0⟩

variable (a0 : FVec Ideal S8x4096x1024 .f32) (a1 a2 a3 : FVec Ideal S8x4096x512 .bf16) (a4 : FVec Ideal S1024 .f32)
  (a5 : FVec Ideal S3x512x1024 .f32) (a6 : FVec Ideal S1024x3072 .f32) (a7 : FVec Ideal S3072 .f32) (a8 : FVec Ideal S1024x1024 .f32)
  (a9 : FVec Ideal S1024 .f32) (a10 : FVec Ideal S1024x4 .f32) (a11 : FVec Ideal S4 .f32) (a12 : FVec Ideal S1024x16 .f32)
  (a13 : FVec Ideal S16 .f32)

theorem finite (h : fn (F := Ideal) a0 a1 a2 a3 a4 a5 a6 a7 a8 a9 a10 a11 a12 a13 = fun _ => 1#1) : Finite ⟨a0, a1, a2, a3, a4, a5, a6, a7, a8, a9, a10, a11, a12, a13⟩ := by
  have h0 := and_one (congrFun h ix0)
  have h1 := and_one h0.2
  have he := Host.reduce_andi_all _ _ _ _ ix0 h0.1
  have hg := Host.reduce_andi_all _ _ _ _ ix0 h1.1
  have hn := Host.reduce_andi_all _ _ _ _ ix0 h1.2
  exact
    { norm := fun k => real_of_test _ (hn (ix1 k))
      wGroup := fun k g => real_of_test _ (and_one (hg (ix2 k g))).1
      bGroup := fun g => by
        obtain ⟨a, ha⟩ := real_of_test (a11 _) (and_one (hg (ix2 0 g))).2
        exact ⟨a, (congrArg a11 (funext fun b => by match b with | ⟨0, _⟩ => rfl)).trans ha⟩
      wExpert := fun k e => real_of_test _ (and_one (he (ix2 k e))).1
      bExpert := fun e => by
        obtain ⟨a, ha⟩ := real_of_test (a13 _) (and_one (he (ix2 0 e))).2
        exact ⟨a, (congrArg a13 (funext fun b => by match b with | ⟨0, _⟩ => rfl)).trans ha⟩ }

end Cert.Pre_router_finite.Hand

/-! ## The reference's three results -/

namespace Cert.ReferenceIdeal.Hand

open Cert.ReferenceIdeal Cert.ReferenceIdeal.Gen Idealize.ShloMosaic Cert.Route Cert.Merge

variable (x0 : FVec Ideal S8x4096x1024 .f32) (x1 x2 x3 : FVec Ideal S8x4096x512 .bf16) (x4 : FVec Ideal S1024 .f32)
  (x5 : FVec Ideal S3x512x1024 .f32) (x6 : FVec Ideal S1024x3072 .f32) (x7 : FVec Ideal S3072 .f32) (x8 : FVec Ideal S1024x1024 .f32)
  (x9 : FVec Ideal S1024 .f32) (x10 : FVec Ideal S1024x4 .f32) (x11 : FVec Ideal S4 .f32) (x12 : FVec Ideal S1024x16 .f32)
  (x13 : FVec Ideal S16 .f32)

theorem stream_eq : Read.val_main_v40 (F := Ideal) x0 x1 x2 x3 x4 x5 x6 x7 x8 = resStream (args x0 x1 x2 x3 x4 x5 x6 x7 x8 x9 x10 x11 x12 x13) := by
  funext i
  rw [eq_ix2 i]
  exact stream_apply x0 x1 x2 x3 x4 x5 x6 x7 x8 x9 x10 x11 x12 x13 (i 0) (i 1)

theorem hidden_eq : Read.val_main_v54 (F := Ideal) x0 x1 x2 x3 x4 x5 x6 x7 x8 x9 = resHidden (args x0 x1 x2 x3 x4 x5 x6 x7 x8 x9 x10 x11 x12 x13) := by
  funext i
  rw [eq_ix2 i]
  exact hidden_apply x0 x1 x2 x3 x4 x5 x6 x7 x8 x9 x10 x11 x12 x13 (i 0) (i 1)

theorem gate_eq (hA : Finite (args x0 x1 x2 x3 x4 x5 x6 x7 x8 x9 x10 x11 x12 x13)) : Read.val_main_v100 (F := Ideal) x0 x1 x2 x3 x4 x5 x6 x7 x8 x9 x10 x11 x12 x13 = resGate (args x0 x1 x2 x3 x4 x5 x6 x7 x8 x9 x10 x11 x12 x13) := by
  funext i
  rw [eq_ix2 i]
  exact gate_row x0 x1 x2 x3 x4 x5 x6 x7 x8 x9 x10 x11 x12 x13 hA (i 0) (i 1)

end Cert.ReferenceIdeal.Hand

/-! ## The claim -/

namespace Cert.KernelIdeal.Hand

open Idealize.ShloMosaic Idealize.ShloMosaic.TcCoe Idealize.SL.Sem Cert.Merge Cert.Route
open Cert.KernelIdeal Cert.KernelIdeal.Gen

theorem algebraic : Cert.algebraic_KernelIdeal_ReferenceIdeal_pre_router_finite (hKernelIdeal := Cert.KernelIdeal.Gen.facts)
    (hReferenceIdeal := Cert.ReferenceIdeal.Gen.facts) (hPre_router_finite := Cert.Pre_router_finite.Gen.facts) := by
  intro m g m' g' hpre hm
  have hA : ∀ c, Finite (args m c) := fun c => Cert.Pre_router_finite.Hand.finite _ _ _ _ _ _ _ _ _ _ _ _ _ _ (hpre c)
  refine ⟨fun c => resStream (args m c), fun c => resHidden (args m c), fun c => resGate (args m c),
    run_main m g |> (θ_run _ _ _).mono (fun r h c => ?_),
    Cert.ReferenceIdeal.Value.run m' g' |> (θ_run _ _ _).mono (fun r h c => ?_)⟩
  · exact ⟨((h c).1 13).trans (final13_eq m c), ((h c).1 14).trans (final14_eq m c), ((h c).1 15).trans (final15_eq m hA c),
      ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c), ((h c).2 main_arg8 (Pipeline.mem_restRefs_of main_arg8 (by decide) (by decide))).trans (V_main_arg8 m c), ((h c).2 main_arg9 (Pipeline.mem_restRefs_of main_arg9 (by decide) (by decide))).trans (V_main_arg9 m c), ((h c).2 main_arg10 (Pipeline.mem_restRefs_of main_arg10 (by decide) (by decide))).trans (V_main_arg10 m c), ((h c).2 main_arg11 (Pipeline.mem_restRefs_of main_arg11 (by decide) (by decide))).trans (V_main_arg11 m c), ((h c).2 main_arg12 (Pipeline.mem_restRefs_of main_arg12 (by decide) (by decide))).trans (V_main_arg12 m c), ((h c).2 main_arg13 (Pipeline.mem_restRefs_of main_arg13 (by decide) (by decide))).trans (V_main_arg13 m c)⟩
  · obtain ⟨e0, e1, e2, e3, e4, e5, e6, e7, e8, e9, e10, e11, e12, e13⟩ := hm c
    have ha : Cert.ReferenceIdeal.Hand.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = args m c := by
      rw [e0, e1, e2, e3, e4, e5, e6, e7, e8, e9, e10, e11, e12, e13]
      rfl
    refine ⟨(h c).1.trans ?_, (h c).2.1.trans ?_, (h c).2.2.1.trans ?_, (h c).2.2.2⟩
    · rw [Cert.ReferenceIdeal.Read.val_main_v40_eq]
      exact (Cert.ReferenceIdeal.Hand.stream_eq _ _ _ _ _ _ _ _ _ _ _ _ _ _).trans (congrArg resStream ha)
    · rw [Cert.ReferenceIdeal.Read.val_main_v54_eq]
      exact (Cert.ReferenceIdeal.Hand.hidden_eq _ _ _ _ _ _ _ _ _ _ _ _ _ _).trans (congrArg resHidden ha)
    · rw [Cert.ReferenceIdeal.Read.val_main_v100_eq]
      exact (Cert.ReferenceIdeal.Hand.gate_eq _ _ _ _ _ _ _ _ _ _ _ _ _ _ (ha ▸ hA c)).trans (congrArg resGate ha)

end Cert.KernelIdeal.Hand
end
-- ==== Proof.ProjSpec.lean ====
module

public import proofs.«01_k».proof.Proof.MergeRow
public import Idealize.ShloMosaic.Lib.Pointwise

@[expose] public section

noncomputable section

namespace Cert.Proj

open Idealize.ShloMosaic Cert.Route Cert.Merge

/-! ## The projections of one token, as functions of the row of products -/

theorem lit_64 : Ideal.ofBits .f32 0x42800000#32 = ((64 : ℝ) : EReal) := by
  simp [Ideal.ofBits, Ideal.ieee, -EReal.coe_mul]; norm_num
theorem lit_64th : Ideal.ofBits .f32 0x3C800000#32 = (((64 : ℝ)⁻¹ : ℝ) : EReal) := by
  simp [Ideal.ofBits, Ideal.ieee, -EReal.coe_mul]; norm_num

/-- Multiplying by a sixty-fourth divides by sixty-four. -/
theorem mul_64th (y : EReal) : y * Ideal.ofBits .f32 0x3C800000#32 = Ideal.div y (Ideal.ofBits .f32 0x42800000#32) := by
  rw [lit_64th, lit_64]
  unfold Ideal.div
  rw [if_neg (by simp), ← EReal.coe_inv]

/-- A head of 64 entries divided by its root mean square. -/
def unit (p : Fin 64 → EReal) (k : Fin 64) : EReal :=
  p k * Ideal.rsqrt (Ideal.div (∑ j, p j * p j) (Ideal.ofBits .f32 0x42800000#32) + Ideal.ofBits .f32 0x358637BD#32)

/-- Entry `r` of the `n` products from column `o` on, each head normalised. -/
def normed {n : Nat} (p : Fin 3200 → EReal) (o : Nat) (r : Fin n) (hn : n % 64 = 0) (ho : o + n ≤ 3200) : EReal :=
  unit (fun j => p ⟨o + (r.val / 64 * 64 + j.val), by omega⟩) ⟨r.val % 64, by omega⟩

/-- Entry `r` of the values from column `o` on, each head's `v` values followed by a one and fifteen zeros. -/
def padded {n : Nat} (p : Fin 3200 → EReal) (o v : Nat) (r : Fin (n * (v + 16))) (ho : o + n * v ≤ 3200) : EReal :=
  if h : r.val % (v + 16) < v then
    p ⟨o + (r.val / (v + 16) * v + r.val % (v + 16)), by
      have h1 : r.val / (v + 16) < n := Nat.div_lt_of_lt_mul (r.isLt.trans_eq (Nat.mul_comm _ _))
      have h2 : (r.val / (v + 16) + 1) * v ≤ n * v := Nat.mul_le_mul_right v h1
      rw [Nat.succ_mul] at h2
      omega⟩
  else if r.val % (v + 16) = v then 1 else 0

theorem normed_at {n : Nat} (p : Fin 3200 → EReal) (o : Nat) (r : Fin n) (hn : n % 64 = 0) (ho : o + n ≤ 3200) (c : Fin 3200)
    (i : Fin 64 → Fin 3200) (hc : c.val = o + r.val) (hi : ∀ j, (i j).val = o + (r.val / 64 * 64 + j.val)) :
    p c * Ideal.rsqrt (Ideal.div (∑ j, p (i j) * p (i j)) (Ideal.ofBits .f32 0x42800000#32) + Ideal.ofBits .f32 0x358637BD#32)
      = normed p o r hn ho := by
  have h1 : p c = p ⟨o + (r.val / 64 * 64 + r.val % 64), by omega⟩ := congrArg p (Fin.ext (by
    show c.val = o + (r.val / 64 * 64 + r.val % 64); omega))
  have h2 : i = fun j => ⟨o + (r.val / 64 * 64 + j.val), by omega⟩ := funext fun j => Fin.ext (hi j)
  subst h2
  rw [h1]
  rfl

theorem padded_val {n : Nat} (p : Fin 3200 → EReal) (o v : Nat) (r : Fin (n * (v + 16))) (ho : o + n * v ≤ 3200) (c : Fin 3200)
    (h : r.val % (v + 16) < v) (hc : c.val = o + (r.val / (v + 16) * v + r.val % (v + 16))) : p c = padded p o v r ho := by
  unfold padded
  rw [dif_pos h]
  exact congrArg p (Fin.ext hc)

theorem padded_fill {n : Nat} (p : Fin 3200 → EReal) (o v : Nat) (r : Fin (n * (v + 16))) (ho : o + n * v ≤ 3200) (k : Nat)
    (h : r.val % (v + 16) = v + k) : (if k = 0 then 1 else 0) = padded p o v r ho := by
  unfold padded
  rw [dif_neg (by omega)]
  by_cases hk : k = 0
  · rw [if_pos hk, if_pos (by omega)]
  · rw [if_neg hk, if_neg (by omega)]

/-- The ones that the body pads the values with: one in row 0, zero in rows 1 to 15. -/
theorem one_row (k : Nat) (hk : k < 16) :
    FloatOps.sitofp (F := Ideal) FTy.f32 (BitVec.setWidth 32 (IntOp.cmpi CmpIPredicate.eq (BitVec.ofNat 32 k) 0#32))
      = (if k = 0 then 1 else 0 : EReal) := by
  interval_cases k <;> simp [FloatOps.sitofp, IntOp.cmpi]

/-- A sum over the columns of the same head, written with the table of ones that the body multiplies by. -/
theorem seg_sum {n : Nat} (hn : n % 64 = 0) (f : Fin n → EReal) (c : Fin n) :
    ∑ j : Fin n, f j * (if j.val / 64 = c.val / 64 then 1 else 0)
      = ∑ j : Fin 64, f ⟨c.val / 64 * 64 + j.val, by omega⟩ := by
  refine (Finset.sum_subset (Finset.subset_univ (Finset.univ.map ⟨fun j : Fin 64 => (⟨c.val / 64 * 64 + j.val, by omega⟩ : Fin n),
    fun a b h => by simpa [Fin.ext_iff] using h⟩)) fun x _ hx => ?_).symm.trans ?_
  · rw [if_neg, mul_zero]
    intro he
    exact hx (Finset.mem_map.mpr ⟨⟨x.val % 64, by omega⟩, Finset.mem_univ _, Fin.ext (by
      show c.val / 64 * 64 + x.val % 64 = x.val; omega)⟩)
  · rw [Finset.sum_map]
    refine Finset.sum_congr rfl fun j _ => ?_
    show f _ * (if (c.val / 64 * 64 + j.val) / 64 = c.val / 64 then (1 : EReal) else 0) = _
    rw [if_pos (by omega), mul_one]
    rfl

/-! ## The projections of all tokens -/

/-- The arguments: the stream, the first norm's gains, the prepared weights, the heads' gains. -/
structure Args where
  x : FVec Ideal ⟨3, ![8, 4096, 1024]⟩ .f32
  norm : FVec Ideal ⟨1, ![1024]⟩ .f32
  w : FVec Ideal ⟨2, ![1024, 3200]⟩ .bf16
  gain : FVec Ideal ⟨3, ![3, 2, 64]⟩ .f32

variable (A : Args)

/-- The products of token `s` of sequence `b`. -/
def prod (b : Fin 8) (s : Fin 4096) (c : Fin 3200) : EReal :=
  ∑ k, rms (fun k => A.x (ix3 b s k)) (fun k => A.norm (ix1 k)) k * A.w (ix2 k c)

/-- The gain of entry `r` of a row of heads. -/
def gainOf {n : Nat} (i : Fin 3) (j : Fin 2) (r : Fin n) : EReal := A.gain (ix3 i j ⟨r.val % 64, by omega⟩)

/-- The queries, transposed, with the scale of the scores. -/
def queries (o : Nat) (i : Fin 3) (ho : o + 512 ≤ 3200) : FVec Ideal ⟨3, ![8, 512, 4096]⟩ .bf16 :=
  fun y => normed (n := 512) (prod A (y 0) (y 2)) o (y 1) (by omega) ho * (gainOf A (n := 512) i 0 (y 1) * Ideal.ofBits .f32 0x3E38AA3B#32)

/-- The keys. -/
def keys (n o : Nat) (i : Fin 3) (hn : n % 64 = 0) (ho : o + n ≤ 3200) : FVec Ideal ⟨3, ![8, 4096, n]⟩ .bf16 :=
  fun y => normed (n := n) (prod A (y 0) (y 1)) o (y 2) hn ho * gainOf A (n := n) i 1 (y 2)

/-- The values, in slabs of 256 tokens, transposed. -/
def values (n v o : Nat) (ho : o + n * v ≤ 3200) : FVec Ideal ⟨4, ![8, 16, n * (v + 16), 256]⟩ .bf16 :=
  fun y => padded (n := n) (prod A (y 0) ⟨(y 1).val * 256 + (y 3).val, by
    have h1 : (y 1).val < 16 := (y 1).isLt
    have h3 : (y 3).val < 256 := (y 3).isLt
    omega⟩) o v (y 2) ho

/-- The index's queries, transposed. -/
def indexQueries : FVec Ideal ⟨3, ![8, 128, 4096]⟩ .bf16 :=
  fun y => prod A (y 0) (y 2) ⟨2944 + (y 1).val, by have h : (y 1).val < 128 := (y 1).isLt; omega⟩

/-- The index's keys. -/
def indexKeys : FVec Ideal ⟨3, ![8, 4096, 32]⟩ .bf16 :=
  fun y => prod A (y 0) (y 1) ⟨3072 + (y 2).val, by have h : (y 2).val < 32 := (y 2).isLt; omega⟩

/-- The index's head weights, transposed and scaled. -/
def indexWeights : FVec Ideal ⟨3, ![8, 4, 4096]⟩ .f32 :=
  fun y => prod A (y 0) (y 2) ⟨3104 + (y 1).val, by have h : (y 1).val < 4 := (y 1).isLt; omega⟩ * Ideal.ofBits .f32 0x3DB504F3#32

end Cert.Proj

end
-- ==== Proof.ProjPay.lean ====
module

public import proofs.«01_k».proof.Proof.Gen.ProjIdeal.Frame
public import proofs.«01_k».proof.Proof.ProjSpec
public import Idealize.ShloMosaic.Lib.Pipeline.Value
public import Idealize.ShloMosaic.Lib.Pipeline.ValueKit.Tiles

@[expose] public section

noncomputable section

namespace Cert.ProjIdeal.Hand

open Cert.ProjIdeal Cert.ProjIdeal.Gen Idealize.ShloMosaic Cert.Route Cert.Merge Cert.Proj

theorem hz2 : (![0, 0] : Fin 2 → Nat) = fun _ => 0 := funext fun a => by fin_cases a <;> rfl
theorem hz3 : (![0, 0, 0] : Fin 3 → Nat) = fun _ => 0 := funext fun a => by fin_cases a <;> rfl

variable (x0 : Vec Ideal S1x1024x1024 .f32) (x1 : Vec Ideal S1x1024 .f32) (x2 : Vec Ideal S1024x3200 .bf16) (x3 : Vec Ideal S512x512 .bf16)
  (x4 : Vec Ideal S512x1 .f32) (x5 : Vec Ideal S1x512 .f32) (x6 : Vec Ideal S512x1 .f32) (x7 : Vec Ideal S1x128 .f32)
  (x8 : Vec Ideal S512x1 .f32) (x9 : Vec Ideal S1x64 .f32)

/-- The products of row `s` of the block. -/
def rowProd (s : Fin 1024) (c : Fin 3200) : EReal :=
  ∑ k, rms (fun k => x0 (ix3 0 s k)) (fun k => x1 (ix2 0 k)) k * x2 (ix2 k c)

/-! ## Queries and keys -/

theorem out_aq (r : Fin 512) (s : Fin 1024) :
    out0_10 x0 x1 x2 x3 x4 x5 x6 x7 x8 x9 (ix3 0 r s)
      = normed (rowProd x0 x1 x2 s) 0 r (by omega) (by omega) * x4 (ix2 r 0) := by
  unfold_out out0_10
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  simp only [mul_64th]
  exact congrArg (· * x4 (ix2 r 0)) (normed_at (rowProd x0 x1 x2 s) 0 r (by omega) (by omega) ⟨r.val, by omega⟩
    (fun j => ⟨r.val / 64 * 64 + j.val, by omega⟩) (by simp) fun j => by simp)

theorem out_bq (r : Fin 512) (s : Fin 1024) :
    out0_13 x0 x1 x2 x3 x4 x5 x6 x7 x8 x9 (ix3 0 r s)
      = normed (rowProd x0 x1 x2 s) 1536 r (by omega) (by omega) * x6 (ix2 r 0) := by
  unfold_out out0_13
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  simp only [mul_64th]
  exact congrArg (· * x6 (ix2 r 0)) (normed_at (rowProd x0 x1 x2 s) 1536 r (by omega) (by omega) ⟨1536 + r.val, by omega⟩
    (fun j => ⟨1536 + (r.val / 64 * 64 + j.val), by omega⟩) rfl fun j => rfl)

theorem out_cq (r : Fin 512) (s : Fin 1024) :
    out0_16 x0 x1 x2 x3 x4 x5 x6 x7 x8 x9 (ix3 0 r s)
      = normed (rowProd x0 x1 x2 s) 2304 r (by omega) (by omega) * x8 (ix2 r 0) := by
  unfold_out out0_16
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  simp only [mul_64th]
  exact congrArg (· * x8 (ix2 r 0)) (normed_at (rowProd x0 x1 x2 s) 2304 r (by omega) (by omega) ⟨2304 + r.val, by omega⟩
    (fun j => ⟨2304 + (r.val / 64 * 64 + j.val), by omega⟩) rfl fun j => rfl)

theorem out_ak (hs : ∀ i j : Fin 512, x3 (ix2 i j) = if i.val / 64 = j.val / 64 then 1 else 0) (s : Fin 1024) (r : Fin 512) :
    out0_11 x0 x1 x2 x3 x4 x5 x6 x7 x8 x9 (ix3 0 s r)
      = normed (rowProd x0 x1 x2 s) 512 r (by omega) (by omega) * x5 (ix2 0 r) := by
  unfold_out out0_11
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  simp only [mul_64th, hs, seg_sum (n := 512) (by norm_num)]
  exact congrArg (· * x5 (ix2 0 r)) (normed_at (rowProd x0 x1 x2 s) 512 r (by omega) (by omega) ⟨512 + r.val, by omega⟩
    (fun j => ⟨512 + (r.val / 64 * 64 + j.val), by omega⟩) rfl fun j => rfl)

theorem out_bk (hs : ∀ i j : Fin 512, x3 (ix2 i j) = if i.val / 64 = j.val / 64 then 1 else 0) (s : Fin 1024) (r : Fin 128) :
    out0_14 x0 x1 x2 x3 x4 x5 x6 x7 x8 x9 (ix3 0 s r)
      = normed (rowProd x0 x1 x2 s) 2048 r (by omega) (by omega) * x7 (ix2 0 r) := by
  unfold_out out0_14
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  simp only [mul_64th, hs, seg_sum (n := 128) (by norm_num)]
  exact congrArg (· * x7 (ix2 0 r)) (normed_at (rowProd x0 x1 x2 s) 2048 r (by omega) (by omega) ⟨2048 + r.val, by omega⟩
    (fun j => ⟨2048 + (r.val / 64 * 64 + j.val), by omega⟩) rfl fun j => rfl)

theorem out_ck (s : Fin 1024) (r : Fin 64) :
    out0_17 x0 x1 x2 x3 x4 x5 x6 x7 x8 x9 (ix3 0 s r)
      = normed (rowProd x0 x1 x2 s) 2816 r (by omega) (by omega) * x9 (ix2 0 r) := by
  unfold_out out0_17
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  simp only [mul_64th]
  exact congrArg (· * x9 (ix2 0 r)) (normed_at (rowProd x0 x1 x2 s) 2816 r (by omega) (by omega) ⟨2816 + r.val, by omega⟩
    (fun j => ⟨2816 + j.val, by omega⟩) rfl fun j => by show 2816 + j.val = 2816 + (r.val / 64 * 64 + j.val); omega)

/-! ## The index -/

theorem out_iq (r : Fin 128) (s : Fin 1024) :
    out0_19 x0 x1 x2 x3 x4 x5 x6 x7 x8 x9 (ix3 0 r s)
      = rowProd x0 x1 x2 s ⟨2944 + r.val, by omega⟩ := by
  unfold_out out0_19
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  rfl

theorem out_ik (s : Fin 1024) (r : Fin 32) :
    out0_20 x0 x1 x2 x3 x4 x5 x6 x7 x8 x9 (ix3 0 s r)
      = rowProd x0 x1 x2 s ⟨3072 + r.val, by omega⟩ := by
  unfold_out out0_20
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  rfl

theorem out_iw (r : Fin 4) (s : Fin 1024) :
    out0_21 x0 x1 x2 x3 x4 x5 x6 x7 x8 x9 (ix3 0 r s)
      = rowProd x0 x1 x2 s ⟨3104 + r.val, by omega⟩ * Ideal.ofBits .f32 0x3DB504F3#32 := by
  unfold_out out0_21
  rw [View.canon_unit_zero hz3]
  simp only [View.ld_unit_zero (S := S1x1024x1024) hz3, View.ld_unit_zero (S := S1x1024) hz2, View.ld_unit_zero (S := S512x1) hz2, View.ld_unit_zero (S := S1x512) hz2, View.ld_unit_zero (S := S1x128) hz2, View.ld_unit_zero (S := S1x64) hz2, View.ld_unit_zero (S := S512x512) hz2]
  unfold_payloads
  pointwise
  have hc : (⟨3104 + r.val, by omega⟩ : Fin 3200) = ⟨3072 + (32 + r.val), by omega⟩ := Fin.ext (by
    show 3104 + r.val = 3072 + (32 + r.val); omega)
  rw [hc]
  rfl

/-! ## The slabs of values -/

/-- A block of four slabs, by index. -/
def slabs (n v o : Nat) (ho : o + n * v ≤ 3200) : Vec Ideal ⟨4, ![1, 4, n * (v + 16), 256]⟩ .bf16 :=
  fun y => padded (n := n) (rowProd x0 x1 x2 ⟨(y 1).val * 256 + (y 3).val, by
    have h1 : (y 1).val < 4 := (y 1).isLt
    have h3 : (y 3).val < 256 := (y 3).isLt
    omega⟩) o v (y 2) ho

theorem table_av (r : Fin 576) (s : Fin 1024) :
    k0_pay45 x0 x1 x2 x3 x4 x5 x6 x7 x8 x9 (ix2 r s) = padded (n := 4) (rowProd x0 x1 x2 s) 1024 128 r (by omega) := by
  unfold k0_pay45 k0_pay44 k0_pay42
  simp only [View.ld_unit_zero (S := S1x1024x1024) hz3, View.ld_unit_zero (S := S1x1024) hz2]
  unfold_payloads
  pointwise
  split_ifs
  all_goals first
    | exact padded_val (n := 4) (rowProd x0 x1 x2 s) 1024 128 r (by omega) ⟨_, by omega⟩ (by omega) (by
        show _ + _ = _; omega)
    | exact (one_row _ (by omega)).trans (padded_fill (n := 4) (rowProd x0 x1 x2 s) 1024 128 r (by omega) _ (by omega))

theorem out_av (i : Fin 4) (r : Fin 576) (u : Fin 256) :
    out0_12 x0 x1 x2 x3 x4 x5 x6 x7 x8 x9 (ix4 0 i r u)
      = padded (n := 4) (rowProd x0 x1 x2 ⟨i.val * 256 + u.val, by omega⟩) 1024 128 r (by omega) := by
  refine View.canon_apply_of_pieces (Val := Elt Ideal) (e := .bf16) (slabs x0 x1 x2 4 128 1024 (by omega)) _ ?_ (ix4 0 i r u) (cover0_12 ..)
  simp only [List.forall_mem_cons, List.not_mem_nil, false_implies, implies_true, and_true]
  refine ⟨?_, ?_, ?_, ?_⟩
  · intro (x : Shape.Idx S1x1x576x256)
    obtain ⟨a, b, r, u, rfl⟩ : ∃ (a b : Fin 1) (r : Fin 576) (u : Fin 256), x = ix4 a b r u := ⟨_, _, _, _, eq_ix4 x⟩
    have he : r0_13.emb (ix4 a b r u) = ix4 a 3 r u := by
      funext d
      apply Fin.ext
      match d with
      | 0 => show 0 + 1 * a.val = a.val; omega
      | 1 => show 3 + 1 * b.val = 3; omega
      | 2 => show 0 + 1 * r.val = r.val; omega
      | 3 => show 0 + 1 * u.val = u.val; omega
    rw [he]
    refine Eq.trans ?_ (table_av x0 x1 x2 x3 x4 x5 x6 x7 x8 x9 r ⟨768 + u.val, by omega⟩)
    unfold k0_pay14
    generalize k0_pay45 x0 x1 x2 x3 x4 x5 x6 x7 x8 x9 = y
    pointwise
  · intro (x : Shape.Idx S1x1x576x256)
    obtain ⟨a, b, r, u, rfl⟩ : ∃ (a b : Fin 1) (r : Fin 576) (u : Fin 256), x = ix4 a b r u := ⟨_, _, _, _, eq_ix4 x⟩
    have he : r0_12.emb (ix4 a b r u) = ix4 a 2 r u := by
      funext d
      apply Fin.ext
      match d with
      | 0 => show 0 + 1 * a.val = a.val; omega
      | 1 => show 2 + 1 * b.val = 2; omega
      | 2 => show 0 + 1 * r.val = r.val; omega
      | 3 => show 0 + 1 * u.val = u.val; omega
    rw [he]
    refine Eq.trans ?_ (table_av x0 x1 x2 x3 x4 x5 x6 x7 x8 x9 r ⟨512 + u.val, by omega⟩)
    unfold k0_pay13
    generalize k0_pay45 x0 x1 x2 x3 x4 x5 x6 x7 x8 x9 = y
    pointwise
  · intro (x : Shape.Idx S1x1x576x256)
    obtain ⟨a, b, r, u, rfl⟩ : ∃ (a b : Fin 1) (r : Fin 576) (u : Fin 256), x = ix4 a b r u := ⟨_, _, _, _, eq_ix4 x⟩
    have he : r0_11.emb (ix4 a b r u) = ix4 a 1 r u := by
      funext d
      apply Fin.ext
      match d with
      | 0 => show 0 + 1 * a.val = a.val; omega
      | 1 => show 1 + 1 * b.val = 1; omega
      | 2 => show 0 + 1 * r.val = r.val; omega
      | 3 => show 0 + 1 * u.val = u.val; omega
    rw [he]
    refine Eq.trans ?_ (table_av x0 x1 x2 x3 x4 x5 x6 x7 x8 x9 r ⟨256 + u.val, by omega⟩)
    unfold k0_pay12
    generalize k0_pay45 x0 x1 x2 x3 x4 x5 x6 x7 x8 x9 = y
    pointwise
  · intro (x : Shape.Idx S1x1x576x256)
    obtain ⟨a, b, r, u, rfl⟩ : ∃ (a b : Fin 1) (r : Fin 576) (u : Fin 256), x = ix4 a b r u := ⟨_, _, _, _, eq_ix4 x⟩
    have he : r0_10.emb (ix4 a b r u) = ix4 a 0 r u := by
      funext d
      apply Fin.ext
      match d with
      | 0 => show 0 + 1 * a.val = a.val; omega
      | 1 => show 0 + 1 * b.val = 0; omega
      | 2 => show 0 + 1 * r.val = r.val; omega
      | 3 => show 0 + 1 * u.val = u.val; omega
    rw [he]
    refine Eq.trans ?_ (table_av x0 x1 x2 x3 x4 x5 x6 x7 x8 x9 r ⟨0 + u.val, by omega⟩)
    unfold k0_pay11 k0_pay10 k0_pay45
    generalize k0_pay9 (F := Ideal) _ _ _ = y
    pointwise

theorem table_bv (r : Fin 160) (s : Fin 1024) :
    k0_pay24 (k0_pay42 x0 x1 x2 x3 x4 x5 x6 x7 x8 x9) (k0_pay44 x0 x1 x2 x3 x4 x5 x6 x7 x8 x9) (View.ld x2 r0_19) (ix2 r s) = padded (n := 2) (rowProd x0 x1 x2 s) 2176 64 r (by omega) := by
  unfold k0_pay44 k0_pay42
  simp only [View.ld_unit_zero (S := S1x1024x1024) hz3, View.ld_unit_zero (S := S1x1024) hz2]
  unfold_payloads
  pointwise
  split_ifs
  all_goals first
    | exact padded_val (n := 2) (rowProd x0 x1 x2 s) 2176 64 r (by omega) ⟨_, by omega⟩ (by omega) (by
        show _ + _ = _; omega)
    | exact (one_row _ (by omega)).trans (padded_fill (n := 2) (rowProd x0 x1 x2 s) 2176 64 r (by omega) _ (by omega))

theorem out_bv (i : Fin 4) (r : Fin 160) (u : Fin 256) :
    out0_15 x0 x1 x2 x3 x4 x5 x6 x7 x8 x9 (ix4 0 i r u)
      = padded (n := 2) (rowProd x0 x1 x2 ⟨i.val * 256 + u.val, by omega⟩) 2176 64 r (by omega) := by
  refine View.canon_apply_of_pieces (Val := Elt Ideal) (e := .bf16) (slabs x0 x1 x2 2 64 2176 (by omega)) _ ?_ (ix4 0 i r u) (cover0_15 ..)
  simp only [List.forall_mem_cons, List.not_mem_nil, false_implies, implies_true, and_true]
  refine ⟨?_, ?_, ?_, ?_⟩
  · intro (x : Shape.Idx S1x1x160x256)
    obtain ⟨a, b, r, u, rfl⟩ : ∃ (a b : Fin 1) (r : Fin 160) (u : Fin 256), x = ix4 a b r u := ⟨_, _, _, _, eq_ix4 x⟩
    have he : r0_23.emb (ix4 a b r u) = ix4 a 3 r u := by
      funext d
      apply Fin.ext
      match d with
      | 0 => show 0 + 1 * a.val = a.val; omega
      | 1 => show 3 + 1 * b.val = 3; omega
      | 2 => show 0 + 1 * r.val = r.val; omega
      | 3 => show 0 + 1 * u.val = u.val; omega
    rw [he]
    refine Eq.trans ?_ (table_bv x0 x1 x2 x3 x4 x5 x6 x7 x8 x9 r ⟨768 + u.val, by omega⟩)
    unfold k0_pay29 k0_pay28
    generalize k0_pay24 (F := Ideal) _ _ _ = y
    pointwise
  · intro (x : Shape.Idx S1x1x160x256)
    obtain ⟨a, b, r, u, rfl⟩ : ∃ (a b : Fin 1) (r : Fin 160) (u : Fin 256), x = ix4 a b r u := ⟨_, _, _, _, eq_ix4 x⟩
    have he : r0_22.emb (ix4 a b r u) = ix4 a 2 r u := by
      funext d
      apply Fin.ext
      match d with
      | 0 => show 0 + 1 * a.val = a.val; omega
      | 1 => show 2 + 1 * b.val = 2; omega
      | 2 => show 0 + 1 * r.val = r.val; omega
      | 3 => show 0 + 1 * u.val = u.val; omega
    rw [he]
    refine Eq.trans ?_ (table_bv x0 x1 x2 x3 x4 x5 x6 x7 x8 x9 r ⟨512 + u.val, by omega⟩)
    unfold k0_pay27
    generalize k0_pay24 (F := Ideal) _ _ _ = y
    pointwise
  · intro (x : Shape.Idx S1x1x160x256)
    obtain ⟨a, b, r, u, rfl⟩ : ∃ (a b : Fin 1) (r : Fin 160) (u : Fin 256), x = ix4 a b r u := ⟨_, _, _, _, eq_ix4 x⟩
    have he : r0_21.emb (ix4 a b r u) = ix4 a 1 r u := by
      funext d
      apply Fin.ext
      match d with
      | 0 => show 0 + 1 * a.val = a.val; omega
      | 1 => show 1 + 1 * b.val = 1; omega
      | 2 => show 0 + 1 * r.val = r.val; omega
      | 3 => show 0 + 1 * u.val = u.val; omega
    rw [he]
    refine Eq.trans ?_ (table_bv x0 x1 x2 x3 x4 x5 x6 x7 x8 x9 r ⟨256 + u.val, by omega⟩)
    unfold k0_pay26
    generalize k0_pay24 (F := Ideal) _ _ _ = y
    pointwise
  · intro (x : Shape.Idx S1x1x160x256)
    obtain ⟨a, b, r, u, rfl⟩ : ∃ (a b : Fin 1) (r : Fin 160) (u : Fin 256), x = ix4 a b r u := ⟨_, _, _, _, eq_ix4 x⟩
    have he : r0_20.emb (ix4 a b r u) = ix4 a 0 r u := by
      funext d
      apply Fin.ext
      match d with
      | 0 => show 0 + 1 * a.val = a.val; omega
      | 1 => show 0 + 1 * b.val = 0; omega
      | 2 => show 0 + 1 * r.val = r.val; omega
      | 3 => show 0 + 1 * u.val = u.val; omega
    rw [he]
    refine Eq.trans ?_ (table_bv x0 x1 x2 x3 x4 x5 x6 x7 x8 x9 r ⟨0 + u.val, by omega⟩)
    unfold k0_pay25
    generalize k0_pay24 (F := Ideal) _ _ _ = y
    pointwise

theorem table_cv (r : Fin 80) (s : Fin 1024) :
    k0_pay33 (k0_pay42 x0 x1 x2 x3 x4 x5 x6 x7 x8 x9) (k0_pay44 x0 x1 x2 x3 x4 x5 x6 x7 x8 x9) (View.ld x2 r0_26) (ix2 r s) = padded (n := 1) (rowProd x0 x1 x2 s) 2880 64 r (by omega) := by
  unfold k0_pay44 k0_pay42
  simp only [View.ld_unit_zero (S := S1x1024x1024) hz3, View.ld_unit_zero (S := S1x1024) hz2]
  unfold_payloads
  pointwise
  split_ifs
  all_goals first
    | exact padded_val (n := 1) (rowProd x0 x1 x2 s) 2880 64 r (by omega) ⟨_, by omega⟩ (by omega) (by
        show _ + _ = _; omega)
    | exact (one_row _ (by omega)).trans (padded_fill (n := 1) (rowProd x0 x1 x2 s) 2880 64 r (by omega) _ (by omega))

theorem out_cv (i : Fin 4) (r : Fin 80) (u : Fin 256) :
    out0_18 x0 x1 x2 x3 x4 x5 x6 x7 x8 x9 (ix4 0 i r u)
      = padded (n := 1) (rowProd x0 x1 x2 ⟨i.val * 256 + u.val, by omega⟩) 2880 64 r (by omega) := by
  refine View.canon_apply_of_pieces (Val := Elt Ideal) (e := .bf16) (slabs x0 x1 x2 1 64 2880 (by omega)) _ ?_ (ix4 0 i r u) (cover0_18 ..)
  simp only [List.forall_mem_cons, List.not_mem_nil, false_implies, implies_true, and_true]
  refine ⟨?_, ?_, ?_, ?_⟩
  · intro (x : Shape.Idx S1x1x80x256)
    obtain ⟨a, b, r, u, rfl⟩ : ∃ (a b : Fin 1) (r : Fin 80) (u : Fin 256), x = ix4 a b r u := ⟨_, _, _, _, eq_ix4 x⟩
    have he : r0_32.emb (ix4 a b r u) = ix4 a 3 r u := by
      funext d
      apply Fin.ext
      match d with
      | 0 => show 0 + 1 * a.val = a.val; omega
      | 1 => show 3 + 1 * b.val = 3; omega
      | 2 => show 0 + 1 * r.val = r.val; omega
      | 3 => show 0 + 1 * u.val = u.val; omega
    rw [he]
    refine Eq.trans ?_ (table_cv x0 x1 x2 x3 x4 x5 x6 x7 x8 x9 r ⟨768 + u.val, by omega⟩)
    unfold k0_pay38 k0_pay46
    generalize k0_pay33 (F := Ideal) _ _ _ = y
    pointwise
  · intro (x : Shape.Idx S1x1x80x256)
    obtain ⟨a, b, r, u, rfl⟩ : ∃ (a b : Fin 1) (r : Fin 80) (u : Fin 256), x = ix4 a b r u := ⟨_, _, _, _, eq_ix4 x⟩
    have he : r0_31.emb (ix4 a b r u) = ix4 a 2 r u := by
      funext d
      apply Fin.ext
      match d with
      | 0 => show 0 + 1 * a.val = a.val; omega
      | 1 => show 2 + 1 * b.val = 2; omega
      | 2 => show 0 + 1 * r.val = r.val; omega
      | 3 => show 0 + 1 * u.val = u.val; omega
    rw [he]
    refine Eq.trans ?_ (table_cv x0 x1 x2 x3 x4 x5 x6 x7 x8 x9 r ⟨512 + u.val, by omega⟩)
    unfold k0_pay37 k0_pay46
    generalize k0_pay33 (F := Ideal) _ _ _ = y
    pointwise
  · intro (x : Shape.Idx S1x1x80x256)
    obtain ⟨a, b, r, u, rfl⟩ : ∃ (a b : Fin 1) (r : Fin 80) (u : Fin 256), x = ix4 a b r u := ⟨_, _, _, _, eq_ix4 x⟩
    have he : r0_30.emb (ix4 a b r u) = ix4 a 1 r u := by
      funext d
      apply Fin.ext
      match d with
      | 0 => show 0 + 1 * a.val = a.val; omega
      | 1 => show 1 + 1 * b.val = 1; omega
      | 2 => show 0 + 1 * r.val = r.val; omega
      | 3 => show 0 + 1 * u.val = u.val; omega
    rw [he]
    refine Eq.trans ?_ (table_cv x0 x1 x2 x3 x4 x5 x6 x7 x8 x9 r ⟨256 + u.val, by omega⟩)
    unfold k0_pay36 k0_pay46
    generalize k0_pay33 (F := Ideal) _ _ _ = y
    pointwise
  · intro (x : Shape.Idx S1x1x80x256)
    obtain ⟨a, b, r, u, rfl⟩ : ∃ (a b : Fin 1) (r : Fin 80) (u : Fin 256), x = ix4 a b r u := ⟨_, _, _, _, eq_ix4 x⟩
    have he : r0_29.emb (ix4 a b r u) = ix4 a 0 r u := by
      funext d
      apply Fin.ext
      match d with
      | 0 => show 0 + 1 * a.val = a.val; omega
      | 1 => show 0 + 1 * b.val = 0; omega
      | 2 => show 0 + 1 * r.val = r.val; omega
      | 3 => show 0 + 1 * u.val = u.val; omega
    rw [he]
    refine Eq.trans ?_ (table_cv x0 x1 x2 x3 x4 x5 x6 x7 x8 x9 r ⟨0 + u.val, by omega⟩)
    unfold k0_pay35 k0_pay34
    generalize k0_pay33 (F := Ideal) _ _ _ = y
    pointwise

end Cert.ProjIdeal.Hand

end
-- ==== Proof.ProjValue.lean ====
module

public import proofs.«01_k».proof.Proof.ProjPay

@[expose] public section

noncomputable section

namespace Cert.ProjIdeal.Hand

open Cert.ProjIdeal Cert.ProjIdeal.Gen Idealize.ShloMosaic Idealize.ShloMosaic.TcCoe Idealize.SL.Sem
open Cert.Route Cert.Merge Cert.Proj

variable (m : (ℓ : Loc nD τ sig) → Buf (Elt Ideal) ℓ)

/-! ## The call's arguments and the arrays that its host lines prepare -/

/-- The arguments, gathered. -/
abbrev args (c : Dev nD) : Args :=
  ⟨m ((c : Thread nD τ).loc main_arg0), m ((c : Thread nD τ).loc main_arg1), m ((c : Thread nD τ).loc main_arg2), m ((c : Thread nD τ).loc main_arg3)⟩

/-- The table of heads, as the host lines form it. -/
theorem V_v8 (c : Dev nD) : (V m c main_v8 : FVec Ideal S512x512 .bf16)
    = truncf .bf16 (shapeCast S512x512 (mulf
        (broadcastInDim S8x64x8x64 ![0, 1, 2, 3] bcast_S8x1x8x1_S8x64x8x64_0_1_2_3 (broadcastInDim S8x1x8x1 ![0, 2] bcast_S8x8_S8x1x8x1_0_2
          (uitofp .f32 (cmpi .eq (addi (iotaInDim S8x8 32 0) (broadcastInDim S8x8 ![] bcast_S_S8x8 (constantI S_ 32 0#32))) (iotaInDim S8x8 32 1)) : FVec Ideal S8x8 .f32)))
        (broadcastInDim S8x64x8x64 ![0, 1, 2, 3] bcast_S1x64x1x64_S8x64x8x64_0_1_2_3 (broadcastInDim S1x64x1x64 ![1, 3] bcast_S64x64_S1x64x1x64_1_3
          (broadcastInDim S64x64 ![] bcast_S_S64x64 (constant (F := Ideal) S_ .f32 0x3F800000#32))))) shapeCasts_S8x64x8x64_S512x512) bitsLt_bf16_f32 := by
  unfold V hostOps0 hostOps0_1 hostOps0_2
  simp only [List.flatten_cons, List.flatten_nil, List.append_nil, List.cons_append, List.nil_append]
  after_results
  rfl

theorem same_head (a b : Fin 8) :
    FloatOps.uitofp (F := Ideal) FTy.f32 (IntOp.cmpi CmpIPredicate.eq (IntOp.addi (BitVec.ofNat 32 a.val) 0#32) (BitVec.ofNat 32 b.val))
      = (if a.val = b.val then 1 else 0 : EReal) := by
  fin_cases a <;> fin_cases b <;> simp [FloatOps.uitofp, IntOp.cmpi, IntOp.addi]

theorem v8_apply (c : Dev nD) (i j : Fin 512) :
    (V m c main_v8 : FVec Ideal S512x512 .bf16) (ix2 i j) = (if i.val / 64 = j.val / 64 then 1 else 0 : EReal) := by
  rw [V_v8]
  pointwise
  exact same_head ⟨i.val / 64, by omega⟩ ⟨j.val / 64, by omega⟩

theorem v16_apply (c : Dev nD) (r : Fin 512) :
    (V m c main_v16 : FVec Ideal S512x1 .f32) (ix2 r 0) = gainOf (args m c) 0 0 r * Ideal.ofBits .f32 0x3E38AA3B#32 := by
  unfold V hostOps0 hostOps0_1 hostOps0_2
  simp only [List.flatten_cons, List.flatten_nil, List.append_nil, List.cons_append, List.nil_append]
  after_results
  pointwise
  rfl

theorem v22_apply (c : Dev nD) (r : Fin 512) :
    (V m c main_v22 : FVec Ideal S1x512 .f32) (ix2 0 r) = gainOf (args m c) 0 1 r := by
  unfold V hostOps0 hostOps0_1 hostOps0_2
  simp only [List.flatten_cons, List.flatten_nil, List.append_nil, List.cons_append, List.nil_append]
  after_results
  pointwise
  rfl

theorem v30_apply (c : Dev nD) (r : Fin 512) :
    (V m c main_v30 : FVec Ideal S512x1 .f32) (ix2 r 0) = gainOf (args m c) 1 0 r * Ideal.ofBits .f32 0x3E38AA3B#32 := by
  unfold V hostOps0 hostOps0_1 hostOps0_2
  simp only [List.flatten_cons, List.flatten_nil, List.append_nil, List.cons_append, List.nil_append]
  after_results
  pointwise
  rfl

theorem v36_apply (c : Dev nD) (r : Fin 128) :
    (V m c main_v36 : FVec Ideal S1x128 .f32) (ix2 0 r) = gainOf (args m c) 1 1 r := by
  unfold V hostOps0 hostOps0_1 hostOps0_2
  simp only [List.flatten_cons, List.flatten_nil, List.append_nil, List.cons_append, List.nil_append]
  after_results
  pointwise
  rfl

theorem v44_apply (c : Dev nD) (r : Fin 512) :
    (V m c main_v44 : FVec Ideal S512x1 .f32) (ix2 r 0) = gainOf (args m c) 2 0 r * Ideal.ofBits .f32 0x3E38AA3B#32 := by
  unfold V hostOps0 hostOps0_1 hostOps0_2
  simp only [List.flatten_cons, List.flatten_nil, List.append_nil, List.cons_append, List.nil_append]
  after_results
  pointwise
  rfl

theorem v47_apply (c : Dev nD) (r : Fin 64) :
    (V m c main_v47 : FVec Ideal S1x64 .f32) (ix2 0 r) = gainOf (args m c) 2 1 r := by
  unfold V hostOps0 hostOps0_1 hostOps0_2
  simp only [List.flatten_cons, List.flatten_nil, List.append_nil, List.cons_append, List.nil_append]
  after_results
  pointwise
  have hr : (⟨r.val % 64, by omega⟩ : Fin 64) = r := Fin.ext (by show r.val % 64 = r.val; omega)
  unfold gainOf
  rw [hr]

theorem v48_apply (c : Dev nD) (k : Fin 1024) :
    (V m c main_v48 : FVec Ideal S1x1024 .f32) (ix2 0 k) = (args m c).norm (ix1 k) := by
  unfold V hostOps0 hostOps0_1 hostOps0_2
  simp only [List.flatten_cons, List.flatten_nil, List.append_nil, List.cons_append, List.nil_append]
  after_results
  pointwise

/-! ## The blocks of a point -/

/-- The sequence that point `t` works on. -/
abbrev bat (t : Fin cfg0.N) : Fin 8 := ⟨t.val / 4, by have := t.isLt; have : cfg0.N = 32 := N_0; omega⟩

/-- The token that row `s` of point `t`'s block is. -/
abbrev tok (t : Fin cfg0.N) (s : Fin 1024) : Fin 4096 := ⟨t.val % 4 * 1024 + s.val, by omega⟩

theorem index0 : ∀ t : Fin cfg0.N, win0_0.index t 0 = t.val / 4 ∧ win0_0.index t 1 = t.val % 4 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = t.val / 4 ∧ win0_10.index t 1 = 0 ∧ win0_10.index t 2 = t.val % 4 := by decide +kernel
theorem index11 : ∀ t : Fin cfg0.N, win0_11.index t 0 = t.val / 4 ∧ win0_11.index t 1 = t.val % 4 ∧ win0_11.index t 2 = 0 := by decide +kernel
theorem index12 : ∀ t : Fin cfg0.N, win0_12.index t 0 = t.val / 4 ∧ win0_12.index t 1 = t.val % 4 ∧ win0_12.index t 2 = 0 ∧ win0_12.index t 3 = 0 := by decide +kernel
theorem index13 : ∀ t : Fin cfg0.N, win0_13.index t 0 = t.val / 4 ∧ win0_13.index t 1 = 0 ∧ win0_13.index t 2 = t.val % 4 := by decide +kernel
theorem index14 : ∀ t : Fin cfg0.N, win0_14.index t 0 = t.val / 4 ∧ win0_14.index t 1 = t.val % 4 ∧ win0_14.index t 2 = 0 := by decide +kernel
theorem index15 : ∀ t : Fin cfg0.N, win0_15.index t 0 = t.val / 4 ∧ win0_15.index t 1 = t.val % 4 ∧ win0_15.index t 2 = 0 ∧ win0_15.index t 3 = 0 := by decide +kernel
theorem index16 : ∀ t : Fin cfg0.N, win0_16.index t 0 = t.val / 4 ∧ win0_16.index t 1 = 0 ∧ win0_16.index t 2 = t.val % 4 := by decide +kernel
theorem index17 : ∀ t : Fin cfg0.N, win0_17.index t 0 = t.val / 4 ∧ win0_17.index t 1 = t.val % 4 ∧ win0_17.index t 2 = 0 := by decide +kernel
theorem index18 : ∀ t : Fin cfg0.N, win0_18.index t 0 = t.val / 4 ∧ win0_18.index t 1 = t.val % 4 ∧ win0_18.index t 2 = 0 ∧ win0_18.index t 3 = 0 := by decide +kernel
theorem index19 : ∀ t : Fin cfg0.N, win0_19.index t 0 = t.val / 4 ∧ win0_19.index t 1 = 0 ∧ win0_19.index t 2 = t.val % 4 := by decide +kernel
theorem index20 : ∀ t : Fin cfg0.N, win0_20.index t 0 = t.val / 4 ∧ win0_20.index t 1 = t.val % 4 ∧ win0_20.index t 2 = 0 := by decide +kernel
theorem index21 : ∀ t : Fin cfg0.N, win0_21.index t 0 = t.val / 4 ∧ win0_21.index t 1 = 0 ∧ win0_21.index t 2 = t.val % 4 := by decide +kernel

theorem iblk0 (c : Dev nD) (t : Fin cfg0.N) (s k : Fin 1024) :
    (iblk m c 0 t : Vec Ideal S1x1024x1024 .f32) (ix3 0 s k) = (args m c).x (ix3 (bat t) (tok t s) k) := by
  have hv : V m c main_arg0 = (args m c).x := V_main_arg0 m c
  rw [← hv]
  unfold iblk
  rw [View.read_apply]
  show V m c main_arg0 _ = _
  congr 1
  funext a
  apply Fin.ext
  have hi := index0 t
  match a with
  | ⟨0, _⟩ => show win0_0.index t 0 * 1 + 1 * 0 = t.val / 4; rw [hi.1]; omega
  | ⟨1, _⟩ => show win0_0.index t 1 * 1024 + 1 * s.val = t.val % 4 * 1024 + s.val; rw [hi.2.1]; omega
  | ⟨2, _⟩ => show win0_0.index t 2 * 1024 + 1 * k.val = k.val; rw [hi.2.2]; omega

theorem iblk1 (c : Dev nD) (t : Fin cfg0.N) (k : Fin 1024) :
    (iblk m c 1 t : Vec Ideal S1x1024 .f32) (ix2 0 k) = (args m c).norm (ix1 k) := by
  have e : (iblk m c 1 t : Vec Ideal S1x1024 .f32) (ix2 0 k) = V m c main_v48 (ix2 0 k) := by
    unfold iblk
    rw [View.read_apply]
    show V m c main_v48 _ = _
    congr 1
    funext a
    apply Fin.ext
    have hi := index1 t
    match a with
    | ⟨0, _⟩ => show win0_1.index t 0 * 1 + 1 * 0 = 0; rw [hi.1]
    | ⟨1, _⟩ => show win0_1.index t 1 * 1024 + 1 * k.val = k.val; rw [hi.2]; omega
  exact e.trans (v48_apply m c k)

theorem iblk2 (c : Dev nD) (t : Fin cfg0.N) (k : Fin 1024) (l : Fin 3200) :
    (iblk m c 2 t : Vec Ideal S1024x3200 .bf16) (ix2 k l) = (args m c).w (ix2 k l) := by
  have e : (iblk m c 2 t : Vec Ideal S1024x3200 .bf16) (ix2 k l) = V m c main_arg2 (ix2 k l) := by
    unfold iblk
    rw [View.read_apply]
    show V m c main_arg2 _ = _
    congr 1
    funext a
    apply Fin.ext
    have hi := index2 t
    match a with
    | ⟨0, _⟩ => show win0_2.index t 0 * 1024 + 1 * k.val = k.val; rw [hi.1]; omega
    | ⟨1, _⟩ => show win0_2.index t 1 * 3200 + 1 * l.val = l.val; rw [hi.2]; omega
  exact e.trans (congrFun (V_main_arg2 m c) _)

theorem iblk3 (c : Dev nD) (t : Fin cfg0.N) (i j : Fin 512) :
    (iblk m c 3 t : Vec Ideal S512x512 .bf16) (ix2 i j) = (if i.val / 64 = j.val / 64 then 1 else 0 : EReal) := by
  have e : (iblk m c 3 t : Vec Ideal S512x512 .bf16) (ix2 i j) = V m c main_v8 (ix2 i j) := by
    unfold iblk
    rw [View.read_apply]
    show V m c main_v8 _ = _
    congr 1
    funext a
    apply Fin.ext
    have hi := index3 t
    match a with
    | ⟨0, _⟩ => show win0_3.index t 0 * 512 + 1 * i.val = i.val; rw [hi.1]; omega
    | ⟨1, _⟩ => show win0_3.index t 1 * 512 + 1 * j.val = j.val; rw [hi.2]; omega
  exact e.trans (v8_apply m c i j)

theorem iblk4 (c : Dev nD) (t : Fin cfg0.N) (r : Fin 512) :
    (iblk m c 4 t : Vec Ideal S512x1 .f32) (ix2 r 0) = gainOf (args m c) 0 0 r * Ideal.ofBits .f32 0x3E38AA3B#32 := by
  have e : (iblk m c 4 t : Vec Ideal S512x1 .f32) (ix2 r 0) = V m c main_v16 (ix2 r 0) := by
    unfold iblk
    rw [View.read_apply]
    show V m c main_v16 _ = _
    congr 1
    funext a
    apply Fin.ext
    have hi := index4 t
    match a with
    | ⟨0, _⟩ => show win0_4.index t 0 * 512 + 1 * r.val = r.val; rw [hi.1]; omega
    | ⟨1, _⟩ => show win0_4.index t 1 * 1 + 1 * 0 = 0; rw [hi.2]
  exact e.trans (v16_apply m c r)

theorem iblk5 (c : Dev nD) (t : Fin cfg0.N) (r : Fin 512) :
    (iblk m c 5 t : Vec Ideal S1x512 .f32) (ix2 0 r) = gainOf (args m c) 0 1 r := by
  have e : (iblk m c 5 t : Vec Ideal S1x512 .f32) (ix2 0 r) = V m c main_v22 (ix2 0 r) := by
    unfold iblk
    rw [View.read_apply]
    show V m c main_v22 _ = _
    congr 1
    funext a
    apply Fin.ext
    have hi := index5 t
    match a with
    | ⟨0, _⟩ => show win0_5.index t 0 * 1 + 1 * 0 = 0; rw [hi.1]
    | ⟨1, _⟩ => show win0_5.index t 1 * 512 + 1 * r.val = r.val; rw [hi.2]; omega
  exact e.trans (v22_apply m c r)

theorem iblk6 (c : Dev nD) (t : Fin cfg0.N) (r : Fin 512) :
    (iblk m c 6 t : Vec Ideal S512x1 .f32) (ix2 r 0) = gainOf (args m c) 1 0 r * Ideal.ofBits .f32 0x3E38AA3B#32 := by
  have e : (iblk m c 6 t : Vec Ideal S512x1 .f32) (ix2 r 0) = V m c main_v30 (ix2 r 0) := by
    unfold iblk
    rw [View.read_apply]
    show V m c main_v30 _ = _
    congr 1
    funext a
    apply Fin.ext
    have hi := index6 t
    match a with
    | ⟨0, _⟩ => show win0_6.index t 0 * 512 + 1 * r.val = r.val; rw [hi.1]; omega
    | ⟨1, _⟩ => show win0_6.index t 1 * 1 + 1 * 0 = 0; rw [hi.2]
  exact e.trans (v30_apply m c r)

theorem iblk7 (c : Dev nD) (t : Fin cfg0.N) (r : Fin 128) :
    (iblk m c 7 t : Vec Ideal S1x128 .f32) (ix2 0 r) = gainOf (args m c) 1 1 r := by
  have e : (iblk m c 7 t : Vec Ideal S1x128 .f32) (ix2 0 r) = V m c main_v36 (ix2 0 r) := by
    unfold iblk
    rw [View.read_apply]
    show V m c main_v36 _ = _
    congr 1
    funext a
    apply Fin.ext
    have hi := index7 t
    match a with
    | ⟨0, _⟩ => show win0_7.index t 0 * 1 + 1 * 0 = 0; rw [hi.1]
    | ⟨1, _⟩ => show win0_7.index t 1 * 128 + 1 * r.val = r.val; rw [hi.2]; omega
  exact e.trans (v36_apply m c r)

theorem iblk8 (c : Dev nD) (t : Fin cfg0.N) (r : Fin 512) :
    (iblk m c 8 t : Vec Ideal S512x1 .f32) (ix2 r 0) = gainOf (args m c) 2 0 r * Ideal.ofBits .f32 0x3E38AA3B#32 := by
  have e : (iblk m c 8 t : Vec Ideal S512x1 .f32) (ix2 r 0) = V m c main_v44 (ix2 r 0) := by
    unfold iblk
    rw [View.read_apply]
    show V m c main_v44 _ = _
    congr 1
    funext a
    apply Fin.ext
    have hi := index8 t
    match a with
    | ⟨0, _⟩ => show win0_8.index t 0 * 512 + 1 * r.val = r.val; rw [hi.1]; omega
    | ⟨1, _⟩ => show win0_8.index t 1 * 1 + 1 * 0 = 0; rw [hi.2]
  exact e.trans (v44_apply m c r)

theorem iblk9 (c : Dev nD) (t : Fin cfg0.N) (r : Fin 64) :
    (iblk m c 9 t : Vec Ideal S1x64 .f32) (ix2 0 r) = gainOf (args m c) 2 1 r := by
  have e : (iblk m c 9 t : Vec Ideal S1x64 .f32) (ix2 0 r) = V m c main_v47 (ix2 0 r) := by
    unfold iblk
    rw [View.read_apply]
    show V m c main_v47 _ = _
    congr 1
    funext a
    apply Fin.ext
    have hi := index9 t
    match a with
    | ⟨0, _⟩ => show win0_9.index t 0 * 1 + 1 * 0 = 0; rw [hi.1]
    | ⟨1, _⟩ => show win0_9.index t 1 * 64 + 1 * r.val = r.val; rw [hi.2]; omega
  exact e.trans (v47_apply m c r)

theorem row_prod (c : Dev nD) (t : Fin cfg0.N) (s : Fin 1024) :
    rowProd (iblk m c 0 t) (iblk m c 1 t) (iblk m c 2 t) s = prod (args m c) (bat t) (tok t s) := by
  funext l
  unfold rowProd prod
  simp only [iblk0, iblk1, iblk2]

/-! ## What each point leaves, and the arrays after the run -/

theorem point10 (c : Dev nD) (t : Fin cfg0.N) (r : Fin 512) (s : Fin 1024) :
    (out0_10 (iblk m c 0 t) (iblk m c 1 t) (iblk m c 2 t) (iblk m c 3 t) (iblk m c 4 t) (iblk m c 5 t) (iblk m c 6 t) (iblk m c 7 t) (iblk m c 8 t) (iblk m c 9 t) (ix3 0 r s) : EReal) = queries (args m c) 0 0 (by omega) (ix3 (bat t) r (tok t s)) := by
  refine (out_aq (iblk m c 0 t) (iblk m c 1 t) (iblk m c 2 t) (iblk m c 3 t) (iblk m c 4 t) (iblk m c 5 t) (iblk m c 6 t) (iblk m c 7 t) (iblk m c 8 t) (iblk m c 9 t) r s).trans ?_
  rw [row_prod, iblk4]
  rfl

theorem flushed10_eq (c : Dev nD) (t : Fin cfg0.N) (_ : (cfg0.win 10).flush t = true) :
    (dats m 0 c).flushed 10 t = ((cfg0.win 10).blk t).view.read (Elt Ideal) (queries (args m c) 0 0 (by omega) : Buf (Elt Ideal) ((c : Thread nD τ).loc main_v49_0)) := by
  have ef : (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 10).cut (grid0.coords t) ((dats m 0 c).after 10 t) = _
    rw [after0_10]
  rw [ef]
  funext y
  rw [View.read_apply]
  have hi := index10 t
  have ey : ((cfg0.win 10).blk t).view.emb y = ((ix3 (bat t) (y 1) (tok t (y 2))) : S8x512x4096.Idx) := by
    funext a
    apply Fin.ext
    match a with
    | ⟨0, _⟩ => have h0 : (y 0).val < 1 := (y 0).isLt; show win0_10.index t 0 * 1 + 1 * (y 0).val = t.val / 4; rw [hi.1]; omega
    | ⟨1, _⟩ => show win0_10.index t 1 * 512 + 1 * (y 1).val = (y 1).val; rw [hi.2.1]; omega
    | ⟨2, _⟩ => show win0_10.index t 2 * 1024 + 1 * (y 2).val = t.val % 4 * 1024 + (y 2).val; rw [hi.2.2]; omega
  rw [ey]
  refine Eq.trans ?_ (point10 m c t (y 1) (y 2))
  show out0_10 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final10_eq (c : Dev nD) : (dats m 0 c).arrAt 10 cfg0.N = (queries (args m c) 0 0 (by omega) : Buf (Elt Ideal) ((c : Thread nD τ).loc main_v49_0)) :=
  (dats m 0 c).arrAt_eq_of_cover 10 _ (flushed10_eq m c) fun i => by
    have hN : cfg0.N = 32 := N_0
    have h0 : (i 0 : Nat) < 8 := (i 0).isLt
    have h1 : (i 1 : Nat) < 512 := (i 1).isLt
    have h2 : (i 2 : Nat) < 4096 := (i 2).isLt
    let t : Fin cfg0.N := ⟨(i 0).val * 4 + (i 2).val / 1024, by omega⟩
    have ht : t.val = (i 0).val * 4 + (i 2).val / 1024 := rfl
    have hi := index10 t
    refine ⟨t, flush0_10 t, ?_⟩
    show i ∈ ((View.whole main_v49_0).slice (win0_10.rect t)).set
    rw [View.set_slice_whole, Rect.mem_set_unit]
    intro a
    match a with
    | ⟨0, _⟩ => show win0_10.index t 0 * 1 ≤ (i 0 : Nat) ∧ (i 0 : Nat) < win0_10.index t 0 * 1 + 1
                rw [hi.1]; omega
    | ⟨1, _⟩ => show win0_10.index t 1 * 512 ≤ (i 1 : Nat) ∧ (i 1 : Nat) < win0_10.index t 1 * 512 + 512
                rw [hi.2.1]; omega
    | ⟨2, _⟩ => show win0_10.index t 2 * 1024 ≤ (i 2 : Nat) ∧ (i 2 : Nat) < win0_10.index t 2 * 1024 + 1024
                rw [hi.2.2]; omega

theorem point11 (c : Dev nD) (t : Fin cfg0.N) (s : Fin 1024) (r : Fin 512) :
    (out0_11 (iblk m c 0 t) (iblk m c 1 t) (iblk m c 2 t) (iblk m c 3 t) (iblk m c 4 t) (iblk m c 5 t) (iblk m c 6 t) (iblk m c 7 t) (iblk m c 8 t) (iblk m c 9 t) (ix3 0 s r) : EReal) = keys (args m c) 512 512 0 (by omega) (by omega) (ix3 (bat t) (tok t s) r) := by
  refine (out_ak (iblk m c 0 t) (iblk m c 1 t) (iblk m c 2 t) (iblk m c 3 t) (iblk m c 4 t) (iblk m c 5 t) (iblk m c 6 t) (iblk m c 7 t) (iblk m c 8 t) (iblk m c 9 t) (fun i j => iblk3 m c t i j) s r).trans ?_
  rw [row_prod, iblk5]
  rfl

theorem flushed11_eq (c : Dev nD) (t : Fin cfg0.N) (_ : (cfg0.win 11).flush t = true) :
    (dats m 0 c).flushed 11 t = ((cfg0.win 11).blk t).view.read (Elt Ideal) (keys (args m c) 512 512 0 (by omega) (by omega) : Buf (Elt Ideal) ((c : Thread nD τ).loc main_v49_1)) := by
  have ef : (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 11).cut (grid0.coords t) ((dats m 0 c).after 11 t) = _
    rw [after0_11]
  rw [ef]
  funext y
  rw [View.read_apply]
  have hi := index11 t
  have ey : ((cfg0.win 11).blk t).view.emb y = ((ix3 (bat t) (tok t (y 1)) (y 2)) : S8x4096x512.Idx) := by
    funext a
    apply Fin.ext
    match a with
    | ⟨0, _⟩ => have h0 : (y 0).val < 1 := (y 0).isLt; show win0_11.index t 0 * 1 + 1 * (y 0).val = t.val / 4; rw [hi.1]; omega
    | ⟨1, _⟩ => show win0_11.index t 1 * 1024 + 1 * (y 1).val = t.val % 4 * 1024 + (y 1).val; rw [hi.2.1]; omega
    | ⟨2, _⟩ => show win0_11.index t 2 * 512 + 1 * (y 2).val = (y 2).val; rw [hi.2.2]; omega
  rw [ey]
  refine Eq.trans ?_ (point11 m c t (y 1) (y 2))
  show out0_11 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final11_eq (c : Dev nD) : (dats m 0 c).arrAt 11 cfg0.N = (keys (args m c) 512 512 0 (by omega) (by omega) : Buf (Elt Ideal) ((c : Thread nD τ).loc main_v49_1)) :=
  (dats m 0 c).arrAt_eq_of_cover 11 _ (flushed11_eq m c) fun i => by
    have hN : cfg0.N = 32 := N_0
    have h0 : (i 0 : Nat) < 8 := (i 0).isLt
    have h1 : (i 1 : Nat) < 4096 := (i 1).isLt
    have h2 : (i 2 : Nat) < 512 := (i 2).isLt
    let t : Fin cfg0.N := ⟨(i 0).val * 4 + (i 1).val / 1024, by omega⟩
    have ht : t.val = (i 0).val * 4 + (i 1).val / 1024 := rfl
    have hi := index11 t
    refine ⟨t, flush0_11 t, ?_⟩
    show i ∈ ((View.whole main_v49_1).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [hi.1]; omega
    | ⟨1, _⟩ => show win0_11.index t 1 * 1024 ≤ (i 1 : Nat) ∧ (i 1 : Nat) < win0_11.index t 1 * 1024 + 1024
                rw [hi.2.1]; omega
    | ⟨2, _⟩ => show win0_11.index t 2 * 512 ≤ (i 2 : Nat) ∧ (i 2 : Nat) < win0_11.index t 2 * 512 + 512
                rw [hi.2.2]; omega

theorem point12 (c : Dev nD) (t : Fin cfg0.N) (j : Fin 4) (r : Fin 576) (u : Fin 256) :
    (out0_12 (iblk m c 0 t) (iblk m c 1 t) (iblk m c 2 t) (iblk m c 3 t) (iblk m c 4 t) (iblk m c 5 t) (iblk m c 6 t) (iblk m c 7 t) (iblk m c 8 t) (iblk m c 9 t) (ix4 0 j r u) : EReal) = values (args m c) 4 128 1024 (by omega) (ix4 (bat t) ⟨t.val % 4 * 4 + j.val, by omega⟩ r u) := by
  refine (out_av (iblk m c 0 t) (iblk m c 1 t) (iblk m c 2 t) (iblk m c 3 t) (iblk m c 4 t) (iblk m c 5 t) (iblk m c 6 t) (iblk m c 7 t) (iblk m c 8 t) (iblk m c 9 t) j r u).trans ?_
  rw [row_prod]
  have hs : tok t ⟨j.val * 256 + u.val, by omega⟩ = ⟨(t.val % 4 * 4 + j.val) * 256 + u.val, by omega⟩ := Fin.ext (by
    show t.val % 4 * 1024 + (j.val * 256 + u.val) = (t.val % 4 * 4 + j.val) * 256 + u.val
    omega)
  rw [hs]
  rfl

theorem flushed12_eq (c : Dev nD) (t : Fin cfg0.N) (_ : (cfg0.win 12).flush t = true) :
    (dats m 0 c).flushed 12 t = ((cfg0.win 12).blk t).view.read (Elt Ideal) (values (args m c) 4 128 1024 (by omega) : Buf (Elt Ideal) ((c : Thread nD τ).loc main_v49_2)) := by
  have ef : (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 12).cut (grid0.coords t) ((dats m 0 c).after 12 t) = _
    rw [after0_12]
  rw [ef]
  funext y
  rw [View.read_apply]
  have hi := index12 t
  have ey : ((cfg0.win 12).blk t).view.emb y = ((ix4 (bat t) (⟨t.val % 4 * 4 + (y 1).val, by have h : (y 1).val < 4 := (y 1).isLt; omega⟩ : Fin 16) (y 2) (y 3)) : S8x16x576x256.Idx) := by
    funext a
    apply Fin.ext
    match a with
    | ⟨0, _⟩ => have h0 : (y 0).val < 1 := (y 0).isLt; show win0_12.index t 0 * 1 + 1 * (y 0).val = t.val / 4; rw [hi.1]; omega
    | ⟨1, _⟩ => show win0_12.index t 1 * 4 + 1 * (y 1).val = t.val % 4 * 4 + (y 1).val; rw [hi.2.1]; omega
    | ⟨2, _⟩ => show win0_12.index t 2 * 576 + 1 * (y 2).val = (y 2).val; rw [hi.2.2.1]; omega
    | ⟨3, _⟩ => show win0_12.index t 3 * 256 + 1 * (y 3).val = (y 3).val; rw [hi.2.2.2]; omega
  rw [ey]
  refine Eq.trans ?_ (point12 m c t (y 1) (y 2) (y 3))
  show out0_12 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl
  | ⟨3, _⟩ => rfl

theorem final12_eq (c : Dev nD) : (dats m 0 c).arrAt 12 cfg0.N = (values (args m c) 4 128 1024 (by omega) : Buf (Elt Ideal) ((c : Thread nD τ).loc main_v49_2)) :=
  (dats m 0 c).arrAt_eq_of_cover 12 _ (flushed12_eq m c) fun i => by
    have hN : cfg0.N = 32 := N_0
    have h0 : (i 0 : Nat) < 8 := (i 0).isLt
    have h1 : (i 1 : Nat) < 16 := (i 1).isLt
    have h2 : (i 2 : Nat) < 576 := (i 2).isLt
    have h3 : (i 3 : Nat) < 256 := (i 3).isLt
    let t : Fin cfg0.N := ⟨(i 0).val * 4 + (i 1).val / 4, by omega⟩
    have ht : t.val = (i 0).val * 4 + (i 1).val / 4 := rfl
    have hi := index12 t
    refine ⟨t, flush0_12 t, ?_⟩
    show i ∈ ((View.whole main_v49_2).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1
                rw [hi.1]; omega
    | ⟨1, _⟩ => show win0_12.index t 1 * 4 ≤ (i 1 : Nat) ∧ (i 1 : Nat) < win0_12.index t 1 * 4 + 4
                rw [hi.2.1]; omega
    | ⟨2, _⟩ => show win0_12.index t 2 * 576 ≤ (i 2 : Nat) ∧ (i 2 : Nat) < win0_12.index t 2 * 576 + 576
                rw [hi.2.2.1]; omega
    | ⟨3, _⟩ => show win0_12.index t 3 * 256 ≤ (i 3 : Nat) ∧ (i 3 : Nat) < win0_12.index t 3 * 256 + 256
                rw [hi.2.2.2]; omega

theorem point13 (c : Dev nD) (t : Fin cfg0.N) (r : Fin 512) (s : Fin 1024) :
    (out0_13 (iblk m c 0 t) (iblk m c 1 t) (iblk m c 2 t) (iblk m c 3 t) (iblk m c 4 t) (iblk m c 5 t) (iblk m c 6 t) (iblk m c 7 t) (iblk m c 8 t) (iblk m c 9 t) (ix3 0 r s) : EReal) = queries (args m c) 1536 1 (by omega) (ix3 (bat t) r (tok t s)) := by
  refine (out_bq (iblk m c 0 t) (iblk m c 1 t) (iblk m c 2 t) (iblk m c 3 t) (iblk m c 4 t) (iblk m c 5 t) (iblk m c 6 t) (iblk m c 7 t) (iblk m c 8 t) (iblk m c 9 t) r s).trans ?_
  rw [row_prod, iblk6]
  rfl

theorem flushed13_eq (c : Dev nD) (t : Fin cfg0.N) (_ : (cfg0.win 13).flush t = true) :
    (dats m 0 c).flushed 13 t = ((cfg0.win 13).blk t).view.read (Elt Ideal) (queries (args m c) 1536 1 (by omega) : Buf (Elt Ideal) ((c : Thread nD τ).loc main_v49_3)) := by
  have ef : (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 13).cut (grid0.coords t) ((dats m 0 c).after 13 t) = _
    rw [after0_13]
  rw [ef]
  funext y
  rw [View.read_apply]
  have hi := index13 t
  have ey : ((cfg0.win 13).blk t).view.emb y = ((ix3 (bat t) (y 1) (tok t (y 2))) : S8x512x4096.Idx) := by
    funext a
    apply Fin.ext
    match a with
    | ⟨0, _⟩ => have h0 : (y 0).val < 1 := (y 0).isLt; show win0_13.index t 0 * 1 + 1 * (y 0).val = t.val / 4; rw [hi.1]; omega
    | ⟨1, _⟩ => show win0_13.index t 1 * 512 + 1 * (y 1).val = (y 1).val; rw [hi.2.1]; omega
    | ⟨2, _⟩ => show win0_13.index t 2 * 1024 + 1 * (y 2).val = t.val % 4 * 1024 + (y 2).val; rw [hi.2.2]; omega
  rw [ey]
  refine Eq.trans ?_ (point13 m c t (y 1) (y 2))
  show out0_13 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final13_eq (c : Dev nD) : (dats m 0 c).arrAt 13 cfg0.N = (queries (args m c) 1536 1 (by omega) : Buf (Elt Ideal) ((c : Thread nD τ).loc main_v49_3)) :=
  (dats m 0 c).arrAt_eq_of_cover 13 _ (flushed13_eq m c) fun i => by
    have hN : cfg0.N = 32 := N_0
    have h0 : (i 0 : Nat) < 8 := (i 0).isLt
    have h1 : (i 1 : Nat) < 512 := (i 1).isLt
    have h2 : (i 2 : Nat) < 4096 := (i 2).isLt
    let t : Fin cfg0.N := ⟨(i 0).val * 4 + (i 2).val / 1024, by omega⟩
    have ht : t.val = (i 0).val * 4 + (i 2).val / 1024 := rfl
    have hi := index13 t
    refine ⟨t, flush0_13 t, ?_⟩
    show i ∈ ((View.whole main_v49_3).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1
                rw [hi.1]; omega
    | ⟨1, _⟩ => show win0_13.index t 1 * 512 ≤ (i 1 : Nat) ∧ (i 1 : Nat) < win0_13.index t 1 * 512 + 512
                rw [hi.2.1]; omega
    | ⟨2, _⟩ => show win0_13.index t 2 * 1024 ≤ (i 2 : Nat) ∧ (i 2 : Nat) < win0_13.index t 2 * 1024 + 1024
                rw [hi.2.2]; omega

theorem point14 (c : Dev nD) (t : Fin cfg0.N) (s : Fin 1024) (r : Fin 128) :
    (out0_14 (iblk m c 0 t) (iblk m c 1 t) (iblk m c 2 t) (iblk m c 3 t) (iblk m c 4 t) (iblk m c 5 t) (iblk m c 6 t) (iblk m c 7 t) (iblk m c 8 t) (iblk m c 9 t) (ix3 0 s r) : EReal) = keys (args m c) 128 2048 1 (by omega) (by omega) (ix3 (bat t) (tok t s) r) := by
  refine (out_bk (iblk m c 0 t) (iblk m c 1 t) (iblk m c 2 t) (iblk m c 3 t) (iblk m c 4 t) (iblk m c 5 t) (iblk m c 6 t) (iblk m c 7 t) (iblk m c 8 t) (iblk m c 9 t) (fun i j => iblk3 m c t i j) s r).trans ?_
  rw [row_prod, iblk7]
  rfl

theorem flushed14_eq (c : Dev nD) (t : Fin cfg0.N) (_ : (cfg0.win 14).flush t = true) :
    (dats m 0 c).flushed 14 t = ((cfg0.win 14).blk t).view.read (Elt Ideal) (keys (args m c) 128 2048 1 (by omega) (by omega) : Buf (Elt Ideal) ((c : Thread nD τ).loc main_v49_4)) := by
  have ef : (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 14).cut (grid0.coords t) ((dats m 0 c).after 14 t) = _
    rw [after0_14]
  rw [ef]
  funext y
  rw [View.read_apply]
  have hi := index14 t
  have ey : ((cfg0.win 14).blk t).view.emb y = ((ix3 (bat t) (tok t (y 1)) (y 2)) : S8x4096x128.Idx) := by
    funext a
    apply Fin.ext
    match a with
    | ⟨0, _⟩ => have h0 : (y 0).val < 1 := (y 0).isLt; show win0_14.index t 0 * 1 + 1 * (y 0).val = t.val / 4; rw [hi.1]; omega
    | ⟨1, _⟩ => show win0_14.index t 1 * 1024 + 1 * (y 1).val = t.val % 4 * 1024 + (y 1).val; rw [hi.2.1]; omega
    | ⟨2, _⟩ => show win0_14.index t 2 * 128 + 1 * (y 2).val = (y 2).val; rw [hi.2.2]; omega
  rw [ey]
  refine Eq.trans ?_ (point14 m c t (y 1) (y 2))
  show out0_14 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final14_eq (c : Dev nD) : (dats m 0 c).arrAt 14 cfg0.N = (keys (args m c) 128 2048 1 (by omega) (by omega) : Buf (Elt Ideal) ((c : Thread nD τ).loc main_v49_4)) :=
  (dats m 0 c).arrAt_eq_of_cover 14 _ (flushed14_eq m c) fun i => by
    have hN : cfg0.N = 32 := N_0
    have h0 : (i 0 : Nat) < 8 := (i 0).isLt
    have h1 : (i 1 : Nat) < 4096 := (i 1).isLt
    have h2 : (i 2 : Nat) < 128 := (i 2).isLt
    let t : Fin cfg0.N := ⟨(i 0).val * 4 + (i 1).val / 1024, by omega⟩
    have ht : t.val = (i 0).val * 4 + (i 1).val / 1024 := rfl
    have hi := index14 t
    refine ⟨t, flush0_14 t, ?_⟩
    show i ∈ ((View.whole main_v49_4).slice (win0_14.rect t)).set
    rw [View.set_slice_whole, Rect.mem_set_unit]
    intro a
    match a with
    | ⟨0, _⟩ => show win0_14.index t 0 * 1 ≤ (i 0 : Nat) ∧ (i 0 : Nat) < win0_14.index t 0 * 1 + 1
                rw [hi.1]; omega
    | ⟨1, _⟩ => show win0_14.index t 1 * 1024 ≤ (i 1 : Nat) ∧ (i 1 : Nat) < win0_14.index t 1 * 1024 + 1024
                rw [hi.2.1]; omega
    | ⟨2, _⟩ => show win0_14.index t 2 * 128 ≤ (i 2 : Nat) ∧ (i 2 : Nat) < win0_14.index t 2 * 128 + 128
                rw [hi.2.2]; omega

theorem point15 (c : Dev nD) (t : Fin cfg0.N) (j : Fin 4) (r : Fin 160) (u : Fin 256) :
    (out0_15 (iblk m c 0 t) (iblk m c 1 t) (iblk m c 2 t) (iblk m c 3 t) (iblk m c 4 t) (iblk m c 5 t) (iblk m c 6 t) (iblk m c 7 t) (iblk m c 8 t) (iblk m c 9 t) (ix4 0 j r u) : EReal) = values (args m c) 2 64 2176 (by omega) (ix4 (bat t) ⟨t.val % 4 * 4 + j.val, by omega⟩ r u) := by
  refine (out_bv (iblk m c 0 t) (iblk m c 1 t) (iblk m c 2 t) (iblk m c 3 t) (iblk m c 4 t) (iblk m c 5 t) (iblk m c 6 t) (iblk m c 7 t) (iblk m c 8 t) (iblk m c 9 t) j r u).trans ?_
  rw [row_prod]
  have hs : tok t ⟨j.val * 256 + u.val, by omega⟩ = ⟨(t.val % 4 * 4 + j.val) * 256 + u.val, by omega⟩ := Fin.ext (by
    show t.val % 4 * 1024 + (j.val * 256 + u.val) = (t.val % 4 * 4 + j.val) * 256 + u.val
    omega)
  rw [hs]
  rfl

theorem flushed15_eq (c : Dev nD) (t : Fin cfg0.N) (_ : (cfg0.win 15).flush t = true) :
    (dats m 0 c).flushed 15 t = ((cfg0.win 15).blk t).view.read (Elt Ideal) (values (args m c) 2 64 2176 (by omega) : Buf (Elt Ideal) ((c : Thread nD τ).loc main_v49_5)) := by
  have ef : (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 15).cut (grid0.coords t) ((dats m 0 c).after 15 t) = _
    rw [after0_15]
  rw [ef]
  funext y
  rw [View.read_apply]
  have hi := index15 t
  have ey : ((cfg0.win 15).blk t).view.emb y = ((ix4 (bat t) (⟨t.val % 4 * 4 + (y 1).val, by have h : (y 1).val < 4 := (y 1).isLt; omega⟩ : Fin 16) (y 2) (y 3)) : S8x16x160x256.Idx) := by
    funext a
    apply Fin.ext
    match a with
    | ⟨0, _⟩ => have h0 : (y 0).val < 1 := (y 0).isLt; show win0_15.index t 0 * 1 + 1 * (y 0).val = t.val / 4; rw [hi.1]; omega
    | ⟨1, _⟩ => show win0_15.index t 1 * 4 + 1 * (y 1).val = t.val % 4 * 4 + (y 1).val; rw [hi.2.1]; omega
    | ⟨2, _⟩ => show win0_15.index t 2 * 160 + 1 * (y 2).val = (y 2).val; rw [hi.2.2.1]; omega
    | ⟨3, _⟩ => show win0_15.index t 3 * 256 + 1 * (y 3).val = (y 3).val; rw [hi.2.2.2]; omega
  rw [ey]
  refine Eq.trans ?_ (point15 m c t (y 1) (y 2) (y 3))
  show out0_15 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl
  | ⟨3, _⟩ => rfl

theorem final15_eq (c : Dev nD) : (dats m 0 c).arrAt 15 cfg0.N = (values (args m c) 2 64 2176 (by omega) : Buf (Elt Ideal) ((c : Thread nD τ).loc main_v49_5)) :=
  (dats m 0 c).arrAt_eq_of_cover 15 _ (flushed15_eq m c) fun i => by
    have hN : cfg0.N = 32 := N_0
    have h0 : (i 0 : Nat) < 8 := (i 0).isLt
    have h1 : (i 1 : Nat) < 16 := (i 1).isLt
    have h2 : (i 2 : Nat) < 160 := (i 2).isLt
    have h3 : (i 3 : Nat) < 256 := (i 3).isLt
    let t : Fin cfg0.N := ⟨(i 0).val * 4 + (i 1).val / 4, by omega⟩
    have ht : t.val = (i 0).val * 4 + (i 1).val / 4 := rfl
    have hi := index15 t
    refine ⟨t, flush0_15 t, ?_⟩
    show i ∈ ((View.whole main_v49_5).slice (win0_15.rect t)).set
    rw [View.set_slice_whole, Rect.mem_set_unit]
    intro a
    match a with
    | ⟨0, _⟩ => show win0_15.index t 0 * 1 ≤ (i 0 : Nat) ∧ (i 0 : Nat) < win0_15.index t 0 * 1 + 1
                rw [hi.1]; omega
    | ⟨1, _⟩ => show win0_15.index t 1 * 4 ≤ (i 1 : Nat) ∧ (i 1 : Nat) < win0_15.index t 1 * 4 + 4
                rw [hi.2.1]; omega
    | ⟨2, _⟩ => show win0_15.index t 2 * 160 ≤ (i 2 : Nat) ∧ (i 2 : Nat) < win0_15.index t 2 * 160 + 160
                rw [hi.2.2.1]; omega
    | ⟨3, _⟩ => show win0_15.index t 3 * 256 ≤ (i 3 : Nat) ∧ (i 3 : Nat) < win0_15.index t 3 * 256 + 256
                rw [hi.2.2.2]; omega

theorem point16 (c : Dev nD) (t : Fin cfg0.N) (r : Fin 512) (s : Fin 1024) :
    (out0_16 (iblk m c 0 t) (iblk m c 1 t) (iblk m c 2 t) (iblk m c 3 t) (iblk m c 4 t) (iblk m c 5 t) (iblk m c 6 t) (iblk m c 7 t) (iblk m c 8 t) (iblk m c 9 t) (ix3 0 r s) : EReal) = queries (args m c) 2304 2 (by omega) (ix3 (bat t) r (tok t s)) := by
  refine (out_cq (iblk m c 0 t) (iblk m c 1 t) (iblk m c 2 t) (iblk m c 3 t) (iblk m c 4 t) (iblk m c 5 t) (iblk m c 6 t) (iblk m c 7 t) (iblk m c 8 t) (iblk m c 9 t) r s).trans ?_
  rw [row_prod, iblk8]
  rfl

theorem flushed16_eq (c : Dev nD) (t : Fin cfg0.N) (_ : (cfg0.win 16).flush t = true) :
    (dats m 0 c).flushed 16 t = ((cfg0.win 16).blk t).view.read (Elt Ideal) (queries (args m c) 2304 2 (by omega) : Buf (Elt Ideal) ((c : Thread nD τ).loc main_v49_6)) := by
  have ef : (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 16).cut (grid0.coords t) ((dats m 0 c).after 16 t) = _
    rw [after0_16]
  rw [ef]
  funext y
  rw [View.read_apply]
  have hi := index16 t
  have ey : ((cfg0.win 16).blk t).view.emb y = ((ix3 (bat t) (y 1) (tok t (y 2))) : S8x512x4096.Idx) := by
    funext a
    apply Fin.ext
    match a with
    | ⟨0, _⟩ => have h0 : (y 0).val < 1 := (y 0).isLt; show win0_16.index t 0 * 1 + 1 * (y 0).val = t.val / 4; rw [hi.1]; omega
    | ⟨1, _⟩ => show win0_16.index t 1 * 512 + 1 * (y 1).val = (y 1).val; rw [hi.2.1]; omega
    | ⟨2, _⟩ => show win0_16.index t 2 * 1024 + 1 * (y 2).val = t.val % 4 * 1024 + (y 2).val; rw [hi.2.2]; omega
  rw [ey]
  refine Eq.trans ?_ (point16 m c t (y 1) (y 2))
  show out0_16 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final16_eq (c : Dev nD) : (dats m 0 c).arrAt 16 cfg0.N = (queries (args m c) 2304 2 (by omega) : Buf (Elt Ideal) ((c : Thread nD τ).loc main_v49_6)) :=
  (dats m 0 c).arrAt_eq_of_cover 16 _ (flushed16_eq m c) fun i => by
    have hN : cfg0.N = 32 := N_0
    have h0 : (i 0 : Nat) < 8 := (i 0).isLt
    have h1 : (i 1 : Nat) < 512 := (i 1).isLt
    have h2 : (i 2 : Nat) < 4096 := (i 2).isLt
    let t : Fin cfg0.N := ⟨(i 0).val * 4 + (i 2).val / 1024, by omega⟩
    have ht : t.val = (i 0).val * 4 + (i 2).val / 1024 := rfl
    have hi := index16 t
    refine ⟨t, flush0_16 t, ?_⟩
    show i ∈ ((View.whole main_v49_6).slice (win0_16.rect t)).set
    rw [View.set_slice_whole, Rect.mem_set_unit]
    intro a
    match a with
    | ⟨0, _⟩ => show win0_16.index t 0 * 1 ≤ (i 0 : Nat) ∧ (i 0 : Nat) < win0_16.index t 0 * 1 + 1
                rw [hi.1]; omega
    | ⟨1, _⟩ => show win0_16.index t 1 * 512 ≤ (i 1 : Nat) ∧ (i 1 : Nat) < win0_16.index t 1 * 512 + 512
                rw [hi.2.1]; omega
    | ⟨2, _⟩ => show win0_16.index t 2 * 1024 ≤ (i 2 : Nat) ∧ (i 2 : Nat) < win0_16.index t 2 * 1024 + 1024
                rw [hi.2.2]; omega

theorem point17 (c : Dev nD) (t : Fin cfg0.N) (s : Fin 1024) (r : Fin 64) :
    (out0_17 (iblk m c 0 t) (iblk m c 1 t) (iblk m c 2 t) (iblk m c 3 t) (iblk m c 4 t) (iblk m c 5 t) (iblk m c 6 t) (iblk m c 7 t) (iblk m c 8 t) (iblk m c 9 t) (ix3 0 s r) : EReal) = keys (args m c) 64 2816 2 (by omega) (by omega) (ix3 (bat t) (tok t s) r) := by
  refine (out_ck (iblk m c 0 t) (iblk m c 1 t) (iblk m c 2 t) (iblk m c 3 t) (iblk m c 4 t) (iblk m c 5 t) (iblk m c 6 t) (iblk m c 7 t) (iblk m c 8 t) (iblk m c 9 t) s r).trans ?_
  rw [row_prod, iblk9]
  rfl

theorem flushed17_eq (c : Dev nD) (t : Fin cfg0.N) (_ : (cfg0.win 17).flush t = true) :
    (dats m 0 c).flushed 17 t = ((cfg0.win 17).blk t).view.read (Elt Ideal) (keys (args m c) 64 2816 2 (by omega) (by omega) : Buf (Elt Ideal) ((c : Thread nD τ).loc main_v49_7)) := by
  have ef : (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 17).cut (grid0.coords t) ((dats m 0 c).after 17 t) = _
    rw [after0_17]
  rw [ef]
  funext y
  rw [View.read_apply]
  have hi := index17 t
  have ey : ((cfg0.win 17).blk t).view.emb y = ((ix3 (bat t) (tok t (y 1)) (y 2)) : S8x4096x64.Idx) := by
    funext a
    apply Fin.ext
    match a with
    | ⟨0, _⟩ => have h0 : (y 0).val < 1 := (y 0).isLt; show win0_17.index t 0 * 1 + 1 * (y 0).val = t.val / 4; rw [hi.1]; omega
    | ⟨1, _⟩ => show win0_17.index t 1 * 1024 + 1 * (y 1).val = t.val % 4 * 1024 + (y 1).val; rw [hi.2.1]; omega
    | ⟨2, _⟩ => show win0_17.index t 2 * 64 + 1 * (y 2).val = (y 2).val; rw [hi.2.2]; omega
  rw [ey]
  refine Eq.trans ?_ (point17 m c t (y 1) (y 2))
  show out0_17 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final17_eq (c : Dev nD) : (dats m 0 c).arrAt 17 cfg0.N = (keys (args m c) 64 2816 2 (by omega) (by omega) : Buf (Elt Ideal) ((c : Thread nD τ).loc main_v49_7)) :=
  (dats m 0 c).arrAt_eq_of_cover 17 _ (flushed17_eq m c) fun i => by
    have hN : cfg0.N = 32 := N_0
    have h0 : (i 0 : Nat) < 8 := (i 0).isLt
    have h1 : (i 1 : Nat) < 4096 := (i 1).isLt
    have h2 : (i 2 : Nat) < 64 := (i 2).isLt
    let t : Fin cfg0.N := ⟨(i 0).val * 4 + (i 1).val / 1024, by omega⟩
    have ht : t.val = (i 0).val * 4 + (i 1).val / 1024 := rfl
    have hi := index17 t
    refine ⟨t, flush0_17 t, ?_⟩
    show i ∈ ((View.whole main_v49_7).slice (win0_17.rect t)).set
    rw [View.set_slice_whole, Rect.mem_set_unit]
    intro a
    match a with
    | ⟨0, _⟩ => show win0_17.index t 0 * 1 ≤ (i 0 : Nat) ∧ (i 0 : Nat) < win0_17.index t 0 * 1 + 1
                rw [hi.1]; omega
    | ⟨1, _⟩ => show win0_17.index t 1 * 1024 ≤ (i 1 : Nat) ∧ (i 1 : Nat) < win0_17.index t 1 * 1024 + 1024
                rw [hi.2.1]; omega
    | ⟨2, _⟩ => show win0_17.index t 2 * 64 ≤ (i 2 : Nat) ∧ (i 2 : Nat) < win0_17.index t 2 * 64 + 64
                rw [hi.2.2]; omega

theorem point18 (c : Dev nD) (t : Fin cfg0.N) (j : Fin 4) (r : Fin 80) (u : Fin 256) :
    (out0_18 (iblk m c 0 t) (iblk m c 1 t) (iblk m c 2 t) (iblk m c 3 t) (iblk m c 4 t) (iblk m c 5 t) (iblk m c 6 t) (iblk m c 7 t) (iblk m c 8 t) (iblk m c 9 t) (ix4 0 j r u) : EReal) = values (args m c) 1 64 2880 (by omega) (ix4 (bat t) ⟨t.val % 4 * 4 + j.val, by omega⟩ r u) := by
  refine (out_cv (iblk m c 0 t) (iblk m c 1 t) (iblk m c 2 t) (iblk m c 3 t) (iblk m c 4 t) (iblk m c 5 t) (iblk m c 6 t) (iblk m c 7 t) (iblk m c 8 t) (iblk m c 9 t) j r u).trans ?_
  rw [row_prod]
  have hs : tok t ⟨j.val * 256 + u.val, by omega⟩ = ⟨(t.val % 4 * 4 + j.val) * 256 + u.val, by omega⟩ := Fin.ext (by
    show t.val % 4 * 1024 + (j.val * 256 + u.val) = (t.val % 4 * 4 + j.val) * 256 + u.val
    omega)
  rw [hs]
  rfl

theorem flushed18_eq (c : Dev nD) (t : Fin cfg0.N) (_ : (cfg0.win 18).flush t = true) :
    (dats m 0 c).flushed 18 t = ((cfg0.win 18).blk t).view.read (Elt Ideal) (values (args m c) 1 64 2880 (by omega) : Buf (Elt Ideal) ((c : Thread nD τ).loc main_v49_8)) := by
  have ef : (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 18).cut (grid0.coords t) ((dats m 0 c).after 18 t) = _
    rw [after0_18]
  rw [ef]
  funext y
  rw [View.read_apply]
  have hi := index18 t
  have ey : ((cfg0.win 18).blk t).view.emb y = ((ix4 (bat t) (⟨t.val % 4 * 4 + (y 1).val, by have h : (y 1).val < 4 := (y 1).isLt; omega⟩ : Fin 16) (y 2) (y 3)) : S8x16x80x256.Idx) := by
    funext a
    apply Fin.ext
    match a with
    | ⟨0, _⟩ => have h0 : (y 0).val < 1 := (y 0).isLt; show win0_18.index t 0 * 1 + 1 * (y 0).val = t.val / 4; rw [hi.1]; omega
    | ⟨1, _⟩ => show win0_18.index t 1 * 4 + 1 * (y 1).val = t.val % 4 * 4 + (y 1).val; rw [hi.2.1]; omega
    | ⟨2, _⟩ => show win0_18.index t 2 * 80 + 1 * (y 2).val = (y 2).val; rw [hi.2.2.1]; omega
    | ⟨3, _⟩ => show win0_18.index t 3 * 256 + 1 * (y 3).val = (y 3).val; rw [hi.2.2.2]; omega
  rw [ey]
  refine Eq.trans ?_ (point18 m c t (y 1) (y 2) (y 3))
  show out0_18 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl
  | ⟨3, _⟩ => rfl

theorem final18_eq (c : Dev nD) : (dats m 0 c).arrAt 18 cfg0.N = (values (args m c) 1 64 2880 (by omega) : Buf (Elt Ideal) ((c : Thread nD τ).loc main_v49_8)) :=
  (dats m 0 c).arrAt_eq_of_cover 18 _ (flushed18_eq m c) fun i => by
    have hN : cfg0.N = 32 := N_0
    have h0 : (i 0 : Nat) < 8 := (i 0).isLt
    have h1 : (i 1 : Nat) < 16 := (i 1).isLt
    have h2 : (i 2 : Nat) < 80 := (i 2).isLt
    have h3 : (i 3 : Nat) < 256 := (i 3).isLt
    let t : Fin cfg0.N := ⟨(i 0).val * 4 + (i 1).val / 4, by omega⟩
    have ht : t.val = (i 0).val * 4 + (i 1).val / 4 := rfl
    have hi := index18 t
    refine ⟨t, flush0_18 t, ?_⟩
    show i ∈ ((View.whole main_v49_8).slice (win0_18.rect t)).set
    rw [View.set_slice_whole, Rect.mem_set_unit]
    intro a
    match a with
    | ⟨0, _⟩ => show win0_18.index t 0 * 1 ≤ (i 0 : Nat) ∧ (i 0 : Nat) < win0_18.index t 0 * 1 + 1
                rw [hi.1]; omega
    | ⟨1, _⟩ => show win0_18.index t 1 * 4 ≤ (i 1 : Nat) ∧ (i 1 : Nat) < win0_18.index t 1 * 4 + 4
                rw [hi.2.1]; omega
    | ⟨2, _⟩ => show win0_18.index t 2 * 80 ≤ (i 2 : Nat) ∧ (i 2 : Nat) < win0_18.index t 2 * 80 + 80
                rw [hi.2.2.1]; omega
    | ⟨3, _⟩ => show win0_18.index t 3 * 256 ≤ (i 3 : Nat) ∧ (i 3 : Nat) < win0_18.index t 3 * 256 + 256
                rw [hi.2.2.2]; omega

theorem point19 (c : Dev nD) (t : Fin cfg0.N) (r : Fin 128) (s : Fin 1024) :
    (out0_19 (iblk m c 0 t) (iblk m c 1 t) (iblk m c 2 t) (iblk m c 3 t) (iblk m c 4 t) (iblk m c 5 t) (iblk m c 6 t) (iblk m c 7 t) (iblk m c 8 t) (iblk m c 9 t) (ix3 0 r s) : EReal) = indexQueries (args m c) (ix3 (bat t) r (tok t s)) := by
  refine (out_iq (iblk m c 0 t) (iblk m c 1 t) (iblk m c 2 t) (iblk m c 3 t) (iblk m c 4 t) (iblk m c 5 t) (iblk m c 6 t) (iblk m c 7 t) (iblk m c 8 t) (iblk m c 9 t) r s).trans ?_
  rw [row_prod]
  rfl

theorem flushed19_eq (c : Dev nD) (t : Fin cfg0.N) (_ : (cfg0.win 19).flush t = true) :
    (dats m 0 c).flushed 19 t = ((cfg0.win 19).blk t).view.read (Elt Ideal) (indexQueries (args m c) : Buf (Elt Ideal) ((c : Thread nD τ).loc main_v49_9)) := by
  have ef : (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 19).cut (grid0.coords t) ((dats m 0 c).after 19 t) = _
    rw [after0_19]
  rw [ef]
  funext y
  rw [View.read_apply]
  have hi := index19 t
  have ey : ((cfg0.win 19).blk t).view.emb y = ((ix3 (bat t) (y 1) (tok t (y 2))) : S8x128x4096.Idx) := by
    funext a
    apply Fin.ext
    match a with
    | ⟨0, _⟩ => have h0 : (y 0).val < 1 := (y 0).isLt; show win0_19.index t 0 * 1 + 1 * (y 0).val = t.val / 4; rw [hi.1]; omega
    | ⟨1, _⟩ => show win0_19.index t 1 * 128 + 1 * (y 1).val = (y 1).val; rw [hi.2.1]; omega
    | ⟨2, _⟩ => show win0_19.index t 2 * 1024 + 1 * (y 2).val = t.val % 4 * 1024 + (y 2).val; rw [hi.2.2]; omega
  rw [ey]
  refine Eq.trans ?_ (point19 m c t (y 1) (y 2))
  show out0_19 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final19_eq (c : Dev nD) : (dats m 0 c).arrAt 19 cfg0.N = (indexQueries (args m c) : Buf (Elt Ideal) ((c : Thread nD τ).loc main_v49_9)) :=
  (dats m 0 c).arrAt_eq_of_cover 19 _ (flushed19_eq m c) fun i => by
    have hN : cfg0.N = 32 := N_0
    have h0 : (i 0 : Nat) < 8 := (i 0).isLt
    have h1 : (i 1 : Nat) < 128 := (i 1).isLt
    have h2 : (i 2 : Nat) < 4096 := (i 2).isLt
    let t : Fin cfg0.N := ⟨(i 0).val * 4 + (i 2).val / 1024, by omega⟩
    have ht : t.val = (i 0).val * 4 + (i 2).val / 1024 := rfl
    have hi := index19 t
    refine ⟨t, flush0_19 t, ?_⟩
    show i ∈ ((View.whole main_v49_9).slice (win0_19.rect t)).set
    rw [View.set_slice_whole, Rect.mem_set_unit]
    intro a
    match a with
    | ⟨0, _⟩ => show win0_19.index t 0 * 1 ≤ (i 0 : Nat) ∧ (i 0 : Nat) < win0_19.index t 0 * 1 + 1
                rw [hi.1]; omega
    | ⟨1, _⟩ => show win0_19.index t 1 * 128 ≤ (i 1 : Nat) ∧ (i 1 : Nat) < win0_19.index t 1 * 128 + 128
                rw [hi.2.1]; omega
    | ⟨2, _⟩ => show win0_19.index t 2 * 1024 ≤ (i 2 : Nat) ∧ (i 2 : Nat) < win0_19.index t 2 * 1024 + 1024
                rw [hi.2.2]; omega

theorem point20 (c : Dev nD) (t : Fin cfg0.N) (s : Fin 1024) (r : Fin 32) :
    (out0_20 (iblk m c 0 t) (iblk m c 1 t) (iblk m c 2 t) (iblk m c 3 t) (iblk m c 4 t) (iblk m c 5 t) (iblk m c 6 t) (iblk m c 7 t) (iblk m c 8 t) (iblk m c 9 t) (ix3 0 s r) : EReal) = indexKeys (args m c) (ix3 (bat t) (tok t s) r) := by
  refine (out_ik (iblk m c 0 t) (iblk m c 1 t) (iblk m c 2 t) (iblk m c 3 t) (iblk m c 4 t) (iblk m c 5 t) (iblk m c 6 t) (iblk m c 7 t) (iblk m c 8 t) (iblk m c 9 t) s r).trans ?_
  rw [row_prod]
  rfl

theorem flushed20_eq (c : Dev nD) (t : Fin cfg0.N) (_ : (cfg0.win 20).flush t = true) :
    (dats m 0 c).flushed 20 t = ((cfg0.win 20).blk t).view.read (Elt Ideal) (indexKeys (args m c) : Buf (Elt Ideal) ((c : Thread nD τ).loc main_v49_10)) := by
  have ef : (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 20).cut (grid0.coords t) ((dats m 0 c).after 20 t) = _
    rw [after0_20]
  rw [ef]
  funext y
  rw [View.read_apply]
  have hi := index20 t
  have ey : ((cfg0.win 20).blk t).view.emb y = ((ix3 (bat t) (tok t (y 1)) (y 2)) : S8x4096x32.Idx) := by
    funext a
    apply Fin.ext
    match a with
    | ⟨0, _⟩ => have h0 : (y 0).val < 1 := (y 0).isLt; show win0_20.index t 0 * 1 + 1 * (y 0).val = t.val / 4; rw [hi.1]; omega
    | ⟨1, _⟩ => show win0_20.index t 1 * 1024 + 1 * (y 1).val = t.val % 4 * 1024 + (y 1).val; rw [hi.2.1]; omega
    | ⟨2, _⟩ => show win0_20.index t 2 * 32 + 1 * (y 2).val = (y 2).val; rw [hi.2.2]; omega
  rw [ey]
  refine Eq.trans ?_ (point20 m c t (y 1) (y 2))
  show out0_20 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final20_eq (c : Dev nD) : (dats m 0 c).arrAt 20 cfg0.N = (indexKeys (args m c) : Buf (Elt Ideal) ((c : Thread nD τ).loc main_v49_10)) :=
  (dats m 0 c).arrAt_eq_of_cover 20 _ (flushed20_eq m c) fun i => by
    have hN : cfg0.N = 32 := N_0
    have h0 : (i 0 : Nat) < 8 := (i 0).isLt
    have h1 : (i 1 : Nat) < 4096 := (i 1).isLt
    have h2 : (i 2 : Nat) < 32 := (i 2).isLt
    let t : Fin cfg0.N := ⟨(i 0).val * 4 + (i 1).val / 1024, by omega⟩
    have ht : t.val = (i 0).val * 4 + (i 1).val / 1024 := rfl
    have hi := index20 t
    refine ⟨t, flush0_20 t, ?_⟩
    show i ∈ ((View.whole main_v49_10).slice (win0_20.rect t)).set
    rw [View.set_slice_whole, Rect.mem_set_unit]
    intro a
    match a with
    | ⟨0, _⟩ => show win0_20.index t 0 * 1 ≤ (i 0 : Nat) ∧ (i 0 : Nat) < win0_20.index t 0 * 1 + 1
                rw [hi.1]; omega
    | ⟨1, _⟩ => show win0_20.index t 1 * 1024 ≤ (i 1 : Nat) ∧ (i 1 : Nat) < win0_20.index t 1 * 1024 + 1024
                rw [hi.2.1]; omega
    | ⟨2, _⟩ => show win0_20.index t 2 * 32 ≤ (i 2 : Nat) ∧ (i 2 : Nat) < win0_20.index t 2 * 32 + 32
                rw [hi.2.2]; omega

theorem point21 (c : Dev nD) (t : Fin cfg0.N) (r : Fin 4) (s : Fin 1024) :
    (out0_21 (iblk m c 0 t) (iblk m c 1 t) (iblk m c 2 t) (iblk m c 3 t) (iblk m c 4 t) (iblk m c 5 t) (iblk m c 6 t) (iblk m c 7 t) (iblk m c 8 t) (iblk m c 9 t) (ix3 0 r s) : EReal) = indexWeights (args m c) (ix3 (bat t) r (tok t s)) := by
  refine (out_iw (iblk m c 0 t) (iblk m c 1 t) (iblk m c 2 t) (iblk m c 3 t) (iblk m c 4 t) (iblk m c 5 t) (iblk m c 6 t) (iblk m c 7 t) (iblk m c 8 t) (iblk m c 9 t) r s).trans ?_
  rw [row_prod]
  rfl

theorem flushed21_eq (c : Dev nD) (t : Fin cfg0.N) (_ : (cfg0.win 21).flush t = true) :
    (dats m 0 c).flushed 21 t = ((cfg0.win 21).blk t).view.read (Elt Ideal) (indexWeights (args m c) : Buf (Elt Ideal) ((c : Thread nD τ).loc main_v49_11)) := by
  have ef : (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t)) := by
    show (cfg0.win 21).cut (grid0.coords t) ((dats m 0 c).after 21 t) = _
    rw [after0_21]
  rw [ef]
  funext y
  rw [View.read_apply]
  have hi := index21 t
  have ey : ((cfg0.win 21).blk t).view.emb y = ((ix3 (bat t) (y 1) (tok t (y 2))) : S8x4x4096.Idx) := by
    funext a
    apply Fin.ext
    match a with
    | ⟨0, _⟩ => have h0 : (y 0).val < 1 := (y 0).isLt; show win0_21.index t 0 * 1 + 1 * (y 0).val = t.val / 4; rw [hi.1]; omega
    | ⟨1, _⟩ => show win0_21.index t 1 * 4 + 1 * (y 1).val = (y 1).val; rw [hi.2.1]; omega
    | ⟨2, _⟩ => show win0_21.index t 2 * 1024 + 1 * (y 2).val = t.val % 4 * 1024 + (y 2).val; rw [hi.2.2]; omega
  rw [ey]
  refine Eq.trans ?_ (point21 m c t (y 1) (y 2))
  show out0_21 _ _ _ _ _ _ _ _ _ _ _ = _
  congr 1
  funext a
  apply Fin.ext
  match a with
  | ⟨0, _⟩ => have h0 : (y 0).val < 1 := (y 0).isLt; show (y 0).val = 0; omega
  | ⟨1, _⟩ => rfl
  | ⟨2, _⟩ => rfl

theorem final21_eq (c : Dev nD) : (dats m 0 c).arrAt 21 cfg0.N = (indexWeights (args m c) : Buf (Elt Ideal) ((c : Thread nD τ).loc main_v49_11)) :=
  (dats m 0 c).arrAt_eq_of_cover 21 _ (flushed21_eq m c) fun i => by
    have hN : cfg0.N = 32 := N_0
    have h0 : (i 0 : Nat) < 8 := (i 0).isLt
    have h1 : (i 1 : Nat) < 4 := (i 1).isLt
    have h2 : (i 2 : Nat) < 4096 := (i 2).isLt
    let t : Fin cfg0.N := ⟨(i 0).val * 4 + (i 2).val / 1024, by omega⟩
    have ht : t.val = (i 0).val * 4 + (i 2).val / 1024 := rfl
    have hi := index21 t
    refine ⟨t, flush0_21 t, ?_⟩
    show i ∈ ((View.whole main_v49_11).slice (win0_21.rect t)).set
    rw [View.set_slice_whole, Rect.mem_set_unit]
    intro a
    match a with
    | ⟨0, _⟩ => show win0_21.index t 0 * 1 ≤ (i 0 : Nat) ∧ (i 0 : Nat) < win0_21.index t 0 * 1 + 1
                rw [hi.1]; omega
    | ⟨1, _⟩ => show win0_21.index t 1 * 4 ≤ (i 1 : Nat) ∧ (i 1 : Nat) < win0_21.index t 1 * 4 + 4
                rw [hi.2.1]; omega
    | ⟨2, _⟩ => show win0_21.index t 2 * 1024 ≤ (i 2 : Nat) ∧ (i 2 : Nat) < win0_21.index t 2 * 1024 + 1024
                rw [hi.2.2]; omega

end Cert.ProjIdeal.Hand

end
-- ==== Proof.ProjReference.lean ====
module

public import proofs.«01_k».proof.Proof.ProjSpec
public import proofs.«01_k».proof.Proof.Gen.ProjReferenceIdeal.Read

@[expose] public section

noncomputable section

namespace Cert.ProjReferenceIdeal.Hand

open Cert.ProjReferenceIdeal Cert.ProjReferenceIdeal.Gen Idealize.ShloMosaic Cert.Route Cert.Merge Cert.Proj

variable (x0 : (⟨S8x4096x1024, .f32⟩ : BufTy).Contents (Elt Ideal)) (x1 : (⟨S1024, .f32⟩ : BufTy).Contents (Elt Ideal)) (x2 : (⟨S1024x3200, .bf16⟩ : BufTy).Contents (Elt Ideal)) (x3 : (⟨S3x2x64, .f32⟩ : BufTy).Contents (Elt Ideal))

/-- The products of all tokens. -/
theorem product_apply (b : Fin 8) (s : Fin 4096) (l : Fin 3200) :
    Read.val_main_v14 (F := Ideal) x0 x1 x2 (ix3 b s l) = prod ⟨x0, x1, x2, x3⟩ b s l := by
  unfold Read.val_main_v14 Read.val_main_v13 Read.val_main_v12 Read.val_main_v9 Read.val_main_v11 Read.val_main_v8 Read.val_main_v10 Read.val_main_v7 Read.val_main_v6 Read.val_main_v4 Read.val_main_v5 Read.val_main_v2 Read.val_main_v3 Read.val_main_cst_1 Read.val_main_v1 Read.val_main_cst_0 Read.val_main_cst Read.val_main_v0
  pointwise
  rfl

theorem aq_eq : Read.val_main_v47 (F := Ideal) x0 x1 x2 x3 = queries ⟨x0, x1, x2, x3⟩ 0 0 (by omega) := by
  funext y
  obtain ⟨b, r, s, rfl⟩ : ∃ b r s, y = ix3 b r s := ⟨_, _, _, eq_ix3 y⟩
  have hs := product_apply x0 x1 x2 x3
  unfold Read.val_main_v47 Read.val_main_v46 Read.val_main_v45 Read.val_main_v44 Read.val_main_v43 Read.val_main_cst_5 Read.val_main_v42 Read.val_main_v41 Read.val_main_v39 Read.val_main_v40 Read.val_main_v38 Read.val_main_v28 Read.val_main_v37 Read.val_main_v27 Read.val_main_v36 Read.val_main_v35 Read.val_main_v34 Read.val_main_cst_4 Read.val_main_v33 Read.val_main_v32 Read.val_main_cst_3 Read.val_main_v31 Read.val_main_cst_2 Read.val_main_v30 Read.val_main_v29 Read.val_main_v15
  generalize Read.val_main_v14 (F := Ideal) x0 x1 x2 = p at hs ⊢
  pointwise
  simp only [hs]
  clear hs
  refine (mul_assoc (G := EReal) _ _ _).trans ?_
  exact congrArg (· * (gainOf ⟨x0, x1, x2, x3⟩ (n := 512) 0 0 r * Ideal.ofBits .f32 0x3E38AA3B#32)) (normed_at (prod ⟨x0, x1, x2, x3⟩ b s) 0 r (by omega) (by omega)
    ⟨r.val, by omega⟩ (fun j => ⟨(r.val / 64 * 64 + j.val), by omega⟩) (by simp) fun j => by simp)

theorem ak_eq : Read.val_main_v65 (F := Ideal) x0 x1 x2 x3 = keys ⟨x0, x1, x2, x3⟩ 512 512 0 (by omega) (by omega) := by
  funext y
  obtain ⟨b, s, r, rfl⟩ : ∃ b s r, y = ix3 b s r := ⟨_, _, _, eq_ix3 y⟩
  have hs := product_apply x0 x1 x2 x3
  unfold Read.val_main_v65 Read.val_main_v64 Read.val_main_v63 Read.val_main_v62 Read.val_main_v60 Read.val_main_v61 Read.val_main_v59 Read.val_main_v49 Read.val_main_v58 Read.val_main_v48 Read.val_main_v57 Read.val_main_v56 Read.val_main_v55 Read.val_main_cst_8 Read.val_main_v54 Read.val_main_v53 Read.val_main_cst_7 Read.val_main_v52 Read.val_main_cst_6 Read.val_main_v51 Read.val_main_v50 Read.val_main_v16
  generalize Read.val_main_v14 (F := Ideal) x0 x1 x2 = p at hs ⊢
  pointwise
  simp only [hs]
  clear hs
  exact congrArg (· * gainOf ⟨x0, x1, x2, x3⟩ (n := 512) 0 1 r) (normed_at (prod ⟨x0, x1, x2, x3⟩ b s) 512 r (by omega) (by omega)
    ⟨512 + r.val, by omega⟩ (fun j => ⟨512 + (r.val / 64 * 64 + j.val), by omega⟩) rfl fun j => rfl)

theorem av_joined (b : Fin 8) (s : Fin 4096) (h : Fin 4) (k : Fin 144) :
    Read.val_main_v69 (F := Ideal) x0 x1 x2 (ix4 b s h k) = padded (n := 4) (prod ⟨x0, x1, x2, x3⟩ b s) 1024 128 ⟨h.val * 144 + k.val, by omega⟩ (by omega) := by
  have hs := product_apply x0 x1 x2 x3
  unfold Read.val_main_v69 Read.val_main_v68 Read.val_main_v66 Read.val_main_v67 Read.val_main_cst_10 Read.val_main_v17 Read.val_main_cst_9
  generalize Read.val_main_v14 (F := Ideal) x0 x1 x2 = p at hs ⊢
  pointwise
  simp only [hs]
  clear hs
  by_cases h1 : k.val < 128
  · rw [dif_pos h1]
    exact padded_val (n := 4) (prod ⟨x0, x1, x2, x3⟩ b s) 1024 128 ⟨h.val * 144 + k.val, by omega⟩ (by omega) ⟨_, by omega⟩ (by
      show (h.val * 144 + k.val) % 144 < 128; omega) (by
      show 1024 + (h.val * 128 + k.val) = 1024 + ((h.val * 144 + k.val) / 144 * 128 + (h.val * 144 + k.val) % 144); omega)
  · rw [dif_neg h1]
    by_cases h2 : k.val - 128 < 1
    · rw [dif_pos h2]
      exact (if_pos rfl).symm.trans (padded_fill (n := 4) (prod ⟨x0, x1, x2, x3⟩ b s) 1024 128 ⟨h.val * 144 + k.val, by omega⟩ (by omega) 0 (by
        show (h.val * 144 + k.val) % 144 = 128 + 0; omega))
    · rw [dif_neg h2]
      exact (if_neg (by omega)).symm.trans (padded_fill (n := 4) (prod ⟨x0, x1, x2, x3⟩ b s) 1024 128 ⟨h.val * 144 + k.val, by omega⟩ (by omega) (k.val - 128) (by
        show (h.val * 144 + k.val) % 144 = 128 + (k.val - 128); omega))

theorem av_eq : Read.val_main_v72 (F := Ideal) x0 x1 x2 = values ⟨x0, x1, x2, x3⟩ 4 128 1024 (by omega) := by
  funext y
  obtain ⟨b, w, r, u, rfl⟩ : ∃ b w r u, y = ix4 b w r u := ⟨_, _, _, _, eq_ix4 y⟩
  have hs := av_joined x0 x1 x2 x3 b ⟨w.val * 256 + u.val, by omega⟩ ⟨r.val / 144, by omega⟩ ⟨r.val % 144, by omega⟩
  have hr : (⟨r.val / 144 * 144 + r.val % 144, by omega⟩ : Fin 576) = r := Fin.ext (by
    show r.val / 144 * 144 + r.val % 144 = r.val; omega)
  refine Eq.trans ?_ (hs.trans (congrArg (fun q => padded (n := 4) (prod ⟨x0, x1, x2, x3⟩ b ⟨w.val * 256 + u.val, by omega⟩) 1024 128 q (by omega)) hr))
  have hc : Read.val_main_v70 (F := Ideal) x0 x1 x2 (ix4 b w u r)
      = Read.val_main_v69 (F := Ideal) x0 x1 x2 (ix4 b ⟨w.val * 256 + u.val, by omega⟩ ⟨r.val / 144, by omega⟩ ⟨r.val % 144, by omega⟩) := by
    unfold Read.val_main_v70
    generalize Read.val_main_v69 (F := Ideal) x0 x1 x2 = z
    refine shapeCast_apply z _ _ _ ?_
    rewrite [Shape.rowMajor_val_four, Shape.rowMajor_val_four]
    show ((b.val * 4096 + (w.val * 256 + u.val)) * 4 + r.val / 144) * 144 + r.val % 144 = ((b.val * 16 + w.val) * 256 + u.val) * 576 + r.val
    omega
  refine Eq.trans ?_ hc
  refine (Read.val_main_v72_apply (F := Ideal) x0 x1 x2 _).trans ((Read.val_main_v71_apply (F := Ideal) x0 x1 x2 (ix4 b w r u)).trans ?_)
  congr 1
  funext a
  match a with
  | ⟨0, _⟩ => rfl
  | ⟨1, _⟩ => rfl
  | ⟨2, _⟩ => rfl
  | ⟨3, _⟩ => rfl

theorem bq_eq : Read.val_main_v93 (F := Ideal) x0 x1 x2 x3 = queries ⟨x0, x1, x2, x3⟩ 1536 1 (by omega) := by
  funext y
  obtain ⟨b, r, s, rfl⟩ : ∃ b r s, y = ix3 b r s := ⟨_, _, _, eq_ix3 y⟩
  have hs := product_apply x0 x1 x2 x3
  unfold Read.val_main_v93 Read.val_main_v92 Read.val_main_v91 Read.val_main_v90 Read.val_main_v89 Read.val_main_cst_14 Read.val_main_v88 Read.val_main_v85 Read.val_main_v87 Read.val_main_v84 Read.val_main_v86 Read.val_main_v83 Read.val_main_v74 Read.val_main_v82 Read.val_main_v73 Read.val_main_v81 Read.val_main_v80 Read.val_main_cst_13 Read.val_main_v78 Read.val_main_v79 Read.val_main_v77 Read.val_main_cst_12 Read.val_main_cst_11 Read.val_main_v76 Read.val_main_v75 Read.val_main_v18
  generalize Read.val_main_v14 (F := Ideal) x0 x1 x2 = p at hs ⊢
  pointwise
  simp only [hs]
  clear hs
  refine (mul_assoc (G := EReal) _ _ _).trans ?_
  exact congrArg (· * (gainOf ⟨x0, x1, x2, x3⟩ (n := 512) 1 0 r * Ideal.ofBits .f32 0x3E38AA3B#32)) (normed_at (prod ⟨x0, x1, x2, x3⟩ b s) 1536 r (by omega) (by omega)
    ⟨1536 + r.val, by omega⟩ (fun j => ⟨1536 + (r.val / 64 * 64 + j.val), by omega⟩) (by simp) fun j => by simp)

theorem bk_eq : Read.val_main_v111 (F := Ideal) x0 x1 x2 x3 = keys ⟨x0, x1, x2, x3⟩ 128 2048 1 (by omega) (by omega) := by
  funext y
  obtain ⟨b, s, r, rfl⟩ : ∃ b s r, y = ix3 b s r := ⟨_, _, _, eq_ix3 y⟩
  have hs := product_apply x0 x1 x2 x3
  unfold Read.val_main_v111 Read.val_main_v110 Read.val_main_v109 Read.val_main_v106 Read.val_main_v108 Read.val_main_v105 Read.val_main_v107 Read.val_main_v104 Read.val_main_v95 Read.val_main_v103 Read.val_main_v94 Read.val_main_v101 Read.val_main_v102 Read.val_main_v99 Read.val_main_v100 Read.val_main_cst_17 Read.val_main_v98 Read.val_main_cst_16 Read.val_main_v97 Read.val_main_cst_15 Read.val_main_v96 Read.val_main_v19
  generalize Read.val_main_v14 (F := Ideal) x0 x1 x2 = p at hs ⊢
  pointwise
  simp only [hs]
  clear hs
  exact congrArg (· * gainOf ⟨x0, x1, x2, x3⟩ (n := 128) 1 1 r) (normed_at (prod ⟨x0, x1, x2, x3⟩ b s) 2048 r (by omega) (by omega)
    ⟨2048 + r.val, by omega⟩ (fun j => ⟨2048 + (r.val / 64 * 64 + j.val), by omega⟩) rfl fun j => rfl)

theorem bv_joined (b : Fin 8) (s : Fin 4096) (h : Fin 2) (k : Fin 80) :
    Read.val_main_v115 (F := Ideal) x0 x1 x2 (ix4 b s h k) = padded (n := 2) (prod ⟨x0, x1, x2, x3⟩ b s) 2176 64 ⟨h.val * 80 + k.val, by omega⟩ (by omega) := by
  have hs := product_apply x0 x1 x2 x3
  unfold Read.val_main_v115 Read.val_main_v113 Read.val_main_v114 Read.val_main_v112 Read.val_main_cst_18 Read.val_main_cst_19 Read.val_main_v20
  generalize Read.val_main_v14 (F := Ideal) x0 x1 x2 = p at hs ⊢
  pointwise
  simp only [hs]
  clear hs
  by_cases h1 : k.val < 64
  · rw [dif_pos h1]
    exact padded_val (n := 2) (prod ⟨x0, x1, x2, x3⟩ b s) 2176 64 ⟨h.val * 80 + k.val, by omega⟩ (by omega) ⟨_, by omega⟩ (by
      show (h.val * 80 + k.val) % 80 < 64; omega) (by
      show 2176 + (h.val * 64 + k.val) = 2176 + ((h.val * 80 + k.val) / 80 * 64 + (h.val * 80 + k.val) % 80); omega)
  · rw [dif_neg h1]
    by_cases h2 : k.val - 64 < 1
    · rw [dif_pos h2]
      exact (if_pos rfl).symm.trans (padded_fill (n := 2) (prod ⟨x0, x1, x2, x3⟩ b s) 2176 64 ⟨h.val * 80 + k.val, by omega⟩ (by omega) 0 (by
        show (h.val * 80 + k.val) % 80 = 64 + 0; omega))
    · rw [dif_neg h2]
      exact (if_neg (by omega)).symm.trans (padded_fill (n := 2) (prod ⟨x0, x1, x2, x3⟩ b s) 2176 64 ⟨h.val * 80 + k.val, by omega⟩ (by omega) (k.val - 64) (by
        show (h.val * 80 + k.val) % 80 = 64 + (k.val - 64); omega))

theorem bv_eq : Read.val_main_v118 (F := Ideal) x0 x1 x2 = values ⟨x0, x1, x2, x3⟩ 2 64 2176 (by omega) := by
  funext y
  obtain ⟨b, w, r, u, rfl⟩ : ∃ b w r u, y = ix4 b w r u := ⟨_, _, _, _, eq_ix4 y⟩
  have hs := bv_joined x0 x1 x2 x3 b ⟨w.val * 256 + u.val, by omega⟩ ⟨r.val / 80, by omega⟩ ⟨r.val % 80, by omega⟩
  have hr : (⟨r.val / 80 * 80 + r.val % 80, by omega⟩ : Fin 160) = r := Fin.ext (by
    show r.val / 80 * 80 + r.val % 80 = r.val; omega)
  refine Eq.trans ?_ (hs.trans (congrArg (fun q => padded (n := 2) (prod ⟨x0, x1, x2, x3⟩ b ⟨w.val * 256 + u.val, by omega⟩) 2176 64 q (by omega)) hr))
  have hc : Read.val_main_v116 (F := Ideal) x0 x1 x2 (ix4 b w u r)
      = Read.val_main_v115 (F := Ideal) x0 x1 x2 (ix4 b ⟨w.val * 256 + u.val, by omega⟩ ⟨r.val / 80, by omega⟩ ⟨r.val % 80, by omega⟩) := by
    unfold Read.val_main_v116
    generalize Read.val_main_v115 (F := Ideal) x0 x1 x2 = z
    refine shapeCast_apply z _ _ _ ?_
    rewrite [Shape.rowMajor_val_four, Shape.rowMajor_val_four]
    show ((b.val * 4096 + (w.val * 256 + u.val)) * 2 + r.val / 80) * 80 + r.val % 80 = ((b.val * 16 + w.val) * 256 + u.val) * 160 + r.val
    omega
  refine Eq.trans ?_ hc
  refine (Read.val_main_v118_apply (F := Ideal) x0 x1 x2 _).trans ((Read.val_main_v117_apply (F := Ideal) x0 x1 x2 (ix4 b w r u)).trans ?_)
  congr 1
  funext a
  match a with
  | ⟨0, _⟩ => rfl
  | ⟨1, _⟩ => rfl
  | ⟨2, _⟩ => rfl
  | ⟨3, _⟩ => rfl

theorem cq_eq : Read.val_main_v139 (F := Ideal) x0 x1 x2 x3 = queries ⟨x0, x1, x2, x3⟩ 2304 2 (by omega) := by
  funext y
  obtain ⟨b, r, s, rfl⟩ : ∃ b r s, y = ix3 b r s := ⟨_, _, _, eq_ix3 y⟩
  have hs := product_apply x0 x1 x2 x3
  unfold Read.val_main_v139 Read.val_main_v138 Read.val_main_v137 Read.val_main_v136 Read.val_main_v135 Read.val_main_cst_23 Read.val_main_v134 Read.val_main_v131 Read.val_main_v133 Read.val_main_v130 Read.val_main_v132 Read.val_main_v129 Read.val_main_v120 Read.val_main_v128 Read.val_main_v119 Read.val_main_v127 Read.val_main_v126 Read.val_main_cst_22 Read.val_main_v125 Read.val_main_v124 Read.val_main_cst_21 Read.val_main_v123 Read.val_main_v122 Read.val_main_cst_20 Read.val_main_v121 Read.val_main_v21
  generalize Read.val_main_v14 (F := Ideal) x0 x1 x2 = p at hs ⊢
  pointwise
  simp only [hs]
  clear hs
  refine (mul_assoc (G := EReal) _ _ _).trans ?_
  exact congrArg (· * (gainOf ⟨x0, x1, x2, x3⟩ (n := 512) 2 0 r * Ideal.ofBits .f32 0x3E38AA3B#32)) (normed_at (prod ⟨x0, x1, x2, x3⟩ b s) 2304 r (by omega) (by omega)
    ⟨2304 + r.val, by omega⟩ (fun j => ⟨2304 + (r.val / 64 * 64 + j.val), by omega⟩) (by simp) fun j => by simp)

theorem ck_eq : Read.val_main_v155 (F := Ideal) x0 x1 x2 x3 = keys ⟨x0, x1, x2, x3⟩ 64 2816 2 (by omega) (by omega) := by
  funext y
  obtain ⟨b, s, r, rfl⟩ : ∃ b s r, y = ix3 b s r := ⟨_, _, _, eq_ix3 y⟩
  have hs := product_apply x0 x1 x2 x3
  unfold Read.val_main_v155 Read.val_main_v154 Read.val_main_v153 Read.val_main_v151 Read.val_main_v152 Read.val_main_v150 Read.val_main_v141 Read.val_main_v149 Read.val_main_v140 Read.val_main_v148 Read.val_main_v147 Read.val_main_v146 Read.val_main_cst_26 Read.val_main_v144 Read.val_main_v145 Read.val_main_v143 Read.val_main_cst_25 Read.val_main_v142 Read.val_main_cst_24 Read.val_main_v22
  generalize Read.val_main_v14 (F := Ideal) x0 x1 x2 = p at hs ⊢
  pointwise
  simp only [hs]
  clear hs
  have hr : (⟨r.val % 64, by omega⟩ : Fin 64) = r := Fin.ext (by show r.val % 64 = r.val; omega)
  have hg : gainOf ⟨x0, x1, x2, x3⟩ (n := 64) 2 1 r = x3 (ix3 2 1 r) := by unfold gainOf; rw [hr]
  refine Eq.trans ?_ (congrArg (normed (n := 64) (prod ⟨x0, x1, x2, x3⟩ b s) 2816 r (by omega) (by omega) * ·) hg.symm)
  exact congrArg (· * x3 (ix3 2 1 r)) (normed_at (prod ⟨x0, x1, x2, x3⟩ b s) 2816 r (by omega) (by omega)
    ⟨2816 + r.val, by omega⟩ (fun j => ⟨2816 + j.val, by omega⟩) rfl fun j => by show 2816 + j.val = 2816 + (r.val / 64 * 64 + j.val); omega)

theorem cv_joined (b : Fin 8) (s : Fin 4096) (h : Fin 1) (k : Fin 80) :
    Read.val_main_v159 (F := Ideal) x0 x1 x2 (ix4 b s h k) = padded (n := 1) (prod ⟨x0, x1, x2, x3⟩ b s) 2880 64 k (by omega) := by
  have hs := product_apply x0 x1 x2 x3
  unfold Read.val_main_v159 Read.val_main_v157 Read.val_main_v158 Read.val_main_v156 Read.val_main_cst_27 Read.val_main_cst_28 Read.val_main_v23
  generalize Read.val_main_v14 (F := Ideal) x0 x1 x2 = p at hs ⊢
  pointwise
  simp only [hs]
  clear hs
  by_cases h1 : k.val < 64
  · rw [dif_pos h1]
    exact padded_val (n := 1) (prod ⟨x0, x1, x2, x3⟩ b s) 2880 64 k (by omega) ⟨_, by omega⟩ (by
      show (k.val) % 80 < 64; omega) (by
      show 2880 + k.val = 2880 + ((k.val) / 80 * 64 + (k.val) % 80); omega)
  · rw [dif_neg h1]
    by_cases h2 : k.val - 64 < 1
    · rw [dif_pos h2]
      exact (if_pos rfl).symm.trans (padded_fill (n := 1) (prod ⟨x0, x1, x2, x3⟩ b s) 2880 64 k (by omega) 0 (by
        show (k.val) % 80 = 64 + 0; omega))
    · rw [dif_neg h2]
      exact (if_neg (by omega)).symm.trans (padded_fill (n := 1) (prod ⟨x0, x1, x2, x3⟩ b s) 2880 64 k (by omega) (k.val - 64) (by
        show (k.val) % 80 = 64 + (k.val - 64); omega))

theorem cv_eq : Read.val_main_v162 (F := Ideal) x0 x1 x2 = values ⟨x0, x1, x2, x3⟩ 1 64 2880 (by omega) := by
  funext y
  obtain ⟨b, w, r, u, rfl⟩ : ∃ b w r u, y = ix4 b w r u := ⟨_, _, _, _, eq_ix4 y⟩
  have hs := cv_joined x0 x1 x2 x3 b ⟨w.val * 256 + u.val, by omega⟩ ⟨r.val / 80, by omega⟩ ⟨r.val % 80, by omega⟩
  have hr : (⟨r.val % 80, by omega⟩ : Fin 80) = r := Fin.ext (by
    show r.val % 80 = r.val; omega)
  refine Eq.trans ?_ (hs.trans (congrArg (fun q => padded (n := 1) (prod ⟨x0, x1, x2, x3⟩ b ⟨w.val * 256 + u.val, by omega⟩) 2880 64 q (by omega)) hr))
  have hc : Read.val_main_v160 (F := Ideal) x0 x1 x2 (ix4 b w u r)
      = Read.val_main_v159 (F := Ideal) x0 x1 x2 (ix4 b ⟨w.val * 256 + u.val, by omega⟩ ⟨r.val / 80, by omega⟩ ⟨r.val % 80, by omega⟩) := by
    unfold Read.val_main_v160
    generalize Read.val_main_v159 (F := Ideal) x0 x1 x2 = z
    refine shapeCast_apply z _ _ _ ?_
    rewrite [Shape.rowMajor_val_four, Shape.rowMajor_val_four]
    show ((b.val * 4096 + (w.val * 256 + u.val)) * 1 + r.val / 80) * 80 + r.val % 80 = ((b.val * 16 + w.val) * 256 + u.val) * 80 + r.val
    omega
  refine Eq.trans ?_ hc
  refine (Read.val_main_v162_apply (F := Ideal) x0 x1 x2 _).trans ((Read.val_main_v161_apply (F := Ideal) x0 x1 x2 (ix4 b w r u)).trans ?_)
  congr 1
  funext a
  match a with
  | ⟨0, _⟩ => rfl
  | ⟨1, _⟩ => rfl
  | ⟨2, _⟩ => rfl
  | ⟨3, _⟩ => rfl

theorem iq_eq : Read.val_main_v164 (F := Ideal) x0 x1 x2 = indexQueries ⟨x0, x1, x2, x3⟩ := by
  funext y
  obtain ⟨b, r, s, rfl⟩ : ∃ b r s, y = ix3 b r s := ⟨_, _, _, eq_ix3 y⟩
  have hs := product_apply x0 x1 x2 x3
  unfold Read.val_main_v164 Read.val_main_v163 Read.val_main_v24
  generalize Read.val_main_v14 (F := Ideal) x0 x1 x2 = p at hs ⊢
  pointwise
  simp only [hs]
  clear hs
  rfl

theorem ik_eq : Read.val_main_v165 (F := Ideal) x0 x1 x2 = indexKeys ⟨x0, x1, x2, x3⟩ := by
  funext y
  obtain ⟨b, s, r, rfl⟩ : ∃ b s r, y = ix3 b s r := ⟨_, _, _, eq_ix3 y⟩
  have hs := product_apply x0 x1 x2 x3
  unfold Read.val_main_v165 Read.val_main_v25
  generalize Read.val_main_v14 (F := Ideal) x0 x1 x2 = p at hs ⊢
  pointwise
  simp only [hs]
  clear hs
  rfl

theorem iw_eq : Read.val_main_v168 (F := Ideal) x0 x1 x2 = indexWeights ⟨x0, x1, x2, x3⟩ := by
  funext y
  obtain ⟨b, r, s, rfl⟩ : ∃ b r s, y = ix3 b r s := ⟨_, _, _, eq_ix3 y⟩
  have hs := product_apply x0 x1 x2 x3
  unfold Read.val_main_v168 Read.val_main_v166 Read.val_main_v167 Read.val_main_v26 Read.val_main_cst_29
  generalize Read.val_main_v14 (F := Ideal) x0 x1 x2 = p at hs ⊢
  pointwise
  simp only [hs]
  clear hs
  rfl

end Cert.ProjReferenceIdeal.Hand

end
-- ==== Proof.ProjClaim.lean ====
module

public import proofs.«01_k».proof.Defs
public import proofs.«01_k».proof.Proof.ProjValue
public import proofs.«01_k».proof.Proof.ProjReference
public import proofs.«01_k».proof.Proof.Gen.ProjReferenceIdeal.Run

@[expose] public section

set_option maxHeartbeats 4000000

noncomputable section

namespace Cert.ProjIdeal.Hand

open Idealize.ShloMosaic Idealize.ShloMosaic.TcCoe Idealize.SL.Sem Cert.Proj
open Cert.ProjIdeal Cert.ProjIdeal.Gen

/-- The projections: the twelve arrays that the tiled kernel leaves are the reference's. -/
theorem algebraic : Cert.algebraic_ProjIdeal_ProjReferenceIdeal (hProjIdeal := Cert.ProjIdeal.Gen.facts)
    (hProjReferenceIdeal := Cert.ProjReferenceIdeal.Gen.facts) := by
  intro m g m' g' _ hm
  refine ⟨fun c => queries (args m c) 0 0 (by omega), fun c => keys (args m c) 512 512 0 (by omega) (by omega), fun c => values (args m c) 4 128 1024 (by omega), fun c => queries (args m c) 1536 1 (by omega), fun c => keys (args m c) 128 2048 1 (by omega) (by omega), fun c => values (args m c) 2 64 2176 (by omega), fun c => queries (args m c) 2304 2 (by omega), fun c => keys (args m c) 64 2816 2 (by omega) (by omega), fun c => values (args m c) 1 64 2880 (by omega), fun c => indexQueries (args m c), fun c => indexKeys (args m c), fun c => indexWeights (args m c),
    run_main m g |> (θ_run _ _ _).mono (fun r h c => ?_),
    Cert.ProjReferenceIdeal.Value.run m' g' |> (θ_run _ _ _).mono (fun r h c => ?_)⟩
  · exact ⟨((h c).1 10).trans (final10_eq m c), ((h c).1 11).trans (final11_eq m c), ((h c).1 12).trans (final12_eq m c), ((h c).1 13).trans (final13_eq m c), ((h c).1 14).trans (final14_eq m c), ((h c).1 15).trans (final15_eq m c), ((h c).1 16).trans (final16_eq m c), ((h c).1 17).trans (final17_eq m c), ((h c).1 18).trans (final18_eq m c), ((h c).1 19).trans (final19_eq m c), ((h c).1 20).trans (final20_eq m c), ((h c).1 21).trans (final21_eq m c),
      ((h c).1 0).trans (((dats m 0 c).arrAt_in 0 rfl _).trans (V_main_arg0 m c)),
      ((h c).2 main_arg1 (Pipeline.mem_restRefs_of main_arg1 (by decide) (by decide))).trans (V_main_arg1 m c),
      ((h c).1 2).trans (((dats m 0 c).arrAt_in 2 rfl _).trans (V_main_arg2 m c)),
      ((h c).2 main_arg3 (Pipeline.mem_restRefs_of main_arg3 (by decide) (by decide))).trans (V_main_arg3 m c)⟩
  · obtain ⟨e0, e1, e2, e3⟩ := hm c
    have ha : (⟨(m' ((c.tc : Thread Cert.ProjReferenceIdeal.nD Cert.ProjReferenceIdeal.τ).loc Cert.ProjReferenceIdeal.main_arg0)), (m' ((c.tc : Thread Cert.ProjReferenceIdeal.nD Cert.ProjReferenceIdeal.τ).loc Cert.ProjReferenceIdeal.main_arg1)), (m' ((c.tc : Thread Cert.ProjReferenceIdeal.nD Cert.ProjReferenceIdeal.τ).loc Cert.ProjReferenceIdeal.main_arg2)), (m' ((c.tc : Thread Cert.ProjReferenceIdeal.nD Cert.ProjReferenceIdeal.τ).loc Cert.ProjReferenceIdeal.main_arg3))⟩ : Args) = args m c := by
      rw [e0, e1, e2, e3]
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩
    · exact (Cert.ProjReferenceIdeal.Read.val_main_v47_eq _).trans ((Cert.ProjReferenceIdeal.Hand.aq_eq _ _ _ _).trans (congrArg (fun A : Args => queries A 0 0 (by omega)) ha))
    · exact (Cert.ProjReferenceIdeal.Read.val_main_v65_eq _).trans ((Cert.ProjReferenceIdeal.Hand.ak_eq _ _ _ _).trans (congrArg (fun A : Args => keys A 512 512 0 (by omega) (by omega)) ha))
    · exact (Cert.ProjReferenceIdeal.Read.val_main_v72_eq _).trans ((Cert.ProjReferenceIdeal.Hand.av_eq _ _ _ _).trans (congrArg (fun A : Args => values A 4 128 1024 (by omega)) ha))
    · exact (Cert.ProjReferenceIdeal.Read.val_main_v93_eq _).trans ((Cert.ProjReferenceIdeal.Hand.bq_eq _ _ _ _).trans (congrArg (fun A : Args => queries A 1536 1 (by omega)) ha))
    · exact (Cert.ProjReferenceIdeal.Read.val_main_v111_eq _).trans ((Cert.ProjReferenceIdeal.Hand.bk_eq _ _ _ _).trans (congrArg (fun A : Args => keys A 128 2048 1 (by omega) (by omega)) ha))
    · exact (Cert.ProjReferenceIdeal.Read.val_main_v118_eq _).trans ((Cert.ProjReferenceIdeal.Hand.bv_eq _ _ _ _).trans (congrArg (fun A : Args => values A 2 64 2176 (by omega)) ha))
    · exact (Cert.ProjReferenceIdeal.Read.val_main_v139_eq _).trans ((Cert.ProjReferenceIdeal.Hand.cq_eq _ _ _ _).trans (congrArg (fun A : Args => queries A 2304 2 (by omega)) ha))
    · exact (Cert.ProjReferenceIdeal.Read.val_main_v155_eq _).trans ((Cert.ProjReferenceIdeal.Hand.ck_eq _ _ _ _).trans (congrArg (fun A : Args => keys A 64 2816 2 (by omega) (by omega)) ha))
    · exact (Cert.ProjReferenceIdeal.Read.val_main_v162_eq _).trans ((Cert.ProjReferenceIdeal.Hand.cv_eq _ _ _ _).trans (congrArg (fun A : Args => values A 1 64 2880 (by omega)) ha))
    · exact (Cert.ProjReferenceIdeal.Read.val_main_v164_eq _).trans ((Cert.ProjReferenceIdeal.Hand.iq_eq _ _ _ _).trans (congrArg (fun A : Args => indexQueries A) ha))
    · exact (Cert.ProjReferenceIdeal.Read.val_main_v165_eq _).trans ((Cert.ProjReferenceIdeal.Hand.ik_eq _ _ _ _).trans (congrArg (fun A : Args => indexKeys A) ha))
    · exact (Cert.ProjReferenceIdeal.Read.val_main_v168_eq _).trans ((Cert.ProjReferenceIdeal.Hand.iw_eq _ _ _ _).trans (congrArg (fun A : Args => indexWeights A) ha))

end Cert.ProjIdeal.Hand
end
-- ==== Proof.BandSpec.lean ====
module

public import proofs.«01_k».proof.Proof.Route

@[expose] public section

noncomputable section

namespace Cert.Band

open Idealize.ShloMosaic Cert.Route

/-! ## One query over the keys of a tile and of the tile before, as the call computes it -/

/-- The largest score: by residues of the position modulo 8 first. -/
def tileMax (sc sp : Fin 256 → EReal) : EReal :=
  Finset.fold max (Ideal.ofBits .f32 0xFF800000#32) (fun x : Fin 8 =>
    max (Finset.fold max (Ideal.ofBits .f32 0xFF800000#32) (fun y : Fin 32 => sc ⟨y.val * 8 + x.val, by omega⟩) Finset.univ)
      (Finset.fold max (Ideal.ofBits .f32 0xFF800000#32) (fun y : Fin 32 => sp ⟨y.val * 8 + x.val, by omega⟩) Finset.univ)) Finset.univ

/-- The values of both tiles weighted by the powers of the scores below `m`. -/
def tileSum (sc sp : Fin 256 → EReal) (m : EReal) (vc vp : Fin 256 → EReal) : EReal :=
  ∑ x, vc x * Ideal.exp2 (sc x - m) + ∑ x, vp x * Ideal.exp2 (sp x - m)

/-- A head's result: the weighted values by the inverse of the weighted ones and the sink's part. -/
def headVal (sc sp : Fin 256 → EReal) (s : EReal) (vc vp oc op : Fin 256 → EReal) : EReal :=
  tileSum sc sp (max (tileMax sc sp) s) vc vp
    * Ideal.div 1 (tileSum sc sp (max (tileMax sc sp) s) oc op + Ideal.exp2 (s - max (tileMax sc sp) s))

/-! ## The same query over its band of 192 keys, as the reference computes it -/

def pow (x : EReal) : EReal := Ideal.exp (x * ((Real.log 2 : ℝ) : EReal))

def bandTop (R : Fin 192 → EReal) (s : EReal) : EReal := max (Finset.fold max (⊥ : EReal) R Finset.univ) s

def bandVal (R : Fin 192 → EReal) (s : EReal) (W : Fin 192 → EReal) : EReal :=
  ∑ j, W j * Ideal.div (pow (R j - bandTop R s)) (∑ k, pow (R k - bandTop R s) + pow (s - bandTop R s))

/-! ## They agree -/

theorem pow_eq (x : EReal) (h : x ≠ ⊤) : pow x = Ideal.exp2 x := by
  have h2 : (0 : ℝ) < Real.log 2 := Real.log_pos (by norm_num)
  induction x with
  | bot => simp [pow, EReal.bot_mul_coe_of_pos h2]
  | top => exact absurd rfl h
  | coe r =>
    simp only [pow, ← EReal.coe_mul, Ideal.exp_coe, Ideal.exp2_coe]
    rw [show Real.rpow 2 r = (2 : ℝ) ^ r from rfl, Real.rpow_def_of_pos (by norm_num), mul_comm]

theorem tileMax_le (sc sp : Fin 256 → EReal) (x : EReal) : tileMax sc sp ≤ x ↔ (∀ w, sc w ≤ x) ∧ ∀ w, sp w ≤ x := by
  unfold tileMax
  simp only [lit_bot, Finset.fold_max_le, bot_le, true_and, Finset.mem_univ, true_implies, max_le_iff]
  constructor
  · intro h
    refine ⟨fun w => ?_, fun w => ?_⟩
    · have := (h ⟨w.val % 8, by omega⟩).1 ⟨w.val / 8, by omega⟩
      rwa [show (⟨w.val / 8 * 8 + w.val % 8, by omega⟩ : Fin 256) = w from Fin.ext (by show w.val / 8 * 8 + w.val % 8 = w.val; omega)] at this
    · have := (h ⟨w.val % 8, by omega⟩).2 ⟨w.val / 8, by omega⟩
      rwa [show (⟨w.val / 8 * 8 + w.val % 8, by omega⟩ : Fin 256) = w from Fin.ext (by show w.val / 8 * 8 + w.val % 8 = w.val; omega)] at this
  · exact fun h x => ⟨fun _ => h.1 _, fun _ => h.2 _⟩

/-- A sum by a nonnegative real. -/
theorem sum_mul_coe {n : ℕ} (f : Fin n → EReal) (r : ℝ) (hr : 0 ≤ r) : (∑ j, f j) * (r : EReal) = ∑ j, f j * (r : EReal) := by
  have h : ∀ t : Finset (Fin n), (∑ j ∈ t, f j) * (r : EReal) = ∑ j ∈ t, f j * (r : EReal) := by
    intro t
    induction t using Finset.induction_on with
    | empty => simp
    | insert a t ha ih =>
      rw [Finset.sum_insert ha, Finset.sum_insert ha, EReal.right_distrib_of_nonneg_of_ne_top (by exact_mod_cast hr) (EReal.coe_ne_top r), ih]
  exact h _

theorem sum_coe {n : ℕ} (e : Fin n → ℝ) : (∑ j, (e j : EReal)) = ((∑ j, e j : ℝ) : EReal) := by
  have h : ∀ t : Finset (Fin n), (∑ j ∈ t, (e j : EReal)) = ((∑ j ∈ t, e j : ℝ) : EReal) := by
    intro t
    induction t using Finset.induction_on with
    | empty => simp
    | insert a t ha ih => rw [Finset.sum_insert ha, Finset.sum_insert ha, ih, EReal.coe_add]
  exact h _

/-- Position `w` of the two tiles, the tile before first. -/
def joined (c p : Fin 256 → EReal) (w : Fin 512) : EReal := if h : w.val < 256 then p ⟨w.val, h⟩ else c ⟨w.val - 256, by omega⟩

theorem sum_joined (c p : Fin 256 → EReal) : ∑ x, c x + ∑ x, p x = ∑ w, joined c p w := by
  rw [show (∑ w : Fin 512, joined c p w) = ∑ w : Fin (256 + 256), joined c p w from rfl, Fin.sum_univ_add, add_comm (∑ x, c x)]
  have hp : ∀ x : Fin 256, joined c p (Fin.castAdd 256 x) = p x := fun x => dif_pos x.isLt
  have hc : ∀ x : Fin 256, joined c p (Fin.natAdd 256 x) = c x := fun x =>
    (dif_neg (by simp)).trans (congrArg c (Fin.ext (by simp)))
  simp only [hp, hc]

/-- Position `j` of the band of the queries of chunk `c` of a tile. -/
def bandPos (c : Fin 4) (j : Fin 192) : Fin 512 := ⟨128 + 64 * c.val + j.val, by omega⟩

theorem sum_band (c : Fin 4) (f : Fin 512 → EReal) (h : ∀ w : Fin 512, w.val < 128 + 64 * c.val ∨ 320 + 64 * c.val ≤ w.val → f w = 0) :
    ∑ w, f w = ∑ j, f (bandPos c j) := by
  refine (Finset.sum_of_injOn (bandPos c) ?_ ?_ ?_ ?_).symm
  · intro a _ b _ hab
    have := congrArg Fin.val hab
    simp only [bandPos] at this
    exact Fin.ext (by omega)
  · intro a _; simp
  · intro w _ hw
    apply h
    by_contra hn
    apply hw
    refine ⟨⟨w.val - (128 + 64 * c.val), by omega⟩, by simp, Fin.ext ?_⟩
    show 128 + 64 * c.val + (w.val - (128 + 64 * c.val)) = w.val
    omega
  · intro j _; rfl

section
variable (c : Fin 4) (sc sp vc vp : Fin 256 → EReal) (s : ℝ) (R W : Fin 192 → EReal)
  (hout : ∀ w : Fin 512, w.val < 128 + 64 * c.val ∨ 320 + 64 * c.val ≤ w.val → joined sc sp w = ⊥)
  (hR : ∀ j, R j = joined sc sp (bandPos c j))
include hout hR

theorem top_eq : max (tileMax sc sp) (s : EReal) = bandTop R s := by
  unfold bandTop
  congr 1
  refine eq_of_forall_ge_iff fun x => ?_
  rw [tileMax_le]
  simp only [Finset.fold_max_le, bot_le, true_and, Finset.mem_univ, true_implies, hR]
  constructor
  · intro h j
    unfold joined
    split
    · exact h.2 _
    · exact h.1 _
  · intro h
    have hw : ∀ w, joined sc sp w ≤ x := by
      intro w
      by_cases hb : w.val < 128 + 64 * c.val ∨ 320 + 64 * c.val ≤ w.val
      · rw [hout w hb]; exact bot_le
      · have := h ⟨w.val - (128 + 64 * c.val), by omega⟩
        rwa [show bandPos c ⟨w.val - (128 + 64 * c.val), by omega⟩ = w from Fin.ext (by
          show 128 + 64 * c.val + (w.val - (128 + 64 * c.val)) = w.val; omega)] at this
    refine ⟨fun w => ?_, fun w => ?_⟩
    · have := hw ⟨256 + w.val, by omega⟩
      simp only [joined] at this
      rw [dif_neg (by omega)] at this
      rwa [show (⟨256 + w.val - 256, by omega⟩ : Fin 256) = w from Fin.ext (by show 256 + w.val - 256 = w.val; omega)] at this
    · have := hw ⟨w.val, by omega⟩
      simp only [joined] at this
      rwa [dif_pos w.isLt] at this

theorem tileSum_eq (m : ℝ) : tileSum sc sp m vc vp = ∑ j, joined vc vp (bandPos c j) * Ideal.exp2 (R j - m) := by
  have h1 : tileSum sc sp m vc vp = ∑ w, joined vc vp w * Ideal.exp2 (joined sc sp w - m) := by
    unfold tileSum
    rw [sum_joined]
    refine Finset.sum_congr rfl fun w _ => ?_
    unfold joined
    split <;> rfl
  rw [h1, sum_band c]
  · exact Finset.sum_congr rfl fun j _ => by rw [hR]
  · intro w hw
    rw [hout w hw, EReal.bot_sub, Ideal.exp2_bot, mul_zero]

theorem band_eq (hsc : ∀ w, sc w ≠ ⊤) (hsp : ∀ w, sp w ≠ ⊤) (oc op : Fin 256 → EReal) (hoc : ∀ w, oc w = 1) (hop : ∀ w, op w = 1)
    (hW : ∀ j, R j ≠ ⊥ → W j = joined vc vp (bandPos c j)) :
    headVal sc sp s vc vp oc op = bandVal R s W := by
  have hRt : ∀ j, R j ≠ ⊤ := by
    intro j
    rw [hR]
    unfold joined
    split
    · exact hsp _
    · exact hsc _
  have hM := top_eq c sc sp s R hout hR
  obtain ⟨m, hm⟩ : ∃ m : ℝ, bandTop R s = (m : EReal) := by
    have h1 : bandTop R s ≠ ⊥ := ne_of_gt (lt_of_lt_of_le (EReal.bot_lt_coe s) (le_max_right _ _))
    have h2 : bandTop R s ≠ ⊤ := by
      apply ne_of_lt
      unfold bandTop
      refine max_lt ?_ (EReal.coe_lt_top s)
      rw [Finset.fold_max_lt]
      exact ⟨bot_lt_top, fun j _ => lt_top_iff_ne_top.2 (hRt j)⟩
    exact ⟨(bandTop R s).toReal, (EReal.coe_toReal h2 h1).symm⟩
  have hE : ∀ j, ∃ e : ℝ, 0 ≤ e ∧ Ideal.exp2 (R j - m) = (e : EReal) := by
    intro j
    have := hRt j
    generalize R j = x at this
    induction x with
    | bot => exact ⟨0, le_rfl, by simp⟩
    | top => exact absurd rfl this
    | coe r => exact ⟨Real.rpow 2 (r - m), Real.rpow_nonneg (by norm_num) _, by rw [← EReal.coe_sub, Ideal.exp2_coe]⟩
  choose e he0 he using hE
  have hpow : ∀ j, pow (R j - m) = (e j : EReal) := by
    intro j
    rw [pow_eq, he]
    have := hRt j
    generalize R j = x at this
    induction x with
    | bot => simp
    | top => exact absurd rfl this
    | coe r => rw [← EReal.coe_sub]; exact EReal.coe_ne_top _
  have hs : Ideal.exp2 ((s : EReal) - m) = ((Real.rpow 2 (s - m) : ℝ) : EReal) := by rw [← EReal.coe_sub, Ideal.exp2_coe]
  have hs' : pow ((s : EReal) - m) = ((Real.rpow 2 (s - m) : ℝ) : EReal) := by
    rw [pow_eq _ (by rw [← EReal.coe_sub]; exact EReal.coe_ne_top _), hs]
  have hpos : 0 < ∑ j, e j + Real.rpow 2 (s - m) :=
    add_pos_of_nonneg_of_pos (Finset.sum_nonneg fun j _ => he0 j) (Real.rpow_pos_of_pos (by norm_num) _)
  have hone : ∀ w, joined oc op w = 1 := by
    intro w
    unfold joined
    split
    · exact hop _
    · exact hoc _
  have hsum : (∑ j, (e j : EReal)) = ((∑ j, e j : ℝ) : EReal) := sum_coe e
  unfold headVal bandVal
  rw [hM, hm, tileSum_eq c sc sp oc op R hout hR, tileSum_eq c sc sp vc vp R hout hR, hs, hs']
  simp only [hone, one_mul, he, hpow]
  rw [hsum, ← EReal.coe_add]
  generalize ∑ j, e j + Real.rpow 2 (s - m) = d at hpos
  rw [Ideal.div_coe hpos.ne', one_mul, sum_mul_coe _ _ (by positivity)]
  refine Finset.sum_congr rfl fun j _ => ?_
  rw [Ideal.div_coe hpos.ne', mul_assoc (G := EReal)]
  by_cases hb : R j = ⊥
  · have : (e j : EReal) = 0 := by rw [← he, hb, EReal.bot_sub, Ideal.exp2_bot]
    rw [this, zero_mul, mul_zero, mul_zero]
  · rw [hW j hb]

end

end Cert.Band
end
-- ==== Proof.BandFun.lean ====
module

public import proofs.«01_k».proof.Proof.BandSpec

@[expose] public section

noncomputable section

namespace Cert.Band

open Idealize.ShloMosaic Idealize.ShloMosaic.TcCoe Cert.Route

/-- The tile before, the first tile's being itself. -/
abbrev prev (n : Fin 16) : Fin 16 := ⟨n.val - 1, by omega⟩
/-- The bias table's slot for the tile before: the first tile has none. -/
abbrev slot (n : Fin 16) : Fin 3 := if n.val = 0 then 2 else 1

/-- The arguments: queries and keys, the slabs of values, the bias tables, the sinks. -/
structure Args where
  q : FVec Ideal ⟨3, ![8, 512, 4096]⟩ .bf16
  k : FVec Ideal ⟨3, ![8, 4096, 128]⟩ .bf16
  v : FVec Ideal ⟨4, ![8, 16, 160, 256]⟩ .bf16
  tb : FVec Ideal ⟨4, ![8, 3, 256, 256]⟩ .f32
  sinks : FVec Ideal ⟨1, ![8]⟩ .f32

variable (A : Args)

/-- The product of query `t` and key `s` of head `h`. -/
def qk (b h : Fin 8) (t s : Fin 4096) : EReal :=
  ∑ j : Fin 64, A.k (ix3 b s ⟨h.val / 4 * 64 + j.val, by omega⟩) * A.q (ix3 b ⟨h.val * 64 + j.val, by omega⟩ t)

def sink (h : Fin 8) : EReal := A.sinks (ix1 h) * Ideal.ofBits .f32 0x3FB8AA3B#32

/-- Entry `w` of row `r` of group `h / 4` in tile `n`'s slab. -/
def val (b h : Fin 8) (n : Fin 16) (r : Fin 80) (w : Fin 256) : EReal := A.v (ix4 b n ⟨h.val / 4 * 80 + r.val, by omega⟩ w)

/-! ## By tiles of 256 queries -/

abbrev spot (n : Fin 16) (u : Fin 256) : Fin 4096 := ⟨n.val * 256 + u.val, by omega⟩

def tileScore (b h : Fin 8) (n n' : Fin 16) (p : Fin 3) (w u : Fin 256) : EReal := qk A b h (spot n u) (spot n' w) + A.tb (ix4 h p w u)

def tileHead (b : Fin 8) (n : Fin 16) (h : Fin 8) (d : Fin 64) (u : Fin 256) : EReal :=
  headVal (fun w => tileScore A b h n n 0 w u) (fun w => tileScore A b h n (prev n) (slot n) w u) (sink A h)
    (val A b h n ⟨d.val, by omega⟩) (val A b h (prev n) ⟨d.val, by omega⟩) (val A b h n 64) (val A b h (prev n) 64)

def byTiles : FVec Ideal ⟨3, ![8, 4096, 512]⟩ .bf16 := fun i =>
  tileHead A (i 0) ⟨(i 1).val / 256, by have : (i 1).val < 4096 := (i 1).isLt; omega⟩ ⟨(i 2).val / 64, by have : (i 2).val < 512 := (i 2).isLt; omega⟩
    ⟨(i 2).val % 64, by omega⟩ ⟨(i 1).val % 256, by omega⟩

/-! ## By chunks of 64 queries and bands of 192 keys -/

/-- The bias of query `u` of a tile for key `w` of the tile before and its own. -/
def nearBias (h : Fin 8) (u : Fin 256) (w : Fin 512) : EReal :=
  joined (fun w => A.tb (ix4 h 0 w u)) (fun w => A.tb (ix4 h 1 w u)) w

/-- The score of query `e` of chunk `C` for key `j` of its band. -/
def bandScore (b : Fin 8) (C : Fin 64) (h : Fin 8) (e : Fin 64) (j : Fin 192) : EReal :=
  if hj : 128 ≤ C.val * 64 + j.val then
    qk A b h ⟨C.val * 64 + e.val, by omega⟩ ⟨C.val * 64 + j.val - 128, by omega⟩ + nearBias A h ⟨C.val % 4 * 64 + e.val, by omega⟩ (bandPos ⟨C.val % 4, by omega⟩ j)
  else ⊥

/-- The value of key `j` of chunk `C`'s band, zero before the first key. -/
def bandValue (b : Fin 8) (C : Fin 64) (h : Fin 8) (d : Fin 64) (j : Fin 192) : EReal :=
  if hj : 128 ≤ C.val * 64 + j.val then
    val A b h ⟨(C.val * 64 + j.val - 128) / 256, by omega⟩ ⟨d.val, by omega⟩ ⟨(C.val * 64 + j.val - 128) % 256, by omega⟩
  else 0

def bandHead (b : Fin 8) (C : Fin 64) (h : Fin 8) (d e : Fin 64) : EReal :=
  bandVal (bandScore A b C h e) (sink A h) (bandValue A b C h d)

def byBands : FVec Ideal ⟨3, ![8, 4096, 512]⟩ .bf16 := fun i =>
  bandHead A (i 0) ⟨(i 1).val / 64, by have : (i 1).val < 4096 := (i 1).isLt; omega⟩ ⟨(i 2).val / 64, by have : (i 2).val < 512 := (i 2).isLt; omega⟩
    ⟨(i 2).val % 64, by omega⟩ ⟨(i 1).val % 64, by omega⟩

/-! ## They are the same function where the table masks the keys outside the band -/

/-- Queries, keys and sinks are reals, no bias is `∞`, the rows after the values are ones, a masked key's bias is `-∞`. -/
structure Masked : Prop where
  q : ∀ i, ∃ r : ℝ, A.q i = r
  k : ∀ i, ∃ r : ℝ, A.k i = r
  sinks : ∀ i, ∃ r : ℝ, A.sinks i = r
  tb : ∀ i, A.tb i ≠ ⊤
  ones : ∀ b h n w, val A b h n 64 w = 1
  first : ∀ (h : Fin 8) w u, A.tb (ix4 h 2 w u) = ⊥
  outside : ∀ (h : Fin 8) (c : Fin 4) (e : Fin 64) (w : Fin 512), w.val < 128 + 64 * c.val ∨ 320 + 64 * c.val ≤ w.val →
    nearBias A h ⟨c.val * 64 + e.val, by omega⟩ w = ⊥

variable {A}

theorem Masked.qk_real (M : Masked A) (b h : Fin 8) (t s : Fin 4096) : ∃ r : ℝ, qk A b h t s = r := by
  choose fq hq using M.q
  choose fk hk using M.k
  unfold qk
  simp only [hq, hk, ← EReal.coe_mul, sum_coe]
  exact ⟨_, rfl⟩

theorem Masked.sink_real (M : Masked A) (h : Fin 8) : ∃ r : ℝ, sink A h = r := by
  obtain ⟨r, hr⟩ := M.sinks (ix1 h)
  unfold sink
  rw [hr, show Ideal.ofBits .f32 0x3FB8AA3B#32 = ((12102203 / 8388608 : ℝ) : EReal) from by simp [Ideal.ofBits, Ideal.ieee, -EReal.coe_mul]; norm_num, ← EReal.coe_mul]
  exact ⟨_, rfl⟩

theorem real_add_bot (r : ℝ) : (r : EReal) + ⊥ = ⊥ := EReal.add_bot _

theorem Masked.tileScore_ne (M : Masked A) (b h : Fin 8) (n n' : Fin 16) (p : Fin 3) (w u : Fin 256) : tileScore A b h n n' p w u ≠ ⊤ := by
  unfold tileScore
  obtain ⟨r, hr⟩ := M.qk_real b h (spot n u) (spot n' w)
  rw [hr]
  exact EReal.add_ne_top (EReal.coe_ne_top r) (M.tb _)

/-- The scores of the tile before and of the own one, over the 512 keys: the product plus the near bias, or `-∞` with no tile before. -/
theorem joined_score (M : Masked A) (b h : Fin 8) (n : Fin 16) (u : Fin 256) (w : Fin 512) :
    joined (fun w => tileScore A b h n n 0 w u) (fun w => tileScore A b h n (prev n) (slot n) w u) w
      = if hw : 256 ≤ n.val * 256 + w.val then qk A b h (spot n u) ⟨n.val * 256 + w.val - 256, by omega⟩ + nearBias A h u w else ⊥ := by
  unfold joined nearBias joined tileScore
  by_cases hw : w.val < 256
  · simp only [dif_pos hw]
    by_cases hn : n.val = 0
    · rw [dif_neg (by omega)]
      obtain ⟨r, hr⟩ := M.qk_real b h (spot n u) (spot (prev n) ⟨w.val, hw⟩)
      rw [hr, show slot n = 2 from if_pos hn, M.first, real_add_bot]
    · rw [dif_pos (by omega), show slot n = 1 from if_neg hn]
      congr 2
      exact Fin.ext (by show (n.val - 1) * 256 + w.val = n.val * 256 + w.val - 256; omega)
  · simp only [dif_neg hw]
    rw [dif_pos (by omega)]
    congr 2
    exact Fin.ext (by show n.val * 256 + (w.val - 256) = n.val * 256 + w.val - 256; omega)

theorem tile_eq_band (M : Masked A) (b : Fin 8) (C : Fin 64) (h : Fin 8) (d e : Fin 64) :
    tileHead A b ⟨C.val / 4, by omega⟩ h d ⟨C.val % 4 * 64 + e.val, by omega⟩ = bandHead A b C h d e := by
  unfold tileHead bandHead
  obtain ⟨s, hs⟩ := M.sink_real h
  rw [hs]
  set n : Fin 16 := ⟨C.val / 4, by omega⟩ with hn
  have hn' : n.val = C.val / 4 := rfl
  refine band_eq ⟨C.val % 4, by omega⟩ _ _ _ _ s _ _ ?_ ?_ ?_ ?_ _ _ ?_ ?_ ?_
  · intro w hw
    rw [joined_score M]
    by_cases h2 : 256 ≤ n.val * 256 + w.val
    · rw [dif_pos h2, M.outside h ⟨C.val % 4, by omega⟩ e w hw]
      obtain ⟨r, hr⟩ := M.qk_real b h (spot n ⟨C.val % 4 * 64 + e.val, by omega⟩) ⟨n.val * 256 + w.val - 256, by omega⟩
      rw [hr, real_add_bot]
    · rw [dif_neg h2]
  · intro j
    rw [joined_score M]
    unfold bandScore
    have hp : (bandPos ⟨C.val % 4, by omega⟩ j).val = 128 + 64 * (C.val % 4) + j.val := rfl
    by_cases h2 : 128 ≤ C.val * 64 + j.val
    · rw [dif_pos h2, dif_pos (by rw [hp]; omega)]
      congr 2
      · exact Fin.ext (by show C.val * 64 + e.val = C.val / 4 * 256 + (C.val % 4 * 64 + e.val); omega)
      · exact Fin.ext (by show C.val * 64 + j.val - 128 = C.val / 4 * 256 + (128 + 64 * (C.val % 4) + j.val) - 256; omega)
    · rw [dif_neg h2, dif_neg (by rw [hp]; omega)]
  · exact fun w => M.tileScore_ne _ _ _ _ _ _ _
  · exact fun w => M.tileScore_ne _ _ _ _ _ _ _
  · exact fun w => M.ones _ _ _ _
  · exact fun w => M.ones _ _ _ _
  · intro j hj
    have h2 : 128 ≤ C.val * 64 + j.val := by
      by_contra h2
      exact hj (by unfold bandScore; rw [dif_neg h2])
    unfold bandValue joined bandPos
    rw [dif_pos h2]
    by_cases h3 : 128 + 64 * (C.val % 4) + j.val < 256
    · rw [dif_pos h3]
      congr 1
      · exact Fin.ext (by show (C.val * 64 + j.val - 128) / 256 = C.val / 4 - 1; omega)
      · exact Fin.ext (by show (C.val * 64 + j.val - 128) % 256 = 128 + 64 * (C.val % 4) + j.val; omega)
    · rw [dif_neg h3]
      congr 1
      · exact Fin.ext (by show (C.val * 64 + j.val - 128) / 256 = C.val / 4; omega)
      · exact Fin.ext (by show (C.val * 64 + j.val - 128) % 256 = 128 + 64 * (C.val % 4) + j.val - 256; omega)

theorem byTiles_eq (M : Masked A) : byTiles A = byBands A := by
  funext i
  have h1 : (i 1).val < 4096 := (i 1).isLt
  have h2 : (i 2).val < 512 := (i 2).isLt
  refine Eq.trans ?_ (tile_eq_band M (i 0) ⟨(i 1).val / 64, by omega⟩ ⟨(i 2).val / 64, by omega⟩ ⟨(i 2).val % 64, by omega⟩ ⟨(i 1).val % 64, by omega⟩)
  unfold byTiles
  congr 1
  · exact Fin.ext (by show (i 1).val / 256 = (i 1).val / 64 / 4; omega)
  · exact Fin.ext (by show (i 1).val % 256 = (i 1).val / 64 % 4 * 64 + (i 1).val % 64; omega)

end Cert.Band
end
-- ==== Proof.BandPay.lean ====
module

public import proofs.«01_k».proof.Proof.Gen.BandIdeal.Value
public import proofs.«01_k».proof.Proof.BandFun
public import Idealize.ShloMosaic.Lib.Pointwise

@[expose] public section

noncomputable section

namespace Cert.BandIdeal.Hand

open Cert.BandIdeal Cert.BandIdeal.Gen Idealize.ShloMosaic Idealize.ShloMosaic.TcCoe Cert.Band

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first head's payloads, and those of the fifth where a head of the other group differs -/

theorem head_apply (sc sp : FVec Ideal S256x256 .f32) (s : EReal) (vc vp : FVec Ideal S1x1x80x256 .bf16) (d : Fin 64) (u : Fin 256) :
    k0_pay25 (F := Ideal) sc sp (k0_pay23 (F := Ideal) s) (k0_pay24 sc) vc vp (ix2 d u)
      = headVal (fun w => sc (ix2 w u)) (fun w => sp (ix2 w u)) (s * Ideal.ofBits .f32 0x3FB8AA3B#32)
        (fun w => vc (ix4 0 0 ⟨d.val, by omega⟩ w)) (fun w => vp (ix4 0 0 ⟨d.val, by omega⟩ w)) (fun w => vc (ix4 0 0 64 w)) (fun w => vp (ix4 0 0 64 w)) := by
  unfold k0_pay25 k0_pay23 k0_pay24
  pointwise
  rfl

theorem lo_apply (q : FVec Ideal S1x64x256 .bf16) (k : FVec Ideal S1x256x128 .bf16) (b : FVec Ideal S1x1x256x256 .f32) (w u : Fin 256) :
    k0_pay2 (F := Ideal) q k b (ix2 w u)
      = ∑ j : Fin 64, k (ix3 0 w ⟨0 + j.val, by omega⟩) * q (ix3 0 j u) + b (ix4 0 0 w u) := by
  unfold k0_pay2 k0_pay1
  pointwise
  simp only [mul_zero, Finset.sum_const_zero, add_zero, Nat.zero_add]

theorem hi_apply (q : FVec Ideal S1x64x256 .bf16) (k : FVec Ideal S1x256x128 .bf16) (b : FVec Ideal S1x1x256x256 .f32) (w u : Fin 256) :
    k0_pay21 (F := Ideal) q k b (ix2 w u)
      = ∑ j : Fin 64, k (ix3 0 w ⟨64 + j.val, by omega⟩) * q (ix3 0 j u) + b (ix4 0 0 w u) := by
  unfold k0_pay21 k0_pay20
  pointwise
  simp only [mul_zero, Finset.sum_const_zero, zero_add]

/-! ## The tiles that a point reads -/

theorem row_own : ∀ n : Fin 16, BitVec.toNat (Scalar.indexCast (Scalar.muli (BitVec.ofNat 32 n.val) 256#32)) = n.val * 256 := by decide +kernel
theorem row_prev : ∀ n : Fin 16, BitVec.toNat (Scalar.indexCast (Scalar.muli (Scalar.maxsi (Scalar.subi (BitVec.ofNat 32 n.val) 1#32) 0#32) 256#32))
    = (prev n).val * 256 := by decide +kernel
theorem slab_own : ∀ n : Fin 16, BitVec.toNat (Scalar.indexCast (BitVec.ofNat 32 n.val)) = n.val := by decide +kernel
theorem slab_prev : ∀ n : Fin 16, BitVec.toNat (Scalar.indexCast (Scalar.maxsi (Scalar.subi (BitVec.ofNat 32 n.val) 1#32) 0#32)) = (prev n).val := by decide +kernel
theorem slot_eq : ∀ n : Fin 16, BitVec.toNat (Scalar.indexCast (Scalar.select (Scalar.cmpi CmpIPredicate.sgt (BitVec.ofNat 32 n.val) 0#32) 1#32 2#32))
    = (slot n).val := by decide +kernel

section
variable (x0 : Vec Ideal S8 .f32) (x1 : Vec Ideal S1x512x256 .bf16) (x2 : Vec Ideal S1x4096x128 .bf16) (x3 : Vec Ideal S1x16x160x256 .bf16) (x4 : Vec Ideal S8x3x256x256 .f32)

/-- The score of query `u` of the block at key `w` of tile `n`, with the bias of slot `p`. -/
def score (h : Fin 8) (n : Fin 16) (p : Fin 3) (w u : Fin 256) : EReal :=
  ∑ j : Fin 64, x2 (ix3 0 ⟨n.val * 256 + w.val, by omega⟩ ⟨h.val / 4 * 64 + j.val, by omega⟩) * x1 (ix3 0 ⟨h.val * 64 + j.val, by omega⟩ u) + x4 (ix4 h p w u)

/-- Head `h`'s result `d` for query `u` of tile `n`. -/
def outHead (n : Fin 16) (h : Fin 8) (d : Fin 64) (u : Fin 256) : EReal :=
  headVal (fun w => score x1 x2 x4 h n 0 w u) (fun w => score x1 x2 x4 h (prev n) (slot n) w u) (x0 (ix1 h) * Ideal.ofBits .f32 0x3FB8AA3B#32)
    (fun w => x3 (ix4 0 n ⟨h.val / 4 * 80 + d.val, by omega⟩ w)) (fun w => x3 (ix4 0 (prev n) ⟨h.val / 4 * 80 + d.val, by omega⟩ w))
    (fun w => x3 (ix4 0 n ⟨h.val / 4 * 80 + 64, by omega⟩ w)) (fun w => x3 (ix4 0 (prev n) ⟨h.val / 4 * 80 + 64, by omega⟩ w))

/-- The payload of a head from its loads: the scores' sum over the group's 64 lanes at `g`, the value slab's rows from `r`. -/
theorem head_of (n : Fin 16) (h : Fin 8) (d : Fin 64) (u : Fin 256) (sc sp : FVec Ideal S256x256 .f32) (s : EReal) (vc vp : FVec Ideal S1x1x80x256 .bf16)
    (hsc : ∀ w, sc (ix2 w u) = score x1 x2 x4 h n 0 w u) (hsp : ∀ w, sp (ix2 w u) = score x1 x2 x4 h (prev n) (slot n) w u)
    (hs : s = x0 (ix1 h)) (hvc : ∀ (r : Fin 80) w, vc (ix4 0 0 r w) = x3 (ix4 0 n ⟨h.val / 4 * 80 + r.val, by omega⟩ w))
    (hvp : ∀ (r : Fin 80) w, vp (ix4 0 0 r w) = x3 (ix4 0 (prev n) ⟨h.val / 4 * 80 + r.val, by omega⟩ w)) :
    k0_pay25 (F := Ideal) sc sp (k0_pay23 (F := Ideal) s) (k0_pay24 sc) vc vp (ix2 d u) = outHead x0 x1 x2 x3 x4 n h d u := by
  rw [head_apply]
  unfold outHead
  simp only [hsc, hsp, hs, hvc, hvp]
  rfl
end

end Cert.BandIdeal.Hand
end
-- ==== Proof.BandBody.lean ====
module

public import proofs.«01_k».proof.Proof.BandPay
public import Idealize.ShloMosaic.Lib.Pipeline.ValueKit.Tiles

@[expose] public section

set_option maxHeartbeats 400000

noncomputable section

namespace Cert.BandIdeal.Hand

open Cert.BandIdeal Cert.BandIdeal.Gen Idealize.ShloMosaic Idealize.ShloMosaic.TcCoe Cert.Band

/-! ## The other heads' payloads are the first's -/

section
variable (sc sp : FVec Ideal S256x256 .f32) (s : Elt Ideal .f32) (vc vp : Vec Ideal S1x1x80x256 .bf16)
  (q : Vec Ideal S1x64x256 .bf16) (k : Vec Ideal S1x256x128 .bf16) (b : Vec Ideal S1x1x256x256 .f32)

theorem pay_1 : k0_pay33 (k0_pay29 s) (k0_pay30 sc sp s) (k0_pay31 sc sp s) (k0_pay32 sc sp s vc) vp = k0_pay25 sc sp (k0_pay23 s) (k0_pay24 sc) vc vp := rfl
theorem pay_2 : k0_pay39 sc sp s vc vp = k0_pay25 sc sp (k0_pay23 s) (k0_pay24 sc) vc vp := rfl
theorem pay_3 : k0_pay40 sc sp s vc vp = k0_pay25 sc sp (k0_pay23 s) (k0_pay24 sc) vc vp := rfl
theorem pay_4 : k0_pay41 sc sp s (Scalar.ofBits .f32 0x3FB8AA3B#32) vc vp = k0_pay25 sc sp (k0_pay23 s) (k0_pay24 sc) vc vp := rfl
theorem pay_5 : k0_pay44 sc sp (k0_pay42 s) (k0_pay43 sc) vc vp = k0_pay25 sc sp (k0_pay23 s) (k0_pay24 sc) vc vp := rfl
theorem pay_6 : k0_pay47 sc sp (k0_pay45 s) (k0_pay46 sc) vc vp = k0_pay25 sc sp (k0_pay23 s) (k0_pay24 sc) vc vp := rfl
theorem pay_7 : k0_pay51 sc sp (k0_pay48 s) (k0_pay49 sc) (k0_pay50 sp) vc vp = k0_pay25 sc sp (k0_pay23 s) (k0_pay24 sc) vc vp := rfl
theorem score_p0 : k0_pay3 q k b = k0_pay2 q k b := rfl
theorem score_o1 : k0_pay7 (k0_pay4 q) k0_pay5 k b = k0_pay2 q k b := rfl
theorem score_p1 : k0_pay8 (k0_pay4 q) k0_pay5 k b = k0_pay2 q k b := rfl
theorem score_o2 : k0_pay10 q k b = k0_pay2 q k b := rfl
theorem score_p2 : k0_pay12 (k0_pay11 q k) b = k0_pay2 q k b := rfl
theorem score_o3 : k0_pay14 q k b = k0_pay2 q k b := rfl
theorem score_p3 : k0_pay15 q k b = k0_pay2 q k b := rfl
theorem score_o4 : k0_pay18 (k0_pay17 q k) b = k0_pay21 q k b := rfl
theorem score_p4 : k0_pay19 (k0_pay16 q) k b = k0_pay21 q k b := rfl
theorem score_p5 : k0_pay22 q k b = k0_pay21 q k b := rfl
theorem score_o6 : k0_pay27 (k0_pay26 q) k b = k0_pay21 q k b := rfl
theorem score_p6 : k0_pay28 (k0_pay26 q) k b = k0_pay21 q k b := rfl
theorem score_o7 : k0_pay35 q k b = k0_pay21 q k b := rfl
theorem score_p7 : k0_pay38 (k0_pay36 q k) (k0_pay37 b) = k0_pay21 q k b := rfl
end

/-! ## Loads -/

theorem ldq (x1 : Vec Ideal S1x512x256 .bf16) (o : ℕ) (inb) (j : Fin 64) (u : Fin 256) (r : Fin 512) (h : r.val = o + j.val) :
    View.ld x1 (Rect.unit ![0, o, 0] ![1, 64, 256] inb) (ix3 0 j u) = x1 (ix3 0 r u) :=
  View.ld_unit_apply_of _ _ _ _ _ _ fun a => match a with
    | ⟨0, _⟩ => rfl
    | ⟨1, _⟩ => h
    | ⟨2, _⟩ => (Nat.zero_add _).symm

theorem ldk (x2 : Vec Ideal S1x4096x128 .bf16) (o : ℕ) (inb) (w : Fin 256) (j : Fin 128) (r : Fin 4096) (h : r.val = o + w.val) :
    View.ld x2 (Rect.unit ![0, o, 0] ![1, 256, 128] inb) (ix3 0 w j) = x2 (ix3 0 r j) :=
  View.ld_unit_apply_of _ _ _ _ _ _ fun a => match a with
    | ⟨0, _⟩ => rfl
    | ⟨1, _⟩ => h
    | ⟨2, _⟩ => (Nat.zero_add _).symm

theorem ldb (x4 : Vec Ideal S8x3x256x256 .f32) (g o : ℕ) (inb) (w u : Fin 256) (h : Fin 8) (p : Fin 3) (hg : h.val = g) (hp : o = p.val) :
    View.ld x4 (Rect.unit ![g, o, 0, 0] ![1, 1, 256, 256] inb) (ix4 0 0 w u) = x4 (ix4 h p w u) :=
  View.ld_unit_apply_of _ _ _ _ _ _ fun a => match a with
    | ⟨0, _⟩ => hg
    | ⟨1, _⟩ => hp.symm
    | ⟨2, _⟩ => (Nat.zero_add _).symm
    | ⟨3, _⟩ => (Nat.zero_add _).symm

theorem ldv (x3 : Vec Ideal S1x16x160x256 .bf16) (o g : ℕ) (inb) (r : Fin 80) (w : Fin 256) (n : Fin 16) (r' : Fin 160) (hn : o = n.val) (hr : r'.val = g + r.val) :
    View.ld x3 (Rect.unit ![0, o, g, 0] ![1, 1, 80, 256] inb) (ix4 0 0 r w) = x3 (ix4 0 n r' w) :=
  View.ld_unit_apply_of _ _ _ _ _ _ fun a => match a with
    | ⟨0, _⟩ => rfl
    | ⟨1, _⟩ => hn.symm
    | ⟨2, _⟩ => hr
    | ⟨3, _⟩ => (Nat.zero_add _).symm

theorem lds (x0 : Vec Ideal S8 .f32) (g : ℕ) (inb) (h : Fin 8) (hg : h.val = g) (x) :
    View.ld x0 (Rect.unit ![g] ![1] inb) x = x0 (ix1 h) :=
  View.ld_unit_apply_of _ _ _ _ _ _ fun a => match a with
    | ⟨0, _⟩ => by
      have := (x 0).isLt
      have h1 : (x 0).val < 1 := this
      show h.val = g + (x 0).val
      omega

section
variable (x1 : Vec Ideal S1x512x256 .bf16) (x2 : Vec Ideal S1x4096x128 .bf16) (x4 : Vec Ideal S8x3x256x256 .f32)

theorem lo_score (h : Fin 8) (hh : h.val < 4) (n : Fin 16) (p : Fin 3) (oq ok g ob : ℕ) (iq ik ib) (hq : oq = h.val * 64) (hk : ok = n.val * 256) (hg : h.val = g) (hp : ob = p.val) (w u : Fin 256) :
    k0_pay2 (F := Ideal) (View.ld x1 (Rect.unit ![0, oq, 0] ![1, 64, 256] iq)) (View.ld x2 (Rect.unit ![0, ok, 0] ![1, 256, 128] ik))
      (View.ld x4 (Rect.unit ![g, ob, 0, 0] ![1, 1, 256, 256] ib)) (ix2 w u) = score x1 x2 x4 h n p w u := by
  rw [lo_apply]
  unfold score
  refine congrArg₂ (· + ·) (Finset.sum_congr rfl fun j _ => congrArg₂ (· * ·) ?_ ?_) (ldb x4 g ob _ w u h p hg hp)
  · refine (ldk x2 ok _ w _ ⟨n.val * 256 + w.val, by omega⟩ (congrArg (· + w.val) hk.symm)).trans (congrArg (fun j => x2 (ix3 0 _ j)) (Fin.ext ?_))
    show 0 + j.val = h.val / 4 * 64 + j.val
    omega
  · exact ldq x1 oq _ j u ⟨h.val * 64 + j.val, by omega⟩ (congrArg (· + j.val) hq.symm)

theorem hi_score (h : Fin 8) (hh : 4 ≤ h.val) (n : Fin 16) (p : Fin 3) (oq ok g ob : ℕ) (iq ik ib) (hq : oq = h.val * 64) (hk : ok = n.val * 256) (hg : h.val = g) (hp : ob = p.val) (w u : Fin 256) :
    k0_pay21 (F := Ideal) (View.ld x1 (Rect.unit ![0, oq, 0] ![1, 64, 256] iq)) (View.ld x2 (Rect.unit ![0, ok, 0] ![1, 256, 128] ik))
      (View.ld x4 (Rect.unit ![g, ob, 0, 0] ![1, 1, 256, 256] ib)) (ix2 w u) = score x1 x2 x4 h n p w u := by
  rw [hi_apply]
  unfold score
  refine congrArg₂ (· + ·) (Finset.sum_congr rfl fun j _ => congrArg₂ (· * ·) ?_ ?_) (ldb x4 g ob _ w u h p hg hp)
  · refine (ldk x2 ok _ w _ ⟨n.val * 256 + w.val, by omega⟩ (congrArg (· + w.val) hk.symm)).trans (congrArg (fun j => x2 (ix3 0 _ j)) (Fin.ext ?_))
    show 64 + j.val = h.val / 4 * 64 + j.val
    omega
  · exact ldq x1 oq _ j u ⟨h.val * 64 + j.val, by omega⟩ (congrArg (· + j.val) hq.symm)
end

/-- The scratch after the eight heads: rows `64 h + d`, columns the tile's queries. -/
def heads (x0 : Vec Ideal S8 .f32) (x1 : Vec Ideal S1x512x256 .bf16) (x2 : Vec Ideal S1x4096x128 .bf16) (x3 : Vec Ideal S1x16x160x256 .bf16) (x4 : Vec Ideal S8x3x256x256 .f32) (n : Fin 16) :
    S512x256.Idx → EReal := fun y =>
  outHead x0 x1 x2 x3 x4 n ⟨(y 0).val / 64, by have : (y 0).val < 512 := (y 0).isLt; omega⟩ ⟨(y 0).val % 64, by omega⟩ (y 1)

theorem heads_at (x0 : Vec Ideal S8 .f32) (x1 : Vec Ideal S1x512x256 .bf16) (x2 : Vec Ideal S1x4096x128 .bf16) (x3 : Vec Ideal S1x16x160x256 .bf16) (x4 : Vec Ideal S8x3x256x256 .f32) (n : Fin 16)
    (h : Fin 8) (d : Fin 64) (u : Fin 256) (y : S512x256.Idx) (h0 : (y 0).val = h.val * 64 + d.val) (h1 : y 1 = u) :
    outHead x0 x1 x2 x3 x4 n h d u = heads x0 x1 x2 x3 x4 n y := by
  unfold heads
  rw [h1]
  congr 1
  · exact Fin.ext (by show h.val = (y 0).val / 64; omega)
  · exact Fin.ext (by show d.val = (y 0).val % 64; omega)

theorem pay52_apply (x : FVec Ideal S512x256 .f32) (u : Fin 256) (l : Fin 512) : k0_pay52 (F := Ideal) x (ix3 0 u l) = x (ix2 l u) := by
  unfold k0_pay52
  pointwise

theorem mem_rows {o : ℕ} (inb) (l : Fin 512) (u : Fin 256) (h0 : o ≤ l.val) (h1 : l.val < o + 64) :
    (ix2 l u : S512x256.Idx) ∈ (Rect.unit (s := S512x256) ![o, 0] ![64, 256] inb).set := by
  rw [Rect.mem_set_unit]
  intro a
  match a with
  | ⟨0, _⟩ => exact ⟨h0, h1⟩
  | ⟨1, _⟩ => exact ⟨Nat.zero_le _, (Nat.zero_add _).symm ▸ u.isLt⟩

/-- The block that a point writes: the heads' results, a query a row. -/
theorem out_A (c : Dev nD) (i : grid0.Coords) (arg2 : Memref sig .tc .smem S8 .f32) (harg2 : arg2.IsWhole) (arg3 : Memref sig .tc .vmem S1x512x256 .bf16) (harg3 : arg3.IsWhole) (arg4 : Memref sig .tc .vmem S1x4096x128 .bf16) (harg4 : arg4.IsWhole) (arg5 : Memref sig .tc .vmem S1x16x160x256 .bf16) (harg5 : arg5.IsWhole) (arg6 : Memref sig .tc .vmem S8x3x256x256 .f32) (harg6 : arg6.IsWhole) (arg7 : Memref sig .tc .vmem S1x256x512 .bf16) (harg7 : arg7.IsWhole) (arg8 : Memref sig .tc .vmem S512x256 .f32) (harg8 : arg8.IsWhole)
    (x0 : Vec Ideal S8 .f32) (x1 : Vec Ideal S1x512x256 .bf16) (x2 : Vec Ideal S1x4096x128 .bf16) (x3 : Vec Ideal S1x16x160x256 .bf16) (x4 : Vec Ideal S8x3x256x256 .f32) (u : Fin 256) (l : Fin 512) (n : Fin 16) (hn : i 1 = n) :
    out0_A_5 c i arg2 harg2 arg3 harg3 arg4 harg4 arg5 harg5 arg6 harg6 arg7 harg7 arg8 harg8 x0 x1 x2 x3 x4 (ix3 0 u l) = heads x0 x1 x2 x3 x4 n (ix2 l u) := by
  subst hn
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread, shapeCast_self]
  rw [pay52_apply]
  rw [View.readCov_eq_canon']
  have hidx : (Rect.unit (s := S512x256) ![0, 0] ![512, 256] inb_S512x256_S512x256_0_0).toLoadRect.idx (ix2 l u) = ix2 l u := by
    funext a
    match a with
    | ⟨0, _⟩ => exact Fin.ext (by show 0 + 1 * l.val = l.val; omega)
    | ⟨1, _⟩ => exact Fin.ext (by show 0 + 1 * u.val = u.val; omega)
  show View.canon _ ((Rect.unit (s := S512x256) ![0, 0] ![512, 256] inb_S512x256_S512x256_0_0).toLoadRect.idx (ix2 l u)) = _
  rw [hidx]
  refine View.canon_apply_of_pieces (Val := Elt Ideal) (e := .f32) (heads x0 x1 x2 x3 x4 (i 1)) _ ?_ (ix2 l u) ?_
  · simp only [List.forall_mem_cons, List.not_mem_nil, false_implies, implies_true, and_true]
    refine ⟨?_, ?_, ?_, ?_, ?_, ?_, ?_, ?_⟩
    · intro (x : Shape.Idx S64x256)
      obtain ⟨d, u, rfl⟩ : ∃ (d : Fin 64) (u : Fin 256), x = ix2 d u := ⟨_, _, eq_ix2 x⟩
      simp only [pay_7, score_o7, score_p7]
      refine Eq.trans (b := outHead x0 x1 x2 x3 x4 (i 1) 7 d u) ?_
        (heads_at x0 x1 x2 x3 x4 (i 1) 7 d u _ (by show 448 + 1 * d.val = 7 * 64 + d.val; omega) (Fin.ext (by show 0 + 1 * u.val = u.val; omega)))
      refine head_of x0 x1 x2 x3 x4 (i 1) 7 d u _ _ _ _ _ ?_ ?_ ?_ ?_ ?_
      · intro w
        exact hi_score x1 x2 x4 7 (by decide) (i 1) 0 448 _ 7 0 _ _ _ rfl (row_own (i 1)) rfl rfl w u
      · intro w
        exact hi_score x1 x2 x4 7 (by decide) (prev (i 1)) (slot (i 1)) 448 _ 7 _ _ _ _ rfl (row_prev (i 1)) rfl (slot_eq (i 1)) w u
      · exact lds x0 7 _ 7 rfl _
      · intro r w
        exact ldv x3 _ 80 _ r w (i 1) _ (slab_own (i 1)) rfl
      · intro r w
        exact ldv x3 _ 80 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [pay_6, score_o6, score_p6]
      refine Eq.trans (b := outHead x0 x1 x2 x3 x4 (i 1) 6 d u) ?_
        (heads_at x0 x1 x2 x3 x4 (i 1) 6 d u _ (by show 384 + 1 * d.val = 6 * 64 + d.val; omega) (Fin.ext (by show 0 + 1 * u.val = u.val; omega)))
      refine head_of x0 x1 x2 x3 x4 (i 1) 6 d u _ _ _ _ _ ?_ ?_ ?_ ?_ ?_
      · intro w
        exact hi_score x1 x2 x4 6 (by decide) (i 1) 0 384 _ 6 0 _ _ _ rfl (row_own (i 1)) rfl rfl w u
      · intro w
        exact hi_score x1 x2 x4 6 (by decide) (prev (i 1)) (slot (i 1)) 384 _ 6 _ _ _ _ rfl (row_prev (i 1)) rfl (slot_eq (i 1)) w u
      · exact lds x0 6 _ 6 rfl _
      · intro r w
        exact ldv x3 _ 80 _ r w (i 1) _ (slab_own (i 1)) rfl
      · intro r w
        exact ldv x3 _ 80 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [pay_5, score_p5]
      refine Eq.trans (b := outHead x0 x1 x2 x3 x4 (i 1) 5 d u) ?_
        (heads_at x0 x1 x2 x3 x4 (i 1) 5 d u _ (by show 320 + 1 * d.val = 5 * 64 + d.val; omega) (Fin.ext (by show 0 + 1 * u.val = u.val; omega)))
      refine head_of x0 x1 x2 x3 x4 (i 1) 5 d u _ _ _ _ _ ?_ ?_ ?_ ?_ ?_
      · intro w
        exact hi_score x1 x2 x4 5 (by decide) (i 1) 0 320 _ 5 0 _ _ _ rfl (row_own (i 1)) rfl rfl w u
      · intro w
        exact hi_score x1 x2 x4 5 (by decide) (prev (i 1)) (slot (i 1)) 320 _ 5 _ _ _ _ rfl (row_prev (i 1)) rfl (slot_eq (i 1)) w u
      · exact lds x0 5 _ 5 rfl _
      · intro r w
        exact ldv x3 _ 80 _ r w (i 1) _ (slab_own (i 1)) rfl
      · intro r w
        exact ldv x3 _ 80 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [pay_4, score_o4, score_p4]
      refine Eq.trans (b := outHead x0 x1 x2 x3 x4 (i 1) 4 d u) ?_
        (heads_at x0 x1 x2 x3 x4 (i 1) 4 d u _ (by show 256 + 1 * d.val = 4 * 64 + d.val; omega) (Fin.ext (by show 0 + 1 * u.val = u.val; omega)))
      refine head_of x0 x1 x2 x3 x4 (i 1) 4 d u _ _ _ _ _ ?_ ?_ ?_ ?_ ?_
      · intro w
        exact hi_score x1 x2 x4 4 (by decide) (i 1) 0 256 _ 4 0 _ _ _ rfl (row_own (i 1)) rfl rfl w u
      · intro w
        exact hi_score x1 x2 x4 4 (by decide) (prev (i 1)) (slot (i 1)) 256 _ 4 _ _ _ _ rfl (row_prev (i 1)) rfl (slot_eq (i 1)) w u
      · exact lds x0 4 _ 4 rfl _
      · intro r w
        exact ldv x3 _ 80 _ r w (i 1) _ (slab_own (i 1)) rfl
      · intro r w
        exact ldv x3 _ 80 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [pay_3, score_o3, score_p3]
      refine Eq.trans (b := outHead x0 x1 x2 x3 x4 (i 1) 3 d u) ?_
        (heads_at x0 x1 x2 x3 x4 (i 1) 3 d u _ (by show 192 + 1 * d.val = 3 * 64 + d.val; omega) (Fin.ext (by show 0 + 1 * u.val = u.val; omega)))
      refine head_of x0 x1 x2 x3 x4 (i 1) 3 d u _ _ _ _ _ ?_ ?_ ?_ ?_ ?_
      · intro w
        exact lo_score x1 x2 x4 3 (by decide) (i 1) 0 192 _ 3 0 _ _ _ rfl (row_own (i 1)) rfl rfl w u
      · intro w
        exact lo_score x1 x2 x4 3 (by decide) (prev (i 1)) (slot (i 1)) 192 _ 3 _ _ _ _ rfl (row_prev (i 1)) rfl (slot_eq (i 1)) w u
      · exact lds x0 3 _ 3 rfl _
      · intro r w
        exact ldv x3 _ 0 _ r w (i 1) _ (slab_own (i 1)) rfl
      · intro r w
        exact ldv x3 _ 0 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [pay_2, score_o2, score_p2]
      refine Eq.trans (b := outHead x0 x1 x2 x3 x4 (i 1) 2 d u) ?_
        (heads_at x0 x1 x2 x3 x4 (i 1) 2 d u _ (by show 128 + 1 * d.val = 2 * 64 + d.val; omega) (Fin.ext (by show 0 + 1 * u.val = u.val; omega)))
      refine head_of x0 x1 x2 x3 x4 (i 1) 2 d u _ _ _ _ _ ?_ ?_ ?_ ?_ ?_
      · intro w
        exact lo_score x1 x2 x4 2 (by decide) (i 1) 0 128 _ 2 0 _ _ _ rfl (row_own (i 1)) rfl rfl w u
      · intro w
        exact lo_score x1 x2 x4 2 (by decide) (prev (i 1)) (slot (i 1)) 128 _ 2 _ _ _ _ rfl (row_prev (i 1)) rfl (slot_eq (i 1)) w u
      · exact lds x0 2 _ 2 rfl _
      · intro r w
        exact ldv x3 _ 0 _ r w (i 1) _ (slab_own (i 1)) rfl
      · intro r w
        exact ldv x3 _ 0 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [pay_1, score_o1, score_p1]
      refine Eq.trans (b := outHead x0 x1 x2 x3 x4 (i 1) 1 d u) ?_
        (heads_at x0 x1 x2 x3 x4 (i 1) 1 d u _ (by show 64 + 1 * d.val = 1 * 64 + d.val; omega) (Fin.ext (by show 0 + 1 * u.val = u.val; omega)))
      refine head_of x0 x1 x2 x3 x4 (i 1) 1 d u _ _ _ _ _ ?_ ?_ ?_ ?_ ?_
      · intro w
        exact lo_score x1 x2 x4 1 (by decide) (i 1) 0 64 _ 1 0 _ _ _ rfl (row_own (i 1)) rfl rfl w u
      · intro w
        exact lo_score x1 x2 x4 1 (by decide) (prev (i 1)) (slot (i 1)) 64 _ 1 _ _ _ _ rfl (row_prev (i 1)) rfl (slot_eq (i 1)) w u
      · exact lds x0 1 _ 1 rfl _
      · intro r w
        exact ldv x3 _ 0 _ r w (i 1) _ (slab_own (i 1)) rfl
      · intro r w
        exact ldv x3 _ 0 _ r w (prev (i 1)) _ (slab_prev (i 1)) rfl
    · intro (x : Shape.Idx S64x256)
      obtain ⟨d, u, rfl⟩ : ∃ (d : Fin 64) (u : Fin 256), x = ix2 d u := ⟨_, _, eq_ix2 x⟩
      simp only [score_p0]
      refine Eq.trans (b := outHead x0 x1 x2 x3 x4 (i 1) 0 d u) ?_
        (heads_at x0 x1 x2 x3 x4 (i 1) 0 d u _ (by show 0 + 1 * d.val = 0 * 64 + d.val; omega) (Fin.ext (by show 0 + 1 * u.val = u.val; omega)))
      refine head_of x0 x1 x2 x3 x4 (i 1) 0 d u _ _ _ _ _ ?_ ?_ ?_ ?_ ?_
      · intro w
        exact lo_score x1 x2 x4 0 (by decide) (i 1) 0 0 _ 0 0 _ _ _ rfl (row_own (i 1)) rfl rfl w u
      · intro w
        exact lo_score x1 x2 x4 0 (by decide) (prev (i 1)) (slot (i 1)) 0 _ 0 _ _ _ _ rfl (row_prev (i 1)) rfl (slot_eq (i 1)) w u
      · exact lds x0 0 _ 0 rfl _
      · intro r w
        exact ldv x3 _ 0 _ r w (i 1) _ (slab_own (i 1)) rfl
      · intro r w
        exact ldv x3 _ 0 _ r w (prev (i 1)) _ (slab_prev (i 1)) rfl
  · have hl := l.isLt
    by_cases c7 : 448 ≤ l.val
    · exact ⟨_, (.head _), mem_rows inb_S512x256_S64x256_448_0 l u c7 (by omega)⟩
    by_cases c6 : 384 ≤ l.val
    · exact ⟨_, (.tail _ (.head _)), mem_rows inb_S512x256_S64x256_384_0 l u c6 (by omega)⟩
    by_cases c5 : 320 ≤ l.val
    · exact ⟨_, (.tail _ (.tail _ (.head _))), mem_rows inb_S512x256_S64x256_320_0 l u c5 (by omega)⟩
    by_cases c4 : 256 ≤ l.val
    · exact ⟨_, (.tail _ (.tail _ (.tail _ (.head _)))), mem_rows inb_S512x256_S64x256_256_0 l u c4 (by omega)⟩
    by_cases c3 : 192 ≤ l.val
    · exact ⟨_, (.tail _ (.tail _ (.tail _ (.tail _ (.head _))))), mem_rows inb_S512x256_S64x256_192_0 l u c3 (by omega)⟩
    by_cases c2 : 128 ≤ l.val
    · exact ⟨_, (.tail _ (.tail _ (.tail _ (.tail _ (.tail _ (.head _)))))), mem_rows inb_S512x256_S64x256_128_0 l u c2 (by omega)⟩
    by_cases c1 : 64 ≤ l.val
    · exact ⟨_, (.tail _ (.tail _ (.tail _ (.tail _ (.tail _ (.tail _ (.head _))))))), mem_rows inb_S512x256_S64x256_64_0 l u c1 (by omega)⟩
    exact ⟨_, (.tail _ (.tail _ (.tail _ (.tail _ (.tail _ (.tail _ (.tail _ (.head _)))))))), mem_rows inb_S512x256_S64x256_0_0 l u (by omega) (by omega)⟩

end Cert.BandIdeal.Hand
end
-- ==== Proof.BandValue.lean ====
module

public import proofs.«01_k».proof.Proof.BandBody
public import Idealize.ShloMosaic.Lib.Pipeline.Value

@[expose] public section

noncomputable section

namespace Cert.BandIdeal.Hand

open Cert.BandIdeal Cert.BandIdeal.Gen Idealize.ShloMosaic Idealize.ShloMosaic.TcCoe Idealize.SL.Sem Cert.Band

variable (m : (ℓ : Loc nD τ sig) → Buf (Elt Ideal) ℓ)

/-- The call's arguments. -/
abbrev args (c : Dev nD) : Args where
  q := m ((c : Thread nD τ).loc main_arg0)
  k := m ((c : Thread nD τ).loc main_arg1)
  v := m ((c : Thread nD τ).loc main_arg2)
  tb := m ((c : Thread nD τ).loc main_arg3)
  sinks := m ((c : Thread nD τ).loc main_arg4)

theorem index0 : ∀ t : Fin cfg0.N, win0_0.index t 0 = 0 := by decide +kernel
theorem index1 : ∀ t : Fin cfg0.N, win0_1.index t 0 = t.val / 16 ∧ win0_1.index t 1 = 0 ∧ win0_1.index t 2 = t.val % 16 := by decide +kernel
theorem index2 : ∀ t : Fin cfg0.N, win0_2.index t 0 = t.val / 16 ∧ win0_2.index t 1 = 0 ∧ win0_2.index t 2 = 0 := by decide +kernel
theorem index3 : ∀ t : Fin cfg0.N, win0_3.index t 0 = t.val / 16 ∧ win0_3.index t 1 = 0 ∧ win0_3.index t 2 = 0 ∧ win0_3.index t 3 = 0 := by decide +kernel
theorem index4 : ∀ t : Fin cfg0.N, win0_4.index t 0 = 0 ∧ win0_4.index t 1 = 0 ∧ win0_4.index t 2 = 0 ∧ win0_4.index t 3 = 0 := by decide +kernel
theorem index5 : ∀ t : Fin cfg0.N, win0_5.index t 0 = t.val / 16 ∧ win0_5.index t 1 = t.val % 16 ∧ win0_5.index t 2 = 0 := by decide +kernel
theorem coord1 : ∀ t : Fin cfg0.N, (grid0.coords t 1).val = t.val % 16 := by decide +kernel

/-- Point `t`'s sequence and tile. -/
abbrev bat (t : Fin cfg0.N) : Fin 8 := ⟨t.val / 16, by have := t.isLt; have : cfg0.N = 128 := N_0; omega⟩
abbrev tile (t : Fin cfg0.N) : Fin 16 := ⟨t.val % 16, by omega⟩

theorem iblk0 (c : Dev nD) (t : Fin cfg0.N) (h : Fin 8) :
    (iblk m c 0 t : Vec Ideal S8 .f32) (ix1 h) = (args m c).sinks (ix1 h) := by
  have hv : V m c main_arg4 = (args m c).sinks := V_main_arg4 m c
  rw [← hv]
  unfold iblk
  rw [View.read_apply]
  show V m c main_arg4 _ = _
  congr 1
  funext a
  apply Fin.ext
  have hi := index0 t
  match a with
  | ⟨0, _⟩ => show win0_0.index t 0 * 8 + 1 * h.val = h.val; rw [hi]; omega

theorem iblk1 (c : Dev nD) (t : Fin cfg0.N) (r : Fin 512) (u : Fin 256) :
    (iblk m c 1 t : Vec Ideal S1x512x256 .bf16) (ix3 0 r u) = (args m c).q (ix3 (bat t) r (spot (tile t) u)) := by
  have hv : V m c main_arg0 = (args m c).q := V_main_arg0 m c
  rw [← hv]
  unfold iblk
  rw [View.read_apply]
  show V m c main_arg0 _ = _
  congr 1
  funext a
  apply Fin.ext
  have hi := index1 t
  match a with
  | ⟨0, _⟩ => show win0_1.index t 0 * 1 + 1 * 0 = t.val / 16; rw [hi.1]; omega
  | ⟨1, _⟩ => show win0_1.index t 1 * 512 + 1 * r.val = r.val; rw [hi.2.1]; omega
  | ⟨2, _⟩ => show win0_1.index t 2 * 256 + 1 * u.val = t.val % 16 * 256 + u.val; rw [hi.2.2]; omega

theorem iblk2 (c : Dev nD) (t : Fin cfg0.N) (s : Fin 4096) (j : Fin 128) :
    (iblk m c 2 t : Vec Ideal S1x4096x128 .bf16) (ix3 0 s j) = (args m c).k (ix3 (bat t) s j) := by
  have hv : V m c main_arg1 = (args m c).k := V_main_arg1 m c
  rw [← hv]
  unfold iblk
  rw [View.read_apply]
  show V m c main_arg1 _ = _
  congr 1
  funext a
  apply Fin.ext
  have hi := index2 t
  match a with
  | ⟨0, _⟩ => show win0_2.index t 0 * 1 + 1 * 0 = t.val / 16; rw [hi.1]; omega
  | ⟨1, _⟩ => show win0_2.index t 1 * 4096 + 1 * s.val = s.val; rw [hi.2.1]; omega
  | ⟨2, _⟩ => show win0_2.index t 2 * 128 + 1 * j.val = j.val; rw [hi.2.2]; omega

theorem iblk3 (c : Dev nD) (t : Fin cfg0.N) (n : Fin 16) (r : Fin 160) (w : Fin 256) :
    (iblk m c 3 t : Vec Ideal S1x16x160x256 .bf16) (ix4 0 n r w) = (args m c).v (ix4 (bat t) n r w) := by
  have hv : V m c main_arg2 = (args m c).v := V_main_arg2 m c
  rw [← hv]
  unfold iblk
  rw [View.read_apply]
  show V m c main_arg2 _ = _
  congr 1
  funext a
  apply Fin.ext
  have hi := index3 t
  match a with
  | ⟨0, _⟩ => show win0_3.index t 0 * 1 + 1 * 0 = t.val / 16; rw [hi.1]; omega
  | ⟨1, _⟩ => show win0_3.index t 1 * 16 + 1 * n.val = n.val; rw [hi.2.1]; omega
  | ⟨2, _⟩ => show win0_3.index t 2 * 160 + 1 * r.val = r.val; rw [hi.2.2.1]; omega
  | ⟨3, _⟩ => show win0_3.index t 3 * 256 + 1 * w.val = w.val; rw [hi.2.2.2]; omega

theorem iblk4 (c : Dev nD) (t : Fin cfg0.N) (h : Fin 8) (p : Fin 3) (w u : Fin 256) :
    (iblk m c 4 t : Vec Ideal S8x3x256x256 .f32) (ix4 h p w u) = (args m c).tb (ix4 h p w u) := by
  have hv : V m c main_arg3 = (args m c).tb := V_main_arg3 m c
  rw [← hv]
  unfold iblk
  rw [View.read_apply]
  show V m c main_arg3 _ = _
  congr 1
  funext a
  apply Fin.ext
  have hi := index4 t
  match a with
  | ⟨0, _⟩ => show win0_4.index t 0 * 8 + 1 * h.val = h.val; rw [hi.1]; omega
  | ⟨1, _⟩ => show win0_4.index t 1 * 3 + 1 * p.val = p.val; rw [hi.2.1]; omega
  | ⟨2, _⟩ => show win0_4.index t 2 * 256 + 1 * w.val = w.val; rw [hi.2.2.1]; omega
  | ⟨3, _⟩ => show win0_4.index t 3 * 256 + 1 * u.val = u.val; rw [hi.2.2.2]; omega

/-- A point's head is the head of its sequence and tile. -/
theorem outHead_eq (c : Dev nD) (t : Fin cfg0.N) (h : Fin 8) (d : Fin 64) (u : Fin 256) :
    outHead (iblk m c 0 t) (iblk m c 1 t) (iblk m c 2 t) (iblk m c 3 t) (iblk m c 4 t) (tile t) h d u = tileHead (args m c) (bat t) (tile t) h d u := by
  unfold outHead score
  simp only [iblk0, iblk1, iblk2, iblk3, iblk4]
  rfl

abbrev result (c : Dev nD) : Buf (Elt Ideal) ((c : Thread nD τ).loc main_v0) := byTiles (args m c)

theorem flushed_eq (c : Dev nD) (t : Fin cfg0.N) (_ : (cfg0.win 5).flush t = true) :
    (dats m 0 c).flushed 5 t = ((cfg0.win 5).blk t).view.read (Elt Ideal) (result m c) := by
  rw [Cert.BandIdeal.Value.flushed5_A]
  funext y
  rw [View.read_apply]
  have h0 : (y 0).val < 1 := (y 0).isLt
  have h1 : (y 1).val < 256 := (y 1).isLt
  have h2 : (y 2).val < 512 := (y 2).isLt
  have hi := index5 t
  have ey : ((cfg0.win 5).blk t).view.emb y = (ix3 (bat t) (spot (tile t) (y 1)) (y 2) : S8x4096x512.Idx) := by
    funext a
    apply Fin.ext
    match a with
    | ⟨0, _⟩ => show win0_5.index t 0 * 1 + 1 * (y 0).val = t.val / 16; rw [hi.1]; omega
    | ⟨1, _⟩ => show win0_5.index t 1 * 256 + 1 * (y 1).val = t.val % 16 * 256 + (y 1).val; rw [hi.2.1]; omega
    | ⟨2, _⟩ => show win0_5.index t 2 * 512 + 1 * (y 2).val = (y 2).val; rw [hi.2.2]; omega
  rw [ey]
  refine Eq.trans ?_ ((out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (iblk m c 4 t) (y 1) (y 2) (tile t) (Fin.ext (coord1 t))).trans ?_)
  · show out0_A_5 _ _ _ _ _ _ _ _ _ _ _ _ _ _ _ _ _ _ _ _ _ _ = _
    congr 1
    funext a
    apply Fin.ext
    match a with
    | ⟨0, _⟩ => show (y 0).val = 0; omega
    | ⟨1, _⟩ => rfl
    | ⟨2, _⟩ => rfl
  · refine (outHead_eq m c t ⟨(y 2).val / 64, by omega⟩ ⟨(y 2).val % 64, by omega⟩ (y 1)).trans ?_
    show tileHead _ _ _ _ _ _ = tileHead _ _ _ _ _ _
    congr 1
    · exact Fin.ext (by show t.val % 16 = (t.val % 16 * 256 + (y 1).val) / 256; omega)
    · exact Fin.ext (by show (y 1).val = (t.val % 16 * 256 + (y 1).val) % 256; omega)

theorem final_eq (c : Dev nD) : (dats m 0 c).arrAt 5 cfg0.N = result m c :=
  (dats m 0 c).arrAt_eq_of_cover 5 (result m c) (flushed_eq m c) fun i => by
    have hN : cfg0.N = 128 := N_0
    have h0 : (i 0 : Nat) < 8 := (i 0).isLt
    have h1 : (i 1 : Nat) < 4096 := (i 1).isLt
    have h2 : (i 2 : Nat) < 512 := (i 2).isLt
    let t : Fin cfg0.N := ⟨(i 0).val * 16 + (i 1).val / 256, by omega⟩
    have ht : t.val = (i 0).val * 16 + (i 1).val / 256 := rfl
    have hi := index5 t
    refine ⟨t, flush0_5 t, ?_⟩
    show i ∈ ((View.whole main_v0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [hi.1]; omega
    | ⟨1, _⟩ => show win0_5.index t 1 * 256 ≤ (i 1 : Nat) ∧ (i 1 : Nat) < win0_5.index t 1 * 256 + 256
                rw [hi.2.1]; omega
    | ⟨2, _⟩ => show win0_5.index t 2 * 512 ≤ (i 2 : Nat) ∧ (i 2 : Nat) < win0_5.index t 2 * 512 + 512
                rw [hi.2.2]; omega

end Cert.BandIdeal.Hand
end
-- ==== Proof.BandReads.lean ====
module

public import proofs.«01_k».proof.Proof.BandFun
public import proofs.«01_k».proof.Proof.Gen.BandReferenceIdeal.Read
public import Idealize.ShloMosaic.Lib.KernelVsHost
public import Idealize.ShloMosaic.Lib.ValueIdxRank6

@[expose] public section

noncomputable section

namespace Cert.BandReferenceIdeal.Hand

open Cert.BandReferenceIdeal Cert.BandReferenceIdeal.Gen Cert.BandReferenceIdeal.Read Idealize.ShloMosaic Cert.Band

/-! ## Queries and keys -/

theorem queries (x0 : FVec Ideal S8x512x4096 .bf16) (b : Fin 8) (C e : Fin 64) (g : Fin 2) (r : Fin 4) (x : Fin 64) :
    val_main_v2 (F := Ideal) x0 (ix6 b C e g r x) = x0 (ix3 b ⟨(g.val * 4 + r.val) * 64 + x.val, by omega⟩ ⟨C.val * 64 + e.val, by omega⟩) := by
  unfold val_main_v2
  refine (shapeCast_apply _ _ _ (ix3 b ⟨C.val * 64 + e.val, by omega⟩ ⟨(g.val * 4 + r.val) * 64 + x.val, by omega⟩) ?_).trans ?_
  · rw [Shape.rowMajor_val_three, Shape.rowMajor_val_six]
    show (b.val * 4096 + (C.val * 64 + e.val)) * 512 + ((g.val * 4 + r.val) * 64 + x.val)
      = ((((b.val * 64 + C.val) * 64 + e.val) * 2 + g.val) * 4 + r.val) * 64 + x.val
    omega
  · rw [val_main_v1_apply, val_main_v0_apply]
    show x0 _ = x0 _
    congr 1
    funext a
    match a with
    | ⟨0, _⟩ => rfl
    | ⟨1, _⟩ => rfl
    | ⟨2, _⟩ => rfl

theorem keyChunk (x1 : FVec Ideal S8x4096x128 .bf16) (b : Fin 8) (C e : Fin 64) (g : Fin 2) (x : Fin 64) :
    val_main_v5 (F := Ideal) x1 (ix5 b C e g x) = x1 (ix3 b ⟨C.val * 64 + e.val, by omega⟩ ⟨g.val * 64 + x.val, by omega⟩) := by
  unfold val_main_v5
  refine (shapeCast_apply _ _ _ (ix4 b ⟨C.val * 64 + e.val, by omega⟩ g x) ?_).trans ?_
  · rw [Shape.rowMajor_val_four, Shape.rowMajor_val_five]
    show ((b.val * 4096 + (C.val * 64 + e.val)) * 2 + g.val) * 64 + x.val = (((b.val * 64 + C.val) * 64 + e.val) * 2 + g.val) * 64 + x.val
    omega
  · unfold val_main_v4
    refine (shapeCast_apply _ _ _ (ix3 b ⟨C.val * 64 + e.val, by omega⟩ ⟨g.val * 64 + x.val, by omega⟩) ?_).trans ?_
    · rw [Shape.rowMajor_val_three, Shape.rowMajor_val_four]
      show (b.val * 4096 + (C.val * 64 + e.val)) * 128 + (g.val * 64 + x.val) = ((b.val * 4096 + (C.val * 64 + e.val)) * 2 + g.val) * 64 + x.val
      omega
    · rw [val_main_v3_apply]
      rfl

theorem zero_word : (FloatOps.sitofp .f32 0#32 : Ideal .f32) = 0 := by
  show (((0#32 : BitVec 32).toInt : ℝ) : EReal) = 0
  simp

/-- The chunks with two chunks of zeros before them. -/
def withTwo (f : Fin 64 → EReal) (C : Fin 66) : EReal := if h : 2 ≤ C.val then f ⟨C.val - 2, by omega⟩ else 0

theorem padded (y : FVec Ideal S8x64x64x2x64 .f32) (z : FVec Ideal S_ .f32) (hz : z (Shape.Idx.first h_S_) = 0) (b : Fin 8) (C : Fin 66) (e : Fin 64) (g : Fin 2) (x : Fin 64) :
    pad S8x66x64x2x64 ![0, 2, 0, 0, 0] ![0, 0, 0, 0, 0] ![0, 0, 0, 0, 0] y z pads_S8x64x64x2x64_S8x66x64x2x64_000_200_000_000_000 h_S_ (ix5 b C e g x)
      = withTwo (fun C => y (ix5 b C e g x)) C := by
  unfold withTwo
  by_cases h : 2 ≤ C.val
  · rw [dif_pos h]
    refine pad_apply_of_inside _ _ _ _ _ _ _ _ (ix5 b ⟨C.val - 2, by omega⟩ e g x) fun a => ?_
    match a with
    | ⟨0, _⟩ => show b.val = 0 + b.val * 1; omega
    | ⟨1, _⟩ => show C.val = 2 + (C.val - 2) * 1; omega
    | ⟨2, _⟩ => show e.val = 0 + e.val * 1; omega
    | ⟨3, _⟩ => show g.val = 0 + g.val * 1; omega
    | ⟨4, _⟩ => show x.val = 0 + x.val * 1; omega
  · rw [dif_neg h]
    exact (pad_apply_of_not_inside _ _ _ _ _ _ _ _ (1 : Fin 5) fun hin => h hin.1).trans hz

/-- Three chunks in a row, joined: position `j` is in chunk `j / 64` of them. -/
theorem three (y : FVec Ideal S8x66x64x2x64 .f32) (p q r : FVec Ideal S8x64x64x2x64 .f32)
    (hp : ∀ i, p i = y (idx_main_v7 i)) (hq : ∀ i, q i = y (idx_main_v8 i)) (hr : ∀ i, r i = y (idx_main_v9 i))
    (b : Fin 8) (C : Fin 64) (j : Fin 192) (g : Fin 2) (x : Fin 64) :
    concatenate S8x64x192x2x64 2 [⟨S8x64x64x2x64, p⟩, ⟨S8x64x64x2x64, q⟩, ⟨S8x64x64x2x64, r⟩]
        concatenates_S8x64x64x2x64_S8x64x64x2x64_S8x64x64x2x64_S8x64x192x2x64_d2 (ix5 b C j g x)
      = y (ix5 b ⟨C.val + j.val / 64, by omega⟩ ⟨j.val % 64, by omega⟩ g x) := by
  have off (e : Fin 64) (a : Fin 5) (ha : a ≠ 2) : ((ix5 b C e g x : S8x64x64x2x64.Idx) a).val = ((ix5 b C j g x : S8x64x192x2x64.Idx) a).val := by
    match a with
    | ⟨0, _⟩ => rfl
    | ⟨1, _⟩ => rfl
    | ⟨2, _⟩ => exact absurd rfl ha
    | ⟨3, _⟩ => rfl
    | ⟨4, _⟩ => rfl
  rcases (show j.val < 64 ∨ (64 ≤ j.val ∧ j.val < 128) ∨ 128 ≤ j.val by omega) with h | h | h
  · refine Eq.trans (concatenate_apply_piece (t := S8x64x192x2x64) 2 [⟨S8x64x64x2x64, p⟩, ⟨S8x64x64x2x64, q⟩, ⟨S8x64x64x2x64, r⟩] _ _ 0 (by simp) S8x64x64x2x64 p rfl rfl 0 rfl (ix5 b C ⟨j.val, h⟩ g x) (fun a ha => off _ a ha) ?_) ?_
    · show 0 + j.val = j.val; omega
    · rw [hp]
      congr 1; funext a
      match a with
      | ⟨0, _⟩ => rfl
      | ⟨1, _⟩ => exact Fin.ext (by show C.val = C.val + j.val / 64; omega)
      | ⟨2, _⟩ => exact Fin.ext (by show j.val = j.val % 64; omega)
      | ⟨3, _⟩ => rfl
      | ⟨4, _⟩ => rfl
  · refine Eq.trans (concatenate_apply_piece (t := S8x64x192x2x64) 2 [⟨S8x64x64x2x64, p⟩, ⟨S8x64x64x2x64, q⟩, ⟨S8x64x64x2x64, r⟩] _ _ 1 (by simp) S8x64x64x2x64 q rfl rfl 64 rfl (ix5 b C ⟨j.val - 64, by omega⟩ g x) (fun a ha => off _ a ha) ?_) ?_
    · show 64 + (j.val - 64) = j.val; omega
    · rw [hq]
      congr 1; funext a
      match a with
      | ⟨0, _⟩ => rfl
      | ⟨1, _⟩ => exact Fin.ext (by show 1 + C.val = C.val + j.val / 64; omega)
      | ⟨2, _⟩ => exact Fin.ext (by show j.val - 64 = j.val % 64; omega)
      | ⟨3, _⟩ => rfl
      | ⟨4, _⟩ => rfl
  · refine Eq.trans (concatenate_apply_piece (t := S8x64x192x2x64) 2 [⟨S8x64x64x2x64, p⟩, ⟨S8x64x64x2x64, q⟩, ⟨S8x64x64x2x64, r⟩] _ _ 2 (by simp) S8x64x64x2x64 r rfl rfl 128 rfl (ix5 b C ⟨j.val - 128, by omega⟩ g x) (fun a ha => off _ a ha) ?_) ?_
    · show 128 + (j.val - 128) = j.val; omega
    · rw [hr]
      congr 1; funext a
      match a with
      | ⟨0, _⟩ => rfl
      | ⟨1, _⟩ => exact Fin.ext (by show 2 + C.val = C.val + j.val / 64; omega)
      | ⟨2, _⟩ => exact Fin.ext (by show j.val - 128 = j.val % 64; omega)
      | ⟨3, _⟩ => rfl
      | ⟨4, _⟩ => rfl

theorem keyBand (x1 : FVec Ideal S8x4096x128 .bf16) (b : Fin 8) (C : Fin 64) (j : Fin 192) (g : Fin 2) (x : Fin 64) :
    val_main_v10 (F := Ideal) x1 (ix5 b C j g x)
      = if h : 128 ≤ C.val * 64 + j.val then x1 (ix3 b ⟨C.val * 64 + j.val - 128, by omega⟩ ⟨g.val * 64 + x.val, by omega⟩) else 0 := by
  have key : val_main_v10 (F := Ideal) x1 (ix5 b C j g x) = withTwo (fun C => val_main_v5 (F := Ideal) x1 (ix5 b C ⟨j.val % 64, by omega⟩ g x)) ⟨C.val + j.val / 64, by omega⟩ := by
    unfold val_main_v10
    refine (three (val_main_v6 (F := Ideal) x1) _ _ _ (val_main_v7_apply (F := Ideal) x1) (val_main_v8_apply (F := Ideal) x1) (val_main_v9_apply (F := Ideal) x1) b C j g x).trans ?_
    unfold val_main_v6
    exact padded _ _ (by simp [val_main_call0_v0, val_main_c, sitofp, constantI, zero_word]) b _ _ g x
  rw [key]
  unfold withTwo
  by_cases h : 128 ≤ C.val * 64 + j.val
  · rw [dif_pos (show 2 ≤ C.val + j.val / 64 by omega), dif_pos h]
    refine (keyChunk x1 b _ _ g x).trans ?_
    congr 2
    exact Fin.ext (by show (C.val + j.val / 64 - 2) * 64 + j.val % 64 = C.val * 64 + j.val - 128; omega)
  · rw [dif_neg (show ¬2 ≤ C.val + j.val / 64 by omega), dif_neg h]

/-! ## Values -/

theorem valueChunk (x2 : FVec Ideal S8x16x160x256 .bf16) (b : Fin 8) (C e : Fin 64) (g : Fin 2) (x : Fin 64) :
    val_main_v15 (F := Ideal) x2 (ix5 b C e g x)
      = x2 (ix4 b ⟨(C.val * 64 + e.val) / 256, by omega⟩ ⟨g.val * 80 + x.val, by omega⟩ ⟨(C.val * 64 + e.val) % 256, by omega⟩) := by
  unfold val_main_v15
  refine (shapeCast_apply _ _ _ (ix4 b ⟨C.val * 64 + e.val, by omega⟩ g x) ?_).trans ?_
  · rw [Shape.rowMajor_val_four, Shape.rowMajor_val_five]
    show ((b.val * 4096 + (C.val * 64 + e.val)) * 2 + g.val) * 64 + x.val = (((b.val * 64 + C.val) * 64 + e.val) * 2 + g.val) * 64 + x.val
    omega
  · rw [val_main_v14_apply]
    refine Eq.trans (b := val_main_v13 (F := Ideal) x2 (ix4 b ⟨C.val * 64 + e.val, by omega⟩ g ⟨x.val, by omega⟩)) ?_ ?_
    · congr 1; funext a
      match a with
      | ⟨0, _⟩ => rfl
      | ⟨1, _⟩ => rfl
      | ⟨2, _⟩ => rfl
      | ⟨3, _⟩ => rfl
    unfold val_main_v13
    refine (shapeCast_apply _ _ _ (ix4 b ⟨(C.val * 64 + e.val) / 256, by omega⟩ ⟨(C.val * 64 + e.val) % 256, by omega⟩ ⟨g.val * 80 + x.val, by omega⟩) ?_).trans ?_
    · rw [Shape.rowMajor_val_four, Shape.rowMajor_val_four]
      show ((b.val * 16 + (C.val * 64 + e.val) / 256) * 256 + (C.val * 64 + e.val) % 256) * 160 + (g.val * 80 + x.val) = ((b.val * 4096 + (C.val * 64 + e.val)) * 2 + g.val) * 80 + x.val
      omega
    · rw [val_main_v12_apply, val_main_v11_apply]
      show x2 _ = x2 _
      congr 1
      funext a
      match a with
      | ⟨0, _⟩ => rfl
      | ⟨1, _⟩ => rfl
      | ⟨2, _⟩ => rfl
      | ⟨3, _⟩ => rfl

theorem valueBand (x2 : FVec Ideal S8x16x160x256 .bf16) (b : Fin 8) (C : Fin 64) (j : Fin 192) (g : Fin 2) (x : Fin 64) :
    val_main_v20 (F := Ideal) x2 (ix5 b C j g x)
      = if h : 128 ≤ C.val * 64 + j.val then
          x2 (ix4 b ⟨(C.val * 64 + j.val - 128) / 256, by omega⟩ ⟨g.val * 80 + x.val, by omega⟩ ⟨(C.val * 64 + j.val - 128) % 256, by omega⟩) else 0 := by
  have key : val_main_v20 (F := Ideal) x2 (ix5 b C j g x) = withTwo (fun C => val_main_v15 (F := Ideal) x2 (ix5 b C ⟨j.val % 64, by omega⟩ g x)) ⟨C.val + j.val / 64, by omega⟩ := by
    unfold val_main_v20
    refine (three (val_main_v16 (F := Ideal) x2) _ _ _ (val_main_v17_apply (F := Ideal) x2) (val_main_v18_apply (F := Ideal) x2) (val_main_v19_apply (F := Ideal) x2) b C j g x).trans ?_
    unfold val_main_v16
    exact padded _ _ (by simp [val_main_call1_v0, val_main_c_0, sitofp, constantI, zero_word]) b _ _ g x
  rw [key]
  unfold withTwo
  by_cases h : 128 ≤ C.val * 64 + j.val
  · rw [dif_pos (show 2 ≤ C.val + j.val / 64 by omega), dif_pos h]
    refine (valueChunk x2 b _ _ g x).trans ?_
    have e : (C.val + j.val / 64 - 2) * 64 + j.val % 64 = C.val * 64 + j.val - 128 := by omega
    simp only [e]
  · rw [dif_neg (show ¬2 ≤ C.val + j.val / 64 by omega), dif_neg h]

/-! ## The bias -/

theorem near (A : Args) (h : Fin 8) (w : Fin 512) (u : Fin 256) : val_main_v25 (F := Ideal) A.tb (ix3 h w u) = nearBias A h u w := by
  unfold val_main_v25 nearBias joined
  by_cases hw : w.val < 256
  · rw [dif_pos hw]
    refine Eq.trans (concatenate_apply_piece (t := S8x512x256) 1 [⟨S8x256x256, val_main_v22 (F := Ideal) A.tb⟩, ⟨S8x256x256, val_main_v24 (F := Ideal) A.tb⟩] _ _ 0 (by simp) S8x256x256 (val_main_v22 (F := Ideal) A.tb) rfl rfl 0 rfl (ix3 h ⟨w.val, hw⟩ u) (fun a ha => ?_) ?_) ?_
    · match a with
      | ⟨0, _⟩ => rfl
      | ⟨1, _⟩ => exact absurd rfl ha
      | ⟨2, _⟩ => rfl
    · show 0 + w.val = w.val; omega
    · unfold val_main_v22
      refine (shapeCast_apply _ _ _ (ix4 h 0 ⟨w.val, hw⟩ u) ?_).trans ?_
      · rw [Shape.rowMajor_val_three, Shape.rowMajor_val_four]
        show ((h.val * 1 + 0) * 256 + w.val) * 256 + u.val = (h.val * 256 + w.val) * 256 + u.val
        omega
      · rw [val_main_v21_apply]
        congr 1; funext a
        match a with
        | ⟨0, _⟩ => rfl
        | ⟨1, _⟩ => rfl
        | ⟨2, _⟩ => rfl
        | ⟨3, _⟩ => rfl
  · rw [dif_neg hw]
    refine Eq.trans (concatenate_apply_piece (t := S8x512x256) 1 [⟨S8x256x256, val_main_v22 (F := Ideal) A.tb⟩, ⟨S8x256x256, val_main_v24 (F := Ideal) A.tb⟩] _ _ 1 (by simp) S8x256x256 (val_main_v24 (F := Ideal) A.tb) rfl rfl 256 rfl (ix3 h ⟨w.val - 256, by omega⟩ u) (fun a ha => ?_) ?_) ?_
    · match a with
      | ⟨0, _⟩ => rfl
      | ⟨1, _⟩ => exact absurd rfl ha
      | ⟨2, _⟩ => rfl
    · show 256 + (w.val - 256) = w.val; omega
    · unfold val_main_v24
      refine (shapeCast_apply _ _ _ (ix4 h 0 ⟨w.val - 256, by omega⟩ u) ?_).trans ?_
      · rw [Shape.rowMajor_val_three, Shape.rowMajor_val_four]
        show ((h.val * 1 + 0) * 256 + (w.val - 256)) * 256 + u.val = (h.val * 256 + (w.val - 256)) * 256 + u.val
        omega
      · rw [val_main_v23_apply]
        congr 1; funext a
        match a with
        | ⟨0, _⟩ => rfl
        | ⟨1, _⟩ => rfl
        | ⟨2, _⟩ => rfl
        | ⟨3, _⟩ => rfl

theorem cuts (A : Args) (c : Fin 4) (h : Fin 8) (j : Fin 192) (e : Fin 64) :
    val_main_v34 (F := Ideal) A.tb (ix4 c h j e) = nearBias A h ⟨c.val * 64 + e.val, by omega⟩ (bandPos c j) := by
  rw [← near]
  unfold val_main_v34
  have off (a : Fin 4) (ha : a ≠ 0) : ((ix4 0 h j e : S1x8x192x64.Idx) a).val = ((ix4 c h j e : S4x8x192x64.Idx) a).val := by
    match a with
    | ⟨0, _⟩ => exact absurd rfl ha
    | ⟨1, _⟩ => rfl
    | ⟨2, _⟩ => rfl
    | ⟨3, _⟩ => rfl
  match c with
  | 0 =>
    refine Eq.trans (concatenate_apply_piece (t := S4x8x192x64) 0 [⟨S1x8x192x64, val_main_v30 (F := Ideal) A.tb⟩, ⟨S1x8x192x64, val_main_v31 (F := Ideal) A.tb⟩, ⟨S1x8x192x64, val_main_v32 (F := Ideal) A.tb⟩, ⟨S1x8x192x64, val_main_v33 (F := Ideal) A.tb⟩] _ _ 0 (by simp) S1x8x192x64 (val_main_v30 (F := Ideal) A.tb) rfl rfl 0 rfl (ix4 0 h j e) (fun a ha => off a ha) rfl) ?_
    rw [val_main_v30_apply, val_main_v26_apply]
    congr 1; funext a
    match a with
    | ⟨0, _⟩ => rfl
    | ⟨1, _⟩ => rfl
    | ⟨2, _⟩ => exact Fin.ext (by show e.val = 0 * 64 + e.val; omega)
  | 1 =>
    refine Eq.trans (concatenate_apply_piece (t := S4x8x192x64) 0 [⟨S1x8x192x64, val_main_v30 (F := Ideal) A.tb⟩, ⟨S1x8x192x64, val_main_v31 (F := Ideal) A.tb⟩, ⟨S1x8x192x64, val_main_v32 (F := Ideal) A.tb⟩, ⟨S1x8x192x64, val_main_v33 (F := Ideal) A.tb⟩] _ _ 1 (by simp) S1x8x192x64 (val_main_v31 (F := Ideal) A.tb) rfl rfl 1 rfl (ix4 0 h j e) (fun a ha => off a ha) rfl) ?_
    rw [val_main_v31_apply, val_main_v27_apply]
    congr 1; funext a
    match a with
    | ⟨0, _⟩ => rfl
    | ⟨1, _⟩ => rfl
    | ⟨2, _⟩ => rfl
  | 2 =>
    refine Eq.trans (concatenate_apply_piece (t := S4x8x192x64) 0 [⟨S1x8x192x64, val_main_v30 (F := Ideal) A.tb⟩, ⟨S1x8x192x64, val_main_v31 (F := Ideal) A.tb⟩, ⟨S1x8x192x64, val_main_v32 (F := Ideal) A.tb⟩, ⟨S1x8x192x64, val_main_v33 (F := Ideal) A.tb⟩] _ _ 2 (by simp) S1x8x192x64 (val_main_v32 (F := Ideal) A.tb) rfl rfl 2 rfl (ix4 0 h j e) (fun a ha => off a ha) rfl) ?_
    rw [val_main_v32_apply, val_main_v28_apply]
    congr 1; funext a
    match a with
    | ⟨0, _⟩ => rfl
    | ⟨1, _⟩ => rfl
    | ⟨2, _⟩ => rfl
  | 3 =>
    refine Eq.trans (concatenate_apply_piece (t := S4x8x192x64) 0 [⟨S1x8x192x64, val_main_v30 (F := Ideal) A.tb⟩, ⟨S1x8x192x64, val_main_v31 (F := Ideal) A.tb⟩, ⟨S1x8x192x64, val_main_v32 (F := Ideal) A.tb⟩, ⟨S1x8x192x64, val_main_v33 (F := Ideal) A.tb⟩] _ _ 3 (by simp) S1x8x192x64 (val_main_v33 (F := Ideal) A.tb) rfl rfl 3 rfl (ix4 0 h j e) (fun a ha => off a ha) rfl) ?_
    rw [val_main_v33_apply, val_main_v29_apply]
    congr 1; funext a
    match a with
    | ⟨0, _⟩ => rfl
    | ⟨1, _⟩ => rfl
    | ⟨2, _⟩ => rfl

theorem bias (A : Args) (C : Fin 64) (g : Fin 2) (r : Fin 4) (e : Fin 64) (j : Fin 192) :
    val_main_v37 (F := Ideal) A.tb (ix5 C g r e j)
      = nearBias A ⟨g.val * 4 + r.val, by omega⟩ ⟨C.val % 4 * 64 + e.val, by omega⟩ (bandPos ⟨C.val % 4, by omega⟩ j) := by
  unfold val_main_v37
  refine (shapeCast_apply _ _ _ (ix5 ⟨C.val / 4, by omega⟩ ⟨C.val % 4, by omega⟩ ⟨g.val * 4 + r.val, by omega⟩ e j) ?_).trans ?_
  · rw [Shape.rowMajor_val_five, Shape.rowMajor_val_five]
    show (((C.val / 4 * 4 + C.val % 4) * 8 + (g.val * 4 + r.val)) * 64 + e.val) * 192 + j.val = (((C.val * 2 + g.val) * 4 + r.val) * 64 + e.val) * 192 + j.val
    omega
  · rw [val_main_v36_apply, val_main_v35_apply]
    refine Eq.trans ?_ (cuts A ⟨C.val % 4, by omega⟩ ⟨g.val * 4 + r.val, by omega⟩ j e)
    congr 1; funext a
    match a with
    | ⟨0, _⟩ => rfl
    | ⟨1, _⟩ => rfl
    | ⟨2, _⟩ => rfl
    | ⟨3, _⟩ => rfl

theorem valid (C : Fin 64) (j : Fin 192) : val_main_v48 (F := Ideal) (ix2 C j) = if 128 ≤ C.val * 64 + j.val then 1#1 else 0#1 := by
  rw [val_main_v48_apply, val_main_v46_apply, val_main_v47_apply, val_main_v44_apply, val_main_v45_apply, val_main_v41_apply, val_main_v43_apply, val_main_v40_apply,
    val_main_v39_apply, val_main_v38_apply, val_main_v42_apply, val_main_c_1_apply, val_main_c_2_apply]
  show IntOp.cmpi .sge (BitVec.ofNat 32 C.val * 64#32 + BitVec.ofNat 32 j.val) 128#32 = _
  have test : ∀ n : Fin 4288, IntOp.cmpi .sge (BitVec.ofNat 32 n.val) 128#32 = if 128 ≤ n.val then 1#1 else 0#1 := by decide +kernel
  rw [← test ⟨C.val * 64 + j.val, by omega⟩]
  congr 1
  exact (BitVec.ofNat_add (C.val * 64) j.val).symm ▸ (BitVec.ofNat_mul C.val 64).symm ▸ rfl

end Cert.BandReferenceIdeal.Hand
-- ==== Proof.BandReference.lean ====
module

public import proofs.«01_k».proof.Proof.BandReads

@[expose] public section

noncomputable section

namespace Cert.BandReferenceIdeal.Hand

open Cert.BandReferenceIdeal Cert.BandReferenceIdeal.Gen Cert.BandReferenceIdeal.Read Idealize.ShloMosaic Cert.Band Cert.Route

variable (A : Args) (b : Fin 8) (C : Fin 64) (g : Fin 2) (r : Fin 4) (e : Fin 64) (j : Fin 192)

/-- Head `r` of group `g`. -/
abbrev head (g : Fin 2) (r : Fin 4) : Fin 8 := ⟨g.val * 4 + r.val, by omega⟩

/-- The products with the keys of the band, zero before the first key. -/
theorem products : val_main_v50 (F := Ideal) A.q A.k (ix6 b C g r e j)
    = if h : 128 ≤ C.val * 64 + j.val then qk A b (head g r) ⟨C.val * 64 + e.val, by omega⟩ ⟨C.val * 64 + j.val - 128, by omega⟩ else 0 := by
  rw [val_main_v50_apply, show idx_main_v50 (ix6 b C g r e j) = ix6 b C g j e r from eq_ix6 _, val_main_v49_apply]
  have el (x : Fin 64) : lidx_main_v49 (ix6 b C g j e r) x = ix5 b C j g x := eq_ix5 _
  have er (x : Fin 64) : ridx_main_v49 (ix6 b C g j e r) x = ix6 b C e g r x := eq_ix6 _
  simp only [el, er, keyBand, queries]
  by_cases h : 128 ≤ C.val * 64 + j.val
  · simp only [dif_pos h]
    unfold qk
    refine Finset.sum_congr rfl fun x _ => congrArg (· * _) (congrArg A.k ?_)
    congr 1
    exact Fin.ext (by show g.val * 64 + x.val = (g.val * 4 + r.val) / 4 * 64 + x.val; omega)
  · simp only [dif_neg h, zero_mul, Finset.sum_const_zero]

theorem scores : val_main_v55 (F := Ideal) A.q A.k A.tb (ix6 b C g r e j) = bandScore A b C (head g r) e j := by
  rw [val_main_v55_apply, val_main_call2_v1_apply, val_main_v54_apply,
    show idx_main_v54 (idx_main_call2_v1 (ix6 b C g r e j)) = ix2 C j from eq_ix2 _, valid, val_main_call2_v2_apply, val_main_call2_v0_apply,
    val_main_cst_apply, val_main_v53_apply, products, val_main_v52_apply, val_main_v51_apply,
    show idx_main_v51 (idx_main_v52 (ix6 b C g r e j)) = ix5 C g r e j from eq_ix5 _, bias]
  unfold bandScore
  by_cases h : 128 ≤ C.val * 64 + j.val
  · simp only [dif_pos h, if_pos h]
    rfl
  · simp only [dif_neg h, if_neg h]
    exact lit_bot

theorem sinkAt : val_main_v59 (F := Ideal) A.sinks (ix6 0 0 g r 0 0) = sink A (head g r) := by
  rw [val_main_v59_apply, val_main_v58_apply, val_main_v57_apply, val_main_v56_apply, val_main_cst_3_apply]
  rw [show idx_main_v58 (idx_main_v59 (ix6 0 0 g r 0 0)) = ix1 (head g r) from eq_ix1 _]
  rfl

theorem fold_last (x : FVec Ideal S8x64x2x4x64x192 .f32) (z : FVec Ideal S_ .f32) :
    Host.reduce FloatOps.maximumf x z reducesTo_S8x64x2x4x64x192_S8x64x2x4x64_d5 h_S_ (ix5 b C g r e)
      = Finset.fold max (z (Shape.Idx.first h_S_)) (fun j : Fin 192 => x (ix6 b C g r e j)) Finset.univ := by
  have red : S8x64x2x4x64x192.Reduces [5] S8x64x2x4x64 :=
    ⟨reducesTo_S8x64x2x4x64x192_S8x64x2x4x64_d5.1, Nat.le_add_left 1 4, reducesTo_S8x64x2x4x64x192_S8x64x2x4x64_d5.2⟩
  rw [Host.reduce_eq_fold_single (FloatOps.maximumf (F := Ideal) (φ := .f32)) x z _ red h_S_]
  refine congrArg (fun f => Finset.fold max (z (Shape.Idx.first h_S_)) f Finset.univ) (funext fun j : Fin 192 => congrArg x ?_)
  funext a
  apply Fin.ext
  fin_cases a <;> rfl

theorem largest : val_main_v60 (F := Ideal) A.q A.k A.tb (ix5 b C g r e) = Finset.fold max (⊥ : EReal) (bandScore A b C (head g r) e) Finset.univ := by
  unfold val_main_v60
  rw [fold_last, val_main_cst_4_apply]
  simp only [scores]
  exact congrArg (fun z => Finset.fold max z _ Finset.univ) lit_bot

theorem top : val_main_v63 (F := Ideal) A.q A.k A.tb A.sinks (ix6 b C g r e 0) = bandTop (bandScore A b C (head g r) e) (sink A (head g r)) := by
  rw [val_main_v63_apply, val_main_v61_apply, val_main_v62_apply,
    show idx_main_v61 (ix6 b C g r e 0) = ix5 b C g r e from eq_ix5 _,
    show idx_main_v62 (ix6 b C g r e 0) = ix6 0 0 g r 0 0 from eq_ix6 _, sinkAt, largest]
  rfl

theorem log_two : Ideal.log (Ideal.ofBits .f32 0x40000000#32) = ((Real.log 2 : ℝ) : EReal) := by
  rw [show Ideal.ofBits .f32 0x40000000#32 = ((2 : ℝ) : EReal) from by simp [Ideal.ofBits, Ideal.ieee, -EReal.coe_mul]; norm_num]
  rw [Ideal.log_coe, if_neg (by norm_num)]

theorem weight : val_main_v69 (F := Ideal) A.q A.k A.tb A.sinks (ix6 b C g r e j)
    = pow (bandScore A b C (head g r) e j - bandTop (bandScore A b C (head g r) e) (sink A (head g r))) := by
  rw [val_main_v69_apply, val_main_v68_apply, val_main_v65_apply, val_main_v67_apply, val_main_v66_apply, val_main_cst_5_apply, scores, val_main_v64_apply,
    show idx_main_v64 (ix6 b C g r e j) = ix6 b C g r e 0 from eq_ix6 _, top]
  unfold pow
  rw [← log_two]
  rfl

theorem denominator : val_main_v78 (F := Ideal) A.q A.k A.tb A.sinks (ix6 b C g r e 0)
    = ∑ k, pow (bandScore A b C (head g r) e k - bandTop (bandScore A b C (head g r) e) (sink A (head g r)))
      + pow (sink A (head g r) - bandTop (bandScore A b C (head g r) e) (sink A (head g r))) := by
  rw [val_main_v78_apply, val_main_v71_apply, val_main_v77_apply, val_main_v76_apply, val_main_v73_apply, val_main_v75_apply, val_main_v74_apply, val_main_cst_7_apply,
    top, val_main_v72_apply, show idx_main_v72 (ix6 b C g r e 0) = ix6 0 0 g r 0 0 from eq_ix6 _, sinkAt,
    show idx_main_v71 (ix6 b C g r e 0) = ix5 b C g r e from eq_ix5 _, val_main_v70_apply, val_main_cst_6_apply]
  have ek (k : Fin 192) : idx_main_v70 (ix5 b C g r e) k = ix6 b C g r e k := eq_ix6 _
  simp only [ek, weight]
  rw [show (FloatOps.ofBits .f32 0x00000000#32 : Ideal .f32) = 0 from by simp [Ideal.ofBits, Ideal.ieee], zero_add]
  unfold pow
  rw [← log_two]
  rfl

theorem results (d : Fin 64) : val_main_v82 (F := Ideal) A.q A.k A.v A.tb A.sinks (ix6 b C e g r d) = bandHead A b C (head g r) d e := by
  rw [val_main_v82_apply, show idx_main_v82 (ix6 b C e g r d) = ix6 b C g d r e from eq_ix6 _, val_main_v81_apply]
  have el (k : Fin 192) : lidx_main_v81 (ix6 b C g d r e) k = ix5 b C k g d := eq_ix5 _
  have er (k : Fin 192) : ridx_main_v81 (ix6 b C g d r e) k = ix6 b C g r e k := eq_ix6 _
  unfold bandHead bandVal
  refine Finset.sum_congr rfl fun k _ => ?_
  rw [el, er, valueBand, val_main_v80_apply, weight, val_main_v79_apply,
    show idx_main_v79 (ix6 b C g r e k) = ix6 b C g r e 0 from eq_ix6 _, denominator]
  refine congrArg₂ (· * ·) ?_ rfl
  unfold bandValue val
  have hgr : (head g r).val / 4 = g.val := by show (g.val * 4 + r.val) / 4 = g.val; omega
  simp only [hgr]

theorem reference_eq : val_main_v84 (F := Ideal) A.q A.k A.v A.tb A.sinks = byBands A := by
  funext i
  have h1 : (i 1).val < 4096 := (i 1).isLt
  have h2 : (i 2).val < 512 := (i 2).isLt
  rw [val_main_v84_apply]
  show val_main_v83 (F := Ideal) A.q A.k A.v A.tb A.sinks i = byBands A i
  have key (b : Fin 8) (C e : Fin 64) (g : Fin 2) (r : Fin 4) (d : Fin 64) :
      val_main_v82 (F := Ideal) A.q A.k A.v A.tb A.sinks (ix6 b C e g r d) = bandHead A b C (head g r) d e := results A b C g r e d
  set C : Fin 64 := ⟨(i 1).val / 64, by omega⟩ with hC
  set e : Fin 64 := ⟨(i 1).val % 64, by omega⟩ with he
  set g : Fin 2 := ⟨(i 2).val / 256, by omega⟩ with hg
  set r : Fin 4 := ⟨(i 2).val / 64 % 4, by omega⟩ with hr
  set d : Fin 64 := ⟨(i 2).val % 64, by omega⟩ with hd
  unfold val_main_v83
  refine (shapeCast_apply _ _ _ (ix6 (i 0) C e g r d) ?_).trans ?_
  · rw [Shape.rowMajor_val_three, Shape.rowMajor_val_six]
    show (((((i 0).val * 64 + (i 1).val / 64) * 64 + (i 1).val % 64) * 2 + (i 2).val / 256) * 4 + (i 2).val / 64 % 4) * 64 + (i 2).val % 64
      = ((i 0).val * 4096 + (i 1).val) * 512 + (i 2).val
    omega
  · have hh : (⟨(i 2).val / 64, by omega⟩ : Fin 8) = head g r := Fin.ext (by show (i 2).val / 64 = (i 2).val / 256 * 4 + (i 2).val / 64 % 4; omega)
    refine Eq.trans (b := bandHead A (i 0) C (head g r) d e) ?_ (by unfold byBands; rw [← hh])
    exact key _ C e g r d

end Cert.BandReferenceIdeal.Hand
-- ==== Proof.BandClaim.lean ====
module

public import proofs.«01_k».proof.Defs
public import proofs.«01_k».proof.Proof.BandValue
public import proofs.«01_k».proof.Proof.BandReference
public import proofs.«01_k».proof.Proof.MergeClaim
public import proofs.«01_k».proof.Proof.Gen.Pre_band_tables
public import proofs.«01_k».proof.Proof.Gen.BandIdeal.Value
public import proofs.«01_k».proof.Proof.Gen.BandReferenceIdeal.Run
public import Idealize.ShloMosaic.Lib.ReduceAll

@[expose] public section

noncomputable section

/-! ## What the precondition says -/

namespace Cert.Pre_band_tables.Hand

open Cert.Pre_band_tables Cert.Pre_band_tables.Gen Cert.Pre_router_finite.Hand Idealize.ShloMosaic Cert.Band Cert.Route

theorem ne_top_of_test (x : EReal) (h : Ideal.cmp .olt x (Ideal.ofBits .f32 0x7F800000#32) = 1#1) : x ≠ ⊤ := by
  rw [lit_top] at h
  rintro rfl
  simp [Ideal.cmp] at h

theorem bot_of_test (x : EReal) (h : Ideal.cmp .oeq x (-(Ideal.ofBits .f32 0x7F800000#32)) = 1#1) : x = ⊥ := by
  rw [lit_top, EReal.neg_top] at h
  by_contra hx
  simp [Ideal.cmp, hx] at h

theorem one_of_test (x : EReal) (h : Ideal.cmp .oeq x (Ideal.ofBits .f32 0x3F800000#32) = 1#1) : x = 1 := by
  rw [show Ideal.ofBits .f32 0x3F800000#32 = ((1 : ℝ) : EReal) from by simp [Ideal.ofBits, Ideal.ieee, -EReal.coe_mul]; norm_num, EReal.coe_one] at h
  by_contra hx
  simp [Ideal.cmp, hx] at h

instance : Subsingleton S_.Idx := ⟨fun _ _ => funext fun a => a.elim0⟩

variable (A : Args)

/-- The table's slots of the tile before and of the own tile, one below the other. -/
abbrev table : FVec Ideal S8x512x256 .f32 := Cert.BandReferenceIdeal.Read.val_main_v25 (F := Ideal) A.tb

/-- A cut of the table that is `-∞` throughout. -/
theorem cut {n o p : ℕ} (hs : S8x512x256.Slices ![0, o, p] ⟨3, ![8, n, 64]⟩) (h : Fin 8) (w : Fin n) (e : Fin 64) (ho : o + w.val < 512) (hp : p + e.val < 256)
    (ht : Ideal.cmp .oeq (extractStridedSlice ⟨3, ![8, n, 64]⟩ ![0, o, p] (table A) hs (ix3 h w e)) (-(Ideal.ofBits .f32 0x7F800000#32)) = 1#1) :
    nearBias A h ⟨p + e.val, hp⟩ ⟨o + w.val, ho⟩ = ⊥ := by
  rw [← Cert.BandReferenceIdeal.Hand.near]
  refine Eq.trans ?_ (bot_of_test _ ht)
  refine (extractStridedSlice_apply _ _ hs _ _ fun a => ?_).symm
  match a with
  | ⟨0, _⟩ => show h.val = 0 + h.val; omega
  | ⟨1, _⟩ => rfl
  | ⟨2, _⟩ => rfl

theorem masked (hpre : fn (F := Ideal) A.q A.k A.v A.tb A.sinks = fun _ => 1#1) : Masked A := by
  have h0 := and_one (congrFun hpre ix0)
  have h1 := and_one h0.1
  have h2 := and_one h1.1
  have h3 := and_one h2.1
  have h4 := and_one h3.1
  have h5 := and_one h4.1
  have h6 := and_one h5.1
  have h7 := and_one h6.1
  have h8 := and_one h7.1
  have h9 := and_one h8.1
  have h10 := and_one h9.1
  have h11 := and_one h10.1
  have rq := Host.reduce_andi_all _ _ _ _ ix0 h11.1
  have rk := Host.reduce_andi_all _ _ _ _ ix0 h11.2
  have rs := Host.reduce_andi_all _ _ _ _ ix0 h10.2
  have rt := Host.reduce_andi_all _ _ _ _ ix0 h9.2
  have ro := Host.reduce_andi_all _ _ _ _ ix0 h8.2
  have rf := Host.reduce_andi_all _ _ _ _ ix0 h7.2
  have b0 := Host.reduce_andi_all _ _ _ _ ix0 h6.2
  have b1 := Host.reduce_andi_all _ _ _ _ ix0 h5.2
  have b2 := Host.reduce_andi_all _ _ _ _ ix0 h4.2
  have b3 := Host.reduce_andi_all _ _ _ _ ix0 h3.2
  have a0 := Host.reduce_andi_all _ _ _ _ ix0 h2.2
  have a1 := Host.reduce_andi_all _ _ _ _ ix0 h1.2
  have a2 := Host.reduce_andi_all _ _ _ _ ix0 h0.2
  have slot2 (h : Fin 8) (w u : Fin 256) : A.tb (ix4 h 2 w u) = ⊥ := by
    refine Eq.trans ?_ (bot_of_test _ (rf (ix3 h w u)))
    refine ((shapeCast_apply _ _ _ (ix4 h 0 w u) ?_).trans (extractStridedSlice_apply _ _ _ _ (ix4 h 2 w u) fun a => ?_)).symm
    · rw [Shape.rowMajor_val_three, Shape.rowMajor_val_four]
      show ((h.val * 1 + 0) * 256 + w.val) * 256 + u.val = (h.val * 256 + w.val) * 256 + u.val
      omega
    · match a with
      | ⟨0, _⟩ => show h.val = 0 + h.val; omega
      | ⟨1, _⟩ => rfl
      | ⟨2, _⟩ => show w.val = 0 + w.val; omega
      | ⟨3, _⟩ => show u.val = 0 + u.val; omega
  exact
    { q := fun i => real_of_test _ (rq i)
      k := fun i => real_of_test _ (rk i)
      sinks := fun i => real_of_test _ (rs i)
      tb := fun i => ne_top_of_test _ (rt i)
      ones := fun b h n w => by
        refine Eq.trans ?_ (one_of_test _ (ro (ix4 b n ⟨h.val / 4, by omega⟩ w)))
        refine congrArg A.v (funext fun a => Fin.ext ?_)
        match a with
        | ⟨0, _⟩ => show b.val = 0 + 1 * b.val; omega
        | ⟨1, _⟩ => show n.val = 0 + 1 * n.val; omega
        | ⟨2, _⟩ => show h.val / 4 * 80 + 64 = 64 + 80 * (h.val / 4); omega
        | ⟨3, _⟩ => show w.val = 0 + 1 * w.val; omega
      first := slot2
      outside := fun h c e w hw => by
        have move (o p : ℕ) (w' : ℕ) (ho : o + w' < 512) (hp : p + e.val < 256) (ew : o + w' = w.val) (ep : p = c.val * 64)
            (hb : nearBias A h ⟨p + e.val, hp⟩ ⟨o + w', ho⟩ = ⊥) : nearBias A h ⟨c.val * 64 + e.val, by omega⟩ w = ⊥ := by
          subst ep
          rwa [show (⟨o + w', ho⟩ : Fin 512) = w from Fin.ext ew] at hb
        obtain ⟨c, hc⟩ := c
        obtain rfl | rfl | rfl | rfl : c = 0 ∨ c = 1 ∨ c = 2 ∨ c = 3 := by omega
        · rcases hw with hw | hw
          · have hw : w.val < 128 := hw
            exact move 0 0 w.val _ _ (by omega) rfl (cut A slices_S8x512x256_S8x128x64_0_0_0 h ⟨w.val, hw⟩ e (by show 0 + w.val < 512; omega) (by omega) (b0 (ix3 h ⟨w.val, hw⟩ e)))
          · have hw : 320 ≤ w.val := hw
            exact move 320 0 (w.val - 320) _ _ (by omega) rfl (cut A slices_S8x512x256_S8x192x64_0_320_0 h ⟨w.val - 320, by omega⟩ e (by show 320 + (w.val - 320) < 512; omega) (by omega) (a0 (ix3 h ⟨w.val - 320, by omega⟩ e)))
        · rcases hw with hw | hw
          · have hw : w.val < 192 := hw
            exact move 0 64 w.val _ _ (by omega) rfl (cut A slices_S8x512x256_S8x192x64_0_0_64 h ⟨w.val, hw⟩ e (by show 0 + w.val < 512; omega) (by omega) (b1 (ix3 h ⟨w.val, hw⟩ e)))
          · have hw : 384 ≤ w.val := hw
            exact move 384 64 (w.val - 384) _ _ (by omega) rfl (cut A slices_S8x512x256_S8x128x64_0_384_64 h ⟨w.val - 384, by omega⟩ e (by show 384 + (w.val - 384) < 512; omega) (by omega) (a1 (ix3 h ⟨w.val - 384, by omega⟩ e)))
        · rcases hw with hw | hw
          · have hw : w.val < 256 := hw
            exact move 0 128 w.val _ _ (by omega) rfl (cut A slices_S8x512x256_S8x256x64_0_0_128 h ⟨w.val, hw⟩ e (by show 0 + w.val < 512; omega) (by omega) (b2 (ix3 h ⟨w.val, hw⟩ e)))
          · have hw : 448 ≤ w.val := hw
            exact move 448 128 (w.val - 448) _ _ (by omega) rfl (cut A slices_S8x512x256_S8x64x64_0_448_128 h ⟨w.val - 448, by omega⟩ e (by show 448 + (w.val - 448) < 512; omega) (by omega) (a2 (ix3 h ⟨w.val - 448, by omega⟩ e)))
        · rcases hw with hw | hw
          · have hw : w.val < 320 := hw
            exact move 0 192 w.val _ _ (by omega) rfl (cut A slices_S8x512x256_S8x320x64_0_0_192 h ⟨w.val, hw⟩ e (by show 0 + w.val < 512; omega) (by omega) (b3 (ix3 h ⟨w.val, hw⟩ e)))
          · have hw : 512 ≤ w.val := hw
            exact absurd w.isLt (by omega) }

end Cert.Pre_band_tables.Hand

/-! ## The claim -/

namespace Cert.BandIdeal.Hand

open Idealize.ShloMosaic Idealize.ShloMosaic.TcCoe Idealize.SL.Sem Cert.Band
open Cert.BandIdeal Cert.BandIdeal.Gen

theorem algebraic : Cert.algebraic_BandIdeal_BandReferenceIdeal_pre_band_tables (hBandIdeal := Cert.BandIdeal.Gen.facts)
    (hBandReferenceIdeal := Cert.BandReferenceIdeal.Gen.facts) (hPre_band_tables := Cert.Pre_band_tables.Gen.facts) := by
  intro m g m' g' hpre hm
  have hM : ∀ c, Masked (args m c) := fun c => Cert.Pre_band_tables.Hand.masked (args m c) (hpre c)
  refine ⟨fun c => result m c, Cert.BandIdeal.Value.run_blocks m g |> (θ_run _ _ _).mono (fun r h c => ?_),
    Cert.BandReferenceIdeal.Value.run m' g' |> (θ_run _ _ _).mono (fun r h c => ?_)⟩
  · have q := h c
    rw [final_eq] at q
    exact q
  · obtain ⟨e0, e1, e2, e3, e4⟩ := hm c
    refine ⟨(h c).1.trans ?_, (h c).2⟩
    rw [Cert.BandReferenceIdeal.Read.val_main_v84_eq, e0, e1, e2, e3, e4]
    exact (Cert.BandReferenceIdeal.Hand.reference_eq (args m c)).trans (byTiles_eq (hM c)).symm

end Cert.BandIdeal.Hand
end
-- ==== Proof.WeightClaim.lean ====
module

public import proofs.«01_k».proof.Defs
public import proofs.«01_k».proof.Proof.Gen.WeightIdeal.Value
public import proofs.«01_k».proof.Proof.Gen.WeightReferenceIdeal.Read
public import proofs.«01_k».proof.Proof.Gen.WeightReferenceIdeal.Run
public import Idealize.ShloMosaic.Lib.Pointwise
public import Idealize.ShloMosaic.Lib.KernelVsHost
public import Idealize.ShloMosaic.Lib.Pipeline.Value

@[expose] public section

noncomputable section

namespace Cert.WeightIdeal.Hand

open Cert.WeightIdeal Cert.WeightIdeal.Gen Idealize.ShloMosaic Idealize.ShloMosaic.TcCoe Idealize.SL.Sem

/-- The first layer's combined weight with zero columns after it. -/
def wide (w : FVec Ideal S2x1024x3108 .f32) : FVec Ideal S1024x3200 .bf16 := fun i =>
  if h : (i 1).val < 3108 then w (ix3 0 (i 0) ⟨(i 1).val, h⟩) else 0

/-! ## The reference -/

theorem reference_eq (w : FVec Ideal S2x1024x3108 .f32) : Cert.WeightReferenceIdeal.Read.val_main_v3 (F := Ideal) w = wide w := by
  funext i
  obtain ⟨r, l, rfl⟩ : ∃ (r : Fin 1024) (l : Fin 3200), i = ix2 r l := ⟨_, _, eq_ix2 i⟩
  show Cert.WeightReferenceIdeal.Read.val_main_v2 (F := Ideal) w (ix2 r l) = if h : l.val < 3108 then w (ix3 0 r ⟨l.val, h⟩) else 0
  unfold Cert.WeightReferenceIdeal.Read.val_main_v2
  by_cases h : l.val < 3108
  · rw [dif_pos h]
    refine (pad_apply_of_inside _ _ _ _ _ _ _ _ (ix2 r ⟨l.val, h⟩) fun a => ?_).trans ?_
    · match a with
      | ⟨0, _⟩ => show r.val = 0 + r.val * 1; omega
      | ⟨1, _⟩ => show l.val = 0 + l.val * 1; omega
    · rw [Cert.WeightReferenceIdeal.Read.val_main_v1_apply, Cert.WeightReferenceIdeal.Read.val_main_v0_apply]
      refine congrArg w (funext fun a => Fin.ext ?_)
      match a with
      | ⟨0, _⟩ => rfl
      | ⟨1, _⟩ => show (r.val * 3108 + l.val) / 3108 % 1024 = r.val; have := r.isLt; omega
      | ⟨2, _⟩ => show (r.val * 3108 + l.val) % 3108 = l.val; omega
  · rw [dif_neg h]
    refine (pad_apply_of_not_inside _ _ _ _ _ _ _ _ (1 : Fin 2) fun hin => h ?_).trans ?_
    · have q : (l.val - 0) / 1 < 3108 := hin.2.2
      omega
    · show (((0#32 : BitVec 32).toInt : ℝ) : EReal) = 0
      simp

/-! ## The call -/

variable (m : (ℓ : Loc nD τ sig) → Buf (Elt Ideal) ℓ)

abbrev aW (c : Dev nD) : FVec Ideal S2x1024x3108 .f32 := m ((c : Thread nD τ).loc main_arg0)

theorem index0 : ∀ t : Fin cfg0.N, win0_0.index t 0 = 0 ∧ win0_0.index t 1 = t.val ∧ win0_0.index t 2 = 0 := by decide +kernel
theorem index1 : ∀ t : Fin cfg0.N, win0_1.index t 0 = t.val ∧ win0_1.index t 1 = 0 := by decide +kernel

/-- Row `r` of point `t`'s block. -/
abbrev row (t : Fin cfg0.N) (r : Fin 128) : Fin 1024 := ⟨t.val * 128 + r.val, by have := t.isLt; have : cfg0.N = 8 := N_0; omega⟩

theorem iblk0 (c : Dev nD) (t : Fin cfg0.N) (r : Fin 128) (l : Fin 3108) :
    (iblk m c 0 t : Vec Ideal S1x128x3108 .f32) (ix3 0 r l) = aW m c (ix3 0 (row t r) l) := by
  have hv : V m c main_arg0 = aW m c := V_main_arg0 m c
  rw [← hv]
  unfold iblk
  rw [View.read_apply]
  show V m c main_arg0 _ = _
  congr 1
  funext a
  apply Fin.ext
  have hi := index0 t
  match a with
  | ⟨0, _⟩ => show win0_0.index t 0 * 1 + 1 * 0 = 0; rw [hi.1]
  | ⟨1, _⟩ => show win0_0.index t 1 * 128 + 1 * r.val = t.val * 128 + r.val; rw [hi.2.1]; omega
  | ⟨2, _⟩ => show win0_0.index t 2 * 3108 + 1 * l.val = l.val; rw [hi.2.2]; omega

theorem hz3 : (![0, 0, 0] : Fin 3 → ℕ) = fun _ => 0 := by decide

theorem out_A (c : Dev nD) (i : grid0.Coords) (arg1 : Memref sig .tc .vmem S1x128x3108 .f32) (harg1 : arg1.IsWhole) (arg2 : Memref sig .tc .vmem S128x3200 .bf16) (harg2 : arg2.IsWhole)
    (x0 : Vec Ideal S1x128x3108 .f32) (r : Fin 128) (l : Fin 3200) :
    out0_A_1 c i arg1 harg1 arg2 harg2 x0 (ix2 r l) = if h : l.val < 3108 then x0 (ix3 0 r ⟨l.val, h⟩) else 0 := by
  unfold out0_A_1 kernelRun0_A
  dsimp only
  sl_unfold_words
  simp only [View.readAt_eq_ld, harg1.read_unread]
  by_cases h : l.val < 3108
  · rw [dif_pos h]
    refine (View.read_writes_cons_hit_of_coords _ _ _ _ _ (ix2 r ⟨l.val, h⟩ : Shape.Idx S128x3108) _ fun a => ?_).trans ?_
    · match a with
      | ⟨0, _⟩ => show r.val = 0 + 1 * r.val; omega
      | ⟨1, _⟩ => show l.val = 0 + 1 * l.val; omega
    · unfold k0_pay2
      rw [View.ld_unit_zero (S := S1x128x3108) hz3]
      pointwise
  · rw [dif_neg h]
    refine (View.read_writes_cons_miss_of_axis _ _ _ _ _ (1 : Fin 2) 0 3108 rfl rfl rfl (Or.inr (by show 0 + 3108 ≤ l.val; omega))).trans ?_
    refine (View.read_writes_cons_hit_of_coords _ _ _ _ _ (ix2 r l : Shape.Idx S128x3200) _ fun a => ?_).trans ?_
    · match a with
      | ⟨0, _⟩ => show r.val = 0 + 1 * r.val; omega
      | ⟨1, _⟩ => show l.val = 0 + 1 * l.val; omega
    · unfold k0_pay1
      pointwise

abbrev result (c : Dev nD) : Buf (Elt Ideal) ((c : Thread nD τ).loc main_v0) := wide (aW m c)

theorem flushed_eq (c : Dev nD) (t : Fin cfg0.N) (_ : (cfg0.win 1).flush t = true) :
    (dats m 0 c).flushed 1 t = ((cfg0.win 1).blk t).view.read (Elt Ideal) (result m c) := by
  rw [Cert.WeightIdeal.Value.flushed1_A]
  funext y
  rw [View.read_apply]
  have h0 : (y 0).val < 128 := (y 0).isLt
  have h1 : (y 1).val < 3200 := (y 1).isLt
  have hi := index1 t
  have ey : ((cfg0.win 1).blk t).view.emb y = (ix2 (row t (y 0)) (y 1) : S1024x3200.Idx) := by
    funext a
    apply Fin.ext
    match a with
    | ⟨0, _⟩ => show win0_1.index t 0 * 128 + 1 * (y 0).val = t.val * 128 + (y 0).val; rw [hi.1]; omega
    | ⟨1, _⟩ => show win0_1.index t 1 * 3200 + 1 * (y 1).val = (y 1).val; rw [hi.2]; omega
  rw [ey]
  refine Eq.trans ?_ ((out_A c (grid0.coords t) (ms0_0 t) (hs0_0 t) (ms0_1 t) (hs0_1 t) (iblk m c 0 t) (y 0) (y 1)).trans ?_)
  · show out0_A_1 _ _ _ _ _ _ _ _ = _
    congr 1
    funext a
    apply Fin.ext
    match a with
    | ⟨0, _⟩ => rfl
    | ⟨1, _⟩ => rfl
  · show _ = if h : (y 1).val < 3108 then aW m c (ix3 0 (row t (y 0)) ⟨(y 1).val, h⟩) else 0
    by_cases h : (y 1).val < 3108
    · rw [dif_pos h, dif_pos h]
      exact iblk0 m c t (y 0) ⟨(y 1).val, h⟩
    · rw [dif_neg h, dif_neg h]

theorem final_eq (c : Dev nD) : (dats m 0 c).arrAt 1 cfg0.N = result m c :=
  (dats m 0 c).arrAt_eq_of_cover 1 (result m c) (flushed_eq m c) fun i => by
    have hN : cfg0.N = 8 := N_0
    have h0 : (i 0 : Nat) < 1024 := (i 0).isLt
    have h1 : (i 1 : Nat) < 3200 := (i 1).isLt
    let t : Fin cfg0.N := ⟨(i 0).val / 128, by omega⟩
    have ht : t.val = (i 0).val / 128 := rfl
    have hi := index1 t
    refine ⟨t, flush0_1 t, ?_⟩
    show i ∈ ((View.whole main_v0).slice (win0_1.rect t)).set
    rw [View.set_slice_whole, Rect.mem_set_unit]
    intro a
    match a with
    | ⟨0, _⟩ => show win0_1.index t 0 * 128 ≤ (i 0 : Nat) ∧ (i 0 : Nat) < win0_1.index t 0 * 128 + 128
                rw [hi.1]; omega
    | ⟨1, _⟩ => show win0_1.index t 1 * 3200 ≤ (i 1 : Nat) ∧ (i 1 : Nat) < win0_1.index t 1 * 3200 + 3200
                rw [hi.2]; omega

theorem algebraic : Cert.algebraic_WeightIdeal_WeightReferenceIdeal (hWeightIdeal := Cert.WeightIdeal.Gen.facts) (hWeightReferenceIdeal := Cert.WeightReferenceIdeal.Gen.facts) := by
  intro m g m' g' _ hm
  refine ⟨fun c => result m c, Cert.WeightIdeal.Value.run_blocks m g |> (θ_run _ _ _).mono (fun r h c => ?_), Cert.WeightReferenceIdeal.Value.run m' g' |> (θ_run _ _ _).mono (fun r h c => ?_)⟩
  · have q := h c
    rw [final_eq] at q
    exact q
  · have e0 := hm c
    refine ⟨(h c).1.trans ?_, (h c).2⟩
    rw [Cert.WeightReferenceIdeal.Read.val_main_v3_eq, e0]
    exact reference_eq (aW m c)

end Cert.WeightIdeal.Hand
end
-- ==== Proof.BiasTable.lean ====
module

public import proofs.«01_k».proof.BiasIdeal

@[expose] public section

set_option maxRecDepth 100000

namespace Cert.BiasIdeal.Hand
open Cert.BiasIdeal

/-- The half bucket of a distance `n`: itself below 8, then one more for each power of `128 ^ (1 / 8)` that `n / 8` reaches. -/
def half (n : Nat) : Nat :=
  if n < 8 then n else if n < 15 then 8 else if n < 27 then 9 else if n < 50 then 10 else
  if n < 91 then 11 else if n < 166 then 12 else if n < 305 then 13 else if n < 559 then 14 else 15

/-- The bucket at place `u` of table `d`: the offset is `u` below 256 and `u - 512` from there on. -/
def bucket (d u : Nat) : Nat :=
  if u < 256 then half (256 * d + u) else if d = 0 then 16 + half (512 - u) else half (256 * d + u - 512)

/-- The entry of the one-hot table at place `i` of the row-major order. -/
def entry (i : Nat) : BitVec 32 :=
  if i % 32 = bucket (i / 16384) (i / 32 % 512) then 1065353216#32 else 0#32

/-- Whether a predicate holds of every number below `n`. -/
def allBelow (f : Nat → Bool) : Nat → Bool
  | 0 => true
  | n + 1 => f n && allBelow f n

/-- `allBelow` says what its name says. -/
theorem allBelow_get (f : Nat → Bool) : ∀ n, allBelow f n = true → ∀ i, i < n → f i = true
  | 0, _, i, hi => absurd hi (Nat.not_lt_zero i)
  | n + 1, h, i, hi => by
    rw [allBelow, Bool.and_eq_true] at h
    rcases Nat.lt_succ_iff_lt_or_eq.mp hi with h' | h'
    · exact allBelow_get f n h.2 i h'
    · rw [h']; exact h.1

/-- The printed table and `entry` agree on the 128 places from `128 * t` on. -/
noncomputable def rowOk (t : Nat) : Bool :=
  allBelow (fun r => decide (lit0t (128 * t + r) = entry (128 * t + r))) 128

/-- They agree on the 32 groups of 128 places from group `32 * g` on. -/
noncomputable def groupOk (g : Nat) : Bool := allBelow (fun t => rowOk (32 * g + t)) 32

end Cert.BiasIdeal.Hand
-- ==== Proof.BiasTableA.lean ====
module

public import proofs.«01_k».proof.Proof.BiasTable

@[expose] public section

set_option maxRecDepth 100000

namespace Cert.BiasIdeal.Hand

/-- The one-hot table agrees with `entry` on group 0 of 16, decided entry by entry. -/
theorem groupOk_0 : groupOk 0 = true := by decide +kernel

/-- The one-hot table agrees with `entry` on group 1 of 16, decided entry by entry. -/
theorem groupOk_1 : groupOk 1 = true := by decide +kernel

/-- The one-hot table agrees with `entry` on group 2 of 16, decided entry by entry. -/
theorem groupOk_2 : groupOk 2 = true := by decide +kernel

/-- The one-hot table agrees with `entry` on group 3 of 16, decided entry by entry. -/
theorem groupOk_3 : groupOk 3 = true := by decide +kernel

end Cert.BiasIdeal.Hand
-- ==== Proof.BiasTableB.lean ====
module

public import proofs.«01_k».proof.Proof.BiasTable

@[expose] public section

set_option maxRecDepth 100000

namespace Cert.BiasIdeal.Hand

/-- The one-hot table agrees with `entry` on group 4 of 16, decided entry by entry. -/
theorem groupOk_4 : groupOk 4 = true := by decide +kernel

/-- The one-hot table agrees with `entry` on group 5 of 16, decided entry by entry. -/
theorem groupOk_5 : groupOk 5 = true := by decide +kernel

/-- The one-hot table agrees with `entry` on group 6 of 16, decided entry by entry. -/
theorem groupOk_6 : groupOk 6 = true := by decide +kernel

/-- The one-hot table agrees with `entry` on group 7 of 16, decided entry by entry. -/
theorem groupOk_7 : groupOk 7 = true := by decide +kernel

end Cert.BiasIdeal.Hand
-- ==== Proof.BiasTableC.lean ====
module

public import proofs.«01_k».proof.Proof.BiasTable

@[expose] public section

set_option maxRecDepth 100000

namespace Cert.BiasIdeal.Hand

/-- The one-hot table agrees with `entry` on group 8 of 16, decided entry by entry. -/
theorem groupOk_8 : groupOk 8 = true := by decide +kernel

/-- The one-hot table agrees with `entry` on group 9 of 16, decided entry by entry. -/
theorem groupOk_9 : groupOk 9 = true := by decide +kernel

/-- The one-hot table agrees with `entry` on group 10 of 16, decided entry by entry. -/
theorem groupOk_10 : groupOk 10 = true := by decide +kernel

/-- The one-hot table agrees with `entry` on group 11 of 16, decided entry by entry. -/
theorem groupOk_11 : groupOk 11 = true := by decide +kernel

end Cert.BiasIdeal.Hand
-- ==== Proof.BiasTableD.lean ====
module

public import proofs.«01_k».proof.Proof.BiasTable

@[expose] public section

set_option maxRecDepth 100000

namespace Cert.BiasIdeal.Hand

/-- The one-hot table agrees with `entry` on group 12 of 16, decided entry by entry. -/
theorem groupOk_12 : groupOk 12 = true := by decide +kernel

/-- The one-hot table agrees with `entry` on group 13 of 16, decided entry by entry. -/
theorem groupOk_13 : groupOk 13 = true := by decide +kernel

/-- The one-hot table agrees with `entry` on group 14 of 16, decided entry by entry. -/
theorem groupOk_14 : groupOk 14 = true := by decide +kernel

/-- The one-hot table agrees with `entry` on group 15 of 16, decided entry by entry. -/
theorem groupOk_15 : groupOk 15 = true := by decide +kernel

end Cert.BiasIdeal.Hand
-- ==== Proof.BiasLog.lean ====
module

public import proofs.«01_k».proof.Proof.BiasTable
public import Mathlib.Analysis.SpecialFunctions.Log.Basic

@[expose] public section

noncomputable section

namespace Cert.BiasIdeal.Hand

/-- The rounded logarithm of 128 that the bucket function divides by. -/
def logScale : ℝ := 10175445 / 2097152

/-- Eight times the logarithm of `n / 8` to (nearly) the base 128: what the bucket function truncates. -/
def power (n : ℕ) : ℝ := Real.log ((n : ℝ) / 8) / logScale * 8

/-- The divisor is positive. -/
theorem logScale_pos : 0 < logScale := by unfold logScale; norm_num

/-- A lower bound of the logarithm of 2. -/
theorem lt_log_two : (6931470 : ℝ) / 10000000 < Real.log 2 := by
  rw [Real.lt_log_iff_exp_lt (by norm_num)]
  refine lt_of_le_of_lt (Real.exp_bound' (x := (6931470 : ℝ) / 10000000) (by norm_num) (by norm_num) (n := 12) (by norm_num)) ?_
  simp only [Finset.sum_range_succ, Finset.sum_range_zero, Nat.factorial]
  norm_num

/-- An upper bound of the logarithm of 2. -/
theorem log_two_lt : Real.log 2 < (6931473 : ℝ) / 10000000 := by
  rw [Real.log_lt_iff_lt_exp (by norm_num)]
  refine lt_of_lt_of_le ?_ (Real.sum_le_exp_of_nonneg (x := (6931473 : ℝ) / 10000000) (by norm_num) 12)
  simp only [Finset.sum_range_succ, Finset.sum_range_zero, Nat.factorial]
  norm_num

/-- The divisor is at most a little above the logarithm of 128. -/
theorem logScale_lt : logScale < 7 * Real.log 2 + 2 / 1000000 := by
  have := lt_log_two
  unfold logScale
  linarith

/-- The divisor is at least a little below the logarithm of 128. -/
theorem lt_logScale : 7 * Real.log 2 - 2 / 1000000 < logScale := by
  have := log_two_lt
  unfold logScale
  linarith

/-- A ratio of 10001 to 10000 moves the logarithm by more than the error of the divisor. -/
theorem log_margin : (9 : ℝ) / 100000 < Real.log (10001 / 10000) := by
  have h := Real.one_sub_inv_le_log_of_pos (x := (10001 : ℝ) / 10000) (by norm_num)
  have e : (9 : ℝ) / 100000 < 1 - ((10001 : ℝ) / 10000)⁻¹ := by norm_num
  linarith

/-- The logarithm of a power of 128. -/
theorem log_pow_128 (k : ℕ) : Real.log ((128 : ℝ) ^ k) = k * (7 * Real.log 2) := by
  rw [Real.log_pow, show (128 : ℝ) = 2 ^ 7 by norm_num, Real.log_pow]
  norm_num

/-- The power as one logarithm. -/
theorem power_eq (n : ℕ) : power n = Real.log (((n : ℝ) / 8) ^ 8) / logScale := by
  unfold power
  rw [Real.log_pow]
  push_cast
  ring

/-- A distance whose eighth power passes `128 ^ k` by the margin has a power of at least `k`. -/
theorem le_power (k T n : ℕ) (hk : k ≤ 10) (hT : (128 : ℝ) ^ k * (10001 / 10000) ≤ ((T : ℝ) / 8) ^ 8) (hn : T ≤ n) :
    (k : ℝ) ≤ power n := by
  have hTn : ((T : ℝ) / 8) ^ 8 ≤ ((n : ℝ) / 8) ^ 8 := by
    have : (T : ℝ) ≤ n := by exact_mod_cast hn
    gcongr
  have hlog := Real.log_le_log (by positivity) (hT.trans hTn)
  rw [Real.log_mul (by positivity) (by norm_num), log_pow_128] at hlog
  rw [power_eq, le_div_iff₀ logScale_pos]
  have hk' : (k : ℝ) ≤ 10 := by exact_mod_cast hk
  have h0 : (0 : ℝ) ≤ k := Nat.cast_nonneg k
  have := logScale_lt
  have := log_margin
  nlinarith

/-- A distance whose eighth power stays below `128 ^ k` by the margin has a power below `k`. -/
theorem power_lt (k T n : ℕ) (hk : k ≤ 10) (hT : ((T : ℝ) / 8) ^ 8 * (10001 / 10000) ≤ (128 : ℝ) ^ k) (h0 : 0 < n) (hn : n ≤ T) :
    power n < k := by
  have hTn : ((n : ℝ) / 8) ^ 8 ≤ ((T : ℝ) / 8) ^ 8 := by
    have : (n : ℝ) ≤ T := by exact_mod_cast hn
    gcongr
  have hn' : (0 : ℝ) < n := by exact_mod_cast h0
  have hlog := Real.log_le_log (by positivity) ((mul_le_mul_of_nonneg_right hTn (by norm_num)).trans hT)
  rw [Real.log_mul (by positivity) (by norm_num), log_pow_128] at hlog
  rw [power_eq, div_lt_iff₀ logScale_pos]
  have hk' : (k : ℝ) ≤ 10 := by exact_mod_cast hk
  have h0 : (0 : ℝ) ≤ k := Nat.cast_nonneg k
  have := lt_logScale
  have := log_margin
  nlinarith

/-- From 8 on the power is not negative. -/
theorem power_nonneg (n : ℕ) (hn : 8 ≤ n) : 0 ≤ power n := by
  have h : (1 : ℝ) ≤ (n : ℝ) / 8 := by
    have : (8 : ℝ) ≤ n := by exact_mod_cast hn
    linarith
  have := Real.log_nonneg h
  have := logScale_pos
  unfold power
  positivity

/-- For every distance from 8 to 1023 the truncated power, plus 8 and cut off at 15, is the half bucket. -/
theorem floor_power (n : ℕ) (h8 : 8 ≤ n) (hn : n < 1024) :
    ∃ z : ℕ, z < 10 ∧ ⌊power n⌋ = (z : ℤ) ∧ min (8 + z) 15 = half n := by
  have key : ∀ z : ℕ, (z : ℝ) ≤ power n → power n < ((z + 1 : ℕ) : ℝ) → ⌊power n⌋ = (z : ℤ) := fun z hl hu => by
    rw [Int.floor_eq_iff]
    push_cast at hu ⊢
    exact ⟨hl, hu⟩
  have hz := power_nonneg n h8
  by_cases h1 : n < 15
  · exact ⟨0, by omega, key 0 (by exact_mod_cast hz) (power_lt 1 14 n (by omega) (by norm_num) (by omega) (by omega)),
      by simp only [half]; split_ifs <;> omega⟩
  by_cases h2 : n < 27
  · exact ⟨1, by omega, key 1 (le_power 1 15 n (by omega) (by norm_num) (by omega)) (power_lt 2 26 n (by omega) (by norm_num) (by omega) (by omega)),
      by simp only [half]; split_ifs <;> omega⟩
  by_cases h3 : n < 50
  · exact ⟨2, by omega, key 2 (le_power 2 27 n (by omega) (by norm_num) (by omega)) (power_lt 3 49 n (by omega) (by norm_num) (by omega) (by omega)),
      by simp only [half]; split_ifs <;> omega⟩
  by_cases h4 : n < 91
  · exact ⟨3, by omega, key 3 (le_power 3 50 n (by omega) (by norm_num) (by omega)) (power_lt 4 90 n (by omega) (by norm_num) (by omega) (by omega)),
      by simp only [half]; split_ifs <;> omega⟩
  by_cases h5 : n < 166
  · exact ⟨4, by omega, key 4 (le_power 4 91 n (by omega) (by norm_num) (by omega)) (power_lt 5 165 n (by omega) (by norm_num) (by omega) (by omega)),
      by simp only [half]; split_ifs <;> omega⟩
  by_cases h6 : n < 305
  · exact ⟨5, by omega, key 5 (le_power 5 166 n (by omega) (by norm_num) (by omega)) (power_lt 6 304 n (by omega) (by norm_num) (by omega) (by omega)),
      by simp only [half]; split_ifs <;> omega⟩
  by_cases h7 : n < 559
  · exact ⟨6, by omega, key 6 (le_power 6 305 n (by omega) (by norm_num) (by omega)) (power_lt 7 558 n (by omega) (by norm_num) (by omega) (by omega)),
      by simp only [half]; split_ifs <;> omega⟩
  · have hl := le_power 7 559 n (by omega) (by norm_num) (by omega)
    have hu := power_lt 9 1023 n (by omega) (by norm_num) (by omega) (by omega)
    by_cases h8' : power n < 8
    · exact ⟨7, by omega, key 7 hl (by exact_mod_cast h8'), by simp only [half]; split_ifs <;> omega⟩
    · exact ⟨8, by omega, key 8 (by push_cast; linarith) (by exact_mod_cast hu), by simp only [half]; split_ifs <;> omega⟩

end Cert.BiasIdeal.Hand

end
-- ==== Proof.BiasReference.lean ====
module

public import proofs.«01_k».proof.Proof.BiasLog
public import proofs.«01_k».proof.Proof.Gen.BiasReferenceIdeal.Read
public import Idealize.ShloMosaic.Lib.ValueIdx
public import Idealize.ShloMosaic.PureOps.Ideal

@[expose] public section

set_option maxRecDepth 100000

noncomputable section

namespace Cert.BiasReferenceIdeal.Hand

open Cert.BiasReferenceIdeal Cert.BiasReferenceIdeal.Gen Cert.BiasReferenceIdeal.Read Idealize.ShloMosaic Idealize.SL.Sem Idealize.ShloMosaic.ValueIdx
open Cert.BiasIdeal.Hand (half bucket power floor_power logScale logScale_pos)

/-! ## Words that hold small numbers -/

/-- The words of the distances below 1024, decided one by one. -/
theorem word_facts : ∀ n : Fin 1024,
    IntOp.absi (BitVec.ofNat 32 n.val) = BitVec.ofNat 32 n.val
    ∧ IntOp.absi (-(BitVec.ofNat 32 n.val)) = BitVec.ofNat 32 n.val
    ∧ IntOp.maxsi (BitVec.ofNat 32 n.val) 1#32 = BitVec.ofNat 32 (max n.val 1)
    ∧ IntOp.cmpi .sgt (-(BitVec.ofNat 32 n.val)) 0#32 = 0#1
    ∧ (0 < n.val → IntOp.cmpi .sgt (BitVec.ofNat 32 n.val) 0#32 = 1#1)
    ∧ IntOp.cmpi .slt (BitVec.ofNat 32 n.val) 8#32 = (if n.val < 8 then 1#1 else 0#1)
    ∧ (BitVec.ofNat 32 n.val).toInt = (n.val : ℤ) := by decide +kernel

/-- The largest half bucket, decided on the words that the truncation can give. -/
theorem cut_facts : ∀ z : Fin 10,
    IntOp.minsi (IntOp.addi 8#32 (BitVec.ofInt 32 (z.val : ℤ))) 15#32 = BitVec.ofNat 32 (min (8 + z.val) 15) := by decide +kernel

/-- Half buckets added to 16 do not wrap. -/
theorem wrap_facts : ∀ b : Fin 16,
    IntOp.addi 0#32 (BitVec.ofNat 32 b.val) = BitVec.ofNat 32 b.val
    ∧ IntOp.addi 16#32 (BitVec.ofNat 32 b.val) = BitVec.ofNat 32 (16 + b.val) := by decide +kernel

/-- No bucket is negative as a word. -/
theorem sign_facts : ∀ b : Fin 32,
    IntOp.cmpi .slt (BitVec.ofNat 32 b.val) 0#32 = 0#1 ∧ (BitVec.ofNat 32 b.val).toInt = (b.val : ℤ) := by decide +kernel

/-- A half bucket is below 16. -/
theorem half_lt (n : ℕ) : half n < 16 := by simp only [half]; split_ifs <;> omega

/-! ## The bucket of a distance -/

/-- The literal 8. -/
theorem eight : FloatOps.ofBits (F := Ideal) .f32 0x41000000#32 = ((8 : ℝ) : EReal) := by
  show Ideal.ofBits .f32 0x41000000#32 = _
  simp [Ideal.ofBits, Ideal.ieee, -EReal.coe_mul]; norm_num

/-- The literal that the logarithm is divided by. -/
theorem scale : FloatOps.ofBits (F := Ideal) .f32 0x409B43D5#32 = ((logScale : ℝ) : EReal) := by
  show Ideal.ofBits .f32 0x409B43D5#32 = _
  unfold logScale
  simp [Ideal.ofBits, Ideal.ieee, -EReal.coe_mul]; norm_num

/-- The reference's truncated power of a distance `n` of at least 1. -/
theorem power_value (n : ℕ) (hn : 0 < n) :
    (FloatOps.mulf (φ := .f32) (FloatOps.hostDivf (FloatOps.hostUnary .log (FloatOps.hostDivf (((n : ℝ) : EReal) : Ideal .f32) (FloatOps.ofBits .f32 0x41000000#32)))
      (FloatOps.ofBits .f32 0x409B43D5#32)) (FloatOps.ofBits .f32 0x41000000#32) : Ideal .f32) = ((power n : ℝ) : EReal) := by
  rw [eight, scale]
  show Ideal.div (Ideal.log (Ideal.div ((n : ℝ) : EReal) ((8 : ℝ) : EReal))) ((logScale : ℝ) : EReal) * ((8 : ℝ) : EReal) = _
  have hn' : (0 : ℝ) < n := by exact_mod_cast hn
  rw [Ideal.div_coe (by norm_num : (8 : ℝ) ≠ 0), ← EReal.coe_mul, Ideal.log_coe, if_neg (by push Not; positivity),
    Ideal.div_coe logScale_pos.ne', ← EReal.coe_mul, ← EReal.coe_mul]
  unfold power
  congr 1
  rw [mul_one_div, mul_one_div]

/-- The word that the reference computes of a distance `n` below 1024. -/
theorem half_word (n : ℕ) (h8 : 8 ≤ n) (hn : n < 1024) :
    IntOp.minsi (IntOp.addi 8#32 (FloatOps.fptosi (F := Ideal) (φ := .f32) 32 (((power n : ℝ) : EReal)))) 15#32 = BitVec.ofNat 32 (half n) := by
  obtain ⟨z, hz, hf, hh⟩ := floor_power n h8 hn
  have e : FloatOps.fptosi (F := Ideal) (φ := .f32) 32 (((power n : ℝ) : EReal)) = BitVec.ofInt 32 (z : ℤ) := by
    show Ideal.fptosi 32 ((power n : ℝ) : EReal) = _
    unfold Ideal.fptosi
    rw [Ideal.toIntClamped_coe, if_pos (Cert.BiasIdeal.Hand.power_nonneg n h8), hf]
    congr 1
    norm_num
    omega
  rw [e, cut_facts ⟨z, hz⟩, hh]

/-- The relative position as a word: the distance, or its negative. -/
theorem rel_word (d k q : ℕ) (hd : d < 4) (hk : k < 256) (hq : q < 256) :
    IntOp.subi (IntOp.subi (BitVec.ofNat 32 k) (IntOp.muli (BitVec.ofNat 32 256) (BitVec.ofNat 32 d))) (BitVec.ofNat 32 q)
      = if k ≤ q + 256 * d then -(BitVec.ofNat 32 (q + 256 * d - k)) else BitVec.ofNat 32 (k - 256 * d - q) := by
  show (BitVec.ofNat 32 k - BitVec.ofNat 32 256 * BitVec.ofNat 32 d) - BitVec.ofNat 32 q = _
  split_ifs with h
  · apply BitVec.eq_of_toNat_eq
    simp only [BitVec.toNat_sub, BitVec.toNat_neg, BitVec.toNat_mul, BitVec.toNat_ofNat]
    omega
  · apply BitVec.eq_of_toNat_eq
    simp only [BitVec.toNat_sub, BitVec.toNat_neg, BitVec.toNat_mul, BitVec.toNat_ofNat]
    omega

/-- The relative position of key `k` and query `q` of tile `d`. -/
theorem v13_eq (d : Fin 4) (k q : Fin 256) : val_main_v13 (F := Ideal) (ix3 d k q)
    = if k.val ≤ q.val + 256 * d.val then -(BitVec.ofNat 32 (q.val + 256 * d.val - k.val)) else BitVec.ofNat 32 (k.val - 256 * d.val - q.val) := by
  rw [← rel_word d.val k.val q.val d.isLt k.isLt q.isLt, val_main_v13_apply, val_main_v11_apply, val_main_v10_apply, val_main_v8_apply,
    val_main_v1_apply, val_main_v0_apply, val_main_v9_apply, val_main_v7_apply, val_main_v6_apply, val_main_c_apply, val_main_v5_apply,
    val_main_v4_apply, val_main_v12_apply, val_main_v3_apply, val_main_v2_apply]

/-- The half bucket of the distance, as the reference computes it. -/
theorem v35_eq (i : S4x256x256.Idx) (n : ℕ) (hn : n < 1024) (h : val_main_v14 (F := Ideal) i = BitVec.ofNat 32 n) :
    val_main_v35 (F := Ideal) i = BitVec.ofNat 32 (half n) := by
  obtain ⟨-, -, hmax, -, -, hlt, -⟩ := word_facts ⟨n, hn⟩
  dsimp only at hmax hlt
  rw [val_main_v35_apply, val_main_v34_apply, val_main_v33_apply, val_main_c_8_apply, h, hlt]
  by_cases h8 : n < 8
  · rw [if_pos h8]
    have : half n = n := by simp only [half]; rw [if_pos h8]
    rw [this]
    rfl
  · rw [if_neg h8]
    show val_main_v29 (F := Ideal) i = _
    rw [← half_word n (by omega) hn, val_main_v29_apply, val_main_v27_apply, val_main_v26_apply, val_main_c_3_apply, val_main_v28_apply,
      val_main_c_4_apply, val_main_v25_apply, val_main_v24_apply, val_main_v22_apply, val_main_v20_apply, val_main_v19_apply,
      val_main_v17_apply, val_main_v16_apply, h, val_main_v15_apply, val_main_c_0_apply, hmax, val_main_v18_apply, val_main_cst_apply,
      val_main_v21_apply, val_main_cst_1_apply, val_main_v23_apply, val_main_cst_2_apply, ← power_value n (by omega)]
    have hmx : max n 1 = n := by omega
    rw [hmx]
    have e : FloatOps.sitofp (F := Ideal) .f32 (BitVec.ofNat 32 n) = (((n : ℝ) : EReal) : Ideal .f32) := by
      show (((BitVec.ofNat 32 n).toInt : ℝ) : EReal) = _
      rw [(word_facts ⟨n, hn⟩).2.2.2.2.2.2]
      norm_num
    rw [e]

/-- The bucket of a key `k`, a query `q` and a tile `d`, as the kernel's table has it. -/
abbrev bucketAt (d k q : ℕ) : ℕ := bucket d ((q + 512 - k) % 512)

/-- A bucket is below 32. -/
theorem bucketAt_lt (d k q : ℕ) : bucketAt d k q < 32 := by
  have h1 := half_lt (256 * d + (q + 512 - k) % 512)
  have h2 := half_lt (512 - (q + 512 - k) % 512)
  have h3 := half_lt (256 * d + (q + 512 - k) % 512 - 512)
  simp only [bucketAt, bucket]
  split_ifs <;> omega

/-- The bucket that the reference computes. -/
theorem v42_eq (d : Fin 4) (k q : Fin 256) : val_main_v42 (F := Ideal) (ix3 d k q) = BitVec.ofNat 32 (bucketAt d.val k.val q.val) := by
  have hd := d.isLt
  have hk := k.isLt
  have hq := q.isLt
  have h37 : val_main_v37 (F := Ideal) (ix3 d k q) = BitVec.ofNat 32 (bucketAt d.val k.val q.val) := by
    rw [val_main_v37_apply, val_main_v36_apply, val_main_v32_apply, val_main_v31_apply, val_main_v30_apply, val_main_c_5_apply,
      val_main_call0_v0_apply, val_main_call0_v1_apply, val_main_c_6_apply, val_main_c_7_apply]
    by_cases h : k.val ≤ q.val + 256 * d.val
    · obtain ⟨-, habs, -, hs, -⟩ := word_facts ⟨q.val + 256 * d.val - k.val, by omega⟩
      have h13 := v13_eq d k q
      rw [if_pos h] at h13
      rw [v35_eq _ (q.val + 256 * d.val - k.val) (by omega) (by rw [val_main_v14_apply, h13]; exact habs), h13, hs]
      refine ((wrap_facts ⟨half _, half_lt _⟩).1).trans (congrArg _ ?_)
      simp only [bucketAt, bucket]
      by_cases hkq : k.val ≤ q.val
      · rw [if_pos (by omega)]; congr 1; omega
      · rw [if_neg (by omega), if_neg (by omega)]; congr 1; omega
    · obtain ⟨habs, -, -, -, hs, -⟩ := word_facts ⟨k.val - 256 * d.val - q.val, by omega⟩
      have h13 := v13_eq d k q
      rw [if_neg h] at h13
      rw [v35_eq _ (k.val - 256 * d.val - q.val) (by omega) (by rw [val_main_v14_apply, h13]; exact habs), h13, hs (by show 0 < k.val - 256 * d.val - q.val; omega)]
      refine ((wrap_facts ⟨half _, half_lt _⟩).2).trans (congrArg _ ?_)
      simp only [bucketAt, bucket]
      rw [if_neg (by omega), if_pos (by omega)]
      congr 2
      omega
  rw [val_main_v42_apply, val_main_v39_apply, val_main_v38_apply, val_main_c_9_apply, h37, (sign_facts ⟨_, bucketAt_lt d.val k.val q.val⟩).1]
  rfl

/-! ## The reference's result -/

/-- The tiles of the bias: at head `h`, tile `d`, key `k` and query `q` the embedding's entry at their bucket. -/
def tiles (x : FVec Ideal S32x20 .f32) : FVec Ideal S20x4x256x256 .f32 := fun i =>
  x (ix2 ⟨bucketAt (i 1).val (i 2).val (i 3).val, bucketAt_lt _ _ _⟩ (i 0))

/-- The lookup reads the row that its index names, cut off at 31. -/
theorem gather_eq (x : FVec Ideal S32x20 .f32) (idx : IVec S4x256x256x1 32) (d : Fin 4) (k q : Fin 256) (h : Fin 20) :
    Host.gather gather_S32x20_S4x256x256x1_S4x256x256x20_3_0_n_n_0_3_120 x idx (ix4 d k q h)
      = x (ix2 ⟨min (idx (ix4 d k q 0)).toInt.toNat 31, by omega⟩ h) := by
  unfold Host.gather
  congr 1
  funext a
  refine Fin.ext ?_
  let D := gather_S32x20_S4x256x256x1_S4x256x256x20_3_0_n_n_0_3_120
  show D.start (ix4 d k q h) idx a + D.batchCoord (ix4 d k q h) a + D.offCoord (ix4 d k q h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun hm => ((GatherDims.mem_sKept _ _).mp hm).1 (List.mem_singleton.mpr rfl))]
    simp only [Nat.add_zero]
    unfold GatherDims.start
    rw [dif_pos (show (0 : Fin 2) ∈ D.startIndexMap from List.mem_singleton.mpr rfl)]
    have hsi : D.siIdx (ix4 d k q h) ⟨List.idxOf (0 : Fin 2) D.startIndexMap,
        List.idxOf_lt_length_iff.2 (List.mem_singleton.mpr rfl)⟩ = ix4 d k q 0 := by
      funext b; refine Fin.ext ?_
      match b with
      | ⟨0, _⟩ => rfl
      | ⟨1, _⟩ => rfl
      | ⟨2, _⟩ => rfl
      | ⟨3, _⟩ => rfl
    rw [hsi]
    rfl
  · have hs : D.start (ix4 d k q h) idx 1 = 0 := by
      unfold GatherDims.start
      rw [dif_neg (show ¬ (1 : Fin 2) ∈ D.startIndexMap by decide)]
    rw [hs]
    unfold GatherDims.offCoord
    rw [dif_pos (show (1 : Fin 2) ∈ D.sKept by decide)]
    simp only [Nat.zero_add]
    rfl

/-- The array of indices that the lookup reads. -/
theorem v43_eq (d : Fin 4) (k q : Fin 256) : val_main_v43 (F := Ideal) (ix4 d k q 0) = BitVec.ofNat 32 (bucketAt d.val k.val q.val) := by
  rw [val_main_v43_apply]
  refine Eq.trans (congrArg (val_main_v42 (F := Ideal)) (funext fun a => ?_)) (v42_eq d k q)
  match a with
  | ⟨0, _⟩ => rfl
  | ⟨1, _⟩ => rfl
  | ⟨2, _⟩ => rfl

/-- The rows of the embedding that the lookup reads. -/
theorem v44_eq (x : FVec Ideal S32x20 .f32) (d : Fin 4) (k q : Fin 256) (h : Fin 20) :
    val_main_v44 (F := Ideal) x (ix4 d k q h) = x (ix2 ⟨bucketAt d.val k.val q.val, bucketAt_lt _ _ _⟩ h) := by
  unfold val_main_v44
  generalize hi : val_main_v43 (F := Ideal) = idx
  rw [gather_eq]
  refine congrArg x (congrArg (fun r => ix2 r h) (Fin.ext ?_))
  have e : idx (ix4 d k q 0) = BitVec.ofNat 32 (bucketAt d.val k.val q.val) := by rw [← hi]; exact v43_eq d k q
  have hlt := bucketAt_lt d.val k.val q.val
  have e2 := (sign_facts ⟨_, hlt⟩).2
  show min (idx (ix4 d k q 0)).toInt.toNat 31 = bucketAt d.val k.val q.val
  rw [e, e2]
  dsimp only
  rw [Int.toNat_natCast]
  omega

/-- The reference computes the tiles. -/
theorem reference_eq (x : FVec Ideal S32x20 .f32) : val_main_v45 (F := Ideal) x = tiles x := by
  funext i
  rw [val_main_v45_apply]
  refine Eq.trans (congrArg (val_main_v44 (F := Ideal) x) (funext fun a => ?_)) (v44_eq x (i 1) (i 2) (i 3) (i 0))
  match a with
  | ⟨0, _⟩ => rfl
  | ⟨1, _⟩ => rfl
  | ⟨2, _⟩ => rfl
  | ⟨3, _⟩ => rfl

end Cert.BiasReferenceIdeal.Hand

end
-- ==== Proof.BiasHost.lean ====
module

public import proofs.«01_k».proof.Proof.BiasTableA
public import proofs.«01_k».proof.Proof.BiasTableB
public import proofs.«01_k».proof.Proof.BiasTableC
public import proofs.«01_k».proof.Proof.BiasTableD
public import proofs.«01_k».proof.Proof.BiasReference
public import proofs.«01_k».proof.Proof.Gen.BiasIdeal.Value
public import Idealize.ShloMosaic.Lib.Pointwise
public import Idealize.ShloMosaic.Lib.KernelVsHost
public import Idealize.ShloMosaic.Lib.StackMember
public import Idealize.ShloMosaic.Lib.Pipeline.Value

@[expose] public section

set_option maxRecDepth 100000

noncomputable section

namespace Cert.BiasIdeal.Hand

open Cert.BiasIdeal Cert.BiasIdeal.Gen Idealize.ShloMosaic Idealize.ShloMosaic.TcCoe Idealize.SL.Sem
open Idealize.ShloMosaic.ValueIdx (contrEquiv1 contrEquiv1_symm_val)
open Cert.BiasReferenceIdeal.Hand (half_lt bucketAt bucketAt_lt tiles)

/-! ## The one-hot table -/

/-- The printed table and `entry` agree on every group. -/
theorem groups : ∀ g : ℕ, g < 16 → groupOk g = true
  | 0, _ => groupOk_0
  | 1, _ => groupOk_1
  | 2, _ => groupOk_2
  | 3, _ => groupOk_3
  | 4, _ => groupOk_4
  | 5, _ => groupOk_5
  | 6, _ => groupOk_6
  | 7, _ => groupOk_7
  | 8, _ => groupOk_8
  | 9, _ => groupOk_9
  | 10, _ => groupOk_10
  | 11, _ => groupOk_11
  | 12, _ => groupOk_12
  | 13, _ => groupOk_13
  | 14, _ => groupOk_14
  | 15, _ => groupOk_15
  | n + 16, h => absurd h (by omega)

/-- Every place of the printed table holds `entry`. -/
theorem table_eq (i : Fin 65536) : lit0 i = entry i.val := by
  show lit0t i.val = entry i.val
  have hi := i.isLt
  have h1 := allBelow_get _ 32 (groups (i.val / 4096) (by omega)) (i.val / 128 % 32) (by omega)
  have h2 := allBelow_get _ 128 h1 (i.val % 128) (by omega)
  have h3 := of_decide_eq_true h2
  have e : 128 * (32 * (i.val / 4096) + i.val / 128 % 32) + i.val % 128 = i.val := by omega
  rw [e] at h3
  exact h3

/-- The literal 1. -/
theorem one : FloatOps.ofBits (F := Ideal) .f32 1065353216#32 = ((1 : EReal) : Ideal .f32) := by
  show Ideal.ofBits .f32 1065353216#32 = _
  simp [Ideal.ofBits, Ideal.ieee, -EReal.coe_mul]; norm_num

/-- The literal 0. -/
theorem zero : FloatOps.ofBits (F := Ideal) .f32 0#32 = ((0 : EReal) : Ideal .f32) := by
  show Ideal.ofBits .f32 0x00000000#32 = _
  exact Ideal.ofBits_zero_f32

/-- The one-hot table: one at the bucket of table `d`'s place `u`, zero at the other buckets. -/
abbrev hot : FVec Ideal S4x512x32 .f32 := fun i => FloatOps.ofBits .f32 (lit0 (S4x512x32.rowMajor i))

/-- The one-hot table at a table, a place and a bucket. -/
theorem hot_eq (d : Fin 4) (u : Fin 512) (b : Fin 32) : hot (ix3 d u b) = if b.val = bucket d.val u.val then (1 : EReal) else 0 := by
  show FloatOps.ofBits (F := Ideal) .f32 (lit0 (S4x512x32.rowMajor (ix3 d u b))) = _
  have hd := d.isLt
  have hu := u.isLt
  have hb := b.isLt
  have hv : (S4x512x32.rowMajor (ix3 d u b)).val = (d.val * 512 + u.val) * 32 + b.val := by
    rw [Shape.rowMajor_val_three]
    rfl
  have ht : lit0 (S4x512x32.rowMajor (ix3 d u b)) = entry ((d.val * 512 + u.val) * 32 + b.val) := (table_eq _).trans (congrArg entry hv)
  refine (congrArg (fun w => FloatOps.ofBits (F := Ideal) .f32 w) ht).trans ?_
  unfold entry
  have e1 : ((d.val * 512 + u.val) * 32 + b.val) % 32 = b.val := by omega
  have e2 : ((d.val * 512 + u.val) * 32 + b.val) / 16384 = d.val := by omega
  have e3 : ((d.val * 512 + u.val) * 32 + b.val) / 32 % 512 = u.val := by omega
  rw [e1, e2, e3]
  by_cases h : b.val = bucket d.val u.val
  · rw [if_pos h, if_pos h]; exact one
  · rw [if_neg h, if_neg h]; exact zero

/-- A bucket is below 32. -/
theorem bucket_lt (d u : ℕ) : bucket d u < 32 := by
  have h1 := half_lt (256 * d + u)
  have h2 := half_lt (512 - u)
  have h3 := half_lt (256 * d + u - 512)
  simp only [bucket]
  split_ifs <;> omega

/-! ## The host's product -/

variable (m : (ℓ : Loc nD τ sig) → Buf (Elt Ideal) ℓ)

/-- The embedding, as the call before the product has it. -/
abbrev aX (c : Dev nD) : FVec Ideal S32x20 .f32 := m ((c : Thread nD τ).loc main_arg0)

/-- The call's operand is the product of the embedding and the one-hot table. -/
theorem V_v0 (c : Dev nD) : V m c main_v0 = Host.dotGeneral dot_S32x20_S4x512x32_S20x4x512_0_2_1_01_n_n (some .fp32) (aX m c) hot := by
  unfold V hostOps0
  after_results
  rfl

/-- A product with a one-hot table is a lookup. -/
theorem dot_eq (x : FVec Ideal S32x20 .f32) (h : Fin 20) (d : Fin 4) (u : Fin 512) :
    Host.dotGeneral dot_S32x20_S4x512x32_S20x4x512_0_2_1_01_n_n (some .fp32) x hot (ix3 h d u)
      = x (ix2 ⟨bucket d.val u.val, bucket_lt _ _⟩ h) := by
  let D := dot_S32x20_S4x512x32_S20x4x512_0_2_1_01_n_n
  show FloatOps.dotGeneral D _ _ x hot (ix3 h d u) = _
  rw [Ideal.dotGeneral_apply, ← Equiv.sum_comp (contrEquiv1 D 32 rfl rfl).symm]
  have step : ∀ b : Fin 32, x (D.lhsIdx (ix3 h d u) ((contrEquiv1 D 32 rfl rfl).symm b)) * hot (D.rhsIdx (ix3 h d u) ((contrEquiv1 D 32 rfl rfl).symm b))
      = if b = (⟨bucket d.val u.val, bucket_lt _ _⟩ : Fin 32) then x (ix2 b h) else 0 := fun b => by
    have c2 := contrEquiv1_symm_val D 32 rfl rfl b
    have el : D.lhsIdx (ix3 h d u) ((contrEquiv1 D 32 rfl rfl).symm b) = ix2 b h := by
      funext a; apply Fin.ext
      match a with
      | ⟨0, _⟩ => exact c2
      | ⟨1, _⟩ => rfl
    have er : D.rhsIdx (ix3 h d u) ((contrEquiv1 D 32 rfl rfl).symm b) = ix3 d u b := by
      funext a; apply Fin.ext
      match a with
      | ⟨0, _⟩ => rfl
      | ⟨1, _⟩ => rfl
      | ⟨2, _⟩ => exact c2
    rw [el, er, hot_eq]
    by_cases hb : b.val = bucket d.val u.val
    · rw [if_pos hb, if_pos (Fin.ext hb)]; exact mul_one _
    · rw [if_neg hb, if_neg (fun e => hb (congrArg Fin.val e))]; exact mul_zero _
  rw [Finset.sum_congr rfl fun b _ => step b, Finset.sum_ite_eq' Finset.univ _ _, if_pos (Finset.mem_univ _)]

end Cert.BiasIdeal.Hand

end
-- ==== Proof.BiasClaim.lean ====
module

public import proofs.«01_k».proof.Defs
public import proofs.«01_k».proof.Proof.BiasHost
public import proofs.«01_k».proof.Proof.Gen.BiasReferenceIdeal.Run

@[expose] public section

set_option maxRecDepth 100000

noncomputable section

namespace Cert.BiasIdeal.Hand

open Cert.BiasIdeal Cert.BiasIdeal.Gen Idealize.ShloMosaic Idealize.ShloMosaic.TcCoe Idealize.SL.Sem
open Cert.BiasReferenceIdeal.Hand (half_lt bucketAt bucketAt_lt tiles)

/-! ## The body -/

/-- Three zeros, as a constant function. -/
theorem hz3 : (![0, 0, 0] : Fin 3 → ℕ) = fun _ => 0 := by decide

/-- The place in the table's 512 that key `k` and query `q` read. -/
abbrev place (k q : Fin 256) : Fin 512 := ⟨(q.val + 512 - k.val) % 512, by omega⟩

/-- The rolled rows: row `k` is the operand's row `k` rolled by `k` places. -/
theorem rolled (x : FVec Ideal S256x512 .f32) (k q : Fin 256) :
    dynamicRotate 1 0#32 (some (1, 0)) x rotates_S256x512_d1s1a0 (ix2 k ⟨q.val, by omega⟩) = x (ix2 k (place k q)) := by
  unfold dynamicRotate
  refine congrArg x (funext fun b => ?_)
  have hk := k.isLt
  have hq := q.isLt
  match b with
  | ⟨0, _⟩ => rfl
  | ⟨1, _⟩ =>
    refine Fin.ext ?_
    show (q.val + 512 - ((0#32 : BitVec 32).toNat + 1 * k.val) % 512) % 512 = (q.val + 512 - k.val) % 512
    have e : (0#32 : BitVec 32).toNat = 0 := rfl
    rw [e]
    congr 1
    omega

/-- One tile from row `dd` of the block: the row broadcast down 256 rows, rolled, and cut to 256 columns. -/
theorem tile (o : Fin 2 → ℕ) (hs : S4x512.Slices o S1x512) (dd : Fin 4) (h0 : o 0 = dd.val) (h1 : o 1 = 0) (v : FVec Ideal S4x512 .f32) (k q : Fin 256) :
    extractStridedSlice S256x256 ![0, 0] (dynamicRotate 1 0#32 (some (1, 0)) (broadcastTo S256x512 (shapeCast S1x512 (extractStridedSlice S1x512 o v hs) shapeCasts_S1x512_S1x512)
      broadcasts_S1x512_S256x512) rotates_S256x512_d1s1a0) slices_S256x512_o0_0_S256x256 (ix2 k q) = v (ix2 dd (place k q)) := by
  generalize hr : broadcastTo S256x512 (shapeCast S1x512 (extractStridedSlice S1x512 o v hs) shapeCasts_S1x512_S1x512) broadcasts_S1x512_S256x512 = r
  have hrow : r (ix2 k (place k q)) = v (ix2 dd (place k q)) := by
    rw [← hr]
    generalize hw : extractStridedSlice S1x512 o v hs = w
    have hwv : w (ix2 0 (place k q)) = v (ix2 dd (place k q)) := by
      rw [← hw]
      unfold extractStridedSlice
      refine congrArg v (funext fun a => Fin.ext ?_)
      match a with
      | ⟨0, _⟩ => show o 0 + 0 = dd.val; omega
      | ⟨1, _⟩ => show o 1 + (place k q).val = (place k q).val; omega
    rw [← hwv]
    pointwise
  rw [← hrow, ← rolled r k q]
  unfold extractStridedSlice
  refine congrArg _ (funext fun a => Fin.ext ?_)
  match a with
  | ⟨0, _⟩ => show 0 + k.val = k.val; omega
  | ⟨1, _⟩ => show 0 + q.val = q.val; omega

/-- Row `dd` of the body's operand. -/
theorem block_row (x0 : Vec Ideal S1x4x512 .f32) (dd : Fin 4) (u : Fin 512) : k0_pay2 (View.ld x0 r0_0) (ix2 dd u) = x0 (ix3 0 dd u) := by
  unfold k0_pay2
  rw [View.ld_unit_zero (S := S1x4x512) hz3]
  pointwise

/-- Two more axes of one in front leave the entries. -/
theorem outer (y : FVec Ideal S256x256 .f32) (k q : Fin 256) :
    shapeCast S1x1x256x256 y shapeCasts_S256x256_S1x1x256x256 (ix4 0 0 k q) = y (ix2 k q) := by
  pointwise

/-- What the body leaves: at tile `d`, key `k` and query `q` the entry of the block's row `d` at their place. -/
def blockTiles (x0 : Vec Ideal S1x4x512 .f32) : Vec Ideal S1x4x256x256 .f32 := fun y => x0 (ix3 0 (y 1) (place (y 2) (y 3)))

/-- `blockTiles` at given coordinates. -/
theorem blockTiles_at (x0 : Vec Ideal S1x4x512 .f32) (d : Fin 4) (k q : Fin 256) (y : S1x4x256x256.Idx) (h1 : (y 1).val = d.val) (h2 : (y 2).val = k.val)
    (h3 : (y 3).val = q.val) : blockTiles x0 y = x0 (ix3 0 d (place k q)) := by
  have e1 : y 1 = d := Fin.ext h1
  have e2 : y 2 = k := Fin.ext h2
  have e3 : y 3 = q := Fin.ext h3
  unfold blockTiles
  rw [e1, e2, e3]

/-- The body writes the tiles of its head. -/
theorem out_eq (x0 : Vec Ideal S1x4x512 .f32) (y : S1x4x256x256.Idx) : out0_1 x0 y = blockTiles x0 y := by
  unfold out0_1
  refine View.canon_apply_of_pieces (Val := Elt Ideal) (e := .f32) (blockTiles x0) _ ?_ y (cover0_1 _ _ _ _ y)
  simp only [List.forall_mem_cons, List.not_mem_nil, false_implies, implies_true, and_true]
  refine ⟨?_, ?_, ?_, ?_⟩
  · intro (z : Shape.Idx S1x1x256x256)
    obtain ⟨z0, z1, k, q, rfl⟩ : ∃ (z0 z1 : Fin 1) (k q : Fin 256), z = ix4 z0 z1 k q := ⟨_, _, _, _, eq_ix4 z⟩
    obtain rfl : z0 = 0 := Subsingleton.elim _ _
    obtain rfl : z1 = 0 := Subsingleton.elim _ _
    rw [blockTiles_at x0 3 k q _ (by show 3 + 1 * 0 = 3; rfl) (by show 0 + 1 * k.val = k.val; omega) (by show 0 + 1 * q.val = q.val; omega)]
    unfold k0_pay1 k0_pay6
    refine ((outer _ k q).trans ?_)
    exact (tile _ _ 3 rfl rfl _ k q).trans (block_row x0 3 _)
  · intro (z : Shape.Idx S1x1x256x256)
    obtain ⟨z0, z1, k, q, rfl⟩ : ∃ (z0 z1 : Fin 1) (k q : Fin 256), z = ix4 z0 z1 k q := ⟨_, _, _, _, eq_ix4 z⟩
    obtain rfl : z0 = 0 := Subsingleton.elim _ _
    obtain rfl : z1 = 0 := Subsingleton.elim _ _
    rw [blockTiles_at x0 2 k q _ (by show 2 + 1 * 0 = 2; rfl) (by show 0 + 1 * k.val = k.val; omega) (by show 0 + 1 * q.val = q.val; omega)]
    unfold k0_pay5
    refine ((outer _ k q).trans ?_)
    exact (tile _ _ 2 rfl rfl _ k q).trans (block_row x0 2 _)
  · intro (z : Shape.Idx S1x1x256x256)
    obtain ⟨z0, z1, k, q, rfl⟩ : ∃ (z0 z1 : Fin 1) (k q : Fin 256), z = ix4 z0 z1 k q := ⟨_, _, _, _, eq_ix4 z⟩
    obtain rfl : z0 = 0 := Subsingleton.elim _ _
    obtain rfl : z1 = 0 := Subsingleton.elim _ _
    rw [blockTiles_at x0 1 k q _ (by show 1 + 1 * 0 = 1; rfl) (by show 0 + 1 * k.val = k.val; omega) (by show 0 + 1 * q.val = q.val; omega)]
    unfold k0_pay4
    refine ((outer _ k q).trans ?_)
    exact (tile _ _ 1 rfl rfl _ k q).trans (block_row x0 1 _)
  · intro (z : Shape.Idx S1x1x256x256)
    obtain ⟨z0, z1, k, q, rfl⟩ : ∃ (z0 z1 : Fin 1) (k q : Fin 256), z = ix4 z0 z1 k q := ⟨_, _, _, _, eq_ix4 z⟩
    obtain rfl : z0 = 0 := Subsingleton.elim _ _
    obtain rfl : z1 = 0 := Subsingleton.elim _ _
    rw [blockTiles_at x0 0 k q _ (by show 0 + 1 * 0 = 0; rfl) (by show 0 + 1 * k.val = k.val; omega) (by show 0 + 1 * q.val = q.val; omega)]
    unfold k0_pay3
    refine ((outer _ k q).trans ?_)
    exact (tile _ _ 0 rfl rfl _ k q).trans (block_row x0 0 _)

/-! ## The call -/

variable (m : (ℓ : Loc nD τ sig) → Buf (Elt Ideal) ℓ)

/-- Where the operand's block of a point lies. -/
theorem index0 : ∀ t : Fin cfg0.N, win0_0.index t 0 = t.val ∧ win0_0.index t 1 = 0 ∧ win0_0.index t 2 = 0 := by decide +kernel
/-- Where the result's block of a point lies. -/
theorem index1 : ∀ t : Fin cfg0.N, win0_1.index t 0 = t.val ∧ win0_1.index t 1 = 0 ∧ win0_1.index t 2 = 0 ∧ win0_1.index t 3 = 0 := by decide +kernel

/-- The head that point `t` computes. -/
abbrev head (t : Fin cfg0.N) : Fin 20 := ⟨t.val, by have := t.isLt; have : cfg0.N = 20 := N_0; omega⟩

/-- The operand's block of a point holds the entries of its head. -/
theorem iblk0 (c : Dev nD) (t : Fin cfg0.N) (d : Fin 4) (u : Fin 512) :
    (iblk m c 0 t : Vec Ideal S1x4x512 .f32) (ix3 0 d u) = aX m c (ix2 ⟨bucket d.val u.val, bucket_lt _ _⟩ (head t)) := by
  refine Eq.trans ?_ (dot_eq (aX m c) (head t) d u)
  rw [← V_v0]
  unfold iblk
  rw [View.read_apply]
  show V m c main_v0 _ = _
  congr 1
  funext a
  apply Fin.ext
  have hi := index0 t
  match a with
  | ⟨0, _⟩ => show win0_0.index t 0 * 1 + 1 * 0 = t.val; rw [hi.1]; omega
  | ⟨1, _⟩ => show win0_0.index t 1 * 4 + 1 * d.val = d.val; rw [hi.2.1]; omega
  | ⟨2, _⟩ => show win0_0.index t 2 * 512 + 1 * u.val = u.val; rw [hi.2.2]; omega

/-- The tiles of the embedding, as the result array. -/
abbrev result (c : Dev nD) : Buf (Elt Ideal) ((c : Thread nD τ).loc main_v1) := tiles (aX m c)

/-- Every point writes its part of the tiles. -/
theorem flushed_eq (c : Dev nD) (t : Fin cfg0.N) (_ : (cfg0.win 1).flush t = true) :
    (dats m 0 c).flushed 1 t = ((cfg0.win 1).blk t).view.read (Elt Ideal) (result m c) := by
  rw [Cert.BiasIdeal.Value.flushed1]
  funext y
  rw [View.read_apply]
  have h0 : (y 0).val < 1 := (y 0).isLt
  have hi := index1 t
  have ey : ((cfg0.win 1).blk t).view.emb y = (ix4 (head t) (y 1) (y 2) (y 3) : S20x4x256x256.Idx) := by
    funext a
    apply Fin.ext
    match a with
    | ⟨0, _⟩ => show win0_1.index t 0 * 1 + 1 * (y 0).val = t.val; rw [hi.1]; omega
    | ⟨1, _⟩ => show win0_1.index t 1 * 4 + 1 * (y 1).val = (y 1).val; rw [hi.2.1]; omega
    | ⟨2, _⟩ => show win0_1.index t 2 * 256 + 1 * (y 2).val = (y 2).val; rw [hi.2.2.1]; omega
    | ⟨3, _⟩ => show win0_1.index t 3 * 256 + 1 * (y 3).val = (y 3).val; rw [hi.2.2.2]; omega
  rw [ey]
  refine Eq.trans ?_ ((out_eq (iblk m c 0 t) (ix4 0 (y 1) (y 2) (y 3))).trans ?_)
  · show out0_1 _ _ = _
    congr 1
    funext a
    apply Fin.ext
    match a with
    | ⟨0, _⟩ => show (y 0).val = 0; omega
    | ⟨1, _⟩ => rfl
    | ⟨2, _⟩ => rfl
    | ⟨3, _⟩ => rfl
  · exact iblk0 m c t (y 1) (place (y 2) (y 3))

/-- When the call ends its result holds the tiles. -/
theorem final_eq (c : Dev nD) : (dats m 0 c).arrAt 1 cfg0.N = result m c :=
  (dats m 0 c).arrAt_eq_of_cover 1 (result m c) (flushed_eq m c) fun i => by
    have hN : cfg0.N = 20 := N_0
    have h0 : (i 0 : Nat) < 20 := (i 0).isLt
    have h1 : (i 1 : Nat) < 4 := (i 1).isLt
    have h2 : (i 2 : Nat) < 256 := (i 2).isLt
    have h3 : (i 3 : Nat) < 256 := (i 3).isLt
    let t : Fin cfg0.N := ⟨(i 0).val, by omega⟩
    have ht : t.val = (i 0).val := rfl
    have hi := index1 t
    refine ⟨t, flush0_1 t, ?_⟩
    show i ∈ ((View.whole main_v1).slice (win0_1.rect t)).set
    rw [View.set_slice_whole, Rect.mem_set_unit]
    intro a
    match a with
    | ⟨0, _⟩ => show win0_1.index t 0 * 1 ≤ (i 0 : Nat) ∧ (i 0 : Nat) < win0_1.index t 0 * 1 + 1
                rw [hi.1]; omega
    | ⟨1, _⟩ => show win0_1.index t 1 * 4 ≤ (i 1 : Nat) ∧ (i 1 : Nat) < win0_1.index t 1 * 4 + 4
                rw [hi.2.1]; omega
    | ⟨2, _⟩ => show win0_1.index t 2 * 256 ≤ (i 2 : Nat) ∧ (i 2 : Nat) < win0_1.index t 2 * 256 + 256
                rw [hi.2.2.1]; omega
    | ⟨3, _⟩ => show win0_1.index t 3 * 256 ≤ (i 3 : Nat) ∧ (i 3 : Nat) < win0_1.index t 3 * 256 + 256
                rw [hi.2.2.2]; omega

/-- The call and the reference end with the same tiles. -/
theorem algebraic : Cert.algebraic_BiasIdeal_BiasReferenceIdeal (hBiasIdeal := Cert.BiasIdeal.Gen.facts) (hBiasReferenceIdeal := Cert.BiasReferenceIdeal.Gen.facts) := by
  intro m g m' g' _ hm
  refine ⟨fun c => result m c, Cert.BiasIdeal.Value.run_blocks m g |> (θ_run _ _ _).mono (fun r h c => ?_), Cert.BiasReferenceIdeal.Value.run m' g' |> (θ_run _ _ _).mono (fun r h c => ?_)⟩
  · have q := h c
    rw [final_eq] at q
    exact q
  · have e0 := hm c
    refine ⟨(h c).1.trans ?_, (h c).2⟩
    rw [Cert.BiasReferenceIdeal.Read.val_main_v45_eq, e0]
    exact Cert.BiasReferenceIdeal.Hand.reference_eq (aX m c)

end Cert.BiasIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeReferenceIdeal
public import proofs.«01_k».proof.Proof.Gen.MoeIdeal.Value
public import proofs.«01_k».proof.Proof.Gen.Pre_router_finite
public import proofs.«01_k».proof.Proof.Gen.ReferenceIdeal.Read
public import proofs.«01_k».proof.Proof.Gen.MoeReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Read
public import proofs.«01_k».proof.Proof.Gen.ProjReferenceIdeal.Run
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandIdeal.Value
public import proofs.«01_k».proof.Proof.Gen.BandReferenceIdeal
public import proofs.«01_k».proof.Proof.Gen.BandReferenceIdeal.Read
public import proofs.«01_k».proof.Proof.Gen.BandReferenceIdeal.Run
public import proofs.«01_k».proof.Proof.Gen.Pre_band_tables
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasReferenceIdeal
public import proofs.«01_k».proof.Proof.Gen.BiasReferenceIdeal.Read
public import proofs.«01_k».proof.Proof.Gen.BiasReferenceIdeal.Run
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightIdeal.Value
public import proofs.«01_k».proof.Proof.Gen.WeightReferenceIdeal
public import proofs.«01_k».proof.Proof.Gen.WeightReferenceIdeal.Read
public import proofs.«01_k».proof.Proof.Gen.WeightReferenceIdeal.Run
public import proofs.«01_k».proof.Proof.Frames
public import proofs.«01_k».proof.Proof.MoeClaim
public import proofs.«01_k».proof.Proof.MergeClaim
public import proofs.«01_k».proof.Proof.ProjClaim
public import proofs.«01_k».proof.Proof.BandClaim
public import proofs.«01_k».proof.Proof.WeightClaim
public import proofs.«01_k».proof.Proof.BiasClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Moe.Gen.facts, Cert.MoeIdeal.Gen.facts, Cert.MoeReferenceIdeal.Gen.facts,
  Cert.Proj.Gen.facts, Cert.ProjIdeal.Gen.facts, Cert.ProjReferenceIdeal.Gen.facts,
  Cert.Band.Gen.facts, Cert.BandIdeal.Gen.facts, Cert.BandReferenceIdeal.Gen.facts,
  Cert.Weight.Gen.facts, Cert.WeightIdeal.Gen.facts, Cert.WeightReferenceIdeal.Gen.facts, Cert.Bias.Gen.facts, Cert.BiasIdeal.Gen.facts, Cert.BiasReferenceIdeal.Gen.facts,
  Cert.Pre_router_finite.Gen.facts, Cert.Pre_band_tables.Gen.facts,
  fun m g _ => Cert.Kernel.Gen.frame m g, fun m g _ => Cert.KernelIdeal.Gen.frame m g, fun m g _ => Cert.KernelIdeal.Gen.frame m g,
  Cert.Hand.frame_reference, fun m g _ => Cert.Hand.frame_reference m g trivial,
  fun m g _ => Cert.Moe.Gen.frame m g, fun m g _ => Cert.MoeIdeal.Gen.frame m g, Cert.Hand.frame_moe_reference,
  fun m g _ => Cert.Proj.Gen.frame m g, fun m g _ => Cert.ProjIdeal.Gen.frame m g, Cert.Hand.frame_proj_reference,
  fun m g _ => Cert.Band.Gen.frame m g, fun m g _ => Cert.BandIdeal.Gen.frame m g, fun m g _ => Cert.BandIdeal.Gen.frame m g,
  Cert.Hand.frame_band_reference, fun m g _ => Cert.Hand.frame_band_reference m g trivial,
  fun m g _ => Cert.Weight.Gen.frame m g, fun m g _ => Cert.WeightIdeal.Gen.frame m g, Cert.Hand.frame_weight_reference,
  fun m g _ => Cert.Bias.Gen.frame m g, fun m g _ => Cert.BiasIdeal.Gen.frame m g, Cert.Hand.frame_bias_reference,
  trivial, Cert.KernelIdeal.Hand.algebraic, trivial, Cert.MoeIdeal.Hand.algebraic, trivial, Cert.ProjIdeal.Hand.algebraic,
  trivial, Cert.BandIdeal.Hand.algebraic, trivial, Cert.WeightIdeal.Hand.algebraic, trivial, Cert.BiasIdeal.Hand.algebraic⟩

end Cert.Proof

end
